-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ConvPartIdeal (m : (ℓ : Loc Cert.ConvPartIdeal.nD Cert.ConvPartIdeal.τ Cert.ConvPartIdeal.sig) → Buf (Elt Ideal) ℓ) : Prop :=
  True

def Pre_ConvPartIdeal_finite [hPre_finite : Cert.Pre_finite.Facts] (m : (ℓ : Loc Cert.ConvPartIdeal.nD Cert.ConvPartIdeal.τ Cert.ConvPartIdeal.sig) → Buf (Elt Ideal) ℓ) : Prop :=
  ∀ c : Dev Cert.ConvPartIdeal.nD,
    (Cert.Pre_finite.fn (F := Ideal) (m ((c.tc : Thread Cert.ConvPartIdeal.nD Cert.ConvPartIdeal.τ).loc Cert.ConvPartIdeal.main_arg0)) (m ((c.tc : Thread Cert.ConvPartIdeal.nD Cert.ConvPartIdeal.τ).loc Cert.ConvPartIdeal.main_arg1)) (m ((c.tc : Thread Cert.ConvPartIdeal.nD Cert.ConvPartIdeal.τ).loc Cert.ConvPartIdeal.main_arg2)) (m ((c.tc : Thread Cert.ConvPartIdeal.nD Cert.ConvPartIdeal.τ).loc Cert.ConvPartIdeal.main_arg3)) (m ((c.tc : Thread Cert.ConvPartIdeal.nD Cert.ConvPartIdeal.τ).loc Cert.ConvPartIdeal.main_arg4)) (m ((c.tc : Thread Cert.ConvPartIdeal.nD Cert.ConvPartIdeal.τ).loc Cert.ConvPartIdeal.main_arg5)) (m ((c.tc : Thread Cert.ConvPartIdeal.nD Cert.ConvPartIdeal.τ).loc Cert.ConvPartIdeal.main_arg6)) (m ((c.tc : Thread Cert.ConvPartIdeal.nD Cert.ConvPartIdeal.τ).loc Cert.ConvPartIdeal.main_arg7)) (m ((c.tc : Thread Cert.ConvPartIdeal.nD Cert.ConvPartIdeal.τ).loc Cert.ConvPartIdeal.main_arg8)) (m ((c.tc : Thread Cert.ConvPartIdeal.nD Cert.ConvPartIdeal.τ).loc Cert.ConvPartIdeal.main_arg9)) (m ((c.tc : Thread Cert.ConvPartIdeal.nD Cert.ConvPartIdeal.τ).loc Cert.ConvPartIdeal.main_arg10)) (m ((c.tc : Thread Cert.ConvPartIdeal.nD Cert.ConvPartIdeal.τ).loc Cert.ConvPartIdeal.main_arg11)) (m ((c.tc : Thread Cert.ConvPartIdeal.nD Cert.ConvPartIdeal.τ).loc Cert.ConvPartIdeal.main_arg12)) (m ((c.tc : Thread Cert.ConvPartIdeal.nD Cert.ConvPartIdeal.τ).loc Cert.ConvPartIdeal.main_arg13)) (m ((c.tc : Thread Cert.ConvPartIdeal.nD Cert.ConvPartIdeal.τ).loc Cert.ConvPartIdeal.main_arg14)) (m ((c.tc : Thread Cert.ConvPartIdeal.nD Cert.ConvPartIdeal.τ).loc Cert.ConvPartIdeal.main_arg15)) (m ((c.tc : Thread Cert.ConvPartIdeal.nD Cert.ConvPartIdeal.τ).loc Cert.ConvPartIdeal.main_arg16)) (m ((c.tc : Thread Cert.ConvPartIdeal.nD Cert.ConvPartIdeal.τ).loc Cert.ConvPartIdeal.main_arg17))) = (fun _ => 1#1)

def Pre_PoolPartIdeal (m : (ℓ : Loc Cert.PoolPartIdeal.nD Cert.PoolPartIdeal.τ Cert.PoolPartIdeal.sig) → Buf (Elt Ideal) ℓ) : Prop :=
  True

def Pre_PoolPartIdeal_pool_finite [hPre_pool_finite : Cert.Pre_pool_finite.Facts] (m : (ℓ : Loc Cert.PoolPartIdeal.nD Cert.PoolPartIdeal.τ Cert.PoolPartIdeal.sig) → Buf (Elt Ideal) ℓ) : Prop :=
  ∀ c : Dev Cert.PoolPartIdeal.nD,
    (Cert.Pre_pool_finite.fn (F := Ideal) (m ((c.tc : Thread Cert.PoolPartIdeal.nD Cert.PoolPartIdeal.τ).loc Cert.PoolPartIdeal.main_arg0)) (m ((c.tc : Thread Cert.PoolPartIdeal.nD Cert.PoolPartIdeal.τ).loc Cert.PoolPartIdeal.main_arg1)) (m ((c.tc : Thread Cert.PoolPartIdeal.nD Cert.PoolPartIdeal.τ).loc Cert.PoolPartIdeal.main_arg2)) (m ((c.tc : Thread Cert.PoolPartIdeal.nD Cert.PoolPartIdeal.τ).loc Cert.PoolPartIdeal.main_arg3)) (m ((c.tc : Thread Cert.PoolPartIdeal.nD Cert.PoolPartIdeal.τ).loc Cert.PoolPartIdeal.main_arg4)) (m ((c.tc : Thread Cert.PoolPartIdeal.nD Cert.PoolPartIdeal.τ).loc Cert.PoolPartIdeal.main_arg5)) (m ((c.tc : Thread Cert.PoolPartIdeal.nD Cert.PoolPartIdeal.τ).loc Cert.PoolPartIdeal.main_arg6)) (m ((c.tc : Thread Cert.PoolPartIdeal.nD Cert.PoolPartIdeal.τ).loc Cert.PoolPartIdeal.main_arg7)) (m ((c.tc : Thread Cert.PoolPartIdeal.nD Cert.PoolPartIdeal.τ).loc Cert.PoolPartIdeal.main_arg8)) (m ((c.tc : Thread Cert.PoolPartIdeal.nD Cert.PoolPartIdeal.τ).loc Cert.PoolPartIdeal.main_arg9)) (m ((c.tc : Thread Cert.PoolPartIdeal.nD Cert.PoolPartIdeal.τ).loc Cert.PoolPartIdeal.main_arg10)) (m ((c.tc : Thread Cert.PoolPartIdeal.nD Cert.PoolPartIdeal.τ).loc Cert.PoolPartIdeal.main_arg11)) (m ((c.tc : Thread Cert.PoolPartIdeal.nD Cert.PoolPartIdeal.τ).loc Cert.PoolPartIdeal.main_arg12)) (m ((c.tc : Thread Cert.PoolPartIdeal.nD Cert.PoolPartIdeal.τ).loc Cert.PoolPartIdeal.main_arg13)) (m ((c.tc : Thread Cert.PoolPartIdeal.nD Cert.PoolPartIdeal.τ).loc Cert.PoolPartIdeal.main_arg14)) (m ((c.tc : Thread Cert.PoolPartIdeal.nD Cert.PoolPartIdeal.τ).loc Cert.PoolPartIdeal.main_arg15)) (m ((c.tc : Thread Cert.PoolPartIdeal.nD Cert.PoolPartIdeal.τ).loc Cert.PoolPartIdeal.main_arg16)) (m ((c.tc : Thread Cert.PoolPartIdeal.nD Cert.PoolPartIdeal.τ).loc Cert.PoolPartIdeal.main_arg17))) = (fun _ => 1#1)

def Pre_DwinKernel (m : (ℓ : Loc Cert.DwinKernel.nD Cert.DwinKernel.τ Cert.DwinKernel.sig) → Buf (Elt Bits) ℓ) : Prop :=
  True

def Pre_DwinKernelIdeal (m : (ℓ : Loc Cert.DwinKernelIdeal.nD Cert.DwinKernelIdeal.τ Cert.DwinKernelIdeal.sig) → Buf (Elt Ideal) ℓ) : Prop :=
  True

def Pre_DwinPartIdeal (m : (ℓ : Loc Cert.DwinPartIdeal.nD Cert.DwinPartIdeal.τ Cert.DwinPartIdeal.sig) → Buf (Elt Ideal) ℓ) : Prop :=
  True

def Pre_RmsprojKernel (m : (ℓ : Loc Cert.RmsprojKernel.nD Cert.RmsprojKernel.τ Cert.RmsprojKernel.sig) → Buf (Elt Bits) ℓ) : Prop :=
  True

def Pre_RmsprojKernelIdeal (m : (ℓ : Loc Cert.RmsprojKernelIdeal.nD Cert.RmsprojKernelIdeal.τ Cert.RmsprojKernelIdeal.sig) → Buf (Elt Ideal) ℓ) : Prop :=
  True

def Pre_RmsprojPartIdeal (m : (ℓ : Loc Cert.RmsprojPartIdeal.nD Cert.RmsprojPartIdeal.τ Cert.RmsprojPartIdeal.sig) → Buf (Elt Ideal) ℓ) : Prop :=
  True

def Pre_DxinKernel (m : (ℓ : Loc Cert.DxinKernel.nD Cert.DxinKernel.τ Cert.DxinKernel.sig) → Buf (Elt Bits) ℓ) : Prop :=
  True

def Pre_DxinKernelIdeal (m : (ℓ : Loc Cert.DxinKernelIdeal.nD Cert.DxinKernelIdeal.τ Cert.DxinKernelIdeal.sig) → Buf (Elt Ideal) ℓ) : Prop :=
  True

def Pre_DxinKernelIdeal_dxin_finite [hPre_dxin_finite : Cert.Pre_dxin_finite.Facts] (m : (ℓ : Loc Cert.DxinKernelIdeal.nD Cert.DxinKernelIdeal.τ Cert.DxinKernelIdeal.sig) → Buf (Elt Ideal) ℓ) : Prop :=
  ∀ c : Dev Cert.DxinKernelIdeal.nD,
    (Cert.Pre_dxin_finite.fn (F := Ideal) (m ((c.tc : Thread Cert.DxinKernelIdeal.nD Cert.DxinKernelIdeal.τ).loc Cert.DxinKernelIdeal.main_arg0)) (m ((c.tc : Thread Cert.DxinKernelIdeal.nD Cert.DxinKernelIdeal.τ).loc Cert.DxinKernelIdeal.main_arg1)) (m ((c.tc : Thread Cert.DxinKernelIdeal.nD Cert.DxinKernelIdeal.τ).loc Cert.DxinKernelIdeal.main_arg2)) (m ((c.tc : Thread Cert.DxinKernelIdeal.nD Cert.DxinKernelIdeal.τ).loc Cert.DxinKernelIdeal.main_arg3)) (m ((c.tc : Thread Cert.DxinKernelIdeal.nD Cert.DxinKernelIdeal.τ).loc Cert.DxinKernelIdeal.main_arg4))) = (fun _ => 1#1)

def Pre_DxinPartIdeal (m : (ℓ : Loc Cert.DxinPartIdeal.nD Cert.DxinPartIdeal.τ Cert.DxinPartIdeal.sig) → Buf (Elt Ideal) ℓ) : Prop :=
  True

def Pre_DxinPartIdeal_dxin_finite [hPre_dxin_finite : Cert.Pre_dxin_finite.Facts] (m : (ℓ : Loc Cert.DxinPartIdeal.nD Cert.DxinPartIdeal.τ Cert.DxinPartIdeal.sig) → Buf (Elt Ideal) ℓ) : Prop :=
  ∀ c : Dev Cert.DxinPartIdeal.nD,
    (Cert.Pre_dxin_finite.fn (F := Ideal) (m ((c.tc : Thread Cert.DxinPartIdeal.nD Cert.DxinPartIdeal.τ).loc Cert.DxinPartIdeal.main_arg0)) (m ((c.tc : Thread Cert.DxinPartIdeal.nD Cert.DxinPartIdeal.τ).loc Cert.DxinPartIdeal.main_arg1)) (m ((c.tc : Thread Cert.DxinPartIdeal.nD Cert.DxinPartIdeal.τ).loc Cert.DxinPartIdeal.main_arg2)) (m ((c.tc : Thread Cert.DxinPartIdeal.nD Cert.DxinPartIdeal.τ).loc Cert.DxinPartIdeal.main_arg3)) (m ((c.tc : Thread Cert.DxinPartIdeal.nD Cert.DxinPartIdeal.τ).loc Cert.DxinPartIdeal.main_arg4))) = (fun _ => 1#1)

def Pre_AdamwOutKernel (m : (ℓ : Loc Cert.AdamwOutKernel.nD Cert.AdamwOutKernel.τ Cert.AdamwOutKernel.sig) → Buf (Elt Bits) ℓ) : Prop :=
  True

def Pre_AdamwOutKernelIdeal (m : (ℓ : Loc Cert.AdamwOutKernelIdeal.nD Cert.AdamwOutKernelIdeal.τ Cert.AdamwOutKernelIdeal.sig) → Buf (Elt Ideal) ℓ) : Prop :=
  True

def Pre_AdamwOutPartIdeal (m : (ℓ : Loc Cert.AdamwOutPartIdeal.nD Cert.AdamwOutPartIdeal.τ Cert.AdamwOutPartIdeal.sig) → Buf (Elt Ideal) ℓ) : Prop :=
  True

def Pre_AdamwInKernel (m : (ℓ : Loc Cert.AdamwInKernel.nD Cert.AdamwInKernel.τ Cert.AdamwInKernel.sig) → Buf (Elt Bits) ℓ) : Prop :=
  True

def Pre_AdamwInKernelIdeal (m : (ℓ : Loc Cert.AdamwInKernelIdeal.nD Cert.AdamwInKernelIdeal.τ Cert.AdamwInKernelIdeal.sig) → Buf (Elt Ideal) ℓ) : Prop :=
  True

def Pre_AdamwInPartIdeal (m : (ℓ : Loc Cert.AdamwInPartIdeal.nD Cert.AdamwInPartIdeal.τ Cert.AdamwInPartIdeal.sig) → Buf (Elt Ideal) ℓ) : Prop :=
  True

def Pre_MixerKernel (m : (ℓ : Loc Cert.MixerKernel.nD Cert.MixerKernel.τ Cert.MixerKernel.sig) → Buf (Elt Bits) ℓ) : Prop :=
  True

def Pre_MixerKernelIdeal (m : (ℓ : Loc Cert.MixerKernelIdeal.nD Cert.MixerKernelIdeal.τ Cert.MixerKernelIdeal.sig) → Buf (Elt Ideal) ℓ) : Prop :=
  True

def Pre_MixerPartIdeal (m : (ℓ : Loc Cert.MixerPartIdeal.nD Cert.MixerPartIdeal.τ Cert.MixerPartIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ConvPartIdeal [hConvPartIdeal : Cert.ConvPartIdeal.Facts] : Prop :=
  ∀ (m : (ℓ : Loc Cert.ConvPartIdeal.nD Cert.ConvPartIdeal.τ Cert.ConvPartIdeal.sig) → Buf (Elt Ideal) ℓ) (g : Dev Cert.ConvPartIdeal.nD → PrngReg), Pre_ConvPartIdeal m →
    θ_run (Cert.ConvPartIdeal.defs (F := Ideal)) (onTc (τ := Cert.ConvPartIdeal.τ) (Cert.ConvPartIdeal.main (F := Ideal))) ⟨m, fun _ => 0, g⟩ (fun r => (∀ c : Dev Cert.ConvPartIdeal.nD,
      r.2.mem ((c.tc : Thread Cert.ConvPartIdeal.nD Cert.ConvPartIdeal.τ).loc Cert.ConvPartIdeal.main_arg0) = m ((c.tc : Thread Cert.ConvPartIdeal.nD Cert.ConvPartIdeal.τ).loc Cert.ConvPartIdeal.main_arg0)
      ∧ r.2.mem ((c.tc : Thread Cert.ConvPartIdeal.nD Cert.ConvPartIdeal.τ).loc Cert.ConvPartIdeal.main_arg1) = m ((c.tc : Thread Cert.ConvPartIdeal.nD Cert.ConvPartIdeal.τ).loc Cert.ConvPartIdeal.main_arg1)
      ∧ r.2.mem ((c.tc : Thread Cert.ConvPartIdeal.nD Cert.ConvPartIdeal.τ).loc Cert.ConvPartIdeal.main_arg2) = m ((c.tc : Thread Cert.ConvPartIdeal.nD Cert.ConvPartIdeal.τ).loc Cert.ConvPartIdeal.main_arg2)
      ∧ r.2.mem ((c.tc : Thread Cert.ConvPartIdeal.nD Cert.ConvPartIdeal.τ).loc Cert.ConvPartIdeal.main_arg3) = m ((c.tc : Thread Cert.ConvPartIdeal.nD Cert.ConvPartIdeal.τ).loc Cert.ConvPartIdeal.main_arg3)
      ∧ r.2.mem ((c.tc : Thread Cert.ConvPartIdeal.nD Cert.ConvPartIdeal.τ).loc Cert.ConvPartIdeal.main_arg4) = m ((c.tc : Thread Cert.ConvPartIdeal.nD Cert.ConvPartIdeal.τ).loc Cert.ConvPartIdeal.main_arg4)
      ∧ r.2.mem ((c.tc : Thread Cert.ConvPartIdeal.nD Cert.ConvPartIdeal.τ).loc Cert.ConvPartIdeal.main_arg5) = m ((c.tc : Thread Cert.ConvPartIdeal.nD Cert.ConvPartIdeal.τ).loc Cert.ConvPartIdeal.main_arg5)
      ∧ r.2.mem ((c.tc : Thread Cert.ConvPartIdeal.nD Cert.ConvPartIdeal.τ).loc Cert.ConvPartIdeal.main_arg6) = m ((c.tc : Thread Cert.ConvPartIdeal.nD Cert.ConvPartIdeal.τ).loc Cert.ConvPartIdeal.main_arg6)
      ∧ r.2.mem ((c.tc : Thread Cert.ConvPartIdeal.nD Cert.ConvPartIdeal.τ).loc Cert.ConvPartIdeal.main_arg7) = m ((c.tc : Thread Cert.ConvPartIdeal.nD Cert.ConvPartIdeal.τ).loc Cert.ConvPartIdeal.main_arg7)
      ∧ r.2.mem ((c.tc : Thread Cert.ConvPartIdeal.nD Cert.ConvPartIdeal.τ).loc Cert.ConvPartIdeal.main_arg8) = m ((c.tc : Thread Cert.ConvPartIdeal.nD Cert.ConvPartIdeal.τ).loc Cert.ConvPartIdeal.main_arg8)
      ∧ r.2.mem ((c.tc : Thread Cert.ConvPartIdeal.nD Cert.ConvPartIdeal.τ).loc Cert.ConvPartIdeal.main_arg9) = m ((c.tc : Thread Cert.ConvPartIdeal.nD Cert.ConvPartIdeal.τ).loc Cert.ConvPartIdeal.main_arg9)
      ∧ r.2.mem ((c.tc : Thread Cert.ConvPartIdeal.nD Cert.ConvPartIdeal.τ).loc Cert.ConvPartIdeal.main_arg10) = m ((c.tc : Thread Cert.ConvPartIdeal.nD Cert.ConvPartIdeal.τ).loc Cert.ConvPartIdeal.main_arg10)
      ∧ r.2.mem ((c.tc : Thread Cert.ConvPartIdeal.nD Cert.ConvPartIdeal.τ).loc Cert.ConvPartIdeal.main_arg11) = m ((c.tc : Thread Cert.ConvPartIdeal.nD Cert.ConvPartIdeal.τ).loc Cert.ConvPartIdeal.main_arg11)
      ∧ r.2.mem ((c.tc : Thread Cert.ConvPartIdeal.nD Cert.ConvPartIdeal.τ).loc Cert.ConvPartIdeal.main_arg12) = m ((c.tc : Thread Cert.ConvPartIdeal.nD Cert.ConvPartIdeal.τ).loc Cert.ConvPartIdeal.main_arg12)
      ∧ r.2.mem ((c.tc : Thread Cert.ConvPartIdeal.nD Cert.ConvPartIdeal.τ).loc Cert.ConvPartIdeal.main_arg13) = m ((c.tc : Thread Cert.ConvPartIdeal.nD Cert.ConvPartIdeal.τ).loc Cert.ConvPartIdeal.main_arg13)
      ∧ r.2.mem ((c.tc : Thread Cert.ConvPartIdeal.nD Cert.ConvPartIdeal.τ).loc Cert.ConvPartIdeal.main_arg14) = m ((c.tc : Thread Cert.ConvPartIdeal.nD Cert.ConvPartIdeal.τ).loc Cert.ConvPartIdeal.main_arg14)
      ∧ r.2.mem ((c.tc : Thread Cert.ConvPartIdeal.nD Cert.ConvPartIdeal.τ).loc Cert.ConvPartIdeal.main_arg15) = m ((c.tc : Thread Cert.ConvPartIdeal.nD Cert.ConvPartIdeal.τ).loc Cert.ConvPartIdeal.main_arg15)
      ∧ r.2.mem ((c.tc : Thread Cert.ConvPartIdeal.nD Cert.ConvPartIdeal.τ).loc Cert.ConvPartIdeal.main_arg16) = m ((c.tc : Thread Cert.ConvPartIdeal.nD Cert.ConvPartIdeal.τ).loc Cert.ConvPartIdeal.main_arg16)
      ∧ r.2.mem ((c.tc : Thread Cert.ConvPartIdeal.nD Cert.ConvPartIdeal.τ).loc Cert.ConvPartIdeal.main_arg17) = m ((c.tc : Thread Cert.ConvPartIdeal.nD Cert.ConvPartIdeal.τ).loc Cert.ConvPartIdeal.main_arg17))
      ∧ r.2.sem = fun _ => 0)

def quiescent_ConvPartIdeal_pre_finite [hConvPartIdeal : Cert.ConvPartIdeal.Facts] [hPre_finite : Cert.Pre_finite.Facts] : Prop :=
  ∀ (m : (ℓ : Loc Cert.ConvPartIdeal.nD Cert.ConvPartIdeal.τ Cert.ConvPartIdeal.sig) → Buf (Elt Ideal) ℓ) (g : Dev Cert.ConvPartIdeal.nD → PrngReg), Pre_ConvPartIdeal_finite m →
    θ_run (Cert.ConvPartIdeal.defs (F := Ideal)) (onTc (τ := Cert.ConvPartIdeal.τ) (Cert.ConvPartIdeal.main (F := Ideal))) ⟨m, fun _ => 0, g⟩ (fun r => (∀ c : Dev Cert.ConvPartIdeal.nD,
      r.2.mem ((c.tc : Thread Cert.ConvPartIdeal.nD Cert.ConvPartIdeal.τ).loc Cert.ConvPartIdeal.main_arg0) = m ((c.tc : Thread Cert.ConvPartIdeal.nD Cert.ConvPartIdeal.τ).loc Cert.ConvPartIdeal.main_arg0)
      ∧ r.2.mem ((c.tc : Thread Cert.ConvPartIdeal.nD Cert.ConvPartIdeal.τ).loc Cert.ConvPartIdeal.main_arg1) = m ((c.tc : Thread Cert.ConvPartIdeal.nD Cert.ConvPartIdeal.τ).loc Cert.ConvPartIdeal.main_arg1)
      ∧ r.2.mem ((c.tc : Thread Cert.ConvPartIdeal.nD Cert.ConvPartIdeal.τ).loc Cert.ConvPartIdeal.main_arg2) = m ((c.tc : Thread Cert.ConvPartIdeal.nD Cert.ConvPartIdeal.τ).loc Cert.ConvPartIdeal.main_arg2)
      ∧ r.2.mem ((c.tc : Thread Cert.ConvPartIdeal.nD Cert.ConvPartIdeal.τ).loc Cert.ConvPartIdeal.main_arg3) = m ((c.tc : Thread Cert.ConvPartIdeal.nD Cert.ConvPartIdeal.τ).loc Cert.ConvPartIdeal.main_arg3)
      ∧ r.2.mem ((c.tc : Thread Cert.ConvPartIdeal.nD Cert.ConvPartIdeal.τ).loc Cert.ConvPartIdeal.main_arg4) = m ((c.tc : Thread Cert.ConvPartIdeal.nD Cert.ConvPartIdeal.τ).loc Cert.ConvPartIdeal.main_arg4)
      ∧ r.2.mem ((c.tc : Thread Cert.ConvPartIdeal.nD Cert.ConvPartIdeal.τ).loc Cert.ConvPartIdeal.main_arg5) = m ((c.tc : Thread Cert.ConvPartIdeal.nD Cert.ConvPartIdeal.τ).loc Cert.ConvPartIdeal.main_arg5)
      ∧ r.2.mem ((c.tc : Thread Cert.ConvPartIdeal.nD Cert.ConvPartIdeal.τ).loc Cert.ConvPartIdeal.main_arg6) = m ((c.tc : Thread Cert.ConvPartIdeal.nD Cert.ConvPartIdeal.τ).loc Cert.ConvPartIdeal.main_arg6)
      ∧ r.2.mem ((c.tc : Thread Cert.ConvPartIdeal.nD Cert.ConvPartIdeal.τ).loc Cert.ConvPartIdeal.main_arg7) = m ((c.tc : Thread Cert.ConvPartIdeal.nD Cert.ConvPartIdeal.τ).loc Cert.ConvPartIdeal.main_arg7)
      ∧ r.2.mem ((c.tc : Thread Cert.ConvPartIdeal.nD Cert.ConvPartIdeal.τ).loc Cert.ConvPartIdeal.main_arg8) = m ((c.tc : Thread Cert.ConvPartIdeal.nD Cert.ConvPartIdeal.τ).loc Cert.ConvPartIdeal.main_arg8)
      ∧ r.2.mem ((c.tc : Thread Cert.ConvPartIdeal.nD Cert.ConvPartIdeal.τ).loc Cert.ConvPartIdeal.main_arg9) = m ((c.tc : Thread Cert.ConvPartIdeal.nD Cert.ConvPartIdeal.τ).loc Cert.ConvPartIdeal.main_arg9)
      ∧ r.2.mem ((c.tc : Thread Cert.ConvPartIdeal.nD Cert.ConvPartIdeal.τ).loc Cert.ConvPartIdeal.main_arg10) = m ((c.tc : Thread Cert.ConvPartIdeal.nD Cert.ConvPartIdeal.τ).loc Cert.ConvPartIdeal.main_arg10)
      ∧ r.2.mem ((c.tc : Thread Cert.ConvPartIdeal.nD Cert.ConvPartIdeal.τ).loc Cert.ConvPartIdeal.main_arg11) = m ((c.tc : Thread Cert.ConvPartIdeal.nD Cert.ConvPartIdeal.τ).loc Cert.ConvPartIdeal.main_arg11)
      ∧ r.2.mem ((c.tc : Thread Cert.ConvPartIdeal.nD Cert.ConvPartIdeal.τ).loc Cert.ConvPartIdeal.main_arg12) = m ((c.tc : Thread Cert.ConvPartIdeal.nD Cert.ConvPartIdeal.τ).loc Cert.ConvPartIdeal.main_arg12)
      ∧ r.2.mem ((c.tc : Thread Cert.ConvPartIdeal.nD Cert.ConvPartIdeal.τ).loc Cert.ConvPartIdeal.main_arg13) = m ((c.tc : Thread Cert.ConvPartIdeal.nD Cert.ConvPartIdeal.τ).loc Cert.ConvPartIdeal.main_arg13)
      ∧ r.2.mem ((c.tc : Thread Cert.ConvPartIdeal.nD Cert.ConvPartIdeal.τ).loc Cert.ConvPartIdeal.main_arg14) = m ((c.tc : Thread Cert.ConvPartIdeal.nD Cert.ConvPartIdeal.τ).loc Cert.ConvPartIdeal.main_arg14)
      ∧ r.2.mem ((c.tc : Thread Cert.ConvPartIdeal.nD Cert.ConvPartIdeal.τ).loc Cert.ConvPartIdeal.main_arg15) = m ((c.tc : Thread Cert.ConvPartIdeal.nD Cert.ConvPartIdeal.τ).loc Cert.ConvPartIdeal.main_arg15)
      ∧ r.2.mem ((c.tc : Thread Cert.ConvPartIdeal.nD Cert.ConvPartIdeal.τ).loc Cert.ConvPartIdeal.main_arg16) = m ((c.tc : Thread Cert.ConvPartIdeal.nD Cert.ConvPartIdeal.τ).loc Cert.ConvPartIdeal.main_arg16)
      ∧ r.2.mem ((c.tc : Thread Cert.ConvPartIdeal.nD Cert.ConvPartIdeal.τ).loc Cert.ConvPartIdeal.main_arg17) = m ((c.tc : Thread Cert.ConvPartIdeal.nD Cert.ConvPartIdeal.τ).loc Cert.ConvPartIdeal.main_arg17))
      ∧ r.2.sem = fun _ => 0)

def quiescent_PoolPartIdeal [hPoolPartIdeal : Cert.PoolPartIdeal.Facts] : Prop :=
  ∀ (m : (ℓ : Loc Cert.PoolPartIdeal.nD Cert.PoolPartIdeal.τ Cert.PoolPartIdeal.sig) → Buf (Elt Ideal) ℓ) (g : Dev Cert.PoolPartIdeal.nD → PrngReg), Pre_PoolPartIdeal m →
    θ_run (Cert.PoolPartIdeal.defs (F := Ideal)) (onTc (τ := Cert.PoolPartIdeal.τ) (Cert.PoolPartIdeal.main (F := Ideal))) ⟨m, fun _ => 0, g⟩ (fun r => (∀ c : Dev Cert.PoolPartIdeal.nD,
      r.2.mem ((c.tc : Thread Cert.PoolPartIdeal.nD Cert.PoolPartIdeal.τ).loc Cert.PoolPartIdeal.main_arg0) = m ((c.tc : Thread Cert.PoolPartIdeal.nD Cert.PoolPartIdeal.τ).loc Cert.PoolPartIdeal.main_arg0)
      ∧ r.2.mem ((c.tc : Thread Cert.PoolPartIdeal.nD Cert.PoolPartIdeal.τ).loc Cert.PoolPartIdeal.main_arg1) = m ((c.tc : Thread Cert.PoolPartIdeal.nD Cert.PoolPartIdeal.τ).loc Cert.PoolPartIdeal.main_arg1)
      ∧ r.2.mem ((c.tc : Thread Cert.PoolPartIdeal.nD Cert.PoolPartIdeal.τ).loc Cert.PoolPartIdeal.main_arg2) = m ((c.tc : Thread Cert.PoolPartIdeal.nD Cert.PoolPartIdeal.τ).loc Cert.PoolPartIdeal.main_arg2)
      ∧ r.2.mem ((c.tc : Thread Cert.PoolPartIdeal.nD Cert.PoolPartIdeal.τ).loc Cert.PoolPartIdeal.main_arg3) = m ((c.tc : Thread Cert.PoolPartIdeal.nD Cert.PoolPartIdeal.τ).loc Cert.PoolPartIdeal.main_arg3)
      ∧ r.2.mem ((c.tc : Thread Cert.PoolPartIdeal.nD Cert.PoolPartIdeal.τ).loc Cert.PoolPartIdeal.main_arg4) = m ((c.tc : Thread Cert.PoolPartIdeal.nD Cert.PoolPartIdeal.τ).loc Cert.PoolPartIdeal.main_arg4)
      ∧ r.2.mem ((c.tc : Thread Cert.PoolPartIdeal.nD Cert.PoolPartIdeal.τ).loc Cert.PoolPartIdeal.main_arg5) = m ((c.tc : Thread Cert.PoolPartIdeal.nD Cert.PoolPartIdeal.τ).loc Cert.PoolPartIdeal.main_arg5)
      ∧ r.2.mem ((c.tc : Thread Cert.PoolPartIdeal.nD Cert.PoolPartIdeal.τ).loc Cert.PoolPartIdeal.main_arg6) = m ((c.tc : Thread Cert.PoolPartIdeal.nD Cert.PoolPartIdeal.τ).loc Cert.PoolPartIdeal.main_arg6)
      ∧ r.2.mem ((c.tc : Thread Cert.PoolPartIdeal.nD Cert.PoolPartIdeal.τ).loc Cert.PoolPartIdeal.main_arg7) = m ((c.tc : Thread Cert.PoolPartIdeal.nD Cert.PoolPartIdeal.τ).loc Cert.PoolPartIdeal.main_arg7)
      ∧ r.2.mem ((c.tc : Thread Cert.PoolPartIdeal.nD Cert.PoolPartIdeal.τ).loc Cert.PoolPartIdeal.main_arg8) = m ((c.tc : Thread Cert.PoolPartIdeal.nD Cert.PoolPartIdeal.τ).loc Cert.PoolPartIdeal.main_arg8)
      ∧ r.2.mem ((c.tc : Thread Cert.PoolPartIdeal.nD Cert.PoolPartIdeal.τ).loc Cert.PoolPartIdeal.main_arg9) = m ((c.tc : Thread Cert.PoolPartIdeal.nD Cert.PoolPartIdeal.τ).loc Cert.PoolPartIdeal.main_arg9)
      ∧ r.2.mem ((c.tc : Thread Cert.PoolPartIdeal.nD Cert.PoolPartIdeal.τ).loc Cert.PoolPartIdeal.main_arg10) = m ((c.tc : Thread Cert.PoolPartIdeal.nD Cert.PoolPartIdeal.τ).loc Cert.PoolPartIdeal.main_arg10)
      ∧ r.2.mem ((c.tc : Thread Cert.PoolPartIdeal.nD Cert.PoolPartIdeal.τ).loc Cert.PoolPartIdeal.main_arg11) = m ((c.tc : Thread Cert.PoolPartIdeal.nD Cert.PoolPartIdeal.τ).loc Cert.PoolPartIdeal.main_arg11)
      ∧ r.2.mem ((c.tc : Thread Cert.PoolPartIdeal.nD Cert.PoolPartIdeal.τ).loc Cert.PoolPartIdeal.main_arg12) = m ((c.tc : Thread Cert.PoolPartIdeal.nD Cert.PoolPartIdeal.τ).loc Cert.PoolPartIdeal.main_arg12)
      ∧ r.2.mem ((c.tc : Thread Cert.PoolPartIdeal.nD Cert.PoolPartIdeal.τ).loc Cert.PoolPartIdeal.main_arg13) = m ((c.tc : Thread Cert.PoolPartIdeal.nD Cert.PoolPartIdeal.τ).loc Cert.PoolPartIdeal.main_arg13)
      ∧ r.2.mem ((c.tc : Thread Cert.PoolPartIdeal.nD Cert.PoolPartIdeal.τ).loc Cert.PoolPartIdeal.main_arg14) = m ((c.tc : Thread Cert.PoolPartIdeal.nD Cert.PoolPartIdeal.τ).loc Cert.PoolPartIdeal.main_arg14)
      ∧ r.2.mem ((c.tc : Thread Cert.PoolPartIdeal.nD Cert.PoolPartIdeal.τ).loc Cert.PoolPartIdeal.main_arg15) = m ((c.tc : Thread Cert.PoolPartIdeal.nD Cert.PoolPartIdeal.τ).loc Cert.PoolPartIdeal.main_arg15)
      ∧ r.2.mem ((c.tc : Thread Cert.PoolPartIdeal.nD Cert.PoolPartIdeal.τ).loc Cert.PoolPartIdeal.main_arg16) = m ((c.tc : Thread Cert.PoolPartIdeal.nD Cert.PoolPartIdeal.τ).loc Cert.PoolPartIdeal.main_arg16)
      ∧ r.2.mem ((c.tc : Thread Cert.PoolPartIdeal.nD Cert.PoolPartIdeal.τ).loc Cert.PoolPartIdeal.main_arg17) = m ((c.tc : Thread Cert.PoolPartIdeal.nD Cert.PoolPartIdeal.τ).loc Cert.PoolPartIdeal.main_arg17))
      ∧ r.2.sem = fun _ => 0)

def quiescent_PoolPartIdeal_pre_pool_finite [hPoolPartIdeal : Cert.PoolPartIdeal.Facts] [hPre_pool_finite : Cert.Pre_pool_finite.Facts] : Prop :=
  ∀ (m : (ℓ : Loc Cert.PoolPartIdeal.nD Cert.PoolPartIdeal.τ Cert.PoolPartIdeal.sig) → Buf (Elt Ideal) ℓ) (g : Dev Cert.PoolPartIdeal.nD → PrngReg), Pre_PoolPartIdeal_pool_finite m →
    θ_run (Cert.PoolPartIdeal.defs (F := Ideal)) (onTc (τ := Cert.PoolPartIdeal.τ) (Cert.PoolPartIdeal.main (F := Ideal))) ⟨m, fun _ => 0, g⟩ (fun r => (∀ c : Dev Cert.PoolPartIdeal.nD,
      r.2.mem ((c.tc : Thread Cert.PoolPartIdeal.nD Cert.PoolPartIdeal.τ).loc Cert.PoolPartIdeal.main_arg0) = m ((c.tc : Thread Cert.PoolPartIdeal.nD Cert.PoolPartIdeal.τ).loc Cert.PoolPartIdeal.main_arg0)
      ∧ r.2.mem ((c.tc : Thread Cert.PoolPartIdeal.nD Cert.PoolPartIdeal.τ).loc Cert.PoolPartIdeal.main_arg1) = m ((c.tc : Thread Cert.PoolPartIdeal.nD Cert.PoolPartIdeal.τ).loc Cert.PoolPartIdeal.main_arg1)
      ∧ r.2.mem ((c.tc : Thread Cert.PoolPartIdeal.nD Cert.PoolPartIdeal.τ).loc Cert.PoolPartIdeal.main_arg2) = m ((c.tc : Thread Cert.PoolPartIdeal.nD Cert.PoolPartIdeal.τ).loc Cert.PoolPartIdeal.main_arg2)
      ∧ r.2.mem ((c.tc : Thread Cert.PoolPartIdeal.nD Cert.PoolPartIdeal.τ).loc Cert.PoolPartIdeal.main_arg3) = m ((c.tc : Thread Cert.PoolPartIdeal.nD Cert.PoolPartIdeal.τ).loc Cert.PoolPartIdeal.main_arg3)
      ∧ r.2.mem ((c.tc : Thread Cert.PoolPartIdeal.nD Cert.PoolPartIdeal.τ).loc Cert.PoolPartIdeal.main_arg4) = m ((c.tc : Thread Cert.PoolPartIdeal.nD Cert.PoolPartIdeal.τ).loc Cert.PoolPartIdeal.main_arg4)
      ∧ r.2.mem ((c.tc : Thread Cert.PoolPartIdeal.nD Cert.PoolPartIdeal.τ).loc Cert.PoolPartIdeal.main_arg5) = m ((c.tc : Thread Cert.PoolPartIdeal.nD Cert.PoolPartIdeal.τ).loc Cert.PoolPartIdeal.main_arg5)
      ∧ r.2.mem ((c.tc : Thread Cert.PoolPartIdeal.nD Cert.PoolPartIdeal.τ).loc Cert.PoolPartIdeal.main_arg6) = m ((c.tc : Thread Cert.PoolPartIdeal.nD Cert.PoolPartIdeal.τ).loc Cert.PoolPartIdeal.main_arg6)
      ∧ r.2.mem ((c.tc : Thread Cert.PoolPartIdeal.nD Cert.PoolPartIdeal.τ).loc Cert.PoolPartIdeal.main_arg7) = m ((c.tc : Thread Cert.PoolPartIdeal.nD Cert.PoolPartIdeal.τ).loc Cert.PoolPartIdeal.main_arg7)
      ∧ r.2.mem ((c.tc : Thread Cert.PoolPartIdeal.nD Cert.PoolPartIdeal.τ).loc Cert.PoolPartIdeal.main_arg8) = m ((c.tc : Thread Cert.PoolPartIdeal.nD Cert.PoolPartIdeal.τ).loc Cert.PoolPartIdeal.main_arg8)
      ∧ r.2.mem ((c.tc : Thread Cert.PoolPartIdeal.nD Cert.PoolPartIdeal.τ).loc Cert.PoolPartIdeal.main_arg9) = m ((c.tc : Thread Cert.PoolPartIdeal.nD Cert.PoolPartIdeal.τ).loc Cert.PoolPartIdeal.main_arg9)
      ∧ r.2.mem ((c.tc : Thread Cert.PoolPartIdeal.nD Cert.PoolPartIdeal.τ).loc Cert.PoolPartIdeal.main_arg10) = m ((c.tc : Thread Cert.PoolPartIdeal.nD Cert.PoolPartIdeal.τ).loc Cert.PoolPartIdeal.main_arg10)
      ∧ r.2.mem ((c.tc : Thread Cert.PoolPartIdeal.nD Cert.PoolPartIdeal.τ).loc Cert.PoolPartIdeal.main_arg11) = m ((c.tc : Thread Cert.PoolPartIdeal.nD Cert.PoolPartIdeal.τ).loc Cert.PoolPartIdeal.main_arg11)
      ∧ r.2.mem ((c.tc : Thread Cert.PoolPartIdeal.nD Cert.PoolPartIdeal.τ).loc Cert.PoolPartIdeal.main_arg12) = m ((c.tc : Thread Cert.PoolPartIdeal.nD Cert.PoolPartIdeal.τ).loc Cert.PoolPartIdeal.main_arg12)
      ∧ r.2.mem ((c.tc : Thread Cert.PoolPartIdeal.nD Cert.PoolPartIdeal.τ).loc Cert.PoolPartIdeal.main_arg13) = m ((c.tc : Thread Cert.PoolPartIdeal.nD Cert.PoolPartIdeal.τ).loc Cert.PoolPartIdeal.main_arg13)
      ∧ r.2.mem ((c.tc : Thread Cert.PoolPartIdeal.nD Cert.PoolPartIdeal.τ).loc Cert.PoolPartIdeal.main_arg14) = m ((c.tc : Thread Cert.PoolPartIdeal.nD Cert.PoolPartIdeal.τ).loc Cert.PoolPartIdeal.main_arg14)
      ∧ r.2.mem ((c.tc : Thread Cert.PoolPartIdeal.nD Cert.PoolPartIdeal.τ).loc Cert.PoolPartIdeal.main_arg15) = m ((c.tc : Thread Cert.PoolPartIdeal.nD Cert.PoolPartIdeal.τ).loc Cert.PoolPartIdeal.main_arg15)
      ∧ r.2.mem ((c.tc : Thread Cert.PoolPartIdeal.nD Cert.PoolPartIdeal.τ).loc Cert.PoolPartIdeal.main_arg16) = m ((c.tc : Thread Cert.PoolPartIdeal.nD Cert.PoolPartIdeal.τ).loc Cert.PoolPartIdeal.main_arg16)
      ∧ r.2.mem ((c.tc : Thread Cert.PoolPartIdeal.nD Cert.PoolPartIdeal.τ).loc Cert.PoolPartIdeal.main_arg17) = m ((c.tc : Thread Cert.PoolPartIdeal.nD Cert.PoolPartIdeal.τ).loc Cert.PoolPartIdeal.main_arg17))
      ∧ r.2.sem = fun _ => 0)

def quiescent_DwinKernel [hDwinKernel : Cert.DwinKernel.Facts] : Prop :=
  ∀ (m : (ℓ : Loc Cert.DwinKernel.nD Cert.DwinKernel.τ Cert.DwinKernel.sig) → Buf (Elt Bits) ℓ) (g : Dev Cert.DwinKernel.nD → PrngReg), Pre_DwinKernel m →
    θ_run (Cert.DwinKernel.defs (F := Bits)) (onTc (τ := Cert.DwinKernel.τ) (Cert.DwinKernel.main (F := Bits))) ⟨m, fun _ => 0, g⟩ (fun r => (∀ c : Dev Cert.DwinKernel.nD,
      r.2.mem ((c.tc : Thread Cert.DwinKernel.nD Cert.DwinKernel.τ).loc Cert.DwinKernel.main_arg0) = m ((c.tc : Thread Cert.DwinKernel.nD Cert.DwinKernel.τ).loc Cert.DwinKernel.main_arg0)
      ∧ r.2.mem ((c.tc : Thread Cert.DwinKernel.nD Cert.DwinKernel.τ).loc Cert.DwinKernel.main_arg1) = m ((c.tc : Thread Cert.DwinKernel.nD Cert.DwinKernel.τ).loc Cert.DwinKernel.main_arg1)
      ∧ r.2.mem ((c.tc : Thread Cert.DwinKernel.nD Cert.DwinKernel.τ).loc Cert.DwinKernel.main_arg2) = m ((c.tc : Thread Cert.DwinKernel.nD Cert.DwinKernel.τ).loc Cert.DwinKernel.main_arg2)
      ∧ r.2.mem ((c.tc : Thread Cert.DwinKernel.nD Cert.DwinKernel.τ).loc Cert.DwinKernel.main_arg3) = m ((c.tc : Thread Cert.DwinKernel.nD Cert.DwinKernel.τ).loc Cert.DwinKernel.main_arg3))
      ∧ r.2.sem = fun _ => 0)

def quiescent_DwinKernelIdeal [hDwinKernelIdeal : Cert.DwinKernelIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg), Pre_DwinKernelIdeal m →
    θ_run (Cert.DwinKernelIdeal.defs (F := Ideal)) (onTc (τ := Cert.DwinKernelIdeal.τ) (Cert.DwinKernelIdeal.main (F := Ideal))) ⟨m, fun _ => 0, g⟩ (fun r => (∀ c : Dev Cert.DwinKernelIdeal.nD,
      r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
      ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1)
      ∧ r.2.mem ((c.tc : Thread Cert.DwinKernelIdeal.nD Cert.DwinKernelIdeal.τ).loc Cert.DwinKernelIdeal.main_arg2) = m ((c.tc : Thread Cert.DwinKernelIdeal.nD Cert.DwinKernelIdeal.τ).loc Cert.DwinKernelIdeal.main_arg2)
      ∧ r.2.mem ((c.tc : Thread Cert.DwinKernelIdeal.nD Cert.DwinKernelIdeal.τ).loc Cert.DwinKernelIdeal.main_arg3) = m ((c.tc : Thread Cert.DwinKernelIdeal.nD Cert.DwinKernelIdeal.τ).loc Cert.DwinKernelIdeal.main_arg3))
      ∧ r.2.sem = fun _ => 0)

def quiescent_DwinPartIdeal [hDwinPartIdeal : Cert.DwinPartIdeal.Facts] : Prop :=
  ∀ (m : (ℓ : Loc Cert.DwinPartIdeal.nD Cert.DwinPartIdeal.τ Cert.DwinPartIdeal.sig) → Buf (Elt Ideal) ℓ) (g : Dev Cert.DwinPartIdeal.nD → PrngReg), Pre_DwinPartIdeal m →
    θ_run (Cert.DwinPartIdeal.defs (F := Ideal)) (onTc (τ := Cert.DwinPartIdeal.τ) (Cert.DwinPartIdeal.main (F := Ideal))) ⟨m, fun _ => 0, g⟩ (fun r => (∀ c : Dev Cert.DwinPartIdeal.nD,
      r.2.mem ((c.tc : Thread Cert.DwinPartIdeal.nD Cert.DwinPartIdeal.τ).loc Cert.DwinPartIdeal.main_arg0) = m ((c.tc : Thread Cert.DwinPartIdeal.nD Cert.DwinPartIdeal.τ).loc Cert.DwinPartIdeal.main_arg0)
      ∧ r.2.mem ((c.tc : Thread Cert.DwinPartIdeal.nD Cert.DwinPartIdeal.τ).loc Cert.DwinPartIdeal.main_arg1) = m ((c.tc : Thread Cert.DwinPartIdeal.nD Cert.DwinPartIdeal.τ).loc Cert.DwinPartIdeal.main_arg1)
      ∧ r.2.mem ((c.tc : Thread Cert.DwinPartIdeal.nD Cert.DwinPartIdeal.τ).loc Cert.DwinPartIdeal.main_arg2) = m ((c.tc : Thread Cert.DwinPartIdeal.nD Cert.DwinPartIdeal.τ).loc Cert.DwinPartIdeal.main_arg2)
      ∧ r.2.mem ((c.tc : Thread Cert.DwinPartIdeal.nD Cert.DwinPartIdeal.τ).loc Cert.DwinPartIdeal.main_arg3) = m ((c.tc : Thread Cert.DwinPartIdeal.nD Cert.DwinPartIdeal.τ).loc Cert.DwinPartIdeal.main_arg3))
      ∧ r.2.sem = fun _ => 0)

def quiescent_RmsprojKernel [hRmsprojKernel : Cert.RmsprojKernel.Facts] : Prop :=
  ∀ (m : (ℓ : Loc Cert.RmsprojKernel.nD Cert.RmsprojKernel.τ Cert.RmsprojKernel.sig) → Buf (Elt Bits) ℓ) (g : Dev Cert.RmsprojKernel.nD → PrngReg), Pre_RmsprojKernel m →
    θ_run (Cert.RmsprojKernel.defs (F := Bits)) (onTc (τ := Cert.RmsprojKernel.τ) (Cert.RmsprojKernel.main (F := Bits))) ⟨m, fun _ => 0, g⟩ (fun r => (∀ c : Dev Cert.RmsprojKernel.nD,
      r.2.mem ((c.tc : Thread Cert.RmsprojKernel.nD Cert.RmsprojKernel.τ).loc Cert.RmsprojKernel.main_arg0) = m ((c.tc : Thread Cert.RmsprojKernel.nD Cert.RmsprojKernel.τ).loc Cert.RmsprojKernel.main_arg0)
      ∧ r.2.mem ((c.tc : Thread Cert.RmsprojKernel.nD Cert.RmsprojKernel.τ).loc Cert.RmsprojKernel.main_arg1) = m ((c.tc : Thread Cert.RmsprojKernel.nD Cert.RmsprojKernel.τ).loc Cert.RmsprojKernel.main_arg1)
      ∧ r.2.mem ((c.tc : Thread Cert.RmsprojKernel.nD Cert.RmsprojKernel.τ).loc Cert.RmsprojKernel.main_arg2) = m ((c.tc : Thread Cert.RmsprojKernel.nD Cert.RmsprojKernel.τ).loc Cert.RmsprojKernel.main_arg2))
      ∧ r.2.sem = fun _ => 0)

def quiescent_RmsprojKernelIdeal [hRmsprojKernelIdeal : Cert.RmsprojKernelIdeal.Facts] : Prop :=
  ∀ (m : (ℓ : Loc Cert.RmsprojKernelIdeal.nD Cert.RmsprojKernelIdeal.τ Cert.RmsprojKernelIdeal.sig) → Buf (Elt Ideal) ℓ) (g : Dev Cert.RmsprojKernelIdeal.nD → PrngReg), Pre_RmsprojKernelIdeal m →
    θ_run (Cert.RmsprojKernelIdeal.defs (F := Ideal)) (onTc (τ := Cert.RmsprojKernelIdeal.τ) (Cert.RmsprojKernelIdeal.main (F := Ideal))) ⟨m, fun _ => 0, g⟩ (fun r => (∀ c : Dev Cert.RmsprojKernelIdeal.nD,
      r.2.mem ((c.tc : Thread Cert.RmsprojKernelIdeal.nD Cert.RmsprojKernelIdeal.τ).loc Cert.RmsprojKernelIdeal.main_arg0) = m ((c.tc : Thread Cert.RmsprojKernelIdeal.nD Cert.RmsprojKernelIdeal.τ).loc Cert.RmsprojKernelIdeal.main_arg0)
      ∧ r.2.mem ((c.tc : Thread Cert.RmsprojKernelIdeal.nD Cert.RmsprojKernelIdeal.τ).loc Cert.RmsprojKernelIdeal.main_arg1) = m ((c.tc : Thread Cert.RmsprojKernelIdeal.nD Cert.RmsprojKernelIdeal.τ).loc Cert.RmsprojKernelIdeal.main_arg1)
      ∧ r.2.mem ((c.tc : Thread Cert.RmsprojKernelIdeal.nD Cert.RmsprojKernelIdeal.τ).loc Cert.RmsprojKernelIdeal.main_arg2) = m ((c.tc : Thread Cert.RmsprojKernelIdeal.nD Cert.RmsprojKernelIdeal.τ).loc Cert.RmsprojKernelIdeal.main_arg2))
      ∧ r.2.sem = fun _ => 0)

def quiescent_RmsprojPartIdeal [hRmsprojPartIdeal : Cert.RmsprojPartIdeal.Facts] : Prop :=
  ∀ (m : (ℓ : Loc Cert.RmsprojPartIdeal.nD Cert.RmsprojPartIdeal.τ Cert.RmsprojPartIdeal.sig) → Buf (Elt Ideal) ℓ) (g : Dev Cert.RmsprojPartIdeal.nD → PrngReg), Pre_RmsprojPartIdeal m →
    θ_run (Cert.RmsprojPartIdeal.defs (F := Ideal)) (onTc (τ := Cert.RmsprojPartIdeal.τ) (Cert.RmsprojPartIdeal.main (F := Ideal))) ⟨m, fun _ => 0, g⟩ (fun r => (∀ c : Dev Cert.RmsprojPartIdeal.nD,
      r.2.mem ((c.tc : Thread Cert.RmsprojPartIdeal.nD Cert.RmsprojPartIdeal.τ).loc Cert.RmsprojPartIdeal.main_arg0) = m ((c.tc : Thread Cert.RmsprojPartIdeal.nD Cert.RmsprojPartIdeal.τ).loc Cert.RmsprojPartIdeal.main_arg0)
      ∧ r.2.mem ((c.tc : Thread Cert.RmsprojPartIdeal.nD Cert.RmsprojPartIdeal.τ).loc Cert.RmsprojPartIdeal.main_arg1) = m ((c.tc : Thread Cert.RmsprojPartIdeal.nD Cert.RmsprojPartIdeal.τ).loc Cert.RmsprojPartIdeal.main_arg1)
      ∧ r.2.mem ((c.tc : Thread Cert.RmsprojPartIdeal.nD Cert.RmsprojPartIdeal.τ).loc Cert.RmsprojPartIdeal.main_arg2) = m ((c.tc : Thread Cert.RmsprojPartIdeal.nD Cert.RmsprojPartIdeal.τ).loc Cert.RmsprojPartIdeal.main_arg2))
      ∧ r.2.sem = fun _ => 0)

def quiescent_DxinKernel [hDxinKernel : Cert.DxinKernel.Facts] : Prop :=
  ∀ (m : (ℓ : Loc Cert.DxinKernel.nD Cert.DxinKernel.τ Cert.DxinKernel.sig) → Buf (Elt Bits) ℓ) (g : Dev Cert.DxinKernel.nD → PrngReg), Pre_DxinKernel m →
    θ_run (Cert.DxinKernel.defs (F := Bits)) (onTc (τ := Cert.DxinKernel.τ) (Cert.DxinKernel.main (F := Bits))) ⟨m, fun _ => 0, g⟩ (fun r => (∀ c : Dev Cert.DxinKernel.nD,
      r.2.mem ((c.tc : Thread Cert.DxinKernel.nD Cert.DxinKernel.τ).loc Cert.DxinKernel.main_arg0) = m ((c.tc : Thread Cert.DxinKernel.nD Cert.DxinKernel.τ).loc Cert.DxinKernel.main_arg0)
      ∧ r.2.mem ((c.tc : Thread Cert.DxinKernel.nD Cert.DxinKernel.τ).loc Cert.DxinKernel.main_arg1) = m ((c.tc : Thread Cert.DxinKernel.nD Cert.DxinKernel.τ).loc Cert.DxinKernel.main_arg1)
      ∧ r.2.mem ((c.tc : Thread Cert.DxinKernel.nD Cert.DxinKernel.τ).loc Cert.DxinKernel.main_arg2) = m ((c.tc : Thread Cert.DxinKernel.nD Cert.DxinKernel.τ).loc Cert.DxinKernel.main_arg2)
      ∧ r.2.mem ((c.tc : Thread Cert.DxinKernel.nD Cert.DxinKernel.τ).loc Cert.DxinKernel.main_arg3) = m ((c.tc : Thread Cert.DxinKernel.nD Cert.DxinKernel.τ).loc Cert.DxinKernel.main_arg3)
      ∧ r.2.mem ((c.tc : Thread Cert.DxinKernel.nD Cert.DxinKernel.τ).loc Cert.DxinKernel.main_arg4) = m ((c.tc : Thread Cert.DxinKernel.nD Cert.DxinKernel.τ).loc Cert.DxinKernel.main_arg4))
      ∧ r.2.sem = fun _ => 0)

def quiescent_DxinKernelIdeal [hDxinKernelIdeal : Cert.DxinKernelIdeal.Facts] : Prop :=
  ∀ (m : (ℓ : Loc Cert.DxinKernelIdeal.nD Cert.DxinKernelIdeal.τ Cert.DxinKernelIdeal.sig) → Buf (Elt Ideal) ℓ) (g : Dev Cert.DxinKernelIdeal.nD → PrngReg), Pre_DxinKernelIdeal m →
    θ_run (Cert.DxinKernelIdeal.defs (F := Ideal)) (onTc (τ := Cert.DxinKernelIdeal.τ) (Cert.DxinKernelIdeal.main (F := Ideal))) ⟨m, fun _ => 0, g⟩ (fun r => (∀ c : Dev Cert.DxinKernelIdeal.nD,
      r.2.mem ((c.tc : Thread Cert.DxinKernelIdeal.nD Cert.DxinKernelIdeal.τ).loc Cert.DxinKernelIdeal.main_arg0) = m ((c.tc : Thread Cert.DxinKernelIdeal.nD Cert.DxinKernelIdeal.τ).loc Cert.DxinKernelIdeal.main_arg0)
      ∧ r.2.mem ((c.tc : Thread Cert.DxinKernelIdeal.nD Cert.DxinKernelIdeal.τ).loc Cert.DxinKernelIdeal.main_arg1) = m ((c.tc : Thread Cert.DxinKernelIdeal.nD Cert.DxinKernelIdeal.τ).loc Cert.DxinKernelIdeal.main_arg1)
      ∧ r.2.mem ((c.tc : Thread Cert.DxinKernelIdeal.nD Cert.DxinKernelIdeal.τ).loc Cert.DxinKernelIdeal.main_arg2) = m ((c.tc : Thread Cert.DxinKernelIdeal.nD Cert.DxinKernelIdeal.τ).loc Cert.DxinKernelIdeal.main_arg2)
      ∧ r.2.mem ((c.tc : Thread Cert.DxinKernelIdeal.nD Cert.DxinKernelIdeal.τ).loc Cert.DxinKernelIdeal.main_arg3) = m ((c.tc : Thread Cert.DxinKernelIdeal.nD Cert.DxinKernelIdeal.τ).loc Cert.DxinKernelIdeal.main_arg3)
      ∧ r.2.mem ((c.tc : Thread Cert.DxinKernelIdeal.nD Cert.DxinKernelIdeal.τ).loc Cert.DxinKernelIdeal.main_arg4) = m ((c.tc : Thread Cert.DxinKernelIdeal.nD Cert.DxinKernelIdeal.τ).loc Cert.DxinKernelIdeal.main_arg4))
      ∧ r.2.sem = fun _ => 0)

def quiescent_DxinKernelIdeal_pre_dxin_finite [hDxinKernelIdeal : Cert.DxinKernelIdeal.Facts] [hPre_dxin_finite : Cert.Pre_dxin_finite.Facts] : Prop :=
  ∀ (m : (ℓ : Loc Cert.DxinKernelIdeal.nD Cert.DxinKernelIdeal.τ Cert.DxinKernelIdeal.sig) → Buf (Elt Ideal) ℓ) (g : Dev Cert.DxinKernelIdeal.nD → PrngReg), Pre_DxinKernelIdeal_dxin_finite m →
    θ_run (Cert.DxinKernelIdeal.defs (F := Ideal)) (onTc (τ := Cert.DxinKernelIdeal.τ) (Cert.DxinKernelIdeal.main (F := Ideal))) ⟨m, fun _ => 0, g⟩ (fun r => (∀ c : Dev Cert.DxinKernelIdeal.nD,
      r.2.mem ((c.tc : Thread Cert.DxinKernelIdeal.nD Cert.DxinKernelIdeal.τ).loc Cert.DxinKernelIdeal.main_arg0) = m ((c.tc : Thread Cert.DxinKernelIdeal.nD Cert.DxinKernelIdeal.τ).loc Cert.DxinKernelIdeal.main_arg0)
      ∧ r.2.mem ((c.tc : Thread Cert.DxinKernelIdeal.nD Cert.DxinKernelIdeal.τ).loc Cert.DxinKernelIdeal.main_arg1) = m ((c.tc : Thread Cert.DxinKernelIdeal.nD Cert.DxinKernelIdeal.τ).loc Cert.DxinKernelIdeal.main_arg1)
      ∧ r.2.mem ((c.tc : Thread Cert.DxinKernelIdeal.nD Cert.DxinKernelIdeal.τ).loc Cert.DxinKernelIdeal.main_arg2) = m ((c.tc : Thread Cert.DxinKernelIdeal.nD Cert.DxinKernelIdeal.τ).loc Cert.DxinKernelIdeal.main_arg2)
      ∧ r.2.mem ((c.tc : Thread Cert.DxinKernelIdeal.nD Cert.DxinKernelIdeal.τ).loc Cert.DxinKernelIdeal.main_arg3) = m ((c.tc : Thread Cert.DxinKernelIdeal.nD Cert.DxinKernelIdeal.τ).loc Cert.DxinKernelIdeal.main_arg3)
      ∧ r.2.mem ((c.tc : Thread Cert.DxinKernelIdeal.nD Cert.DxinKernelIdeal.τ).loc Cert.DxinKernelIdeal.main_arg4) = m ((c.tc : Thread Cert.DxinKernelIdeal.nD Cert.DxinKernelIdeal.τ).loc Cert.DxinKernelIdeal.main_arg4))
      ∧ r.2.sem = fun _ => 0)

def quiescent_DxinPartIdeal [hDxinPartIdeal : Cert.DxinPartIdeal.Facts] : Prop :=
  ∀ (m : (ℓ : Loc Cert.DxinPartIdeal.nD Cert.DxinPartIdeal.τ Cert.DxinPartIdeal.sig) → Buf (Elt Ideal) ℓ) (g : Dev Cert.DxinPartIdeal.nD → PrngReg), Pre_DxinPartIdeal m →
    θ_run (Cert.DxinPartIdeal.defs (F := Ideal)) (onTc (τ := Cert.DxinPartIdeal.τ) (Cert.DxinPartIdeal.main (F := Ideal))) ⟨m, fun _ => 0, g⟩ (fun r => (∀ c : Dev Cert.DxinPartIdeal.nD,
      r.2.mem ((c.tc : Thread Cert.DxinPartIdeal.nD Cert.DxinPartIdeal.τ).loc Cert.DxinPartIdeal.main_arg0) = m ((c.tc : Thread Cert.DxinPartIdeal.nD Cert.DxinPartIdeal.τ).loc Cert.DxinPartIdeal.main_arg0)
      ∧ r.2.mem ((c.tc : Thread Cert.DxinPartIdeal.nD Cert.DxinPartIdeal.τ).loc Cert.DxinPartIdeal.main_arg1) = m ((c.tc : Thread Cert.DxinPartIdeal.nD Cert.DxinPartIdeal.τ).loc Cert.DxinPartIdeal.main_arg1)
      ∧ r.2.mem ((c.tc : Thread Cert.DxinPartIdeal.nD Cert.DxinPartIdeal.τ).loc Cert.DxinPartIdeal.main_arg2) = m ((c.tc : Thread Cert.DxinPartIdeal.nD Cert.DxinPartIdeal.τ).loc Cert.DxinPartIdeal.main_arg2)
      ∧ r.2.mem ((c.tc : Thread Cert.DxinPartIdeal.nD Cert.DxinPartIdeal.τ).loc Cert.DxinPartIdeal.main_arg3) = m ((c.tc : Thread Cert.DxinPartIdeal.nD Cert.DxinPartIdeal.τ).loc Cert.DxinPartIdeal.main_arg3)
      ∧ r.2.mem ((c.tc : Thread Cert.DxinPartIdeal.nD Cert.DxinPartIdeal.τ).loc Cert.DxinPartIdeal.main_arg4) = m ((c.tc : Thread Cert.DxinPartIdeal.nD Cert.DxinPartIdeal.τ).loc Cert.DxinPartIdeal.main_arg4))
      ∧ r.2.sem = fun _ => 0)

def quiescent_DxinPartIdeal_pre_dxin_finite [hDxinPartIdeal : Cert.DxinPartIdeal.Facts] [hPre_dxin_finite : Cert.Pre_dxin_finite.Facts] : Prop :=
  ∀ (m : (ℓ : Loc Cert.DxinPartIdeal.nD Cert.DxinPartIdeal.τ Cert.DxinPartIdeal.sig) → Buf (Elt Ideal) ℓ) (g : Dev Cert.DxinPartIdeal.nD → PrngReg), Pre_DxinPartIdeal_dxin_finite m →
    θ_run (Cert.DxinPartIdeal.defs (F := Ideal)) (onTc (τ := Cert.DxinPartIdeal.τ) (Cert.DxinPartIdeal.main (F := Ideal))) ⟨m, fun _ => 0, g⟩ (fun r => (∀ c : Dev Cert.DxinPartIdeal.nD,
      r.2.mem ((c.tc : Thread Cert.DxinPartIdeal.nD Cert.DxinPartIdeal.τ).loc Cert.DxinPartIdeal.main_arg0) = m ((c.tc : Thread Cert.DxinPartIdeal.nD Cert.DxinPartIdeal.τ).loc Cert.DxinPartIdeal.main_arg0)
      ∧ r.2.mem ((c.tc : Thread Cert.DxinPartIdeal.nD Cert.DxinPartIdeal.τ).loc Cert.DxinPartIdeal.main_arg1) = m ((c.tc : Thread Cert.DxinPartIdeal.nD Cert.DxinPartIdeal.τ).loc Cert.DxinPartIdeal.main_arg1)
      ∧ r.2.mem ((c.tc : Thread Cert.DxinPartIdeal.nD Cert.DxinPartIdeal.τ).loc Cert.DxinPartIdeal.main_arg2) = m ((c.tc : Thread Cert.DxinPartIdeal.nD Cert.DxinPartIdeal.τ).loc Cert.DxinPartIdeal.main_arg2)
      ∧ r.2.mem ((c.tc : Thread Cert.DxinPartIdeal.nD Cert.DxinPartIdeal.τ).loc Cert.DxinPartIdeal.main_arg3) = m ((c.tc : Thread Cert.DxinPartIdeal.nD Cert.DxinPartIdeal.τ).loc Cert.DxinPartIdeal.main_arg3)
      ∧ r.2.mem ((c.tc : Thread Cert.DxinPartIdeal.nD Cert.DxinPartIdeal.τ).loc Cert.DxinPartIdeal.main_arg4) = m ((c.tc : Thread Cert.DxinPartIdeal.nD Cert.DxinPartIdeal.τ).loc Cert.DxinPartIdeal.main_arg4))
      ∧ r.2.sem = fun _ => 0)

def quiescent_AdamwOutKernel [hAdamwOutKernel : Cert.AdamwOutKernel.Facts] : Prop :=
  ∀ (m : (ℓ : Loc Cert.AdamwOutKernel.nD Cert.AdamwOutKernel.τ Cert.AdamwOutKernel.sig) → Buf (Elt Bits) ℓ) (g : Dev Cert.AdamwOutKernel.nD → PrngReg), Pre_AdamwOutKernel m →
    θ_run (Cert.AdamwOutKernel.defs (F := Bits)) (onTc (τ := Cert.AdamwOutKernel.τ) (Cert.AdamwOutKernel.main (F := Bits))) ⟨m, fun _ => 0, g⟩ (fun r => (∀ c : Dev Cert.AdamwOutKernel.nD,
      r.2.mem ((c.tc : Thread Cert.AdamwOutKernel.nD Cert.AdamwOutKernel.τ).loc Cert.AdamwOutKernel.main_arg0) = m ((c.tc : Thread Cert.AdamwOutKernel.nD Cert.AdamwOutKernel.τ).loc Cert.AdamwOutKernel.main_arg0)
      ∧ r.2.mem ((c.tc : Thread Cert.AdamwOutKernel.nD Cert.AdamwOutKernel.τ).loc Cert.AdamwOutKernel.main_arg1) = m ((c.tc : Thread Cert.AdamwOutKernel.nD Cert.AdamwOutKernel.τ).loc Cert.AdamwOutKernel.main_arg1)
      ∧ r.2.mem ((c.tc : Thread Cert.AdamwOutKernel.nD Cert.AdamwOutKernel.τ).loc Cert.AdamwOutKernel.main_arg2) = m ((c.tc : Thread Cert.AdamwOutKernel.nD Cert.AdamwOutKernel.τ).loc Cert.AdamwOutKernel.main_arg2)
      ∧ r.2.mem ((c.tc : Thread Cert.AdamwOutKernel.nD Cert.AdamwOutKernel.τ).loc Cert.AdamwOutKernel.main_arg3) = m ((c.tc : Thread Cert.AdamwOutKernel.nD Cert.AdamwOutKernel.τ).loc Cert.AdamwOutKernel.main_arg3))
      ∧ r.2.sem = fun _ => 0)

def quiescent_AdamwOutKernelIdeal [hAdamwOutKernelIdeal : Cert.AdamwOutKernelIdeal.Facts] : Prop :=
  ∀ (m : (ℓ : Loc Cert.AdamwOutKernelIdeal.nD Cert.AdamwOutKernelIdeal.τ Cert.AdamwOutKernelIdeal.sig) → Buf (Elt Ideal) ℓ) (g : Dev Cert.AdamwOutKernelIdeal.nD → PrngReg), Pre_AdamwOutKernelIdeal m →
    θ_run (Cert.AdamwOutKernelIdeal.defs (F := Ideal)) (onTc (τ := Cert.AdamwOutKernelIdeal.τ) (Cert.AdamwOutKernelIdeal.main (F := Ideal))) ⟨m, fun _ => 0, g⟩ (fun r => (∀ c : Dev Cert.AdamwOutKernelIdeal.nD,
      r.2.mem ((c.tc : Thread Cert.AdamwOutKernelIdeal.nD Cert.AdamwOutKernelIdeal.τ).loc Cert.AdamwOutKernelIdeal.main_arg0) = m ((c.tc : Thread Cert.AdamwOutKernelIdeal.nD Cert.AdamwOutKernelIdeal.τ).loc Cert.AdamwOutKernelIdeal.main_arg0)
      ∧ r.2.mem ((c.tc : Thread Cert.AdamwOutKernelIdeal.nD Cert.AdamwOutKernelIdeal.τ).loc Cert.AdamwOutKernelIdeal.main_arg1) = m ((c.tc : Thread Cert.AdamwOutKernelIdeal.nD Cert.AdamwOutKernelIdeal.τ).loc Cert.AdamwOutKernelIdeal.main_arg1)
      ∧ r.2.mem ((c.tc : Thread Cert.AdamwOutKernelIdeal.nD Cert.AdamwOutKernelIdeal.τ).loc Cert.AdamwOutKernelIdeal.main_arg2) = m ((c.tc : Thread Cert.AdamwOutKernelIdeal.nD Cert.AdamwOutKernelIdeal.τ).loc Cert.AdamwOutKernelIdeal.main_arg2)
      ∧ r.2.mem ((c.tc : Thread Cert.AdamwOutKernelIdeal.nD Cert.AdamwOutKernelIdeal.τ).loc Cert.AdamwOutKernelIdeal.main_arg3) = m ((c.tc : Thread Cert.AdamwOutKernelIdeal.nD Cert.AdamwOutKernelIdeal.τ).loc Cert.AdamwOutKernelIdeal.main_arg3))
      ∧ r.2.sem = fun _ => 0)

def quiescent_AdamwOutPartIdeal [hAdamwOutPartIdeal : Cert.AdamwOutPartIdeal.Facts] : Prop :=
  ∀ (m : (ℓ : Loc Cert.AdamwOutPartIdeal.nD Cert.AdamwOutPartIdeal.τ Cert.AdamwOutPartIdeal.sig) → Buf (Elt Ideal) ℓ) (g : Dev Cert.AdamwOutPartIdeal.nD → PrngReg), Pre_AdamwOutPartIdeal m →
    θ_run (Cert.AdamwOutPartIdeal.defs (F := Ideal)) (onTc (τ := Cert.AdamwOutPartIdeal.τ) (Cert.AdamwOutPartIdeal.main (F := Ideal))) ⟨m, fun _ => 0, g⟩ (fun r => (∀ c : Dev Cert.AdamwOutPartIdeal.nD,
      r.2.mem ((c.tc : Thread Cert.AdamwOutPartIdeal.nD Cert.AdamwOutPartIdeal.τ).loc Cert.AdamwOutPartIdeal.main_arg0) = m ((c.tc : Thread Cert.AdamwOutPartIdeal.nD Cert.AdamwOutPartIdeal.τ).loc Cert.AdamwOutPartIdeal.main_arg0)
      ∧ r.2.mem ((c.tc : Thread Cert.AdamwOutPartIdeal.nD Cert.AdamwOutPartIdeal.τ).loc Cert.AdamwOutPartIdeal.main_arg1) = m ((c.tc : Thread Cert.AdamwOutPartIdeal.nD Cert.AdamwOutPartIdeal.τ).loc Cert.AdamwOutPartIdeal.main_arg1)
      ∧ r.2.mem ((c.tc : Thread Cert.AdamwOutPartIdeal.nD Cert.AdamwOutPartIdeal.τ).loc Cert.AdamwOutPartIdeal.main_arg2) = m ((c.tc : Thread Cert.AdamwOutPartIdeal.nD Cert.AdamwOutPartIdeal.τ).loc Cert.AdamwOutPartIdeal.main_arg2)
      ∧ r.2.mem ((c.tc : Thread Cert.AdamwOutPartIdeal.nD Cert.AdamwOutPartIdeal.τ).loc Cert.AdamwOutPartIdeal.main_arg3) = m ((c.tc : Thread Cert.AdamwOutPartIdeal.nD Cert.AdamwOutPartIdeal.τ).loc Cert.AdamwOutPartIdeal.main_arg3))
      ∧ r.2.sem = fun _ => 0)

def quiescent_AdamwInKernel [hAdamwInKernel : Cert.AdamwInKernel.Facts] : Prop :=
  ∀ (m : (ℓ : Loc Cert.AdamwInKernel.nD Cert.AdamwInKernel.τ Cert.AdamwInKernel.sig) → Buf (Elt Bits) ℓ) (g : Dev Cert.AdamwInKernel.nD → PrngReg), Pre_AdamwInKernel m →
    θ_run (Cert.AdamwInKernel.defs (F := Bits)) (onTc (τ := Cert.AdamwInKernel.τ) (Cert.AdamwInKernel.main (F := Bits))) ⟨m, fun _ => 0, g⟩ (fun r => (∀ c : Dev Cert.AdamwInKernel.nD,
      r.2.mem ((c.tc : Thread Cert.AdamwInKernel.nD Cert.AdamwInKernel.τ).loc Cert.AdamwInKernel.main_arg0) = m ((c.tc : Thread Cert.AdamwInKernel.nD Cert.AdamwInKernel.τ).loc Cert.AdamwInKernel.main_arg0)
      ∧ r.2.mem ((c.tc : Thread Cert.AdamwInKernel.nD Cert.AdamwInKernel.τ).loc Cert.AdamwInKernel.main_arg1) = m ((c.tc : Thread Cert.AdamwInKernel.nD Cert.AdamwInKernel.τ).loc Cert.AdamwInKernel.main_arg1)
      ∧ r.2.mem ((c.tc : Thread Cert.AdamwInKernel.nD Cert.AdamwInKernel.τ).loc Cert.AdamwInKernel.main_arg2) = m ((c.tc : Thread Cert.AdamwInKernel.nD Cert.AdamwInKernel.τ).loc Cert.AdamwInKernel.main_arg2)
      ∧ r.2.mem ((c.tc : Thread Cert.AdamwInKernel.nD Cert.AdamwInKernel.τ).loc Cert.AdamwInKernel.main_arg3) = m ((c.tc : Thread Cert.AdamwInKernel.nD Cert.AdamwInKernel.τ).loc Cert.AdamwInKernel.main_arg3))
      ∧ r.2.sem = fun _ => 0)

def quiescent_AdamwInKernelIdeal [hAdamwInKernelIdeal : Cert.AdamwInKernelIdeal.Facts] : Prop :=
  ∀ (m : (ℓ : Loc Cert.AdamwInKernelIdeal.nD Cert.AdamwInKernelIdeal.τ Cert.AdamwInKernelIdeal.sig) → Buf (Elt Ideal) ℓ) (g : Dev Cert.AdamwInKernelIdeal.nD → PrngReg), Pre_AdamwInKernelIdeal m →
    θ_run (Cert.AdamwInKernelIdeal.defs (F := Ideal)) (onTc (τ := Cert.AdamwInKernelIdeal.τ) (Cert.AdamwInKernelIdeal.main (F := Ideal))) ⟨m, fun _ => 0, g⟩ (fun r => (∀ c : Dev Cert.AdamwInKernelIdeal.nD,
      r.2.mem ((c.tc : Thread Cert.AdamwInKernelIdeal.nD Cert.AdamwInKernelIdeal.τ).loc Cert.AdamwInKernelIdeal.main_arg0) = m ((c.tc : Thread Cert.AdamwInKernelIdeal.nD Cert.AdamwInKernelIdeal.τ).loc Cert.AdamwInKernelIdeal.main_arg0)
      ∧ r.2.mem ((c.tc : Thread Cert.AdamwInKernelIdeal.nD Cert.AdamwInKernelIdeal.τ).loc Cert.AdamwInKernelIdeal.main_arg1) = m ((c.tc : Thread Cert.AdamwInKernelIdeal.nD Cert.AdamwInKernelIdeal.τ).loc Cert.AdamwInKernelIdeal.main_arg1)
      ∧ r.2.mem ((c.tc : Thread Cert.AdamwInKernelIdeal.nD Cert.AdamwInKernelIdeal.τ).loc Cert.AdamwInKernelIdeal.main_arg2) = m ((c.tc : Thread Cert.AdamwInKernelIdeal.nD Cert.AdamwInKernelIdeal.τ).loc Cert.AdamwInKernelIdeal.main_arg2)
      ∧ r.2.mem ((c.tc : Thread Cert.AdamwInKernelIdeal.nD Cert.AdamwInKernelIdeal.τ).loc Cert.AdamwInKernelIdeal.main_arg3) = m ((c.tc : Thread Cert.AdamwInKernelIdeal.nD Cert.AdamwInKernelIdeal.τ).loc Cert.AdamwInKernelIdeal.main_arg3))
      ∧ r.2.sem = fun _ => 0)

def quiescent_AdamwInPartIdeal [hAdamwInPartIdeal : Cert.AdamwInPartIdeal.Facts] : Prop :=
  ∀ (m : (ℓ : Loc Cert.AdamwInPartIdeal.nD Cert.AdamwInPartIdeal.τ Cert.AdamwInPartIdeal.sig) → Buf (Elt Ideal) ℓ) (g : Dev Cert.AdamwInPartIdeal.nD → PrngReg), Pre_AdamwInPartIdeal m →
    θ_run (Cert.AdamwInPartIdeal.defs (F := Ideal)) (onTc (τ := Cert.AdamwInPartIdeal.τ) (Cert.AdamwInPartIdeal.main (F := Ideal))) ⟨m, fun _ => 0, g⟩ (fun r => (∀ c : Dev Cert.AdamwInPartIdeal.nD,
      r.2.mem ((c.tc : Thread Cert.AdamwInPartIdeal.nD Cert.AdamwInPartIdeal.τ).loc Cert.AdamwInPartIdeal.main_arg0) = m ((c.tc : Thread Cert.AdamwInPartIdeal.nD Cert.AdamwInPartIdeal.τ).loc Cert.AdamwInPartIdeal.main_arg0)
      ∧ r.2.mem ((c.tc : Thread Cert.AdamwInPartIdeal.nD Cert.AdamwInPartIdeal.τ).loc Cert.AdamwInPartIdeal.main_arg1) = m ((c.tc : Thread Cert.AdamwInPartIdeal.nD Cert.AdamwInPartIdeal.τ).loc Cert.AdamwInPartIdeal.main_arg1)
      ∧ r.2.mem ((c.tc : Thread Cert.AdamwInPartIdeal.nD Cert.AdamwInPartIdeal.τ).loc Cert.AdamwInPartIdeal.main_arg2) = m ((c.tc : Thread Cert.AdamwInPartIdeal.nD Cert.AdamwInPartIdeal.τ).loc Cert.AdamwInPartIdeal.main_arg2)
      ∧ r.2.mem ((c.tc : Thread Cert.AdamwInPartIdeal.nD Cert.AdamwInPartIdeal.τ).loc Cert.AdamwInPartIdeal.main_arg3) = m ((c.tc : Thread Cert.AdamwInPartIdeal.nD Cert.AdamwInPartIdeal.τ).loc Cert.AdamwInPartIdeal.main_arg3))
      ∧ r.2.sem = fun _ => 0)

def quiescent_MixerKernel [hMixerKernel : Cert.MixerKernel.Facts] : Prop :=
  ∀ (m : (ℓ : Loc Cert.MixerKernel.nD Cert.MixerKernel.τ Cert.MixerKernel.sig) → Buf (Elt Bits) ℓ) (g : Dev Cert.MixerKernel.nD → PrngReg), Pre_MixerKernel m →
    θ_run (Cert.MixerKernel.defs (F := Bits)) (onTc (τ := Cert.MixerKernel.τ) (Cert.MixerKernel.main (F := Bits))) ⟨m, fun _ => 0, g⟩ (fun r => (∀ c : Dev Cert.MixerKernel.nD,
      r.2.mem ((c.tc : Thread Cert.MixerKernel.nD Cert.MixerKernel.τ).loc Cert.MixerKernel.main_arg0) = m ((c.tc : Thread Cert.MixerKernel.nD Cert.MixerKernel.τ).loc Cert.MixerKernel.main_arg0)
      ∧ r.2.mem ((c.tc : Thread Cert.MixerKernel.nD Cert.MixerKernel.τ).loc Cert.MixerKernel.main_arg1) = m ((c.tc : Thread Cert.MixerKernel.nD Cert.MixerKernel.τ).loc Cert.MixerKernel.main_arg1)
      ∧ r.2.mem ((c.tc : Thread Cert.MixerKernel.nD Cert.MixerKernel.τ).loc Cert.MixerKernel.main_arg2) = m ((c.tc : Thread Cert.MixerKernel.nD Cert.MixerKernel.τ).loc Cert.MixerKernel.main_arg2)
      ∧ r.2.mem ((c.tc : Thread Cert.MixerKernel.nD Cert.MixerKernel.τ).loc Cert.MixerKernel.main_arg3) = m ((c.tc : Thread Cert.MixerKernel.nD Cert.MixerKernel.τ).loc Cert.MixerKernel.main_arg3)
      ∧ r.2.mem ((c.tc : Thread Cert.MixerKernel.nD Cert.MixerKernel.τ).loc Cert.MixerKernel.main_arg4) = m ((c.tc : Thread Cert.MixerKernel.nD Cert.MixerKernel.τ).loc Cert.MixerKernel.main_arg4)
      ∧ r.2.mem ((c.tc : Thread Cert.MixerKernel.nD Cert.MixerKernel.τ).loc Cert.MixerKernel.main_arg5) = m ((c.tc : Thread Cert.MixerKernel.nD Cert.MixerKernel.τ).loc Cert.MixerKernel.main_arg5)
      ∧ r.2.mem ((c.tc : Thread Cert.MixerKernel.nD Cert.MixerKernel.τ).loc Cert.MixerKernel.main_arg6) = m ((c.tc : Thread Cert.MixerKernel.nD Cert.MixerKernel.τ).loc Cert.MixerKernel.main_arg6)
      ∧ r.2.mem ((c.tc : Thread Cert.MixerKernel.nD Cert.MixerKernel.τ).loc Cert.MixerKernel.main_arg7) = m ((c.tc : Thread Cert.MixerKernel.nD Cert.MixerKernel.τ).loc Cert.MixerKernel.main_arg7)
      ∧ r.2.mem ((c.tc : Thread Cert.MixerKernel.nD Cert.MixerKernel.τ).loc Cert.MixerKernel.main_arg8) = m ((c.tc : Thread Cert.MixerKernel.nD Cert.MixerKernel.τ).loc Cert.MixerKernel.main_arg8)
      ∧ r.2.mem ((c.tc : Thread Cert.MixerKernel.nD Cert.MixerKernel.τ).loc Cert.MixerKernel.main_arg9) = m ((c.tc : Thread Cert.MixerKernel.nD Cert.MixerKernel.τ).loc Cert.MixerKernel.main_arg9)
      ∧ r.2.mem ((c.tc : Thread Cert.MixerKernel.nD Cert.MixerKernel.τ).loc Cert.MixerKernel.main_arg10) = m ((c.tc : Thread Cert.MixerKernel.nD Cert.MixerKernel.τ).loc Cert.MixerKernel.main_arg10)
      ∧ r.2.mem ((c.tc : Thread Cert.MixerKernel.nD Cert.MixerKernel.τ).loc Cert.MixerKernel.main_arg11) = m ((c.tc : Thread Cert.MixerKernel.nD Cert.MixerKernel.τ).loc Cert.MixerKernel.main_arg11)
      ∧ r.2.mem ((c.tc : Thread Cert.MixerKernel.nD Cert.MixerKernel.τ).loc Cert.MixerKernel.main_arg12) = m ((c.tc : Thread Cert.MixerKernel.nD Cert.MixerKernel.τ).loc Cert.MixerKernel.main_arg12)
      ∧ r.2.mem ((c.tc : Thread Cert.MixerKernel.nD Cert.MixerKernel.τ).loc Cert.MixerKernel.main_arg13) = m ((c.tc : Thread Cert.MixerKernel.nD Cert.MixerKernel.τ).loc Cert.MixerKernel.main_arg13)
      ∧ r.2.mem ((c.tc : Thread Cert.MixerKernel.nD Cert.MixerKernel.τ).loc Cert.MixerKernel.main_arg14) = m ((c.tc : Thread Cert.MixerKernel.nD Cert.MixerKernel.τ).loc Cert.MixerKernel.main_arg14))
      ∧ r.2.sem = fun _ => 0)

def quiescent_MixerKernelIdeal [hMixerKernelIdeal : Cert.MixerKernelIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
      ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
      ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
      ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
      ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
      ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
      ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13)
      ∧ r.2.mem ((c.tc : Thread Cert.MixerKernelIdeal.nD Cert.MixerKernelIdeal.τ).loc Cert.MixerKernelIdeal.main_arg14) = m ((c.tc : Thread Cert.MixerKernelIdeal.nD Cert.MixerKernelIdeal.τ).loc Cert.MixerKernelIdeal.main_arg14))
      ∧ r.2.sem = fun _ => 0)

def quiescent_MixerPartIdeal [hMixerPartIdeal : Cert.MixerPartIdeal.Facts] : Prop :=
  ∀ (m : (ℓ : Loc Cert.MixerPartIdeal.nD Cert.MixerPartIdeal.τ Cert.MixerPartIdeal.sig) → Buf (Elt Ideal) ℓ) (g : Dev Cert.MixerPartIdeal.nD → PrngReg), Pre_MixerPartIdeal m →
    θ_run (Cert.MixerPartIdeal.defs (F := Ideal)) (onTc (τ := Cert.MixerPartIdeal.τ) (Cert.MixerPartIdeal.main (F := Ideal))) ⟨m, fun _ => 0, g⟩ (fun r => (∀ c : Dev Cert.MixerPartIdeal.nD,
      r.2.mem ((c.tc : Thread Cert.MixerPartIdeal.nD Cert.MixerPartIdeal.τ).loc Cert.MixerPartIdeal.main_arg0) = m ((c.tc : Thread Cert.MixerPartIdeal.nD Cert.MixerPartIdeal.τ).loc Cert.MixerPartIdeal.main_arg0)
      ∧ r.2.mem ((c.tc : Thread Cert.MixerPartIdeal.nD Cert.MixerPartIdeal.τ).loc Cert.MixerPartIdeal.main_arg1) = m ((c.tc : Thread Cert.MixerPartIdeal.nD Cert.MixerPartIdeal.τ).loc Cert.MixerPartIdeal.main_arg1)
      ∧ r.2.mem ((c.tc : Thread Cert.MixerPartIdeal.nD Cert.MixerPartIdeal.τ).loc Cert.MixerPartIdeal.main_arg2) = m ((c.tc : Thread Cert.MixerPartIdeal.nD Cert.MixerPartIdeal.τ).loc Cert.MixerPartIdeal.main_arg2)
      ∧ r.2.mem ((c.tc : Thread Cert.MixerPartIdeal.nD Cert.MixerPartIdeal.τ).loc Cert.MixerPartIdeal.main_arg3) = m ((c.tc : Thread Cert.MixerPartIdeal.nD Cert.MixerPartIdeal.τ).loc Cert.MixerPartIdeal.main_arg3)
      ∧ r.2.mem ((c.tc : Thread Cert.MixerPartIdeal.nD Cert.MixerPartIdeal.τ).loc Cert.MixerPartIdeal.main_arg4) = m ((c.tc : Thread Cert.MixerPartIdeal.nD Cert.MixerPartIdeal.τ).loc Cert.MixerPartIdeal.main_arg4)
      ∧ r.2.mem ((c.tc : Thread Cert.MixerPartIdeal.nD Cert.MixerPartIdeal.τ).loc Cert.MixerPartIdeal.main_arg5) = m ((c.tc : Thread Cert.MixerPartIdeal.nD Cert.MixerPartIdeal.τ).loc Cert.MixerPartIdeal.main_arg5)
      ∧ r.2.mem ((c.tc : Thread Cert.MixerPartIdeal.nD Cert.MixerPartIdeal.τ).loc Cert.MixerPartIdeal.main_arg6) = m ((c.tc : Thread Cert.MixerPartIdeal.nD Cert.MixerPartIdeal.τ).loc Cert.MixerPartIdeal.main_arg6)
      ∧ r.2.mem ((c.tc : Thread Cert.MixerPartIdeal.nD Cert.MixerPartIdeal.τ).loc Cert.MixerPartIdeal.main_arg7) = m ((c.tc : Thread Cert.MixerPartIdeal.nD Cert.MixerPartIdeal.τ).loc Cert.MixerPartIdeal.main_arg7)
      ∧ r.2.mem ((c.tc : Thread Cert.MixerPartIdeal.nD Cert.MixerPartIdeal.τ).loc Cert.MixerPartIdeal.main_arg8) = m ((c.tc : Thread Cert.MixerPartIdeal.nD Cert.MixerPartIdeal.τ).loc Cert.MixerPartIdeal.main_arg8)
      ∧ r.2.mem ((c.tc : Thread Cert.MixerPartIdeal.nD Cert.MixerPartIdeal.τ).loc Cert.MixerPartIdeal.main_arg9) = m ((c.tc : Thread Cert.MixerPartIdeal.nD Cert.MixerPartIdeal.τ).loc Cert.MixerPartIdeal.main_arg9)
      ∧ r.2.mem ((c.tc : Thread Cert.MixerPartIdeal.nD Cert.MixerPartIdeal.τ).loc Cert.MixerPartIdeal.main_arg10) = m ((c.tc : Thread Cert.MixerPartIdeal.nD Cert.MixerPartIdeal.τ).loc Cert.MixerPartIdeal.main_arg10)
      ∧ r.2.mem ((c.tc : Thread Cert.MixerPartIdeal.nD Cert.MixerPartIdeal.τ).loc Cert.MixerPartIdeal.main_arg11) = m ((c.tc : Thread Cert.MixerPartIdeal.nD Cert.MixerPartIdeal.τ).loc Cert.MixerPartIdeal.main_arg11)
      ∧ r.2.mem ((c.tc : Thread Cert.MixerPartIdeal.nD Cert.MixerPartIdeal.τ).loc Cert.MixerPartIdeal.main_arg12) = m ((c.tc : Thread Cert.MixerPartIdeal.nD Cert.MixerPartIdeal.τ).loc Cert.MixerPartIdeal.main_arg12)
      ∧ r.2.mem ((c.tc : Thread Cert.MixerPartIdeal.nD Cert.MixerPartIdeal.τ).loc Cert.MixerPartIdeal.main_arg13) = m ((c.tc : Thread Cert.MixerPartIdeal.nD Cert.MixerPartIdeal.τ).loc Cert.MixerPartIdeal.main_arg13)
      ∧ r.2.mem ((c.tc : Thread Cert.MixerPartIdeal.nD Cert.MixerPartIdeal.τ).loc Cert.MixerPartIdeal.main_arg14) = m ((c.tc : Thread Cert.MixerPartIdeal.nD Cert.MixerPartIdeal.τ).loc Cert.MixerPartIdeal.main_arg14))
      ∧ r.2.sem = fun _ => 0)

def preserves_Kernel_KernelIdeal : Prop :=
  True

def algebraic_KernelIdeal_ConvPartIdeal_on_conv_results_pre_finite [hKernelIdeal : Cert.KernelIdeal.Facts] [hConvPartIdeal : Cert.ConvPartIdeal.Facts] [hPre_finite : Cert.Pre_finite.Facts] [hOn_conv_results : Cert.On_conv_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ConvPartIdeal.nD Cert.ConvPartIdeal.τ Cert.ConvPartIdeal.sig) → Buf (Elt Ideal) ℓ) (g' : Dev Cert.ConvPartIdeal.nD → PrngReg), Pre_KernelIdeal_finite m →
    (∀ c : Dev Cert.KernelIdeal.nD,
      m' ((c.tc : Thread Cert.ConvPartIdeal.nD Cert.ConvPartIdeal.τ).loc Cert.ConvPartIdeal.main_arg0) = m ((c.tc : Thread Cert.KernelIdeal.nD Cert.KernelIdeal.τ).loc Cert.KernelIdeal.main_arg0)
      ∧ m' ((c.tc : Thread Cert.ConvPartIdeal.nD Cert.ConvPartIdeal.τ).loc Cert.ConvPartIdeal.main_arg1) = m ((c.tc : Thread Cert.KernelIdeal.nD Cert.KernelIdeal.τ).loc Cert.KernelIdeal.main_arg1)
      ∧ m' ((c.tc : Thread Cert.ConvPartIdeal.nD Cert.ConvPartIdeal.τ).loc Cert.ConvPartIdeal.main_arg2) = m ((c.tc : Thread Cert.KernelIdeal.nD Cert.KernelIdeal.τ).loc Cert.KernelIdeal.main_arg2)
      ∧ m' ((c.tc : Thread Cert.ConvPartIdeal.nD Cert.ConvPartIdeal.τ).loc Cert.ConvPartIdeal.main_arg3) = m ((c.tc : Thread Cert.KernelIdeal.nD Cert.KernelIdeal.τ).loc Cert.KernelIdeal.main_arg3)
      ∧ m' ((c.tc : Thread Cert.ConvPartIdeal.nD Cert.ConvPartIdeal.τ).loc Cert.ConvPartIdeal.main_arg4) = m ((c.tc : Thread Cert.KernelIdeal.nD Cert.KernelIdeal.τ).loc Cert.KernelIdeal.main_arg4)
      ∧ m' ((c.tc : Thread Cert.ConvPartIdeal.nD Cert.ConvPartIdeal.τ).loc Cert.ConvPartIdeal.main_arg5) = m ((c.tc : Thread Cert.KernelIdeal.nD Cert.KernelIdeal.τ).loc Cert.KernelIdeal.main_arg5)
      ∧ m' ((c.tc : Thread Cert.ConvPartIdeal.nD Cert.ConvPartIdeal.τ).loc Cert.ConvPartIdeal.main_arg6) = m ((c.tc : Thread Cert.KernelIdeal.nD Cert.KernelIdeal.τ).loc Cert.KernelIdeal.main_arg6)
      ∧ m' ((c.tc : Thread Cert.ConvPartIdeal.nD Cert.ConvPartIdeal.τ).loc Cert.ConvPartIdeal.main_arg7) = m ((c.tc : Thread Cert.KernelIdeal.nD Cert.KernelIdeal.τ).loc Cert.KernelIdeal.main_arg7)
      ∧ m' ((c.tc : Thread Cert.ConvPartIdeal.nD Cert.ConvPartIdeal.τ).loc Cert.ConvPartIdeal.main_arg8) = m ((c.tc : Thread Cert.KernelIdeal.nD Cert.KernelIdeal.τ).loc Cert.KernelIdeal.main_arg8)
      ∧ m' ((c.tc : Thread Cert.ConvPartIdeal.nD Cert.ConvPartIdeal.τ).loc Cert.ConvPartIdeal.main_arg9) = m ((c.tc : Thread Cert.KernelIdeal.nD Cert.KernelIdeal.τ).loc Cert.KernelIdeal.main_arg9)
      ∧ m' ((c.tc : Thread Cert.ConvPartIdeal.nD Cert.ConvPartIdeal.τ).loc Cert.ConvPartIdeal.main_arg10) = m ((c.tc : Thread Cert.KernelIdeal.nD Cert.KernelIdeal.τ).loc Cert.KernelIdeal.main_arg10)
      ∧ m' ((c.tc : Thread Cert.ConvPartIdeal.nD Cert.ConvPartIdeal.τ).loc Cert.ConvPartIdeal.main_arg11) = m ((c.tc : Thread Cert.KernelIdeal.nD Cert.KernelIdeal.τ).loc Cert.KernelIdeal.main_arg11)
      ∧ m' ((c.tc : Thread Cert.ConvPartIdeal.nD Cert.ConvPartIdeal.τ).loc Cert.ConvPartIdeal.main_arg12) = m ((c.tc : Thread Cert.KernelIdeal.nD Cert.KernelIdeal.τ).loc Cert.KernelIdeal.main_arg12)
      ∧ m' ((c.tc : Thread Cert.ConvPartIdeal.nD Cert.ConvPartIdeal.τ).loc Cert.ConvPartIdeal.main_arg13) = m ((c.tc : Thread Cert.KernelIdeal.nD Cert.KernelIdeal.τ).loc Cert.KernelIdeal.main_arg13)
      ∧ m' ((c.tc : Thread Cert.ConvPartIdeal.nD Cert.ConvPartIdeal.τ).loc Cert.ConvPartIdeal.main_arg14) = m ((c.tc : Thread Cert.KernelIdeal.nD Cert.KernelIdeal.τ).loc Cert.KernelIdeal.main_arg14)
      ∧ m' ((c.tc : Thread Cert.ConvPartIdeal.nD Cert.ConvPartIdeal.τ).loc Cert.ConvPartIdeal.main_arg15) = m ((c.tc : Thread Cert.KernelIdeal.nD Cert.KernelIdeal.τ).loc Cert.KernelIdeal.main_arg15)
      ∧ m' ((c.tc : Thread Cert.ConvPartIdeal.nD Cert.ConvPartIdeal.τ).loc Cert.ConvPartIdeal.main_arg16) = m ((c.tc : Thread Cert.KernelIdeal.nD Cert.KernelIdeal.τ).loc Cert.KernelIdeal.main_arg16)
      ∧ m' ((c.tc : Thread Cert.ConvPartIdeal.nD Cert.ConvPartIdeal.τ).loc Cert.ConvPartIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v227_0)) (v1 : (c : Dev Cert.KernelIdeal.nD) → Buf (Elt Ideal) ((c.tc : Thread Cert.KernelIdeal.nD Cert.KernelIdeal.τ).loc Cert.KernelIdeal.main_v227_1)) (v2 : (c : Dev Cert.KernelIdeal.nD) → Buf (Elt Ideal) ((c.tc : Thread Cert.KernelIdeal.nD Cert.KernelIdeal.τ).loc Cert.KernelIdeal.main_v227_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3456]⟩ : Shape).Idx, (Cert.On_conv_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.KernelIdeal.nD Cert.KernelIdeal.τ).loc Cert.KernelIdeal.main_v227_0) i = v0 c i)
          ∧ (∀ i : (⟨2, ![32, 1024]⟩ : Shape).Idx, (Cert.On_conv_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.KernelIdeal.nD Cert.KernelIdeal.τ).loc Cert.KernelIdeal.main_v227_1) i = v1 c i)
          ∧ (∀ i : (⟨2, ![1024, 1024]⟩ : Shape).Idx, (Cert.On_conv_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 i = 1#1 → r.2.mem ((c.tc : Thread Cert.KernelIdeal.nD Cert.KernelIdeal.τ).loc Cert.KernelIdeal.main_v227_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ConvPartIdeal.defs (F := Ideal)) (onTc (τ := Cert.ConvPartIdeal.τ) (Cert.ConvPartIdeal.main (F := Ideal))) ⟨m', fun _ => 0, g'⟩ (fun r => ∀ c : Dev Cert.ConvPartIdeal.nD,
          (∀ i : (⟨2, ![8192, 3456]⟩ : Shape).Idx, (Cert.On_conv_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.ConvPartIdeal.nD Cert.ConvPartIdeal.τ).loc Cert.ConvPartIdeal.main_v73) i = v0 c i)
          ∧ (∀ i : (⟨2, ![32, 1024]⟩ : Shape).Idx, (Cert.On_conv_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.ConvPartIdeal.nD Cert.ConvPartIdeal.τ).loc Cert.ConvPartIdeal.main_v74) i = v1 c i)
          ∧ (∀ i : (⟨2, ![1024, 1024]⟩ : Shape).Idx, (Cert.On_conv_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 i = 1#1 → r.2.mem ((c.tc : Thread Cert.ConvPartIdeal.nD Cert.ConvPartIdeal.τ).loc Cert.ConvPartIdeal.main_v69) i = v2 c i)
          ∧ r.2.mem ((c.tc : Thread Cert.ConvPartIdeal.nD Cert.ConvPartIdeal.τ).loc Cert.ConvPartIdeal.main_arg0) = m' ((c.tc : Thread Cert.ConvPartIdeal.nD Cert.ConvPartIdeal.τ).loc Cert.ConvPartIdeal.main_arg0)
          ∧ r.2.mem ((c.tc : Thread Cert.ConvPartIdeal.nD Cert.ConvPartIdeal.τ).loc Cert.ConvPartIdeal.main_arg1) = m' ((c.tc : Thread Cert.ConvPartIdeal.nD Cert.ConvPartIdeal.τ).loc Cert.ConvPartIdeal.main_arg1)
          ∧ r.2.mem ((c.tc : Thread Cert.ConvPartIdeal.nD Cert.ConvPartIdeal.τ).loc Cert.ConvPartIdeal.main_arg2) = m' ((c.tc : Thread Cert.ConvPartIdeal.nD Cert.ConvPartIdeal.τ).loc Cert.ConvPartIdeal.main_arg2)
          ∧ r.2.mem ((c.tc : Thread Cert.ConvPartIdeal.nD Cert.ConvPartIdeal.τ).loc Cert.ConvPartIdeal.main_arg3) = m' ((c.tc : Thread Cert.ConvPartIdeal.nD Cert.ConvPartIdeal.τ).loc Cert.ConvPartIdeal.main_arg3)
          ∧ r.2.mem ((c.tc : Thread Cert.ConvPartIdeal.nD Cert.ConvPartIdeal.τ).loc Cert.ConvPartIdeal.main_arg4) = m' ((c.tc : Thread Cert.ConvPartIdeal.nD Cert.ConvPartIdeal.τ).loc Cert.ConvPartIdeal.main_arg4)
          ∧ r.2.mem ((c.tc : Thread Cert.ConvPartIdeal.nD Cert.ConvPartIdeal.τ).loc Cert.ConvPartIdeal.main_arg5) = m' ((c.tc : Thread Cert.ConvPartIdeal.nD Cert.ConvPartIdeal.τ).loc Cert.ConvPartIdeal.main_arg5)
          ∧ r.2.mem ((c.tc : Thread Cert.ConvPartIdeal.nD Cert.ConvPartIdeal.τ).loc Cert.ConvPartIdeal.main_arg6) = m' ((c.tc : Thread Cert.ConvPartIdeal.nD Cert.ConvPartIdeal.τ).loc Cert.ConvPartIdeal.main_arg6)
          ∧ r.2.mem ((c.tc : Thread Cert.ConvPartIdeal.nD Cert.ConvPartIdeal.τ).loc Cert.ConvPartIdeal.main_arg7) = m' ((c.tc : Thread Cert.ConvPartIdeal.nD Cert.ConvPartIdeal.τ).loc Cert.ConvPartIdeal.main_arg7)
          ∧ r.2.mem ((c.tc : Thread Cert.ConvPartIdeal.nD Cert.ConvPartIdeal.τ).loc Cert.ConvPartIdeal.main_arg8) = m' ((c.tc : Thread Cert.ConvPartIdeal.nD Cert.ConvPartIdeal.τ).loc Cert.ConvPartIdeal.main_arg8)
          ∧ r.2.mem ((c.tc : Thread Cert.ConvPartIdeal.nD Cert.ConvPartIdeal.τ).loc Cert.ConvPartIdeal.main_arg9) = m' ((c.tc : Thread Cert.ConvPartIdeal.nD Cert.ConvPartIdeal.τ).loc Cert.ConvPartIdeal.main_arg9)
          ∧ r.2.mem ((c.tc : Thread Cert.ConvPartIdeal.nD Cert.ConvPartIdeal.τ).loc Cert.ConvPartIdeal.main_arg10) = m' ((c.tc : Thread Cert.ConvPartIdeal.nD Cert.ConvPartIdeal.τ).loc Cert.ConvPartIdeal.main_arg10)
          ∧ r.2.mem ((c.tc : Thread Cert.ConvPartIdeal.nD Cert.ConvPartIdeal.τ).loc Cert.ConvPartIdeal.main_arg11) = m' ((c.tc : Thread Cert.ConvPartIdeal.nD Cert.ConvPartIdeal.τ).loc Cert.ConvPartIdeal.main_arg11)
          ∧ r.2.mem ((c.tc : Thread Cert.ConvPartIdeal.nD Cert.ConvPartIdeal.τ).loc Cert.ConvPartIdeal.main_arg12) = m' ((c.tc : Thread Cert.ConvPartIdeal.nD Cert.ConvPartIdeal.τ).loc Cert.ConvPartIdeal.main_arg12)
          ∧ r.2.mem ((c.tc : Thread Cert.ConvPartIdeal.nD Cert.ConvPartIdeal.τ).loc Cert.ConvPartIdeal.main_arg13) = m' ((c.tc : Thread Cert.ConvPartIdeal.nD Cert.ConvPartIdeal.τ).loc Cert.ConvPartIdeal.main_arg13)
          ∧ r.2.mem ((c.tc : Thread Cert.ConvPartIdeal.nD Cert.ConvPartIdeal.τ).loc Cert.ConvPartIdeal.main_arg14) = m' ((c.tc : Thread Cert.ConvPartIdeal.nD Cert.ConvPartIdeal.τ).loc Cert.ConvPartIdeal.main_arg14)
          ∧ r.2.mem ((c.tc : Thread Cert.ConvPartIdeal.nD Cert.ConvPartIdeal.τ).loc Cert.ConvPartIdeal.main_arg15) = m' ((c.tc : Thread Cert.ConvPartIdeal.nD Cert.ConvPartIdeal.τ).loc Cert.ConvPartIdeal.main_arg15)
          ∧ r.2.mem ((c.tc : Thread Cert.ConvPartIdeal.nD Cert.ConvPartIdeal.τ).loc Cert.ConvPartIdeal.main_arg16) = m' ((c.tc : Thread Cert.ConvPartIdeal.nD Cert.ConvPartIdeal.τ).loc Cert.ConvPartIdeal.main_arg16)
          ∧ r.2.mem ((c.tc : Thread Cert.ConvPartIdeal.nD Cert.ConvPartIdeal.τ).loc Cert.ConvPartIdeal.main_arg17) = m' ((c.tc : Thread Cert.ConvPartIdeal.nD Cert.ConvPartIdeal.τ).loc Cert.ConvPartIdeal.main_arg17))

def algebraic_KernelIdeal_PoolPartIdeal_on_pool_results_pre_pool_finite [hKernelIdeal : Cert.KernelIdeal.Facts] [hPoolPartIdeal : Cert.PoolPartIdeal.Facts] [hPre_pool_finite : Cert.Pre_pool_finite.Facts] [hOn_pool_results : Cert.On_pool_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PoolPartIdeal.nD Cert.PoolPartIdeal.τ Cert.PoolPartIdeal.sig) → Buf (Elt Ideal) ℓ) (g' : Dev Cert.PoolPartIdeal.nD → PrngReg), Pre_KernelIdeal_pool_finite m →
    (∀ c : Dev Cert.KernelIdeal.nD,
      m' ((c.tc : Thread Cert.PoolPartIdeal.nD Cert.PoolPartIdeal.τ).loc Cert.PoolPartIdeal.main_arg0) = m ((c.tc : Thread Cert.KernelIdeal.nD Cert.KernelIdeal.τ).loc Cert.KernelIdeal.main_arg0)
      ∧ m' ((c.tc : Thread Cert.PoolPartIdeal.nD Cert.PoolPartIdeal.τ).loc Cert.PoolPartIdeal.main_arg1) = m ((c.tc : Thread Cert.KernelIdeal.nD Cert.KernelIdeal.τ).loc Cert.KernelIdeal.main_arg1)
      ∧ m' ((c.tc : Thread Cert.PoolPartIdeal.nD Cert.PoolPartIdeal.τ).loc Cert.PoolPartIdeal.main_arg2) = m ((c.tc : Thread Cert.KernelIdeal.nD Cert.KernelIdeal.τ).loc Cert.KernelIdeal.main_arg2)
      ∧ m' ((c.tc : Thread Cert.PoolPartIdeal.nD Cert.PoolPartIdeal.τ).loc Cert.PoolPartIdeal.main_arg3) = m ((c.tc : Thread Cert.KernelIdeal.nD Cert.KernelIdeal.τ).loc Cert.KernelIdeal.main_arg3)
      ∧ m' ((c.tc : Thread Cert.PoolPartIdeal.nD Cert.PoolPartIdeal.τ).loc Cert.PoolPartIdeal.main_arg4) = m ((c.tc : Thread Cert.KernelIdeal.nD Cert.KernelIdeal.τ).loc Cert.KernelIdeal.main_arg4)
      ∧ m' ((c.tc : Thread Cert.PoolPartIdeal.nD Cert.PoolPartIdeal.τ).loc Cert.PoolPartIdeal.main_arg5) = m ((c.tc : Thread Cert.KernelIdeal.nD Cert.KernelIdeal.τ).loc Cert.KernelIdeal.main_arg5)
      ∧ m' ((c.tc : Thread Cert.PoolPartIdeal.nD Cert.PoolPartIdeal.τ).loc Cert.PoolPartIdeal.main_arg6) = m ((c.tc : Thread Cert.KernelIdeal.nD Cert.KernelIdeal.τ).loc Cert.KernelIdeal.main_arg6)
      ∧ m' ((c.tc : Thread Cert.PoolPartIdeal.nD Cert.PoolPartIdeal.τ).loc Cert.PoolPartIdeal.main_arg7) = m ((c.tc : Thread Cert.KernelIdeal.nD Cert.KernelIdeal.τ).loc Cert.KernelIdeal.main_arg7)
      ∧ m' ((c.tc : Thread Cert.PoolPartIdeal.nD Cert.PoolPartIdeal.τ).loc Cert.PoolPartIdeal.main_arg8) = m ((c.tc : Thread Cert.KernelIdeal.nD Cert.KernelIdeal.τ).loc Cert.KernelIdeal.main_arg8)
      ∧ m' ((c.tc : Thread Cert.PoolPartIdeal.nD Cert.PoolPartIdeal.τ).loc Cert.PoolPartIdeal.main_arg9) = m ((c.tc : Thread Cert.KernelIdeal.nD Cert.KernelIdeal.τ).loc Cert.KernelIdeal.main_arg9)
      ∧ m' ((c.tc : Thread Cert.PoolPartIdeal.nD Cert.PoolPartIdeal.τ).loc Cert.PoolPartIdeal.main_arg10) = m ((c.tc : Thread Cert.KernelIdeal.nD Cert.KernelIdeal.τ).loc Cert.KernelIdeal.main_arg10)
      ∧ m' ((c.tc : Thread Cert.PoolPartIdeal.nD Cert.PoolPartIdeal.τ).loc Cert.PoolPartIdeal.main_arg11) = m ((c.tc : Thread Cert.KernelIdeal.nD Cert.KernelIdeal.τ).loc Cert.KernelIdeal.main_arg11)
      ∧ m' ((c.tc : Thread Cert.PoolPartIdeal.nD Cert.PoolPartIdeal.τ).loc Cert.PoolPartIdeal.main_arg12) = m ((c.tc : Thread Cert.KernelIdeal.nD Cert.KernelIdeal.τ).loc Cert.KernelIdeal.main_arg12)
      ∧ m' ((c.tc : Thread Cert.PoolPartIdeal.nD Cert.PoolPartIdeal.τ).loc Cert.PoolPartIdeal.main_arg13) = m ((c.tc : Thread Cert.KernelIdeal.nD Cert.KernelIdeal.τ).loc Cert.KernelIdeal.main_arg13)
      ∧ m' ((c.tc : Thread Cert.PoolPartIdeal.nD Cert.PoolPartIdeal.τ).loc Cert.PoolPartIdeal.main_arg14) = m ((c.tc : Thread Cert.KernelIdeal.nD Cert.KernelIdeal.τ).loc Cert.KernelIdeal.main_arg14)
      ∧ m' ((c.tc : Thread Cert.PoolPartIdeal.nD Cert.PoolPartIdeal.τ).loc Cert.PoolPartIdeal.main_arg15) = m ((c.tc : Thread Cert.KernelIdeal.nD Cert.KernelIdeal.τ).loc Cert.KernelIdeal.main_arg15)
      ∧ m' ((c.tc : Thread Cert.PoolPartIdeal.nD Cert.PoolPartIdeal.τ).loc Cert.PoolPartIdeal.main_arg16) = m ((c.tc : Thread Cert.KernelIdeal.nD Cert.KernelIdeal.τ).loc Cert.KernelIdeal.main_arg16)
      ∧ m' ((c.tc : Thread Cert.PoolPartIdeal.nD Cert.PoolPartIdeal.τ).loc Cert.PoolPartIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v227_0)) (v1 : (c : Dev Cert.KernelIdeal.nD) → Buf (Elt Ideal) ((c.tc : Thread Cert.KernelIdeal.nD Cert.KernelIdeal.τ).loc Cert.KernelIdeal.main_v227_1)) (v2 : (c : Dev Cert.KernelIdeal.nD) → Buf (Elt Ideal) ((c.tc : Thread Cert.KernelIdeal.nD Cert.KernelIdeal.τ).loc Cert.KernelIdeal.main_v227_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3456]⟩ : Shape).Idx, (Cert.On_pool_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.KernelIdeal.nD Cert.KernelIdeal.τ).loc Cert.KernelIdeal.main_v227_0) i = v0 c i)
          ∧ (∀ i : (⟨2, ![32, 1024]⟩ : Shape).Idx, (Cert.On_pool_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.KernelIdeal.nD Cert.KernelIdeal.τ).loc Cert.KernelIdeal.main_v227_1) i = v1 c i)
          ∧ (∀ i : (⟨2, ![1024, 1024]⟩ : Shape).Idx, (Cert.On_pool_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 i = 1#1 → r.2.mem ((c.tc : Thread Cert.KernelIdeal.nD Cert.KernelIdeal.τ).loc Cert.KernelIdeal.main_v227_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.PoolPartIdeal.defs (F := Ideal)) (onTc (τ := Cert.PoolPartIdeal.τ) (Cert.PoolPartIdeal.main (F := Ideal))) ⟨m', fun _ => 0, g'⟩ (fun r => ∀ c : Dev Cert.PoolPartIdeal.nD,
          (∀ i : (⟨2, ![8192, 3456]⟩ : Shape).Idx, (Cert.On_pool_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.PoolPartIdeal.nD Cert.PoolPartIdeal.τ).loc Cert.PoolPartIdeal.main_v70) i = v0 c i)
          ∧ (∀ i : (⟨2, ![32, 1024]⟩ : Shape).Idx, (Cert.On_pool_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.PoolPartIdeal.nD Cert.PoolPartIdeal.τ).loc Cert.PoolPartIdeal.main_v69) i = v1 c i)
          ∧ (∀ i : (⟨2, ![1024, 1024]⟩ : Shape).Idx, (Cert.On_pool_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 i = 1#1 → r.2.mem ((c.tc : Thread Cert.PoolPartIdeal.nD Cert.PoolPartIdeal.τ).loc Cert.PoolPartIdeal.main_v71) i = v2 c i)
          ∧ r.2.mem ((c.tc : Thread Cert.PoolPartIdeal.nD Cert.PoolPartIdeal.τ).loc Cert.PoolPartIdeal.main_arg0) = m' ((c.tc : Thread Cert.PoolPartIdeal.nD Cert.PoolPartIdeal.τ).loc Cert.PoolPartIdeal.main_arg0)
          ∧ r.2.mem ((c.tc : Thread Cert.PoolPartIdeal.nD Cert.PoolPartIdeal.τ).loc Cert.PoolPartIdeal.main_arg1) = m' ((c.tc : Thread Cert.PoolPartIdeal.nD Cert.PoolPartIdeal.τ).loc Cert.PoolPartIdeal.main_arg1)
          ∧ r.2.mem ((c.tc : Thread Cert.PoolPartIdeal.nD Cert.PoolPartIdeal.τ).loc Cert.PoolPartIdeal.main_arg2) = m' ((c.tc : Thread Cert.PoolPartIdeal.nD Cert.PoolPartIdeal.τ).loc Cert.PoolPartIdeal.main_arg2)
          ∧ r.2.mem ((c.tc : Thread Cert.PoolPartIdeal.nD Cert.PoolPartIdeal.τ).loc Cert.PoolPartIdeal.main_arg3) = m' ((c.tc : Thread Cert.PoolPartIdeal.nD Cert.PoolPartIdeal.τ).loc Cert.PoolPartIdeal.main_arg3)
          ∧ r.2.mem ((c.tc : Thread Cert.PoolPartIdeal.nD Cert.PoolPartIdeal.τ).loc Cert.PoolPartIdeal.main_arg4) = m' ((c.tc : Thread Cert.PoolPartIdeal.nD Cert.PoolPartIdeal.τ).loc Cert.PoolPartIdeal.main_arg4)
          ∧ r.2.mem ((c.tc : Thread Cert.PoolPartIdeal.nD Cert.PoolPartIdeal.τ).loc Cert.PoolPartIdeal.main_arg5) = m' ((c.tc : Thread Cert.PoolPartIdeal.nD Cert.PoolPartIdeal.τ).loc Cert.PoolPartIdeal.main_arg5)
          ∧ r.2.mem ((c.tc : Thread Cert.PoolPartIdeal.nD Cert.PoolPartIdeal.τ).loc Cert.PoolPartIdeal.main_arg6) = m' ((c.tc : Thread Cert.PoolPartIdeal.nD Cert.PoolPartIdeal.τ).loc Cert.PoolPartIdeal.main_arg6)
          ∧ r.2.mem ((c.tc : Thread Cert.PoolPartIdeal.nD Cert.PoolPartIdeal.τ).loc Cert.PoolPartIdeal.main_arg7) = m' ((c.tc : Thread Cert.PoolPartIdeal.nD Cert.PoolPartIdeal.τ).loc Cert.PoolPartIdeal.main_arg7)
          ∧ r.2.mem ((c.tc : Thread Cert.PoolPartIdeal.nD Cert.PoolPartIdeal.τ).loc Cert.PoolPartIdeal.main_arg8) = m' ((c.tc : Thread Cert.PoolPartIdeal.nD Cert.PoolPartIdeal.τ).loc Cert.PoolPartIdeal.main_arg8)
          ∧ r.2.mem ((c.tc : Thread Cert.PoolPartIdeal.nD Cert.PoolPartIdeal.τ).loc Cert.PoolPartIdeal.main_arg9) = m' ((c.tc : Thread Cert.PoolPartIdeal.nD Cert.PoolPartIdeal.τ).loc Cert.PoolPartIdeal.main_arg9)
          ∧ r.2.mem ((c.tc : Thread Cert.PoolPartIdeal.nD Cert.PoolPartIdeal.τ).loc Cert.PoolPartIdeal.main_arg10) = m' ((c.tc : Thread Cert.PoolPartIdeal.nD Cert.PoolPartIdeal.τ).loc Cert.PoolPartIdeal.main_arg10)
          ∧ r.2.mem ((c.tc : Thread Cert.PoolPartIdeal.nD Cert.PoolPartIdeal.τ).loc Cert.PoolPartIdeal.main_arg11) = m' ((c.tc : Thread Cert.PoolPartIdeal.nD Cert.PoolPartIdeal.τ).loc Cert.PoolPartIdeal.main_arg11)
          ∧ r.2.mem ((c.tc : Thread Cert.PoolPartIdeal.nD Cert.PoolPartIdeal.τ).loc Cert.PoolPartIdeal.main_arg12) = m' ((c.tc : Thread Cert.PoolPartIdeal.nD Cert.PoolPartIdeal.τ).loc Cert.PoolPartIdeal.main_arg12)
          ∧ r.2.mem ((c.tc : Thread Cert.PoolPartIdeal.nD Cert.PoolPartIdeal.τ).loc Cert.PoolPartIdeal.main_arg13) = m' ((c.tc : Thread Cert.PoolPartIdeal.nD Cert.PoolPartIdeal.τ).loc Cert.PoolPartIdeal.main_arg13)
          ∧ r.2.mem ((c.tc : Thread Cert.PoolPartIdeal.nD Cert.PoolPartIdeal.τ).loc Cert.PoolPartIdeal.main_arg14) = m' ((c.tc : Thread Cert.PoolPartIdeal.nD Cert.PoolPartIdeal.τ).loc Cert.PoolPartIdeal.main_arg14)
          ∧ r.2.mem ((c.tc : Thread Cert.PoolPartIdeal.nD Cert.PoolPartIdeal.τ).loc Cert.PoolPartIdeal.main_arg15) = m' ((c.tc : Thread Cert.PoolPartIdeal.nD Cert.PoolPartIdeal.τ).loc Cert.PoolPartIdeal.main_arg15)
          ∧ r.2.mem ((c.tc : Thread Cert.PoolPartIdeal.nD Cert.PoolPartIdeal.τ).loc Cert.PoolPartIdeal.main_arg16) = m' ((c.tc : Thread Cert.PoolPartIdeal.nD Cert.PoolPartIdeal.τ).loc Cert.PoolPartIdeal.main_arg16)
          ∧ r.2.mem ((c.tc : Thread Cert.PoolPartIdeal.nD Cert.PoolPartIdeal.τ).loc Cert.PoolPartIdeal.main_arg17) = m' ((c.tc : Thread Cert.PoolPartIdeal.nD Cert.PoolPartIdeal.τ).loc Cert.PoolPartIdeal.main_arg17))

def preserves_DwinKernel_DwinKernelIdeal : Prop :=
  True

def algebraic_DwinKernelIdeal_DwinPartIdeal [hDwinKernelIdeal : Cert.DwinKernelIdeal.Facts] [hDwinPartIdeal : Cert.DwinPartIdeal.Facts] : Prop :=
  ∀ (m : (ℓ : Loc Cert.DwinKernelIdeal.nD Cert.DwinKernelIdeal.τ Cert.DwinKernelIdeal.sig) → Buf (Elt Ideal) ℓ) (g : Dev Cert.DwinKernelIdeal.nD → PrngReg)
    (m' : (ℓ : Loc Cert.DwinPartIdeal.nD Cert.DwinPartIdeal.τ Cert.DwinPartIdeal.sig) → Buf (Elt Ideal) ℓ) (g' : Dev Cert.DwinPartIdeal.nD → PrngReg), Pre_DwinKernelIdeal m →
    (∀ c : Dev Cert.DwinKernelIdeal.nD,
      m' ((c.tc : Thread Cert.DwinPartIdeal.nD Cert.DwinPartIdeal.τ).loc Cert.DwinPartIdeal.main_arg0) = m ((c.tc : Thread Cert.DwinKernelIdeal.nD Cert.DwinKernelIdeal.τ).loc Cert.DwinKernelIdeal.main_arg0)
      ∧ m' ((c.tc : Thread Cert.DwinPartIdeal.nD Cert.DwinPartIdeal.τ).loc Cert.DwinPartIdeal.main_arg1) = m ((c.tc : Thread Cert.DwinKernelIdeal.nD Cert.DwinKernelIdeal.τ).loc Cert.DwinKernelIdeal.main_arg1)
      ∧ m' ((c.tc : Thread Cert.DwinPartIdeal.nD Cert.DwinPartIdeal.τ).loc Cert.DwinPartIdeal.main_arg2) = m ((c.tc : Thread Cert.DwinKernelIdeal.nD Cert.DwinKernelIdeal.τ).loc Cert.DwinKernelIdeal.main_arg2)
      ∧ m' ((c.tc : Thread Cert.DwinPartIdeal.nD Cert.DwinPartIdeal.τ).loc Cert.DwinPartIdeal.main_arg3) = m ((c.tc : Thread Cert.DwinKernelIdeal.nD Cert.DwinKernelIdeal.τ).loc Cert.DwinKernelIdeal.main_arg3)) →
    ∃ (v0 : (c : Dev Cert.DwinKernelIdeal.nD) → Buf (Elt Ideal) ((c.tc : Thread Cert.DwinKernelIdeal.nD Cert.DwinKernelIdeal.τ).loc Cert.DwinKernelIdeal.main_v21)),
      θ_run (Cert.DwinKernelIdeal.defs (F := Ideal)) (onTc (τ := Cert.DwinKernelIdeal.τ) (Cert.DwinKernelIdeal.main (F := Ideal))) ⟨m, fun _ => 0, g⟩ (fun r => ∀ c : Dev Cert.DwinKernelIdeal.nD,
          r.2.mem ((c.tc : Thread Cert.DwinKernelIdeal.nD Cert.DwinKernelIdeal.τ).loc Cert.DwinKernelIdeal.main_v21) = v0 c
          ∧ r.2.mem ((c.tc : Thread Cert.DwinKernelIdeal.nD Cert.DwinKernelIdeal.τ).loc Cert.DwinKernelIdeal.main_arg0) = m ((c.tc : Thread Cert.DwinKernelIdeal.nD Cert.DwinKernelIdeal.τ).loc Cert.DwinKernelIdeal.main_arg0)
          ∧ r.2.mem ((c.tc : Thread Cert.DwinKernelIdeal.nD Cert.DwinKernelIdeal.τ).loc Cert.DwinKernelIdeal.main_arg1) = m ((c.tc : Thread Cert.DwinKernelIdeal.nD Cert.DwinKernelIdeal.τ).loc Cert.DwinKernelIdeal.main_arg1)
          ∧ r.2.mem ((c.tc : Thread Cert.DwinKernelIdeal.nD Cert.DwinKernelIdeal.τ).loc Cert.DwinKernelIdeal.main_arg2) = m ((c.tc : Thread Cert.DwinKernelIdeal.nD Cert.DwinKernelIdeal.τ).loc Cert.DwinKernelIdeal.main_arg2)
          ∧ r.2.mem ((c.tc : Thread Cert.DwinKernelIdeal.nD Cert.DwinKernelIdeal.τ).loc Cert.DwinKernelIdeal.main_arg3) = m ((c.tc : Thread Cert.DwinKernelIdeal.nD Cert.DwinKernelIdeal.τ).loc Cert.DwinKernelIdeal.main_arg3))
      ∧ θ_run (Cert.DwinPartIdeal.defs (F := Ideal)) (onTc (τ := Cert.DwinPartIdeal.τ) (Cert.DwinPartIdeal.main (F := Ideal))) ⟨m', fun _ => 0, g'⟩ (fun r => ∀ c : Dev Cert.DwinPartIdeal.nD,
          r.2.mem ((c.tc : Thread Cert.DwinPartIdeal.nD Cert.DwinPartIdeal.τ).loc Cert.DwinPartIdeal.main_v21) = v0 c
          ∧ r.2.mem ((c.tc : Thread Cert.DwinPartIdeal.nD Cert.DwinPartIdeal.τ).loc Cert.DwinPartIdeal.main_arg0) = m' ((c.tc : Thread Cert.DwinPartIdeal.nD Cert.DwinPartIdeal.τ).loc Cert.DwinPartIdeal.main_arg0)
          ∧ r.2.mem ((c.tc : Thread Cert.DwinPartIdeal.nD Cert.DwinPartIdeal.τ).loc Cert.DwinPartIdeal.main_arg1) = m' ((c.tc : Thread Cert.DwinPartIdeal.nD Cert.DwinPartIdeal.τ).loc Cert.DwinPartIdeal.main_arg1)
          ∧ r.2.mem ((c.tc : Thread Cert.DwinPartIdeal.nD Cert.DwinPartIdeal.τ).loc Cert.DwinPartIdeal.main_arg2) = m' ((c.tc : Thread Cert.DwinPartIdeal.nD Cert.DwinPartIdeal.τ).loc Cert.DwinPartIdeal.main_arg2)
          ∧ r.2.mem ((c.tc : Thread Cert.DwinPartIdeal.nD Cert.DwinPartIdeal.τ).loc Cert.DwinPartIdeal.main_arg3) = m' ((c.tc : Thread Cert.DwinPartIdeal.nD Cert.DwinPartIdeal.τ).loc Cert.DwinPartIdeal.main_arg3))

def preserves_RmsprojKernel_RmsprojKernelIdeal : Prop :=
  True

def algebraic_RmsprojKernelIdeal_RmsprojPartIdeal [hRmsprojKernelIdeal : Cert.RmsprojKernelIdeal.Facts] [hRmsprojPartIdeal : Cert.RmsprojPartIdeal.Facts] : Prop :=
  ∀ (m : (ℓ : Loc Cert.RmsprojKernelIdeal.nD Cert.RmsprojKernelIdeal.τ Cert.RmsprojKernelIdeal.sig) → Buf (Elt Ideal) ℓ) (g : Dev Cert.RmsprojKernelIdeal.nD → PrngReg)
    (m' : (ℓ : Loc Cert.RmsprojPartIdeal.nD Cert.RmsprojPartIdeal.τ Cert.RmsprojPartIdeal.sig) → Buf (Elt Ideal) ℓ) (g' : Dev Cert.RmsprojPartIdeal.nD → PrngReg), Pre_RmsprojKernelIdeal m →
    (∀ c : Dev Cert.RmsprojKernelIdeal.nD,
      m' ((c.tc : Thread Cert.RmsprojPartIdeal.nD Cert.RmsprojPartIdeal.τ).loc Cert.RmsprojPartIdeal.main_arg0) = m ((c.tc : Thread Cert.RmsprojKernelIdeal.nD Cert.RmsprojKernelIdeal.τ).loc Cert.RmsprojKernelIdeal.main_arg0)
      ∧ m' ((c.tc : Thread Cert.RmsprojPartIdeal.nD Cert.RmsprojPartIdeal.τ).loc Cert.RmsprojPartIdeal.main_arg1) = m ((c.tc : Thread Cert.RmsprojKernelIdeal.nD Cert.RmsprojKernelIdeal.τ).loc Cert.RmsprojKernelIdeal.main_arg1)
      ∧ m' ((c.tc : Thread Cert.RmsprojPartIdeal.nD Cert.RmsprojPartIdeal.τ).loc Cert.RmsprojPartIdeal.main_arg2) = m ((c.tc : Thread Cert.RmsprojKernelIdeal.nD Cert.RmsprojKernelIdeal.τ).loc Cert.RmsprojKernelIdeal.main_arg2)) →
    ∃ (v0 : (c : Dev Cert.RmsprojKernelIdeal.nD) → Buf (Elt Ideal) ((c.tc : Thread Cert.RmsprojKernelIdeal.nD Cert.RmsprojKernelIdeal.τ).loc Cert.RmsprojKernelIdeal.main_v8_0)) (v1 : (c : Dev Cert.RmsprojKernelIdeal.nD) → Buf (Elt Ideal) ((c.tc : Thread Cert.RmsprojKernelIdeal.nD Cert.RmsprojKernelIdeal.τ).loc Cert.RmsprojKernelIdeal.main_v8_1)) (v2 : (c : Dev Cert.RmsprojKernelIdeal.nD) → Buf (Elt Ideal) ((c.tc : Thread Cert.RmsprojKernelIdeal.nD Cert.RmsprojKernelIdeal.τ).loc Cert.RmsprojKernelIdeal.main_v8_2)),
      θ_run (Cert.RmsprojKernelIdeal.defs (F := Ideal)) (onTc (τ := Cert.RmsprojKernelIdeal.τ) (Cert.RmsprojKernelIdeal.main (F := Ideal))) ⟨m, fun _ => 0, g⟩ (fun r => ∀ c : Dev Cert.RmsprojKernelIdeal.nD,
          r.2.mem ((c.tc : Thread Cert.RmsprojKernelIdeal.nD Cert.RmsprojKernelIdeal.τ).loc Cert.RmsprojKernelIdeal.main_v8_0) = v0 c
          ∧ r.2.mem ((c.tc : Thread Cert.RmsprojKernelIdeal.nD Cert.RmsprojKernelIdeal.τ).loc Cert.RmsprojKernelIdeal.main_v8_1) = v1 c
          ∧ r.2.mem ((c.tc : Thread Cert.RmsprojKernelIdeal.nD Cert.RmsprojKernelIdeal.τ).loc Cert.RmsprojKernelIdeal.main_v8_2) = v2 c
          ∧ r.2.mem ((c.tc : Thread Cert.RmsprojKernelIdeal.nD Cert.RmsprojKernelIdeal.τ).loc Cert.RmsprojKernelIdeal.main_arg0) = m ((c.tc : Thread Cert.RmsprojKernelIdeal.nD Cert.RmsprojKernelIdeal.τ).loc Cert.RmsprojKernelIdeal.main_arg0)
          ∧ r.2.mem ((c.tc : Thread Cert.RmsprojKernelIdeal.nD Cert.RmsprojKernelIdeal.τ).loc Cert.RmsprojKernelIdeal.main_arg1) = m ((c.tc : Thread Cert.RmsprojKernelIdeal.nD Cert.RmsprojKernelIdeal.τ).loc Cert.RmsprojKernelIdeal.main_arg1)
          ∧ r.2.mem ((c.tc : Thread Cert.RmsprojKernelIdeal.nD Cert.RmsprojKernelIdeal.τ).loc Cert.RmsprojKernelIdeal.main_arg2) = m ((c.tc : Thread Cert.RmsprojKernelIdeal.nD Cert.RmsprojKernelIdeal.τ).loc Cert.RmsprojKernelIdeal.main_arg2))
      ∧ θ_run (Cert.RmsprojPartIdeal.defs (F := Ideal)) (onTc (τ := Cert.RmsprojPartIdeal.τ) (Cert.RmsprojPartIdeal.main (F := Ideal))) ⟨m', fun _ => 0, g'⟩ (fun r => ∀ c : Dev Cert.RmsprojPartIdeal.nD,
          r.2.mem ((c.tc : Thread Cert.RmsprojPartIdeal.nD Cert.RmsprojPartIdeal.τ).loc Cert.RmsprojPartIdeal.main_v21) = v0 c
          ∧ r.2.mem ((c.tc : Thread Cert.RmsprojPartIdeal.nD Cert.RmsprojPartIdeal.τ).loc Cert.RmsprojPartIdeal.main_v22) = v1 c
          ∧ r.2.mem ((c.tc : Thread Cert.RmsprojPartIdeal.nD Cert.RmsprojPartIdeal.τ).loc Cert.RmsprojPartIdeal.main_v23) = v2 c
          ∧ r.2.mem ((c.tc : Thread Cert.RmsprojPartIdeal.nD Cert.RmsprojPartIdeal.τ).loc Cert.RmsprojPartIdeal.main_arg0) = m' ((c.tc : Thread Cert.RmsprojPartIdeal.nD Cert.RmsprojPartIdeal.τ).loc Cert.RmsprojPartIdeal.main_arg0)
          ∧ r.2.mem ((c.tc : Thread Cert.RmsprojPartIdeal.nD Cert.RmsprojPartIdeal.τ).loc Cert.RmsprojPartIdeal.main_arg1) = m' ((c.tc : Thread Cert.RmsprojPartIdeal.nD Cert.RmsprojPartIdeal.τ).loc Cert.RmsprojPartIdeal.main_arg1)
          ∧ r.2.mem ((c.tc : Thread Cert.RmsprojPartIdeal.nD Cert.RmsprojPartIdeal.τ).loc Cert.RmsprojPartIdeal.main_arg2) = m' ((c.tc : Thread Cert.RmsprojPartIdeal.nD Cert.RmsprojPartIdeal.τ).loc Cert.RmsprojPartIdeal.main_arg2))

def preserves_DxinKernel_DxinKernelIdeal : Prop :=
  True

def algebraic_DxinKernelIdeal_DxinPartIdeal_pre_dxin_finite [hDxinKernelIdeal : Cert.DxinKernelIdeal.Facts] [hDxinPartIdeal : Cert.DxinPartIdeal.Facts] [hPre_dxin_finite : Cert.Pre_dxin_finite.Facts] : Prop :=
  ∀ (m : (ℓ : Loc Cert.DxinKernelIdeal.nD Cert.DxinKernelIdeal.τ Cert.DxinKernelIdeal.sig) → Buf (Elt Ideal) ℓ) (g : Dev Cert.DxinKernelIdeal.nD → PrngReg)
    (m' : (ℓ : Loc Cert.DxinPartIdeal.nD Cert.DxinPartIdeal.τ Cert.DxinPartIdeal.sig) → Buf (Elt Ideal) ℓ) (g' : Dev Cert.DxinPartIdeal.nD → PrngReg), Pre_DxinKernelIdeal_dxin_finite m →
    (∀ c : Dev Cert.DxinKernelIdeal.nD,
      m' ((c.tc : Thread Cert.DxinPartIdeal.nD Cert.DxinPartIdeal.τ).loc Cert.DxinPartIdeal.main_arg0) = m ((c.tc : Thread Cert.DxinKernelIdeal.nD Cert.DxinKernelIdeal.τ).loc Cert.DxinKernelIdeal.main_arg0)
      ∧ m' ((c.tc : Thread Cert.DxinPartIdeal.nD Cert.DxinPartIdeal.τ).loc Cert.DxinPartIdeal.main_arg1) = m ((c.tc : Thread Cert.DxinKernelIdeal.nD Cert.DxinKernelIdeal.τ).loc Cert.DxinKernelIdeal.main_arg1)
      ∧ m' ((c.tc : Thread Cert.DxinPartIdeal.nD Cert.DxinPartIdeal.τ).loc Cert.DxinPartIdeal.main_arg2) = m ((c.tc : Thread Cert.DxinKernelIdeal.nD Cert.DxinKernelIdeal.τ).loc Cert.DxinKernelIdeal.main_arg2)
      ∧ m' ((c.tc : Thread Cert.DxinPartIdeal.nD Cert.DxinPartIdeal.τ).loc Cert.DxinPartIdeal.main_arg3) = m ((c.tc : Thread Cert.DxinKernelIdeal.nD Cert.DxinKernelIdeal.τ).loc Cert.DxinKernelIdeal.main_arg3)
      ∧ m' ((c.tc : Thread Cert.DxinPartIdeal.nD Cert.DxinPartIdeal.τ).loc Cert.DxinPartIdeal.main_arg4) = m ((c.tc : Thread Cert.DxinKernelIdeal.nD Cert.DxinKernelIdeal.τ).loc Cert.DxinKernelIdeal.main_arg4)) →
    ∃ (v0 : (c : Dev Cert.DxinKernelIdeal.nD) → Buf (Elt Ideal) ((c.tc : Thread Cert.DxinKernelIdeal.nD Cert.DxinKernelIdeal.τ).loc Cert.DxinKernelIdeal.main_v16_0)) (v1 : (c : Dev Cert.DxinKernelIdeal.nD) → Buf (Elt Ideal) ((c.tc : Thread Cert.DxinKernelIdeal.nD Cert.DxinKernelIdeal.τ).loc Cert.DxinKernelIdeal.main_v16_1)),
      θ_run (Cert.DxinKernelIdeal.defs (F := Ideal)) (onTc (τ := Cert.DxinKernelIdeal.τ) (Cert.DxinKernelIdeal.main (F := Ideal))) ⟨m, fun _ => 0, g⟩ (fun r => ∀ c : Dev Cert.DxinKernelIdeal.nD,
          r.2.mem ((c.tc : Thread Cert.DxinKernelIdeal.nD Cert.DxinKernelIdeal.τ).loc Cert.DxinKernelIdeal.main_v16_0) = v0 c
          ∧ r.2.mem ((c.tc : Thread Cert.DxinKernelIdeal.nD Cert.DxinKernelIdeal.τ).loc Cert.DxinKernelIdeal.main_v16_1) = v1 c
          ∧ r.2.mem ((c.tc : Thread Cert.DxinKernelIdeal.nD Cert.DxinKernelIdeal.τ).loc Cert.DxinKernelIdeal.main_arg0) = m ((c.tc : Thread Cert.DxinKernelIdeal.nD Cert.DxinKernelIdeal.τ).loc Cert.DxinKernelIdeal.main_arg0)
          ∧ r.2.mem ((c.tc : Thread Cert.DxinKernelIdeal.nD Cert.DxinKernelIdeal.τ).loc Cert.DxinKernelIdeal.main_arg1) = m ((c.tc : Thread Cert.DxinKernelIdeal.nD Cert.DxinKernelIdeal.τ).loc Cert.DxinKernelIdeal.main_arg1)
          ∧ r.2.mem ((c.tc : Thread Cert.DxinKernelIdeal.nD Cert.DxinKernelIdeal.τ).loc Cert.DxinKernelIdeal.main_arg2) = m ((c.tc : Thread Cert.DxinKernelIdeal.nD Cert.DxinKernelIdeal.τ).loc Cert.DxinKernelIdeal.main_arg2)
          ∧ r.2.mem ((c.tc : Thread Cert.DxinKernelIdeal.nD Cert.DxinKernelIdeal.τ).loc Cert.DxinKernelIdeal.main_arg3) = m ((c.tc : Thread Cert.DxinKernelIdeal.nD Cert.DxinKernelIdeal.τ).loc Cert.DxinKernelIdeal.main_arg3)
          ∧ r.2.mem ((c.tc : Thread Cert.DxinKernelIdeal.nD Cert.DxinKernelIdeal.τ).loc Cert.DxinKernelIdeal.main_arg4) = m ((c.tc : Thread Cert.DxinKernelIdeal.nD Cert.DxinKernelIdeal.τ).loc Cert.DxinKernelIdeal.main_arg4))
      ∧ θ_run (Cert.DxinPartIdeal.defs (F := Ideal)) (onTc (τ := Cert.DxinPartIdeal.τ) (Cert.DxinPartIdeal.main (F := Ideal))) ⟨m', fun _ => 0, g'⟩ (fun r => ∀ c : Dev Cert.DxinPartIdeal.nD,
          r.2.mem ((c.tc : Thread Cert.DxinPartIdeal.nD Cert.DxinPartIdeal.τ).loc Cert.DxinPartIdeal.main_v38) = v0 c
          ∧ r.2.mem ((c.tc : Thread Cert.DxinPartIdeal.nD Cert.DxinPartIdeal.τ).loc Cert.DxinPartIdeal.main_v40) = v1 c
          ∧ r.2.mem ((c.tc : Thread Cert.DxinPartIdeal.nD Cert.DxinPartIdeal.τ).loc Cert.DxinPartIdeal.main_arg0) = m' ((c.tc : Thread Cert.DxinPartIdeal.nD Cert.DxinPartIdeal.τ).loc Cert.DxinPartIdeal.main_arg0)
          ∧ r.2.mem ((c.tc : Thread Cert.DxinPartIdeal.nD Cert.DxinPartIdeal.τ).loc Cert.DxinPartIdeal.main_arg1) = m' ((c.tc : Thread Cert.DxinPartIdeal.nD Cert.DxinPartIdeal.τ).loc Cert.DxinPartIdeal.main_arg1)
          ∧ r.2.mem ((c.tc : Thread Cert.DxinPartIdeal.nD Cert.DxinPartIdeal.τ).loc Cert.DxinPartIdeal.main_arg2) = m' ((c.tc : Thread Cert.DxinPartIdeal.nD Cert.DxinPartIdeal.τ).loc Cert.DxinPartIdeal.main_arg2)
          ∧ r.2.mem ((c.tc : Thread Cert.DxinPartIdeal.nD Cert.DxinPartIdeal.τ).loc Cert.DxinPartIdeal.main_arg3) = m' ((c.tc : Thread Cert.DxinPartIdeal.nD Cert.DxinPartIdeal.τ).loc Cert.DxinPartIdeal.main_arg3)
          ∧ r.2.mem ((c.tc : Thread Cert.DxinPartIdeal.nD Cert.DxinPartIdeal.τ).loc Cert.DxinPartIdeal.main_arg4) = m' ((c.tc : Thread Cert.DxinPartIdeal.nD Cert.DxinPartIdeal.τ).loc Cert.DxinPartIdeal.main_arg4))

def preserves_AdamwOutKernel_AdamwOutKernelIdeal : Prop :=
  True

def algebraic_AdamwOutKernelIdeal_AdamwOutPartIdeal [hAdamwOutKernelIdeal : Cert.AdamwOutKernelIdeal.Facts] [hAdamwOutPartIdeal : Cert.AdamwOutPartIdeal.Facts] : Prop :=
  ∀ (m : (ℓ : Loc Cert.AdamwOutKernelIdeal.nD Cert.AdamwOutKernelIdeal.τ Cert.AdamwOutKernelIdeal.sig) → Buf (Elt Ideal) ℓ) (g : Dev Cert.AdamwOutKernelIdeal.nD → PrngReg)
    (m' : (ℓ : Loc Cert.AdamwOutPartIdeal.nD Cert.AdamwOutPartIdeal.τ Cert.AdamwOutPartIdeal.sig) → Buf (Elt Ideal) ℓ) (g' : Dev Cert.AdamwOutPartIdeal.nD → PrngReg), Pre_AdamwOutKernelIdeal m →
    (∀ c : Dev Cert.AdamwOutKernelIdeal.nD,
      m' ((c.tc : Thread Cert.AdamwOutPartIdeal.nD Cert.AdamwOutPartIdeal.τ).loc Cert.AdamwOutPartIdeal.main_arg0) = m ((c.tc : Thread Cert.AdamwOutKernelIdeal.nD Cert.AdamwOutKernelIdeal.τ).loc Cert.AdamwOutKernelIdeal.main_arg0)
      ∧ m' ((c.tc : Thread Cert.AdamwOutPartIdeal.nD Cert.AdamwOutPartIdeal.τ).loc Cert.AdamwOutPartIdeal.main_arg1) = m ((c.tc : Thread Cert.AdamwOutKernelIdeal.nD Cert.AdamwOutKernelIdeal.τ).loc Cert.AdamwOutKernelIdeal.main_arg1)
      ∧ m' ((c.tc : Thread Cert.AdamwOutPartIdeal.nD Cert.AdamwOutPartIdeal.τ).loc Cert.AdamwOutPartIdeal.main_arg2) = m ((c.tc : Thread Cert.AdamwOutKernelIdeal.nD Cert.AdamwOutKernelIdeal.τ).loc Cert.AdamwOutKernelIdeal.main_arg2)
      ∧ m' ((c.tc : Thread Cert.AdamwOutPartIdeal.nD Cert.AdamwOutPartIdeal.τ).loc Cert.AdamwOutPartIdeal.main_arg3) = m ((c.tc : Thread Cert.AdamwOutKernelIdeal.nD Cert.AdamwOutKernelIdeal.τ).loc Cert.AdamwOutKernelIdeal.main_arg3)) →
    ∃ (v0 : (c : Dev Cert.AdamwOutKernelIdeal.nD) → Buf (Elt Ideal) ((c.tc : Thread Cert.AdamwOutKernelIdeal.nD Cert.AdamwOutKernelIdeal.τ).loc Cert.AdamwOutKernelIdeal.main_v0_0)) (v1 : (c : Dev Cert.AdamwOutKernelIdeal.nD) → Buf (Elt Ideal) ((c.tc : Thread Cert.AdamwOutKernelIdeal.nD Cert.AdamwOutKernelIdeal.τ).loc Cert.AdamwOutKernelIdeal.main_v0_1)) (v2 : (c : Dev Cert.AdamwOutKernelIdeal.nD) → Buf (Elt Ideal) ((c.tc : Thread Cert.AdamwOutKernelIdeal.nD Cert.AdamwOutKernelIdeal.τ).loc Cert.AdamwOutKernelIdeal.main_v0_2)),
      θ_run (Cert.AdamwOutKernelIdeal.defs (F := Ideal)) (onTc (τ := Cert.AdamwOutKernelIdeal.τ) (Cert.AdamwOutKernelIdeal.main (F := Ideal))) ⟨m, fun _ => 0, g⟩ (fun r => ∀ c : Dev Cert.AdamwOutKernelIdeal.nD,
          r.2.mem ((c.tc : Thread Cert.AdamwOutKernelIdeal.nD Cert.AdamwOutKernelIdeal.τ).loc Cert.AdamwOutKernelIdeal.main_v0_0) = v0 c
          ∧ r.2.mem ((c.tc : Thread Cert.AdamwOutKernelIdeal.nD Cert.AdamwOutKernelIdeal.τ).loc Cert.AdamwOutKernelIdeal.main_v0_1) = v1 c
          ∧ r.2.mem ((c.tc : Thread Cert.AdamwOutKernelIdeal.nD Cert.AdamwOutKernelIdeal.τ).loc Cert.AdamwOutKernelIdeal.main_v0_2) = v2 c
          ∧ r.2.mem ((c.tc : Thread Cert.AdamwOutKernelIdeal.nD Cert.AdamwOutKernelIdeal.τ).loc Cert.AdamwOutKernelIdeal.main_arg0) = m ((c.tc : Thread Cert.AdamwOutKernelIdeal.nD Cert.AdamwOutKernelIdeal.τ).loc Cert.AdamwOutKernelIdeal.main_arg0)
          ∧ r.2.mem ((c.tc : Thread Cert.AdamwOutKernelIdeal.nD Cert.AdamwOutKernelIdeal.τ).loc Cert.AdamwOutKernelIdeal.main_arg1) = m ((c.tc : Thread Cert.AdamwOutKernelIdeal.nD Cert.AdamwOutKernelIdeal.τ).loc Cert.AdamwOutKernelIdeal.main_arg1)
          ∧ r.2.mem ((c.tc : Thread Cert.AdamwOutKernelIdeal.nD Cert.AdamwOutKernelIdeal.τ).loc Cert.AdamwOutKernelIdeal.main_arg2) = m ((c.tc : Thread Cert.AdamwOutKernelIdeal.nD Cert.AdamwOutKernelIdeal.τ).loc Cert.AdamwOutKernelIdeal.main_arg2)
          ∧ r.2.mem ((c.tc : Thread Cert.AdamwOutKernelIdeal.nD Cert.AdamwOutKernelIdeal.τ).loc Cert.AdamwOutKernelIdeal.main_arg3) = m ((c.tc : Thread Cert.AdamwOutKernelIdeal.nD Cert.AdamwOutKernelIdeal.τ).loc Cert.AdamwOutKernelIdeal.main_arg3))
      ∧ θ_run (Cert.AdamwOutPartIdeal.defs (F := Ideal)) (onTc (τ := Cert.AdamwOutPartIdeal.τ) (Cert.AdamwOutPartIdeal.main (F := Ideal))) ⟨m', fun _ => 0, g'⟩ (fun r => ∀ c : Dev Cert.AdamwOutPartIdeal.nD,
          r.2.mem ((c.tc : Thread Cert.AdamwOutPartIdeal.nD Cert.AdamwOutPartIdeal.τ).loc Cert.AdamwOutPartIdeal.main_v23) = v0 c
          ∧ r.2.mem ((c.tc : Thread Cert.AdamwOutPartIdeal.nD Cert.AdamwOutPartIdeal.τ).loc Cert.AdamwOutPartIdeal.main_v4) = v1 c
          ∧ r.2.mem ((c.tc : Thread Cert.AdamwOutPartIdeal.nD Cert.AdamwOutPartIdeal.τ).loc Cert.AdamwOutPartIdeal.main_v10) = v2 c
          ∧ r.2.mem ((c.tc : Thread Cert.AdamwOutPartIdeal.nD Cert.AdamwOutPartIdeal.τ).loc Cert.AdamwOutPartIdeal.main_arg0) = m' ((c.tc : Thread Cert.AdamwOutPartIdeal.nD Cert.AdamwOutPartIdeal.τ).loc Cert.AdamwOutPartIdeal.main_arg0)
          ∧ r.2.mem ((c.tc : Thread Cert.AdamwOutPartIdeal.nD Cert.AdamwOutPartIdeal.τ).loc Cert.AdamwOutPartIdeal.main_arg1) = m' ((c.tc : Thread Cert.AdamwOutPartIdeal.nD Cert.AdamwOutPartIdeal.τ).loc Cert.AdamwOutPartIdeal.main_arg1)
          ∧ r.2.mem ((c.tc : Thread Cert.AdamwOutPartIdeal.nD Cert.AdamwOutPartIdeal.τ).loc Cert.AdamwOutPartIdeal.main_arg2) = m' ((c.tc : Thread Cert.AdamwOutPartIdeal.nD Cert.AdamwOutPartIdeal.τ).loc Cert.AdamwOutPartIdeal.main_arg2)
          ∧ r.2.mem ((c.tc : Thread Cert.AdamwOutPartIdeal.nD Cert.AdamwOutPartIdeal.τ).loc Cert.AdamwOutPartIdeal.main_arg3) = m' ((c.tc : Thread Cert.AdamwOutPartIdeal.nD Cert.AdamwOutPartIdeal.τ).loc Cert.AdamwOutPartIdeal.main_arg3))

def preserves_AdamwInKernel_AdamwInKernelIdeal : Prop :=
  True

def algebraic_AdamwInKernelIdeal_AdamwInPartIdeal [hAdamwInKernelIdeal : Cert.AdamwInKernelIdeal.Facts] [hAdamwInPartIdeal : Cert.AdamwInPartIdeal.Facts] : Prop :=
  ∀ (m : (ℓ : Loc Cert.AdamwInKernelIdeal.nD Cert.AdamwInKernelIdeal.τ Cert.AdamwInKernelIdeal.sig) → Buf (Elt Ideal) ℓ) (g : Dev Cert.AdamwInKernelIdeal.nD → PrngReg)
    (m' : (ℓ : Loc Cert.AdamwInPartIdeal.nD Cert.AdamwInPartIdeal.τ Cert.AdamwInPartIdeal.sig) → Buf (Elt Ideal) ℓ) (g' : Dev Cert.AdamwInPartIdeal.nD → PrngReg), Pre_AdamwInKernelIdeal m →
    (∀ c : Dev Cert.AdamwInKernelIdeal.nD,
      m' ((c.tc : Thread Cert.AdamwInPartIdeal.nD Cert.AdamwInPartIdeal.τ).loc Cert.AdamwInPartIdeal.main_arg0) = m ((c.tc : Thread Cert.AdamwInKernelIdeal.nD Cert.AdamwInKernelIdeal.τ).loc Cert.AdamwInKernelIdeal.main_arg0)
      ∧ m' ((c.tc : Thread Cert.AdamwInPartIdeal.nD Cert.AdamwInPartIdeal.τ).loc Cert.AdamwInPartIdeal.main_arg1) = m ((c.tc : Thread Cert.AdamwInKernelIdeal.nD Cert.AdamwInKernelIdeal.τ).loc Cert.AdamwInKernelIdeal.main_arg1)
      ∧ m' ((c.tc : Thread Cert.AdamwInPartIdeal.nD Cert.AdamwInPartIdeal.τ).loc Cert.AdamwInPartIdeal.main_arg2) = m ((c.tc : Thread Cert.AdamwInKernelIdeal.nD Cert.AdamwInKernelIdeal.τ).loc Cert.AdamwInKernelIdeal.main_arg2)
      ∧ m' ((c.tc : Thread Cert.AdamwInPartIdeal.nD Cert.AdamwInPartIdeal.τ).loc Cert.AdamwInPartIdeal.main_arg3) = m ((c.tc : Thread Cert.AdamwInKernelIdeal.nD Cert.AdamwInKernelIdeal.τ).loc Cert.AdamwInKernelIdeal.main_arg3)) →
    ∃ (v0 : (c : Dev Cert.AdamwInKernelIdeal.nD) → Buf (Elt Ideal) ((c.tc : Thread Cert.AdamwInKernelIdeal.nD Cert.AdamwInKernelIdeal.τ).loc Cert.AdamwInKernelIdeal.main_v11_0)) (v1 : (c : Dev Cert.AdamwInKernelIdeal.nD) → Buf (Elt Ideal) ((c.tc : Thread Cert.AdamwInKernelIdeal.nD Cert.AdamwInKernelIdeal.τ).loc Cert.AdamwInKernelIdeal.main_v11_1)) (v2 : (c : Dev Cert.AdamwInKernelIdeal.nD) → Buf (Elt Ideal) ((c.tc : Thread Cert.AdamwInKernelIdeal.nD Cert.AdamwInKernelIdeal.τ).loc Cert.AdamwInKernelIdeal.main_v11_2)) (v3 : (c : Dev Cert.AdamwInKernelIdeal.nD) → Buf (Elt Ideal) ((c.tc : Thread Cert.AdamwInKernelIdeal.nD Cert.AdamwInKernelIdeal.τ).loc Cert.AdamwInKernelIdeal.main_v11_3)),
      θ_run (Cert.AdamwInKernelIdeal.defs (F := Ideal)) (onTc (τ := Cert.AdamwInKernelIdeal.τ) (Cert.AdamwInKernelIdeal.main (F := Ideal))) ⟨m, fun _ => 0, g⟩ (fun r => ∀ c : Dev Cert.AdamwInKernelIdeal.nD,
          r.2.mem ((c.tc : Thread Cert.AdamwInKernelIdeal.nD Cert.AdamwInKernelIdeal.τ).loc Cert.AdamwInKernelIdeal.main_v11_0) = v0 c
          ∧ r.2.mem ((c.tc : Thread Cert.AdamwInKernelIdeal.nD Cert.AdamwInKernelIdeal.τ).loc Cert.AdamwInKernelIdeal.main_v11_1) = v1 c
          ∧ r.2.mem ((c.tc : Thread Cert.AdamwInKernelIdeal.nD Cert.AdamwInKernelIdeal.τ).loc Cert.AdamwInKernelIdeal.main_v11_2) = v2 c
          ∧ r.2.mem ((c.tc : Thread Cert.AdamwInKernelIdeal.nD Cert.AdamwInKernelIdeal.τ).loc Cert.AdamwInKernelIdeal.main_v11_3) = v3 c
          ∧ r.2.mem ((c.tc : Thread Cert.AdamwInKernelIdeal.nD Cert.AdamwInKernelIdeal.τ).loc Cert.AdamwInKernelIdeal.main_arg0) = m ((c.tc : Thread Cert.AdamwInKernelIdeal.nD Cert.AdamwInKernelIdeal.τ).loc Cert.AdamwInKernelIdeal.main_arg0)
          ∧ r.2.mem ((c.tc : Thread Cert.AdamwInKernelIdeal.nD Cert.AdamwInKernelIdeal.τ).loc Cert.AdamwInKernelIdeal.main_arg1) = m ((c.tc : Thread Cert.AdamwInKernelIdeal.nD Cert.AdamwInKernelIdeal.τ).loc Cert.AdamwInKernelIdeal.main_arg1)
          ∧ r.2.mem ((c.tc : Thread Cert.AdamwInKernelIdeal.nD Cert.AdamwInKernelIdeal.τ).loc Cert.AdamwInKernelIdeal.main_arg2) = m ((c.tc : Thread Cert.AdamwInKernelIdeal.nD Cert.AdamwInKernelIdeal.τ).loc Cert.AdamwInKernelIdeal.main_arg2)
          ∧ r.2.mem ((c.tc : Thread Cert.AdamwInKernelIdeal.nD Cert.AdamwInKernelIdeal.τ).loc Cert.AdamwInKernelIdeal.main_arg3) = m ((c.tc : Thread Cert.AdamwInKernelIdeal.nD Cert.AdamwInKernelIdeal.τ).loc Cert.AdamwInKernelIdeal.main_arg3))
      ∧ θ_run (Cert.AdamwInPartIdeal.defs (F := Ideal)) (onTc (τ := Cert.AdamwInPartIdeal.τ) (Cert.AdamwInPartIdeal.main (F := Ideal))) ⟨m', fun _ => 0, g'⟩ (fun r => ∀ c : Dev Cert.AdamwInPartIdeal.nD,
          r.2.mem ((c.tc : Thread Cert.AdamwInPartIdeal.nD Cert.AdamwInPartIdeal.τ).loc Cert.AdamwInPartIdeal.main_v24) = v0 c
          ∧ r.2.mem ((c.tc : Thread Cert.AdamwInPartIdeal.nD Cert.AdamwInPartIdeal.τ).loc Cert.AdamwInPartIdeal.main_v25) = v1 c
          ∧ r.2.mem ((c.tc : Thread Cert.AdamwInPartIdeal.nD Cert.AdamwInPartIdeal.τ).loc Cert.AdamwInPartIdeal.main_v26) = v2 c
          ∧ r.2.mem ((c.tc : Thread Cert.AdamwInPartIdeal.nD Cert.AdamwInPartIdeal.τ).loc Cert.AdamwInPartIdeal.main_v27) = v3 c
          ∧ r.2.mem ((c.tc : Thread Cert.AdamwInPartIdeal.nD Cert.AdamwInPartIdeal.τ).loc Cert.AdamwInPartIdeal.main_arg0) = m' ((c.tc : Thread Cert.AdamwInPartIdeal.nD Cert.AdamwInPartIdeal.τ).loc Cert.AdamwInPartIdeal.main_arg0)
          ∧ r.2.mem ((c.tc : Thread Cert.AdamwInPartIdeal.nD Cert.AdamwInPartIdeal.τ).loc Cert.AdamwInPartIdeal.main_arg1) = m' ((c.tc : Thread Cert.AdamwInPartIdeal.nD Cert.AdamwInPartIdeal.τ).loc Cert.AdamwInPartIdeal.main_arg1)
          ∧ r.2.mem ((c.tc : Thread Cert.AdamwInPartIdeal.nD Cert.AdamwInPartIdeal.τ).loc Cert.AdamwInPartIdeal.main_arg2) = m' ((c.tc : Thread Cert.AdamwInPartIdeal.nD Cert.AdamwInPartIdeal.τ).loc Cert.AdamwInPartIdeal.main_arg2)
          ∧ r.2.mem ((c.tc : Thread Cert.AdamwInPartIdeal.nD Cert.AdamwInPartIdeal.τ).loc Cert.AdamwInPartIdeal.main_arg3) = m' ((c.tc : Thread Cert.AdamwInPartIdeal.nD Cert.AdamwInPartIdeal.τ).loc Cert.AdamwInPartIdeal.main_arg3))

def preserves_MixerKernel_MixerKernelIdeal : Prop :=
  True

def algebraic_MixerKernelIdeal_MixerPartIdeal_on_mixer_results [hMixerKernelIdeal : Cert.MixerKernelIdeal.Facts] [hMixerPartIdeal : Cert.MixerPartIdeal.Facts] [hOn_mixer_results : Cert.On_mixer_results.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg)
    (m' : (ℓ : Loc Cert.MixerPartIdeal.nD Cert.MixerPartIdeal.τ Cert.MixerPartIdeal.sig) → Buf (Elt Ideal) ℓ) (g' : Dev Cert.MixerPartIdeal.nD → PrngReg), Pre_MixerKernelIdeal m →
    (∀ c : Dev Cert.MixerKernelIdeal.nD,
      m' ((c.tc : Thread Cert.MixerPartIdeal.nD Cert.MixerPartIdeal.τ).loc Cert.MixerPartIdeal.main_arg0) = m ((c.tc : Thread Cert.MixerKernelIdeal.nD Cert.MixerKernelIdeal.τ).loc Cert.MixerKernelIdeal.main_arg0)
      ∧ m' ((c.tc : Thread Cert.MixerPartIdeal.nD Cert.MixerPartIdeal.τ).loc Cert.MixerPartIdeal.main_arg1) = m ((c.tc : Thread Cert.MixerKernelIdeal.nD Cert.MixerKernelIdeal.τ).loc Cert.MixerKernelIdeal.main_arg1)
      ∧ m' ((c.tc : Thread Cert.MixerPartIdeal.nD Cert.MixerPartIdeal.τ).loc Cert.MixerPartIdeal.main_arg2) = m ((c.tc : Thread Cert.MixerKernelIdeal.nD Cert.MixerKernelIdeal.τ).loc Cert.MixerKernelIdeal.main_arg2)
      ∧ m' ((c.tc : Thread Cert.MixerPartIdeal.nD Cert.MixerPartIdeal.τ).loc Cert.MixerPartIdeal.main_arg3) = m ((c.tc : Thread Cert.MixerKernelIdeal.nD Cert.MixerKernelIdeal.τ).loc Cert.MixerKernelIdeal.main_arg3)
      ∧ m' ((c.tc : Thread Cert.MixerPartIdeal.nD Cert.MixerPartIdeal.τ).loc Cert.MixerPartIdeal.main_arg4) = m ((c.tc : Thread Cert.MixerKernelIdeal.nD Cert.MixerKernelIdeal.τ).loc Cert.MixerKernelIdeal.main_arg4)
      ∧ m' ((c.tc : Thread Cert.MixerPartIdeal.nD Cert.MixerPartIdeal.τ).loc Cert.MixerPartIdeal.main_arg5) = m ((c.tc : Thread Cert.MixerKernelIdeal.nD Cert.MixerKernelIdeal.τ).loc Cert.MixerKernelIdeal.main_arg5)
      ∧ m' ((c.tc : Thread Cert.MixerPartIdeal.nD Cert.MixerPartIdeal.τ).loc Cert.MixerPartIdeal.main_arg6) = m ((c.tc : Thread Cert.MixerKernelIdeal.nD Cert.MixerKernelIdeal.τ).loc Cert.MixerKernelIdeal.main_arg6)
      ∧ m' ((c.tc : Thread Cert.MixerPartIdeal.nD Cert.MixerPartIdeal.τ).loc Cert.MixerPartIdeal.main_arg7) = m ((c.tc : Thread Cert.MixerKernelIdeal.nD Cert.MixerKernelIdeal.τ).loc Cert.MixerKernelIdeal.main_arg7)
      ∧ m' ((c.tc : Thread Cert.MixerPartIdeal.nD Cert.MixerPartIdeal.τ).loc Cert.MixerPartIdeal.main_arg8) = m ((c.tc : Thread Cert.MixerKernelIdeal.nD Cert.MixerKernelIdeal.τ).loc Cert.MixerKernelIdeal.main_arg8)
      ∧ m' ((c.tc : Thread Cert.MixerPartIdeal.nD Cert.MixerPartIdeal.τ).loc Cert.MixerPartIdeal.main_arg9) = m ((c.tc : Thread Cert.MixerKernelIdeal.nD Cert.MixerKernelIdeal.τ).loc Cert.MixerKernelIdeal.main_arg9)
      ∧ m' ((c.tc : Thread Cert.MixerPartIdeal.nD Cert.MixerPartIdeal.τ).loc Cert.MixerPartIdeal.main_arg10) = m ((c.tc : Thread Cert.MixerKernelIdeal.nD Cert.MixerKernelIdeal.τ).loc Cert.MixerKernelIdeal.main_arg10)
      ∧ m' ((c.tc : Thread Cert.MixerPartIdeal.nD Cert.MixerPartIdeal.τ).loc Cert.MixerPartIdeal.main_arg11) = m ((c.tc : Thread Cert.MixerKernelIdeal.nD Cert.MixerKernelIdeal.τ).loc Cert.MixerKernelIdeal.main_arg11)
      ∧ m' ((c.tc : Thread Cert.MixerPartIdeal.nD Cert.MixerPartIdeal.τ).loc Cert.MixerPartIdeal.main_arg12) = m ((c.tc : Thread Cert.MixerKernelIdeal.nD Cert.MixerKernelIdeal.τ).loc Cert.MixerKernelIdeal.main_arg12)
      ∧ m' ((c.tc : Thread Cert.MixerPartIdeal.nD Cert.MixerPartIdeal.τ).loc Cert.MixerPartIdeal.main_arg13) = m ((c.tc : Thread Cert.MixerKernelIdeal.nD Cert.MixerKernelIdeal.τ).loc Cert.MixerKernelIdeal.main_arg13)
      ∧ m' ((c.tc : Thread Cert.MixerPartIdeal.nD Cert.MixerPartIdeal.τ).loc Cert.MixerPartIdeal.main_arg14) = m ((c.tc : Thread Cert.MixerKernelIdeal.nD Cert.MixerKernelIdeal.τ).loc Cert.MixerKernelIdeal.main_arg14)) →
    ∃ (v0 : (c : Dev Cert.MixerKernelIdeal.nD) → Buf (Elt Ideal) ((c.tc : Thread Cert.MixerKernelIdeal.nD Cert.MixerKernelIdeal.τ).loc Cert.MixerKernelIdeal.main_v109_0)) (v1 : (c : Dev Cert.MixerKernelIdeal.nD) → Buf (Elt Ideal) ((c.tc : Thread Cert.MixerKernelIdeal.nD Cert.MixerKernelIdeal.τ).loc Cert.MixerKernelIdeal.main_v109_1)) (v2 : (c : Dev Cert.MixerKernelIdeal.nD) → Buf (Elt Ideal) ((c.tc : Thread Cert.MixerKernelIdeal.nD Cert.MixerKernelIdeal.τ).loc Cert.MixerKernelIdeal.main_v109_2)) (v3 : (c : Dev Cert.MixerKernelIdeal.nD) → Buf (Elt Ideal) ((c.tc : Thread Cert.MixerKernelIdeal.nD Cert.MixerKernelIdeal.τ).loc Cert.MixerKernelIdeal.main_v109_3)) (v4 : (c : Dev Cert.MixerKernelIdeal.nD) → Buf (Elt Ideal) ((c.tc : Thread Cert.MixerKernelIdeal.nD Cert.MixerKernelIdeal.τ).loc Cert.MixerKernelIdeal.main_v109_4)) (v5 : (c : Dev Cert.MixerKernelIdeal.nD) → Buf (Elt Ideal) ((c.tc : Thread Cert.MixerKernelIdeal.nD Cert.MixerKernelIdeal.τ).loc Cert.MixerKernelIdeal.main_v109_5)) (v6 : (c : Dev Cert.MixerKernelIdeal.nD) → Buf (Elt Ideal) ((c.tc : Thread Cert.MixerKernelIdeal.nD Cert.MixerKernelIdeal.τ).loc Cert.MixerKernelIdeal.main_v109_6)) (v7 : (c : Dev Cert.MixerKernelIdeal.nD) → Buf (Elt Ideal) ((c.tc : Thread Cert.MixerKernelIdeal.nD Cert.MixerKernelIdeal.τ).loc Cert.MixerKernelIdeal.main_v109_7)),
      θ_run (Cert.MixerKernelIdeal.defs (F := Ideal)) (onTc (τ := Cert.MixerKernelIdeal.τ) (Cert.MixerKernelIdeal.main (F := Ideal))) ⟨m, fun _ => 0, g⟩ (fun r => ∀ c : Dev Cert.MixerKernelIdeal.nD,
          (∀ i : (⟨2, ![8192, 1024]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).1 i = 1#1 → r.2.mem ((c.tc : Thread Cert.MixerKernelIdeal.nD Cert.MixerKernelIdeal.τ).loc Cert.MixerKernelIdeal.main_v109_0) i = v0 c i)
          ∧ (∀ i : (⟨3, ![128, 256, 128]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.1 i = 1#1 → r.2.mem ((c.tc : Thread Cert.MixerKernelIdeal.nD Cert.MixerKernelIdeal.τ).loc Cert.MixerKernelIdeal.main_v109_1) i = v1 c i)
          ∧ (∀ i : (⟨3, ![128, 128, 256]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.1 i = 1#1 → r.2.mem ((c.tc : Thread Cert.MixerKernelIdeal.nD Cert.MixerKernelIdeal.τ).loc Cert.MixerKernelIdeal.main_v109_2) i = v2 c i)
          ∧ (∀ i : (⟨2, ![8192, 1024]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.1 i = 1#1 → r.2.mem ((c.tc : Thread Cert.MixerKernelIdeal.nD Cert.MixerKernelIdeal.τ).loc Cert.MixerKernelIdeal.main_v109_3) i = v3 c i)
          ∧ (∀ i : (⟨2, ![8192, 768]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.1 i = 1#1 → r.2.mem ((c.tc : Thread Cert.MixerKernelIdeal.nD Cert.MixerKernelIdeal.τ).loc Cert.MixerKernelIdeal.main_v109_4) i = v4 c i)
          ∧ (∀ i : (⟨2, ![8192, 768]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.2.1 i = 1#1 → r.2.mem ((c.tc : Thread Cert.MixerKernelIdeal.nD Cert.MixerKernelIdeal.τ).loc Cert.MixerKernelIdeal.main_v109_5) i = v5 c i)
          ∧ (∀ i : (⟨2, ![8192, 256]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.2.2.1 i = 1#1 → r.2.mem ((c.tc : Thread Cert.MixerKernelIdeal.nD Cert.MixerKernelIdeal.τ).loc Cert.MixerKernelIdeal.main_v109_6) i = v6 c i)
          ∧ (∀ i : (⟨2, ![8192, 256]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.2.2.2 i = 1#1 → r.2.mem ((c.tc : Thread Cert.MixerKernelIdeal.nD Cert.MixerKernelIdeal.τ).loc Cert.MixerKernelIdeal.main_v109_7) i = v7 c i)
          ∧ r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
          ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
          ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
          ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
          ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
          ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
          ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
          ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7)
          ∧ r.2.mem ((c.tc : Thread Cert.MixerKernelIdeal.nD Cert.MixerKernelIdeal.τ).loc Cert.MixerKernelIdeal.main_arg8) = m ((c.tc : Thread Cert.MixerKernelIdeal.nD Cert.MixerKernelIdeal.τ).loc Cert.MixerKernelIdeal.main_arg8)
          ∧ r.2.mem ((c.tc : Thread Cert.MixerKernelIdeal.nD Cert.MixerKernelIdeal.τ).loc Cert.MixerKernelIdeal.main_arg9) = m ((c.tc : Thread Cert.MixerKernelIdeal.nD Cert.MixerKernelIdeal.τ).loc Cert.MixerKernelIdeal.main_arg9)
          ∧ r.2.mem ((c.tc : Thread Cert.MixerKernelIdeal.nD Cert.MixerKernelIdeal.τ).loc Cert.MixerKernelIdeal.main_arg10) = m ((c.tc : Thread Cert.MixerKernelIdeal.nD Cert.MixerKernelIdeal.τ).loc Cert.MixerKernelIdeal.main_arg10)
          ∧ r.2.mem ((c.tc : Thread Cert.MixerKernelIdeal.nD Cert.MixerKernelIdeal.τ).loc Cert.MixerKernelIdeal.main_arg11) = m ((c.tc : Thread Cert.MixerKernelIdeal.nD Cert.MixerKernelIdeal.τ).loc Cert.MixerKernelIdeal.main_arg11)
          ∧ r.2.mem ((c.tc : Thread Cert.MixerKernelIdeal.nD Cert.MixerKernelIdeal.τ).loc Cert.MixerKernelIdeal.main_arg12) = m ((c.tc : Thread Cert.MixerKernelIdeal.nD Cert.MixerKernelIdeal.τ).loc Cert.MixerKernelIdeal.main_arg12)
          ∧ r.2.mem ((c.tc : Thread Cert.MixerKernelIdeal.nD Cert.MixerKernelIdeal.τ).loc Cert.MixerKernelIdeal.main_arg13) = m ((c.tc : Thread Cert.MixerKernelIdeal.nD Cert.MixerKernelIdeal.τ).loc Cert.MixerKernelIdeal.main_arg13)
          ∧ r.2.mem ((c.tc : Thread Cert.MixerKernelIdeal.nD Cert.MixerKernelIdeal.τ).loc Cert.MixerKernelIdeal.main_arg14) = m ((c.tc : Thread Cert.MixerKernelIdeal.nD Cert.MixerKernelIdeal.τ).loc Cert.MixerKernelIdeal.main_arg14))
      ∧ θ_run (Cert.MixerPartIdeal.defs (F := Ideal)) (onTc (τ := Cert.MixerPartIdeal.τ) (Cert.MixerPartIdeal.main (F := Ideal))) ⟨m', fun _ => 0, g'⟩ (fun r => ∀ c : Dev Cert.MixerPartIdeal.nD,
          (∀ i : (⟨2, ![8192, 1024]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).1 i = 1#1 → r.2.mem ((c.tc : Thread Cert.MixerPartIdeal.nD Cert.MixerPartIdeal.τ).loc Cert.MixerPartIdeal.main_v55) i = v0 c i)
          ∧ (∀ i : (⟨3, ![128, 256, 128]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.1 i = 1#1 → r.2.mem ((c.tc : Thread Cert.MixerPartIdeal.nD Cert.MixerPartIdeal.τ).loc Cert.MixerPartIdeal.main_v56) i = v1 c i)
          ∧ (∀ i : (⟨3, ![128, 128, 256]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.1 i = 1#1 → r.2.mem ((c.tc : Thread Cert.MixerPartIdeal.nD Cert.MixerPartIdeal.τ).loc Cert.MixerPartIdeal.main_v57) i = v2 c i)
          ∧ (∀ i : (⟨2, ![8192, 1024]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.1 i = 1#1 → r.2.mem ((c.tc : Thread Cert.MixerPartIdeal.nD Cert.MixerPartIdeal.τ).loc Cert.MixerPartIdeal.main_v58) i = v3 c i)
          ∧ (∀ i : (⟨2, ![8192, 768]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.1 i = 1#1 → r.2.mem ((c.tc : Thread Cert.MixerPartIdeal.nD Cert.MixerPartIdeal.τ).loc Cert.MixerPartIdeal.main_v59) i = v4 c i)
          ∧ (∀ i : (⟨2, ![8192, 768]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.2.1 i = 1#1 → r.2.mem ((c.tc : Thread Cert.MixerPartIdeal.nD Cert.MixerPartIdeal.τ).loc Cert.MixerPartIdeal.main_v60) i = v5 c i)
          ∧ (∀ i : (⟨2, ![8192, 256]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.2.2.1 i = 1#1 → r.2.mem ((c.tc : Thread Cert.MixerPartIdeal.nD Cert.MixerPartIdeal.τ).loc Cert.MixerPartIdeal.main_v61) i = v6 c i)
          ∧ (∀ i : (⟨2, ![8192, 256]⟩ : Shape).Idx, (Cert.On_mixer_results.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7)) (m ((c.tc : Thread Cert.MixerKernelIdeal.nD Cert.MixerKernelIdeal.τ).loc Cert.MixerKernelIdeal.main_arg8)) (m ((c.tc : Thread Cert.MixerKernelIdeal.nD Cert.MixerKernelIdeal.τ).loc Cert.MixerKernelIdeal.main_arg9)) (m ((c.tc : Thread Cert.MixerKernelIdeal.nD Cert.MixerKernelIdeal.τ).loc Cert.MixerKernelIdeal.main_arg10)) (m ((c.tc : Thread Cert.MixerKernelIdeal.nD Cert.MixerKernelIdeal.τ).loc Cert.MixerKernelIdeal.main_arg11)) (m ((c.tc : Thread Cert.MixerKernelIdeal.nD Cert.MixerKernelIdeal.τ).loc Cert.MixerKernelIdeal.main_arg12)) (m ((c.tc : Thread Cert.MixerKernelIdeal.nD Cert.MixerKernelIdeal.τ).loc Cert.MixerKernelIdeal.main_arg13)) (m ((c.tc : Thread Cert.MixerKernelIdeal.nD Cert.MixerKernelIdeal.τ).loc Cert.MixerKernelIdeal.main_arg14))).2.2.2.2.2.2.2 i = 1#1 → r.2.mem ((c.tc : Thread Cert.MixerPartIdeal.nD Cert.MixerPartIdeal.τ).loc Cert.MixerPartIdeal.main_v62) i = v7 c i)
          ∧ r.2.mem ((c.tc : Thread Cert.MixerPartIdeal.nD Cert.MixerPartIdeal.τ).loc Cert.MixerPartIdeal.main_arg0) = m' ((c.tc : Thread Cert.MixerPartIdeal.nD Cert.MixerPartIdeal.τ).loc Cert.MixerPartIdeal.main_arg0)
          ∧ r.2.mem ((c.tc : Thread Cert.MixerPartIdeal.nD Cert.MixerPartIdeal.τ).loc Cert.MixerPartIdeal.main_arg1) = m' ((c.tc : Thread Cert.MixerPartIdeal.nD Cert.MixerPartIdeal.τ).loc Cert.MixerPartIdeal.main_arg1)
          ∧ r.2.mem ((c.tc : Thread Cert.MixerPartIdeal.nD Cert.MixerPartIdeal.τ).loc Cert.MixerPartIdeal.main_arg2) = m' ((c.tc : Thread Cert.MixerPartIdeal.nD Cert.MixerPartIdeal.τ).loc Cert.MixerPartIdeal.main_arg2)
          ∧ r.2.mem ((c.tc : Thread Cert.MixerPartIdeal.nD Cert.MixerPartIdeal.τ).loc Cert.MixerPartIdeal.main_arg3) = m' ((c.tc : Thread Cert.MixerPartIdeal.nD Cert.MixerPartIdeal.τ).loc Cert.MixerPartIdeal.main_arg3)
          ∧ r.2.mem ((c.tc : Thread Cert.MixerPartIdeal.nD Cert.MixerPartIdeal.τ).loc Cert.MixerPartIdeal.main_arg4) = m' ((c.tc : Thread Cert.MixerPartIdeal.nD Cert.MixerPartIdeal.τ).loc Cert.MixerPartIdeal.main_arg4)
          ∧ r.2.mem ((c.tc : Thread Cert.MixerPartIdeal.nD Cert.MixerPartIdeal.τ).loc Cert.MixerPartIdeal.main_arg5) = m' ((c.tc : Thread Cert.MixerPartIdeal.nD Cert.MixerPartIdeal.τ).loc Cert.MixerPartIdeal.main_arg5)
          ∧ r.2.mem ((c.tc : Thread Cert.MixerPartIdeal.nD Cert.MixerPartIdeal.τ).loc Cert.MixerPartIdeal.main_arg6) = m' ((c.tc : Thread Cert.MixerPartIdeal.nD Cert.MixerPartIdeal.τ).loc Cert.MixerPartIdeal.main_arg6)
          ∧ r.2.mem ((c.tc : Thread Cert.MixerPartIdeal.nD Cert.MixerPartIdeal.τ).loc Cert.MixerPartIdeal.main_arg7) = m' ((c.tc : Thread Cert.MixerPartIdeal.nD Cert.MixerPartIdeal.τ).loc Cert.MixerPartIdeal.main_arg7)
          ∧ r.2.mem ((c.tc : Thread Cert.MixerPartIdeal.nD Cert.MixerPartIdeal.τ).loc Cert.MixerPartIdeal.main_arg8) = m' ((c.tc : Thread Cert.MixerPartIdeal.nD Cert.MixerPartIdeal.τ).loc Cert.MixerPartIdeal.main_arg8)
          ∧ r.2.mem ((c.tc : Thread Cert.MixerPartIdeal.nD Cert.MixerPartIdeal.τ).loc Cert.MixerPartIdeal.main_arg9) = m' ((c.tc : Thread Cert.MixerPartIdeal.nD Cert.MixerPartIdeal.τ).loc Cert.MixerPartIdeal.main_arg9)
          ∧ r.2.mem ((c.tc : Thread Cert.MixerPartIdeal.nD Cert.MixerPartIdeal.τ).loc Cert.MixerPartIdeal.main_arg10) = m' ((c.tc : Thread Cert.MixerPartIdeal.nD Cert.MixerPartIdeal.τ).loc Cert.MixerPartIdeal.main_arg10)
          ∧ r.2.mem ((c.tc : Thread Cert.MixerPartIdeal.nD Cert.MixerPartIdeal.τ).loc Cert.MixerPartIdeal.main_arg11) = m' ((c.tc : Thread Cert.MixerPartIdeal.nD Cert.MixerPartIdeal.τ).loc Cert.MixerPartIdeal.main_arg11)
          ∧ r.2.mem ((c.tc : Thread Cert.MixerPartIdeal.nD Cert.MixerPartIdeal.τ).loc Cert.MixerPartIdeal.main_arg12) = m' ((c.tc : Thread Cert.MixerPartIdeal.nD Cert.MixerPartIdeal.τ).loc Cert.MixerPartIdeal.main_arg12)
          ∧ r.2.mem ((c.tc : Thread Cert.MixerPartIdeal.nD Cert.MixerPartIdeal.τ).loc Cert.MixerPartIdeal.main_arg13) = m' ((c.tc : Thread Cert.MixerPartIdeal.nD Cert.MixerPartIdeal.τ).loc Cert.MixerPartIdeal.main_arg13)
          ∧ r.2.mem ((c.tc : Thread Cert.MixerPartIdeal.nD Cert.MixerPartIdeal.τ).loc Cert.MixerPartIdeal.main_arg14) = m' ((c.tc : Thread Cert.MixerPartIdeal.nD Cert.MixerPartIdeal.τ).loc Cert.MixerPartIdeal.main_arg14))

def Claim : Prop :=
  ∃ (hKernel : Cert.Kernel.Facts) (hKernelIdeal : Cert.KernelIdeal.Facts) (hConvPartIdeal : Cert.ConvPartIdeal.Facts) (hPoolPartIdeal : Cert.PoolPartIdeal.Facts) (hDwinKernel : Cert.DwinKernel.Facts) (hDwinKernelIdeal : Cert.DwinKernelIdeal.Facts) (hDwinPartIdeal : Cert.DwinPartIdeal.Facts) (hRmsprojKernel : Cert.RmsprojKernel.Facts) (hRmsprojKernelIdeal : Cert.RmsprojKernelIdeal.Facts) (hRmsprojPartIdeal : Cert.RmsprojPartIdeal.Facts) (hDxinKernel : Cert.DxinKernel.Facts) (hDxinKernelIdeal : Cert.DxinKernelIdeal.Facts) (hDxinPartIdeal : Cert.DxinPartIdeal.Facts) (hAdamwOutKernel : Cert.AdamwOutKernel.Facts) (hAdamwOutKernelIdeal : Cert.AdamwOutKernelIdeal.Facts) (hAdamwOutPartIdeal : Cert.AdamwOutPartIdeal.Facts) (hAdamwInKernel : Cert.AdamwInKernel.Facts) (hAdamwInKernelIdeal : Cert.AdamwInKernelIdeal.Facts) (hAdamwInPartIdeal : Cert.AdamwInPartIdeal.Facts) (hMixerKernel : Cert.MixerKernel.Facts) (hMixerKernelIdeal : Cert.MixerKernelIdeal.Facts) (hMixerPartIdeal : Cert.MixerPartIdeal.Facts) (hPre_finite : Cert.Pre_finite.Facts) (hPre_pool_finite : Cert.Pre_pool_finite.Facts) (hPre_dxin_finite : Cert.Pre_dxin_finite.Facts) (hOn_conv_results : Cert.On_conv_results.Facts) (hOn_pool_results : Cert.On_pool_results.Facts) (hOn_mixer_results : Cert.On_mixer_results.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_pool_finite (hKernelIdeal := hKernelIdeal) (hPre_pool_finite := hPre_pool_finite)
    ∧ quiescent_ConvPartIdeal (hConvPartIdeal := hConvPartIdeal)
    ∧ quiescent_ConvPartIdeal_pre_finite (hConvPartIdeal := hConvPartIdeal) (hPre_finite := hPre_finite)
    ∧ quiescent_PoolPartIdeal (hPoolPartIdeal := hPoolPartIdeal)
    ∧ quiescent_PoolPartIdeal_pre_pool_finite (hPoolPartIdeal := hPoolPartIdeal) (hPre_pool_finite := hPre_pool_finite)
    ∧ quiescent_DwinKernel (hDwinKernel := hDwinKernel)
    ∧ quiescent_DwinKernelIdeal (hDwinKernelIdeal := hDwinKernelIdeal)
    ∧ quiescent_DwinPartIdeal (hDwinPartIdeal := hDwinPartIdeal)
    ∧ quiescent_RmsprojKernel (hRmsprojKernel := hRmsprojKernel)
    ∧ quiescent_RmsprojKernelIdeal (hRmsprojKernelIdeal := hRmsprojKernelIdeal)
    ∧ quiescent_RmsprojPartIdeal (hRmsprojPartIdeal := hRmsprojPartIdeal)
    ∧ quiescent_DxinKernel (hDxinKernel := hDxinKernel)
    ∧ quiescent_DxinKernelIdeal (hDxinKernelIdeal := hDxinKernelIdeal)
    ∧ quiescent_DxinKernelIdeal_pre_dxin_finite (hDxinKernelIdeal := hDxinKernelIdeal) (hPre_dxin_finite := hPre_dxin_finite)
    ∧ quiescent_DxinPartIdeal (hDxinPartIdeal := hDxinPartIdeal)
    ∧ quiescent_DxinPartIdeal_pre_dxin_finite (hDxinPartIdeal := hDxinPartIdeal) (hPre_dxin_finite := hPre_dxin_finite)
    ∧ quiescent_AdamwOutKernel (hAdamwOutKernel := hAdamwOutKernel)
    ∧ quiescent_AdamwOutKernelIdeal (hAdamwOutKernelIdeal := hAdamwOutKernelIdeal)
    ∧ quiescent_AdamwOutPartIdeal (hAdamwOutPartIdeal := hAdamwOutPartIdeal)
    ∧ quiescent_AdamwInKernel (hAdamwInKernel := hAdamwInKernel)
    ∧ quiescent_AdamwInKernelIdeal (hAdamwInKernelIdeal := hAdamwInKernelIdeal)
    ∧ quiescent_AdamwInPartIdeal (hAdamwInPartIdeal := hAdamwInPartIdeal)
    ∧ quiescent_MixerKernel (hMixerKernel := hMixerKernel)
    ∧ quiescent_MixerKernelIdeal (hMixerKernelIdeal := hMixerKernelIdeal)
    ∧ quiescent_MixerPartIdeal (hMixerPartIdeal := hMixerPartIdeal)
    ∧ preserves_Kernel_KernelIdeal
    ∧ algebraic_KernelIdeal_ConvPartIdeal_on_conv_results_pre_finite (hKernelIdeal := hKernelIdeal) (hConvPartIdeal := hConvPartIdeal) (hPre_finite := hPre_finite) (hOn_conv_results := hOn_conv_results)
    ∧ algebraic_KernelIdeal_PoolPartIdeal_on_pool_results_pre_pool_finite (hKernelIdeal := hKernelIdeal) (hPoolPartIdeal := hPoolPartIdeal) (hPre_pool_finite := hPre_pool_finite) (hOn_pool_results := hOn_pool_results)
    ∧ preserves_DwinKernel_DwinKernelIdeal
    ∧ algebraic_DwinKernelIdeal_DwinPartIdeal (hDwinKernelIdeal := hDwinKernelIdeal) (hDwinPartIdeal := hDwinPartIdeal)
    ∧ preserves_RmsprojKernel_RmsprojKernelIdeal
    ∧ algebraic_RmsprojKernelIdeal_RmsprojPartIdeal (hRmsprojKernelIdeal := hRmsprojKernelIdeal) (hRmsprojPartIdeal := hRmsprojPartIdeal)
    ∧ preserves_DxinKernel_DxinKernelIdeal
    ∧ algebraic_DxinKernelIdeal_DxinPartIdeal_pre_dxin_finite (hDxinKernelIdeal := hDxinKernelIdeal) (hDxinPartIdeal := hDxinPartIdeal) (hPre_dxin_finite := hPre_dxin_finite)
    ∧ preserves_AdamwOutKernel_AdamwOutKernelIdeal
    ∧ algebraic_AdamwOutKernelIdeal_AdamwOutPartIdeal (hAdamwOutKernelIdeal := hAdamwOutKernelIdeal) (hAdamwOutPartIdeal := hAdamwOutPartIdeal)
    ∧ preserves_AdamwInKernel_AdamwInKernelIdeal
    ∧ algebraic_AdamwInKernelIdeal_AdamwInPartIdeal (hAdamwInKernelIdeal := hAdamwInKernelIdeal) (hAdamwInPartIdeal := hAdamwInPartIdeal)
    ∧ preserves_MixerKernel_MixerKernelIdeal
    ∧ algebraic_MixerKernelIdeal_MixerPartIdeal_on_mixer_results (hMixerKernelIdeal := hMixerKernelIdeal) (hMixerPartIdeal := hMixerPartIdeal) (hOn_mixer_results := hOn_mixer_results)
-- ==== On_conv_results.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S8192x3456 : Shape := ⟨2, ![8192, 3456]⟩
abbrev S_ : Shape := ⟨0, ![]⟩
abbrev S32x1024 : Shape := ⟨2, ![32, 1024]⟩

class Facts : Prop where
  bcast_S_S8192x3456 : S_.BroadcastsInDim S8192x3456 (![] : Fin 0 → Fin S8192x3456.rank)
  bcast_S_S32x1024 : S_.BroadcastsInDim S32x1024 (![] : Fin 0 → Fin S32x1024.rank)
  bcast_S_S1024x1024 : S_.BroadcastsInDim S1024x1024 (![] : Fin 0 → Fin S1024x1024.rank)

variable [Facts]

def fn {F : FTy → Type} [FloatOps F] (main_arg0 : FVec F S8192x3348 .f32) (main_arg1 : FVec F S8192x1024 .f32) (main_arg2 : FVec F S128x4x32x64 .f32) (main_arg3 : FVec F S128x4x64x128 .f32) (main_arg4 : FVec F S1024x1024 .f32) (main_arg5 : FVec F S3x256 .f32) (main_arg6 : FVec F S16x128 .f32) (main_arg7 : FVec F S128 .f32) (main_arg8 : FVec F S64 .f32) (main_arg9 : FVec F S4x64x64 .f32) (main_arg10 : FVec F S256 .f32) (main_arg11 : FVec F S4x768 .f32) (main_arg12 : FVec F S768 .f32) (main_arg13 : FVec F S4 .f32) (main_arg14 : FVec F S4 .f32) (main_arg15 : FVec F S4 .f32) (main_arg16 : FVec F S256 .f32) (main_arg17 : FVec F S8192x1024 .f32) : IVec S8192x3456 1 × IVec S32x1024 1 × IVec S1024x1024 1 :=
  let main_v0 : IVec S8192x3456 32 := iotaInDim S8192x3456 32 1
  let main_c : IVec S_ 32 := constantI S_ 32 1024#32
  let main_v1 : IVec S8192x3456 32 := broadcastInDim S8192x3456 ![] bcast_S_S8192x3456 main_c
  let main_v2 : IVec S8192x3456 1 := cmpi .slt main_v0 main_v1
  let main_v3 : IVec S32x1024 32 := iotaInDim S32x1024 32 0
  let main_c_0 : IVec S_ 32 := constantI S_ 32 3#32
  let main_v4 : IVec S32x1024 32 := broadcastInDim S32x1024 ![] bcast_S_S32x1024 main_c_0
  let main_v5 : IVec S32x1024 1 := cmpi .slt main_v3 main_v4
  let main_v6 : IVec S32x1024 32 := iotaInDim S32x1024 32 1
  let main_c_1 : IVec S_ 32 := constantI S_ 32 256#32
  let main_v7 : IVec S32x1024 32 := broadcastInDim S32x1024 ![] bcast_S_S32x1024 main_c_1
  let main_v8 : IVec S32x1024 1 := cmpi .slt main_v6 main_v7
  let main_v9 : IVec S32x1024 1 := andi main_v5 main_v8
  let main_v10 : IVec S1024x1024 32 := iotaInDim S1024x1024 32 0
  let main_c_2 : IVec S_ 32 := constantI S_ 32 0#32
  let main_v11 : IVec S1024x1024 32 := broadcastInDim S1024x1024 ![] bcast_S_S1024x1024 main_c_2
  let main_v12 : IVec S1024x1024 1 := cmpi .sge main_v10 main_v11
  (main_v2, main_v9, main_v12)
-- ==== On_mixer_results.lean ====
abbrev S8192x3348 : Shape := ⟨2, ![8192, 3348]⟩
abbrev S8192x1024 : Shape := ⟨2, ![8192, 1024]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S_ : Shape := ⟨0, ![]⟩
abbrev S128x256x128 : Shape := ⟨3, ![128, 256, 128]⟩
abbrev S128x128x256 : Shape := ⟨3, ![128, 128, 256]⟩
abbrev S8192x768 : Shape := ⟨2, ![8192, 768]⟩
abbrev S8192x256 : Shape := ⟨2, ![8192, 256]⟩

class Facts : Prop where
  bcast_S_S8192x1024 : S_.BroadcastsInDim S8192x1024 (![] : Fin 0 → Fin S8192x1024.rank)
  bcast_S_S128x256x128 : S_.BroadcastsInDim S128x256x128 (![] : Fin 0 → Fin S128x256x128.rank)
  bcast_S_S128x128x256 : S_.BroadcastsInDim S128x128x256 (![] : Fin 0 → Fin S128x128x256.rank)
  bcast_S_S8192x768 : S_.BroadcastsInDim S8192x768 (![] : Fin 0 → Fin S8192x768.rank)
  bcast_S_S8192x256 : S_.BroadcastsInDim S8192x256 (![] : Fin 0 → Fin S8192x256.rank)

variable [Facts]

def fn_part1 {F : FTy → Type} [FloatOps F] (main_v2 : IVec S8192x1024 1) (main_v5 : IVec S128x256x128 1) (main_v8 : IVec S128x128x256 1) (main_v11 : IVec S8192x1024 1) (main_v14 : IVec S8192x768 1) (main_v17 : IVec S8192x768 1) : IVec S8192x1024 1 × IVec S128x256x128 1 × IVec S128x128x256 1 × IVec S8192x1024 1 × IVec S8192x768 1 × IVec S8192x768 1 × IVec S8192x256 1 × IVec S8192x256 1 :=
  let main_v18 : IVec S8192x256 32 := iotaInDim S8192x256 32 1
  let main_c_5 : IVec S_ 32 := constantI S_ 32 0#32
  let main_v19 : IVec S8192x256 32 := broadcastInDim S8192x256 ![] bcast_S_S8192x256 main_c_5
  let main_v20 : IVec S8192x256 1 := cmpi .sge main_v18 main_v19
  let main_v21 : IVec S8192x256 32 := iotaInDim S8192x256 32 1
  let main_c_6 : IVec S_ 32 := constantI S_ 32 0#32
  let main_v22 : IVec S8192x256 32 := broadcastInDim S8192x256 ![] bcast_S_S8192x256 main_c_6
  let main_v23 : IVec S8192x256 1 := cmpi .slt main_v21 main_v22
  (main_v2, main_v5, main_v8, main_v11, main_v14, main_v17, main_v20, main_v23)

def fn {F : FTy → Type} [FloatOps F] (main_arg0 : FVec F S8192x3348 .f32) (main_arg1 : FVec F S8192x1024 .f32) (main_arg2 : FVec F S1024x1024 .f32) (main_arg3 : FVec F S3x256 .f32) (main_arg4 : FVec F S16x128 .f32) (main_arg5 : FVec F S128 .f32) (main_arg6 : FVec F S64 .f32) (main_arg7 : FVec F S4x64x64 .f32) (main_arg8 : FVec F S256 .f32) (main_arg9 : FVec F S4x768 .f32) (main_arg10 : FVec F S768 .f32) (main_arg11 : FVec F S4 .f32) (main_arg12 : FVec F S4 .f32) (main_arg13 : FVec F S4 .f32) (main_arg14 : FVec F S256 .f32) : IVec S8192x1024 1 × IVec S128x256x128 1 × IVec S128x128x256 1 × IVec S8192x1024 1 × IVec S8192x768 1 × IVec S8192x768 1 × IVec S8192x256 1 × IVec S8192x256 1 :=
  let main_v0 : IVec S8192x1024 32 := iotaInDim S8192x1024 32 1
  let main_c : IVec S_ 32 := constantI S_ 32 256#32
  let main_v1 : IVec S8192x1024 32 := broadcastInDim S8192x1024 ![] bcast_S_S8192x1024 main_c
  let main_v2 : IVec S8192x1024 1 := cmpi .slt main_v0 main_v1
  let main_v3 : IVec S128x256x128 32 := iotaInDim S128x256x128 32 0
  let main_c_0 : IVec S_ 32 := constantI S_ 32 0#32
  let main_v4 : IVec S128x256x128 32 := broadcastInDim S128x256x128 ![] bcast_S_S128x256x128 main_c_0
  let main_v5 : IVec S128x256x128 1 := cmpi .slt main_v3 main_v4
  let main_v6 : IVec S128x128x256 32 := iotaInDim S128x128x256 32 0
  let main_c_1 : IVec S_ 32 := constantI S_ 32 0#32
  let main_v7 : IVec S128x128x256 32 := broadcastInDim S128x128x256 ![] bcast_S_S128x128x256 main_c_1
  let main_v8 : IVec S128x128x256 1 := cmpi .slt main_v6 main_v7
  let main_v9 : IVec S8192x1024 32 := iotaInDim S8192x1024 32 1
  let main_c_2 : IVec S_ 32 := constantI S_ 32 0#32
  let main_v10 : IVec S8192x1024 32 := broadcastInDim S8192x1024 ![] bcast_S_S8192x1024 main_c_2
  let main_v11 : IVec S8192x1024 1 := cmpi .slt main_v9 main_v10
  let main_v12 : IVec S8192x768 32 := iotaInDim S8192x768 32 1
  let main_c_3 : IVec S_ 32 := constantI S_ 32 0#32
  let main_v13 : IVec S8192x768 32 := broadcastInDim S8192x768 ![] bcast_S_S8192x768 main_c_3
  let main_v14 : IVec S8192x768 1 := cmpi .sge main_v12 main_v13
  let main_v15 : IVec S8192x768 32 := iotaInDim S8192x768 32 1
  let main_c_4 : IVec S_ 32 := constantI S_ 32 0#32
  let main_v16 : IVec S8192x768 32 := broadcastInDim S8192x768 ![] bcast_S_S8192x768 main_c_4
  let main_v17 : IVec S8192x768 1 := cmpi .slt main_v15 main_v16
  fn_part1 (F := F) main_v2 main_v5 main_v8 main_v11 main_v14 main_v17
-- ==== On_pool_results.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S32x1024 : Shape := ⟨2, ![32, 1024]⟩
abbrev S8192x3456 : Shape := ⟨2, ![8192, 3456]⟩
abbrev S_ : Shape := ⟨0, ![]⟩

class Facts : Prop where
  bcast_S_S8192x3456 : S_.BroadcastsInDim S8192x3456 (![] : Fin 0 → Fin S8192x3456.rank)
  bcast_S_S32x1024 : S_.BroadcastsInDim S32x1024 (![] : Fin 0 → Fin S32x1024.rank)
  bcast_S_S1024x1024 : S_.BroadcastsInDim S1024x1024 (![] : Fin 0 → Fin S1024x1024.rank)

variable [Facts]

def fn_part1 {F : FTy → Type} [FloatOps F] (main_v6 : IVec S8192x3456 1) (main_v15 : IVec S32x1024 1) (main_v16 : IVec S1024x1024 32) (main_v17 : IVec S1024x1024 32) : IVec S8192x3456 1 × IVec S32x1024 1 × IVec S1024x1024 1 :=
  let main_v18 : IVec S1024x1024 1 := cmpi .slt main_v16 main_v17
  (main_v6, main_v15, main_v18)

def fn {F : FTy → Type} [FloatOps F] (main_arg0 : FVec F S8192x3348 .f32) (main_arg1 : FVec F S8192x1024 .f32) (main_arg2 : FVec F S128x4x32x64 .f32) (main_arg3 : FVec F S128x4x64x128 .f32) (main_arg4 : FVec F S1024x1024 .f32) (main_arg5 : FVec F S3x256 .f32) (main_arg6 : FVec F S16x128 .f32) (main_arg7 : FVec F S128 .f32) (main_arg8 : FVec F S64 .f32) (main_arg9 : FVec F S4x64x64 .f32) (main_arg10 : FVec F S256 .f32) (main_arg11 : FVec F S4x768 .f32) (main_arg12 : FVec F S768 .f32) (main_arg13 : FVec F S4 .f32) (main_arg14 : FVec F S4 .f32) (main_arg15 : FVec F S4 .f32) (main_arg16 : FVec F S256 .f32) (main_arg17 : FVec F S8192x1024 .f32) : IVec S8192x3456 1 × IVec S32x1024 1 × IVec S1024x1024 1 :=
  let main_v0 : IVec S32x1024 32 := iotaInDim S32x1024 32 0
  let main_v1 : IVec S8192x3456 32 := iotaInDim S8192x3456 32 1
  let main_c : IVec S_ 32 := constantI S_ 32 1792#32
  let main_v2 : IVec S8192x3456 32 := broadcastInDim S8192x3456 ![] bcast_S_S8192x3456 main_c
  let main_v3 : IVec S8192x3456 1 := cmpi .sge main_v1 main_v2
  let main_c_0 : IVec S_ 32 := constantI S_ 32 2304#32
  let main_v4 : IVec S8192x3456 32 := broadcastInDim S8192x3456 ![] bcast_S_S8192x3456 main_c_0
  let main_v5 : IVec S8192x3456 1 := cmpi .slt main_v1 main_v4
  let main_v6 : IVec S8192x3456 1 := andi main_v3 main_v5
  let main_c_1 : IVec S_ 32 := constantI S_ 32 16#32
  let main_v7 : IVec S32x1024 32 := broadcastInDim S32x1024 ![] bcast_S_S32x1024 main_c_1
  let main_v8 : IVec S32x1024 1 := cmpi .sge main_v0 main_v7
  let main_c_2 : IVec S_ 32 := constantI S_ 32 5#32
  let main_v9 : IVec S32x1024 32 := broadcastInDim S32x1024 ![] bcast_S_S32x1024 main_c_2
  let main_v10 : IVec S32x1024 1 := cmpi .eq main_v0 main_v9
  let main_v11 : IVec S32x1024 32 := iotaInDim S32x1024 32 1
  let main_c_3 : IVec S_ 32 := constantI S_ 32 256#32
  let main_v12 : IVec S32x1024 32 := broadcastInDim S32x1024 ![] bcast_S_S32x1024 main_c_3
  let main_v13 : IVec S32x1024 1 := cmpi .slt main_v11 main_v12
  let main_v14 : IVec S32x1024 1 := andi main_v10 main_v13
  let main_v15 : IVec S32x1024 1 := ori main_v8 main_v14
  let main_v16 : IVec S1024x1024 32 := iotaInDim S1024x1024 32 0
  let main_c_4 : IVec S_ 32 := constantI S_ 32 0#32
  let main_v17 : IVec S1024x1024 32 := broadcastInDim S1024x1024 ![] bcast_S_S1024x1024 main_c_4
  fn_part1 (F := F) main_v6 main_v15 main_v16 main_v17
-- ==== Pre_dxin_finite.lean ====
abbrev S8192x1024 : Shape := ⟨2, ![8192, 1024]⟩
abbrev S1024 : Shape := ⟨1, ![1024]⟩
abbrev S1024x3348 : Shape := ⟨2, ![1024, 3348]⟩
abbrev S8192x3348 : Shape := ⟨2, ![8192, 3348]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3348 : S_.BroadcastsInDim S1024x3348 (![] : Fin 0 → Fin S1024x3348.rank)
  reducesTo_S1024x3348_S_d0_1 : S1024x3348.ReducesTo [0, 1] S_
  bcast_S_S8192x3348 : S_.BroadcastsInDim S8192x3348 (![] : Fin 0 → Fin S8192x3348.rank)
  reducesTo_S8192x3348_S_d0_1 : S8192x3348.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S1024 .f32) (main_arg2 : FVec F S1024x3348 .f32) (main_arg3 : FVec F S8192x3348 .f32) (main_arg4 : FVec F S8192x1024 .f32) : IVec S_ 1 :=
  let main_v0 : FVec F S8192x1024 .f32 := Host.absf main_arg0
  let main_cst : FVec F S_ .f32 := constant S_ .f32 0x7F7FFFFF#32
  let main_v1 : FVec F S8192x1024 .f32 := broadcastInDim S8192x1024 ![] bcast_S_S8192x1024 main_cst
  let main_v2 : IVec S8192x1024 1 := cmpf .ole main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F7FFFFF#32
  let main_v5 : FVec F S1024 .f32 := broadcastInDim S1024 ![] bcast_S_S1024 main_cst_0
  let main_v6 : IVec S1024 1 := cmpf .ole main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x3348 .f32 := Host.absf main_arg2
  let main_cst_2 : FVec F S_ .f32 := constant S_ .f32 0x7F7FFFFF#32
  let main_v9 : FVec F S1024x3348 .f32 := broadcastInDim S1024x3348 ![] bcast_S_S1024x3348 main_cst_2
  let main_v10 : IVec S1024x3348 1 := cmpf .ole main_v8 main_v9
  let main_c_3 : IVec S_ 1 := constantI S_ 1 1#1
  let main_v11 : IVec S_ 1 := (fun x v => Host.reduce IntOp.andi x v reducesTo_S1024x3348_S_d0_1 h_S_) main_v10 main_c_3
  let main_v12 : FVec F S8192x3348 .f32 := Host.absf main_arg3
  let main_cst_4 : FVec F S_ .f32 := constant S_ .f32 0x7F7FFFFF#32
  let main_v13 : FVec F S8192x3348 .f32 := broadcastInDim S8192x3348 ![] bcast_S_S8192x3348 main_cst_4
  let main_v14 : IVec S8192x3348 1 := cmpf .ole main_v12 main_v13
  let main_c_5 : IVec S_ 1 := constantI S_ 1 1#1
  let main_v15 : IVec S_ 1 := (fun x v => Host.reduce IntOp.andi x v reducesTo_S8192x3348_S_d0_1 h_S_) main_v14 main_c_5
  fn_part1 (F := F) main_v3 main_v7 main_v11 main_v15
-- ==== Pre_finite.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S_ : Shape := ⟨0, ![]⟩

class Facts : Prop where
  bcast_S_S8192x3348 : S_.BroadcastsInDim S8192x3348 (![] : Fin 0 → Fin S8192x3348.rank)
  reducesTo_S8192x3348_S_d0_1 : S8192x3348.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S3x256 : S_.BroadcastsInDim S3x256 (![] : Fin 0 → Fin S3x256.rank)
  reducesTo_S3x256_S_d0_1 : S3x256.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x3348 .f32) (main_arg1 : FVec F S8192x1024 .f32) (main_arg2 : FVec F S128x4x32x64 .f32) (main_arg3 : FVec F S128x4x64x128 .f32) (main_arg4 : FVec F S1024x1024 .f32) (main_arg5 : FVec F S3x256 .f32) (main_arg6 : FVec F S16x128 .f32) (main_arg7 : FVec F S128 .f32) (main_arg8 : FVec F S64 .f32) (main_arg9 : FVec F S4x64x64 .f32) (main_arg10 : FVec F S256 .f32) (main_arg11 : FVec F S4x768 .f32) (main_arg12 : FVec F S768 .f32) (main_arg13 : FVec F S4 .f32) (main_arg14 : FVec F S4 .f32) (main_arg15 : FVec F S4 .f32) (main_arg16 : FVec F S256 .f32) (main_arg17 : FVec F S8192x1024 .f32) : IVec S_ 1 :=
  let main_v0 : FVec F S8192x3348 .f32 := Host.absf main_arg0
  let main_cst : FVec F S_ .f32 := constant S_ .f32 0x7F7FFFFF#32
  let main_v1 : FVec F S8192x3348 .f32 := broadcastInDim S8192x3348 ![] bcast_S_S8192x3348 main_cst
  let main_v2 : IVec S8192x3348 1 := cmpf .ole main_v0 main_v1
  let main_c : IVec S_ 1 := constantI S_ 1 1#1
  let main_v3 : IVec S_ 1 := (fun x v => Host.reduce IntOp.andi x v reducesTo_S8192x3348_S_d0_1 h_S_) main_v2 main_c
  let main_v4 : FVec F S1024x1024 .f32 := Host.absf main_arg4
  let main_cst_0 : FVec F S_ .f32 := constant S_ .f32 0x7F7FFFFF#32
  let main_v5 : FVec F S1024x1024 .f32 := broadcastInDim S1024x1024 ![] bcast_S_S1024x1024 main_cst_0
  let main_v6 : IVec S1024x1024 1 := cmpf .ole main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S3x256 .f32 := Host.absf main_arg5
  let main_cst_2 : FVec F S_ .f32 := constant S_ .f32 0x7F7FFFFF#32
  let main_v9 : FVec F S3x256 .f32 := broadcastInDim S3x256 ![] bcast_S_S3x256 main_cst_2
  let main_v10 : IVec S3x256 1 := cmpf .ole main_v8 main_v9
  let main_c_3 : IVec S_ 1 := constantI S_ 1 1#1
  let main_v11 : IVec S_ 1 := (fun x v => Host.reduce IntOp.andi x v reducesTo_S3x256_S_d0_1 h_S_) main_v10 main_c_3
  let main_v12 : FVec F S8192x1024 .f32 := Host.absf main_arg17
  let main_cst_4 : FVec F S_ .f32 := constant S_ .f32 0x7F7FFFFF#32
  let main_v13 : FVec F S8192x1024 .f32 := broadcastInDim S8192x1024 ![] bcast_S_S8192x1024 main_cst_4
  let main_v14 : IVec S8192x1024 1 := cmpf .ole main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Pre_pool_finite.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S_ : Shape := ⟨0, ![]⟩

class Facts : Prop where
  bcast_S_S8192x3348 : S_.BroadcastsInDim S8192x3348 (![] : Fin 0 → Fin S8192x3348.rank)
  reducesTo_S8192x3348_S_d0_1 : S8192x3348.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S256 : S_.BroadcastsInDim S256 (![] : Fin 0 → Fin S256.rank)
  reducesTo_S256_S_d0 : S256.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg17 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg17
  let main_cst_6 : FVec F S_ .f32 := constant S_ .f32 0x7F7FFFFF#32
  let main_v17 : FVec F S8192x1024 .f32 := broadcastInDim S8192x1024 ![] bcast_S_S8192x1024 main_cst_6
  let main_v18 : IVec S8192x1024 1 := cmpf .ole main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x3348 .f32) (main_arg1 : FVec F S8192x1024 .f32) (main_arg2 : FVec F S128x4x32x64 .f32) (main_arg3 : FVec F S128x4x64x128 .f32) (main_arg4 : FVec F S1024x1024 .f32) (main_arg5 : FVec F S3x256 .f32) (main_arg6 : FVec F S16x128 .f32) (main_arg7 : FVec F S128 .f32) (main_arg8 : FVec F S64 .f32) (main_arg9 : FVec F S4x64x64 .f32) (main_arg10 : FVec F S256 .f32) (main_arg11 : FVec F S4x768 .f32) (main_arg12 : FVec F S768 .f32) (main_arg13 : FVec F S4 .f32) (main_arg14 : FVec F S4 .f32) (main_arg15 : FVec F S4 .f32) (main_arg16 : FVec F S256 .f32) (main_arg17 : FVec F S8192x1024 .f32) : IVec S_ 1 :=
  let main_v0 : FVec F S8192x3348 .f32 := Host.absf main_arg0
  let main_cst : FVec F S_ .f32 := constant S_ .f32 0x7F7FFFFF#32
  let main_v1 : FVec F S8192x3348 .f32 := broadcastInDim S8192x3348 ![] bcast_S_S8192x3348 main_cst
  let main_v2 : IVec S8192x3348 1 := cmpf .ole main_v0 main_v1
  let main_c : IVec S_ 1 := constantI S_ 1 1#1
  let main_v3 : IVec S_ 1 := (fun x v => Host.reduce IntOp.andi x v reducesTo_S8192x3348_S_d0_1 h_S_) main_v2 main_c
  let main_v4 : FVec F S1024x1024 .f32 := Host.absf main_arg4
  let main_cst_0 : FVec F S_ .f32 := constant S_ .f32 0x7F7FFFFF#32
  let main_v5 : FVec F S1024x1024 .f32 := broadcastInDim S1024x1024 ![] bcast_S_S1024x1024 main_cst_0
  let main_v6 : IVec S1024x1024 1 := cmpf .ole main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S4x64x64 .f32 := Host.absf main_arg9
  let main_cst_2 : FVec F S_ .f32 := constant S_ .f32 0x7F7FFFFF#32
  let main_v9 : FVec F S4x64x64 .f32 := broadcastInDim S4x64x64 ![] bcast_S_S4x64x64 main_cst_2
  let main_v10 : IVec S4x64x64 1 := cmpf .ole main_v8 main_v9
  let main_c_3 : IVec S_ 1 := constantI S_ 1 1#1
  let main_v11 : IVec S_ 1 := (fun x v => Host.reduce IntOp.andi x v reducesTo_S4x64x64_S_d0_1_2 h_S_) main_v10 main_c_3
  let main_v12 : FVec F S256 .f32 := Host.absf main_arg10
  let main_cst_4 : FVec F S_ .f32 := constant S_ .f32 0x7F7FFFFF#32
  let main_v13 : FVec F S256 .f32 := broadcastInDim S256 ![] bcast_S_S256 main_cst_4
  let main_v14 : IVec S256 1 := cmpf .ole main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg17 main_v3 main_v7 main_v11 main_v15
-- ==== Kernel.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S8192x1536 : Shape := ⟨2, ![8192, 1536]⟩
abbrev S8192x1792 : Shape := ⟨2, ![8192, 1792]⟩
abbrev S8192x16 : Shape := ⟨2, ![8192, 16]⟩
abbrev S8192x4 : Shape := ⟨2, ![8192, 4]⟩
abbrev S_ : Shape := ⟨0, ![]⟩
abbrev S8192x108 : Shape := ⟨2, ![8192, 108]⟩
abbrev S8192x3456 : Shape := ⟨2, ![8192, 3456]⟩
abbrev S8192x256 : Shape := ⟨2, ![8192, 256]⟩
abbrev S1x256 : Shape := ⟨2, ![1, 256]⟩
abbrev S2x256 : Shape := ⟨2, ![2, 256]⟩
abbrev S8190x256 : Shape := ⟨2, ![8190, 256]⟩
abbrev S8191x256 : Shape := ⟨2, ![8191, 256]⟩
abbrev S8192x64 : Shape := ⟨2, ![8192, 64]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S8192x768 : Shape := ⟨2, ![8192, 768]⟩
abbrev S1x768 : Shape := ⟨2, ![1, 768]⟩
abbrev S3x768 : Shape := ⟨2, ![3, 768]⟩
abbrev S8189x768 : Shape := ⟨2, ![8189, 768]⟩
abbrev S2x768 : Shape := ⟨2, ![2, 768]⟩
abbrev S8190x768 : Shape := ⟨2, ![8190, 768]⟩
abbrev S8191x768 : Shape := ⟨2, ![8191, 768]⟩
abbrev S256x128 : Shape := ⟨2, ![256, 128]⟩
abbrev S128x4x64x32 : Shape := ⟨4, ![128, 4, 64, 32]⟩
abbrev S128x256x32 : Shape := ⟨3, ![128, 256, 32]⟩
abbrev S1x128x1x256x1x32 : Shape := ⟨6, ![1, 128, 1, 256, 1, 32]⟩
abbrev S1x128x1x256x4x32 : Shape := ⟨6, ![1, 128, 1, 256, 4, 32]⟩
abbrev S128x256x128 : Shape := ⟨3, ![128, 256, 128]⟩
abbrev S128x128x4x64 : Shape := ⟨4, ![128, 128, 4, 64]⟩
abbrev S128x128x256 : Shape := ⟨3, ![128, 128, 256]⟩
abbrev S1x16 : Shape := ⟨2, ![1, 16]⟩
abbrev S16 : Shape := ⟨1, ![16]⟩
abbrev S20 : Shape := ⟨1, ![20]⟩
abbrev S3x512 : Shape := ⟨2, ![3, 512]⟩
abbrev S1x128 : Shape := ⟨2, ![1, 128]⟩
abbrev S1x640 : Shape := ⟨2, ![1, 640]⟩
abbrev S1x64 : Shape := ⟨2, ![1, 64]⟩
abbrev S4x64 : Shape := ⟨2, ![4, 64]⟩
abbrev S1x512 : Shape := ⟨2, ![1, 512]⟩
abbrev S1x20 : Shape := ⟨2, ![1, 20]⟩
abbrev S1x748 : Shape := ⟨2, ![1, 748]⟩
abbrev S16x768 : Shape := ⟨2, ![16, 768]⟩
abbrev S112x128 : Shape := ⟨2, ![112, 128]⟩
abbrev S128x128 : Shape := ⟨2, ![128, 128]⟩
abbrev S256x256 : Shape := ⟨2, ![256, 256]⟩
abbrev S256x64 : Shape := ⟨2, ![256, 64]⟩
abbrev S1x256x1x64 : Shape := ⟨4, ![1, 256, 1, 64]⟩
abbrev S1x256x4x64 : Shape := ⟨4, ![1, 256, 4, 64]⟩
abbrev S1x256x256 : Shape := ⟨3, ![1, 256, 256]⟩
abbrev S4x256x256 : Shape := ⟨3, ![4, 256, 256]⟩
abbrev S8192x3328 : Shape := ⟨2, ![8192, 3328]⟩
abbrev S8192x128 : Shape := ⟨2, ![8192, 128]⟩
abbrev S32x1024 : Shape := ⟨2, ![32, 1024]⟩
abbrev S512x3328 : Shape := ⟨2, ![512, 3328]⟩
abbrev S512x128 : Shape := ⟨2, ![512, 128]⟩
abbrev S512x1024 : Shape := ⟨2, ![512, 1024]⟩
abbrev S8x256x128 : Shape := ⟨3, ![8, 256, 128]⟩
abbrev S8x128x256 : Shape := ⟨3, ![8, 128, 256]⟩
abbrev S512x768 : Shape := ⟨2, ![512, 768]⟩
abbrev S512x256 : Shape := ⟨2, ![512, 256]⟩
abbrev S512x3456 : Shape := ⟨2, ![512, 3456]⟩
abbrev S128x256 : Shape := ⟨2, ![128, 256]⟩
abbrev S16x256 : Shape := ⟨2, ![16, 256]⟩
abbrev S8x768 : Shape := ⟨2, ![8, 768]⟩
abbrev S520x256 : Shape := ⟨2, ![520, 256]⟩
abbrev S16x1 : Shape := ⟨2, ![16, 1]⟩
abbrev S496x256 : Shape := ⟨2, ![496, 256]⟩
abbrev S528x256 : Shape := ⟨2, ![528, 256]⟩
abbrev S1x128x256 : Shape := ⟨3, ![1, 128, 256]⟩
abbrev S512x384 : Shape := ⟨2, ![512, 384]⟩
abbrev S256x384 : Shape := ⟨2, ![256, 384]⟩
abbrev S64x128 : Shape := ⟨2, ![64, 128]⟩
abbrev S64x256 : Shape := ⟨2, ![64, 256]⟩
abbrev S1x256x128 : Shape := ⟨3, ![1, 256, 128]⟩
abbrev S512 : Shape := ⟨1, ![512]⟩
abbrev S512x1 : Shape := ⟨2, ![512, 1]⟩
abbrev S520x768 : Shape := ⟨2, ![520, 768]⟩
abbrev S16x512 : Shape := ⟨2, ![16, 512]⟩

abbrev nBuf : Space → Nat
  | .hbm => 283
  | .vmem => 39
  | .smem => 0
  | _ => 0

abbrev hbmTy0_0 (i : Nat) : BufTy := match i % 128 with
  | 0 => ⟨S8192x3348, .f32⟩
  | 1 => ⟨S8192x1024, .f32⟩
  | 2 => ⟨S128x4x32x64, .f32⟩
  | 3 => ⟨S128x4x64x128, .f32⟩
  | 4 => ⟨S1024x1024, .f32⟩
  | 5 => ⟨S3x256, .f32⟩
  | 6 => ⟨S16x128, .f32⟩
  | 7 => ⟨S128, .f32⟩
  | 8 => ⟨S64, .f32⟩
  | 9 => ⟨S4x64x64, .f32⟩
  | 10 => ⟨S256, .f32⟩
  | 11 => ⟨S4x768, .f32⟩
  | 12 => ⟨S768, .f32⟩
  | 13 => ⟨S4, .f32⟩
  | 14 => ⟨S4, .f32⟩
  | 15 => ⟨S4, .f32⟩
  | 16 => ⟨S256, .f32⟩
  | 17 => ⟨S8192x1024, .f32⟩
  | 18 => ⟨S8192x1536, .f32⟩
  | 19 => ⟨S8192x1792, .f32⟩
  | 20 => ⟨S8192x16, .f32⟩
  | 21 => ⟨S8192x4, .f32⟩
  | 22 => ⟨S_, .f32⟩
  | 23 => ⟨S8192x108, .f32⟩
  | 24 => ⟨S8192x3456, .f32⟩
  | 25 => ⟨S8192x256, .f32⟩
  | 26 => ⟨S8192x256, .f32⟩
  | 27 => ⟨S8192x256, .f32⟩
  | 28 => ⟨S1x256, .f32⟩
  | 29 => ⟨S_, .f32⟩
  | 30 => ⟨S2x256, .f32⟩
  | 31 => ⟨S8190x256, .f32⟩
  | 32 => ⟨S8192x256, .f32⟩
  | 33 => ⟨S8192x256, .f32⟩
  | 34 => ⟨S8192x256, .f32⟩
  | 35 => ⟨S1x256, .f32⟩
  | 36 => ⟨S_, .f32⟩
  | 37 => ⟨S1x256, .f32⟩
  | 38 => ⟨S8191x256, .f32⟩
  | 39 => ⟨S8192x256, .f32⟩
  | 40 => ⟨S8192x256, .f32⟩
  | 41 => ⟨S8192x256, .f32⟩
  | 42 => ⟨S1x256, .f32⟩
  | 43 => ⟨S8192x256, .f32⟩
  | 44 => ⟨S8192x256, .f32⟩
  | 45 => ⟨S8192x256, .f32⟩
  | 46 => ⟨S8192x256, .f32⟩
  | 47 => ⟨S8192x256, .f32⟩
  | 48 => ⟨S_, .f32⟩
  | 49 => ⟨S1x256, .f32⟩
  | 50 => ⟨S8191x256, .f32⟩
  | 51 => ⟨S8192x256, .f32⟩
  | 52 => ⟨S8192x256, .f32⟩
  | 53 => ⟨S8192x64, .f32⟩
  | 54 => ⟨S_, .f32⟩
  | 55 => ⟨S2x256, .f32⟩
  | 56 => ⟨S8190x256, .f32⟩
  | 57 => ⟨S8192x256, .f32⟩
  | 58 => ⟨S8192x256, .f32⟩
  | 59 => ⟨S8192x64, .f32⟩
  | 60 => ⟨S_, .f32⟩
  | 61 => ⟨S4x256, .f32⟩
  | 62 => ⟨S8188x256, .f32⟩
  | 63 => ⟨S8192x256, .f32⟩
  | 64 => ⟨S8192x256, .f32⟩
  | 65 => ⟨S8192x64, .f32⟩
  | 66 => ⟨S_, .f32⟩
  | 67 => ⟨S8x256, .f32⟩
  | 68 => ⟨S8184x256, .f32⟩
  | 69 => ⟨S8192x256, .f32⟩
  | 70 => ⟨S8192x256, .f32⟩
  | 71 => ⟨S8192x64, .f32⟩
  | 72 => ⟨S8192x256, .i32⟩
  | 73 => ⟨S_, .i32⟩
  | 74 => ⟨S8192x256, .i32⟩
  | 75 => ⟨S8192x256, .i32⟩
  | 76 => ⟨S8192x256, .i32⟩
  | 77 => ⟨S_, .i32⟩
  | 78 => ⟨S8192x256, .i32⟩
  | 79 => ⟨S8192x256, .i32⟩
  | 80 => ⟨S_, .i32⟩
  | 81 => ⟨S8192x256, .i32⟩
  | 82 => ⟨S8192x256, .i32⟩
  | 83 => ⟨S8192x256, .i32⟩
  | 84 => ⟨S8192x256, .f32⟩
  | 85 => ⟨S8192x256, .f32⟩
  | 86 => ⟨S8192x256, .f32⟩
  | 87 => ⟨S8192x256, .f32⟩
  | 88 => ⟨S8192x768, .f32⟩
  | 89 => ⟨S1x768, .f32⟩
  | 90 => ⟨S_, .f32⟩
  | 91 => ⟨S3x768, .f32⟩
  | 92 => ⟨S8189x768, .f32⟩
  | 93 => ⟨S8192x768, .f32⟩
  | 94 => ⟨S8192x768, .f32⟩
  | 95 => ⟨S8192x768, .f32⟩
  | 96 => ⟨S1x768, .f32⟩
  | 97 => ⟨S_, .f32⟩
  | 98 => ⟨S2x768, .f32⟩
  | 99 => ⟨S8190x768, .f32⟩
  | 100 => ⟨S8192x768, .f32⟩
  | 101 => ⟨S8192x768, .f32⟩
  | 102 => ⟨S8192x768, .f32⟩
  | 103 => ⟨S1x768, .f32⟩
  | 104 => ⟨S_, .f32⟩
  | 105 => ⟨S1x768, .f32⟩
  | 106 => ⟨S8191x768, .f32⟩
  | 107 => ⟨S8192x768, .f32⟩
  | 108 => ⟨S8192x768, .f32⟩
  | 109 => ⟨S8192x768, .f32⟩
  | 110 => ⟨S1x768, .f32⟩
  | 111 => ⟨S8192x768, .f32⟩
  | 112 => ⟨S8192x768, .f32⟩
  | 113 => ⟨S8192x768, .f32⟩
  | 114 => ⟨S8192x768, .f32⟩
  | 115 => ⟨S8192x768, .f32⟩
  | 116 => ⟨S1x768, .f32⟩
  | 117 => ⟨S8192x768, .f32⟩
  | 118 => ⟨S8192x768, .f32⟩
  | 119 => ⟨S8192x768, .f32⟩
  | 120 => ⟨S8192x768, .f32⟩
  | 121 => ⟨S_, .f32⟩
  | 122 => ⟨S8192x768, .f32⟩
  | 123 => ⟨S8192x768, .f32⟩
  | 124 => ⟨S_, .f32⟩
  | 125 => ⟨S8192x768, .f32⟩
  | 126 => ⟨S8192x768, .f32⟩
  | 127 => ⟨S256x128, .i32⟩
  | _ => ⟨S8192x3348, .f32⟩

abbrev hbmTy0_1 (i : Nat) : BufTy := match i % 128 with
  | 0 => ⟨S_, .i32⟩
  | 1 => ⟨S256x128, .i32⟩
  | 2 => ⟨S256x128, .i32⟩
  | 3 => ⟨S256x128, .i32⟩
  | 4 => ⟨S_, .i32⟩
  | 5 => ⟨S256x128, .i32⟩
  | 6 => ⟨S256x128, .i32⟩
  | 7 => ⟨S256x128, .i1⟩
  | 8 => ⟨S128x4x64x32, .f32⟩
  | 9 => ⟨S128x256x32, .f32⟩
  | 10 => ⟨S1x128x1x256x1x32, .f32⟩
  | 11 => ⟨S1x128x1x256x4x32, .f32⟩
  | 12 => ⟨S128x256x128, .f32⟩
  | 13 => ⟨S128x256x128, .i1⟩
  | 14 => ⟨S_, .f32⟩
  | 15 => ⟨S128x256x128, .f32⟩
  | 16 => ⟨S128x256x128, .f32⟩
  | 17 => ⟨S128x128x4x64, .f32⟩
  | 18 => ⟨S128x128x256, .f32⟩
  | 19 => ⟨S_, .f32⟩
  | 20 => ⟨S3x768, .f32⟩
  | 21 => ⟨S1x16, .f32⟩
  | 22 => ⟨S16, .f32⟩
  | 23 => ⟨S20, .f32⟩
  | 24 => ⟨S3x512, .f32⟩
  | 25 => ⟨S3x768, .f32⟩
  | 26 => ⟨S1x128, .f32⟩
  | 27 => ⟨S1x640, .f32⟩
  | 28 => ⟨S1x768, .f32⟩
  | 29 => ⟨S1x64, .f32⟩
  | 30 => ⟨S4x64, .f32⟩
  | 31 => ⟨S256, .f32⟩
  | 32 => ⟨S1x256, .f32⟩
  | 33 => ⟨S1x512, .f32⟩
  | 34 => ⟨S1x768, .f32⟩
  | 35 => ⟨S1x256, .f32⟩
  | 36 => ⟨S1x512, .f32⟩
  | 37 => ⟨S1x768, .f32⟩
  | 38 => ⟨S1x768, .f32⟩
  | 39 => ⟨S1x20, .f32⟩
  | 40 => ⟨S1x748, .f32⟩
  | 41 => ⟨S1x768, .f32⟩
  | 42 => ⟨S4, .f32⟩
  | 43 => ⟨S4, .f32⟩
  | 44 => ⟨S4x64, .f32⟩
  | 45 => ⟨S256, .f32⟩
  | 46 => ⟨S1x256, .f32⟩
  | 47 => ⟨S1x512, .f32⟩
  | 48 => ⟨S1x768, .f32⟩
  | 49 => ⟨S4x64, .f32⟩
  | 50 => ⟨S256, .f32⟩
  | 51 => ⟨S1x256, .f32⟩
  | 52 => ⟨S1x512, .f32⟩
  | 53 => ⟨S1x768, .f32⟩
  | 54 => ⟨S1x256, .f32⟩
  | 55 => ⟨S1x512, .f32⟩
  | 56 => ⟨S1x768, .f32⟩
  | 57 => ⟨S1x768, .f32⟩
  | 58 => ⟨S16x768, .f32⟩
  | 59 => ⟨S_, .f32⟩
  | 60 => ⟨S112x128, .f32⟩
  | 61 => ⟨S128x128, .f32⟩
  | 62 => ⟨S128x128, .bf16⟩
  | 63 => ⟨S256x256, .i32⟩
  | 64 => ⟨S_, .i32⟩
  | 65 => ⟨S256x256, .i32⟩
  | 66 => ⟨S256x256, .i32⟩
  | 67 => ⟨S256x256, .i32⟩
  | 68 => ⟨S_, .i32⟩
  | 69 => ⟨S256x256, .i32⟩
  | 70 => ⟨S256x256, .i32⟩
  | 71 => ⟨S256x256, .i1⟩
  | 72 => ⟨S256x64, .f32⟩
  | 73 => ⟨S1x256x1x64, .f32⟩
  | 74 => ⟨S1x256x4x64, .f32⟩
  | 75 => ⟨S256x256, .f32⟩
  | 76 => ⟨S_, .f32⟩
  | 77 => ⟨S256x256, .f32⟩
  | 78 => ⟨S256x256, .f32⟩
  | 79 => ⟨S256x256, .bf16⟩
  | 80 => ⟨S256x256, .i32⟩
  | 81 => ⟨S256x256, .i32⟩
  | 82 => ⟨S_, .f32⟩
  | 83 => ⟨S256x256, .f32⟩
  | 84 => ⟨S_, .f32⟩
  | 85 => ⟨S256x256, .f32⟩
  | 86 => ⟨S_, .i32⟩
  | 87 => ⟨S256x256, .i32⟩
  | 88 => ⟨S256x256, .i32⟩
  | 89 => ⟨S_, .i32⟩
  | 90 => ⟨S256x256, .i32⟩
  | 91 => ⟨S256x256, .i32⟩
  | 92 => ⟨S256x256, .i1⟩
  | 93 => ⟨S256x256, .i1⟩
  | 94 => ⟨S256x256, .i1⟩
  | 95 => ⟨S256x256, .f32⟩
  | 96 => ⟨S256x256, .i1⟩
  | 97 => ⟨S256x256, .i1⟩
  | 98 => ⟨S256x256, .f32⟩
  | 99 => ⟨S_, .f32⟩
  | 100 => ⟨S256x256, .f32⟩
  | 101 => ⟨S256x256, .f32⟩
  | 102 => ⟨S256x256, .f32⟩
  | 103 => ⟨S_, .i32⟩
  | 104 => ⟨S256x256, .i32⟩
  | 105 => ⟨S256x256, .i1⟩
  | 106 => ⟨S_, .i32⟩
  | 107 => ⟨S256x256, .i32⟩
  | 108 => ⟨S256x256, .i32⟩
  | 109 => ⟨S_, .i32⟩
  | 110 => ⟨S256x256, .i32⟩
  | 111 => ⟨S256x256, .i32⟩
  | 112 => ⟨S256x256, .i1⟩
  | 113 => ⟨S256x256, .i1⟩
  | 114 => ⟨S256x256, .f32⟩
  | 115 => ⟨S1x256x256, .f32⟩
  | 116 => ⟨S1x256x256, .f32⟩
  | 117 => ⟨S1x256x256, .f32⟩
  | 118 => ⟨S1x256x256, .f32⟩
  | 119 => ⟨S4x256x256, .f32⟩
  | 120 => ⟨S256x128, .i32⟩
  | 121 => ⟨S_, .i32⟩
  | 122 => ⟨S256x128, .i32⟩
  | 123 => ⟨S256x128, .i32⟩
  | 124 => ⟨S256x128, .i32⟩
  | 125 => ⟨S_, .i32⟩
  | 126 => ⟨S256x128, .i32⟩
  | 127 => ⟨S256x128, .i32⟩
  | _ => ⟨S8192x3348, .f32⟩

abbrev hbmTy0_2 (i : Nat) : BufTy := match i % 128 with
  | 0 => ⟨S256x128, .i1⟩
  | 1 => ⟨S256x128, .f32⟩
  | 2 => ⟨S256x128, .f32⟩
  | 3 => ⟨S256x128, .f32⟩
  | 4 => ⟨S4x256x256, .bf16⟩
  | 5 => ⟨S8192x3328, .f32⟩
  | 6 => ⟨S8192x3328, .bf16⟩
  | 7 => ⟨S8192x128, .f32⟩
  | 8 => ⟨S1024x1024, .f32⟩
  | 9 => ⟨S1024x1024, .bf16⟩
  | 10 => ⟨S8192x1024, .bf16⟩
  | 11 => ⟨S8192x768, .f32⟩
  | 12 => ⟨S8192x768, .bf16⟩
  | 13 => ⟨S_, .f32⟩
  | 14 => ⟨S8192x768, .f32⟩
  | 15 => ⟨S8192x768, .f32⟩
  | 16 => ⟨S8192x768, .f32⟩
  | 17 => ⟨S_, .f32⟩
  | 18 => ⟨S8192x768, .f32⟩
  | 19 => ⟨S8192x768, .f32⟩
  | 20 => ⟨S8192x768, .f32⟩
  | 21 => ⟨S8192x768, .bf16⟩
  | 22 => ⟨S8192x256, .bf16⟩
  | 23 => ⟨S8192x256, .bf16⟩
  | 24 => ⟨S8192x3456, .bf16⟩
  | 25 => ⟨S32x1024, .f32⟩
  | 26 => ⟨S1024x1024, .f32⟩
  | _ => ⟨S8192x3348, .f32⟩

abbrev hbmTy (i : Nat) : BufTy := match i / 128 with
  | 0 => hbmTy0_0 i
  | 1 => hbmTy0_1 i
  | 2 => hbmTy0_2 i
  | _ => ⟨S8192x3348, .f32⟩

abbrev bufTy : (tb : Table) → Fin (tcTables nBuf tb) → BufTy
  | .hbm, ⟨i, _⟩ => hbmTy i
  | .local _ .vmem, ⟨0, _⟩ => ⟨S512x3328, .bf16⟩
  | .local _ .vmem, ⟨1, _⟩ => ⟨S512x3328, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S8x256x128, .f32⟩
  | .local _ .vmem, ⟨10, _⟩ => ⟨S8x256x128, .f32⟩
  | .local _ .vmem, ⟨11, _⟩ => ⟨S8x128x256, .f32⟩
  | .local _ .vmem, ⟨12, _⟩ => ⟨S8x128x256, .f32⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S16x768, .f32⟩
  | .local _ .vmem, ⟨22, _⟩ => ⟨S128x128, .bf16⟩
  | .local _ .vmem, ⟨23, _⟩ => ⟨S256x256, .bf16⟩
  | .local _ .vmem, ⟨24, _⟩ => ⟨S4x256x256, .bf16⟩
  | .local _ .vmem, ⟨25, _⟩ => ⟨S256x128, .f32⟩
  | .local _ .vmem, ⟨26, _⟩ => ⟨S512x3456, .bf16⟩
  | .local _ .vmem, ⟨27, _⟩ => ⟨S512x3456, .bf16⟩
  | .local _ .vmem, ⟨28, _⟩ => ⟨S32x1024, .f32⟩
  | .local _ .vmem, ⟨29, _⟩ => ⟨S1024x1024, .f32⟩
  | .local _ .vmem, ⟨30, _⟩ => ⟨S256x128, .f32⟩
  | .local _ .vmem, ⟨31, _⟩ => ⟨S128x256, .f32⟩
  | .local _ .vmem, ⟨32, _⟩ => ⟨S8x256, .f32⟩
  | .local _ .vmem, ⟨33, _⟩ => ⟨S16x256, .f32⟩
  | .local _ .vmem, ⟨34, _⟩ => ⟨S8x768, .f32⟩
  | .local _ .vmem, ⟨35, _⟩ => ⟨S16x768, .f32⟩
  | .local _ .vmem, ⟨36, _⟩ => ⟨S128x128, .f32⟩
  | .local _ .vmem, ⟨37, _⟩ => ⟨S256x256, .f32⟩
  | .local _ .vmem, ⟨38, _⟩ => ⟨S512x1024, .f32⟩
  | _, _ => ⟨S8192x3348, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_c_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_8 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_10 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_11 : Ref sig .tc := ⟨.hbm, 121, rfl⟩
abbrev main_v90 : Ref sig .tc := ⟨.hbm, 122, rfl⟩
abbrev main_v91 : Ref sig .tc := ⟨.hbm, 123, rfl⟩
abbrev main_cst_12 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_13 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_14 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_15 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_16 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_17 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_c_18 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_c_19 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_20 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_21 : Ref sig .tc := ⟨.hbm, 210, rfl⟩
abbrev main_v169 : Ref sig .tc := ⟨.hbm, 211, rfl⟩
abbrev main_cst_22 : Ref sig .tc := ⟨.hbm, 212, rfl⟩
abbrev main_v170 : Ref sig .tc := ⟨.hbm, 213, rfl⟩
abbrev main_c_23 : Ref sig .tc := ⟨.hbm, 214, rfl⟩
abbrev main_v171 : Ref sig .tc := ⟨.hbm, 215, rfl⟩
abbrev main_v172 : Ref sig .tc := ⟨.hbm, 216, rfl⟩
abbrev main_c_24 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_25 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_c_26 : Ref sig .tc := ⟨.hbm, 231, rfl⟩
abbrev main_v185 : Ref sig .tc := ⟨.hbm, 232, rfl⟩
abbrev main_v186 : Ref sig .tc := ⟨.hbm, 233, rfl⟩
abbrev main_c_27 : Ref sig .tc := ⟨.hbm, 234, rfl⟩
abbrev main_v187 : Ref sig .tc := ⟨.hbm, 235, rfl⟩
abbrev main_v188 : Ref sig .tc := ⟨.hbm, 236, rfl⟩
abbrev main_c_28 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_c_29 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_c_30 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_cst_31 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_32 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227_0 : Ref sig .tc := ⟨.hbm, 280, rfl⟩
abbrev main_v227_1 : Ref sig .tc := ⟨.hbm, 281, rfl⟩
abbrev main_v227_2 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_501 : BitVec 32 := 15#32
  let v1734 : BitVec 1 := Scalar.cmpi .eq arg0 c15_i32_501
  let v1735 : BitVec 32 := Scalar.extui v1734
  let c0_i32_502 : BitVec 32 := 0#32
  let v1736 : BitVec 1 := Scalar.cmpi .ne v1735 c0_i32_502
  v1736

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x3456 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ConvPartIdeal.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S8192x256 : Shape := ⟨2, ![8192, 256]⟩
abbrev S256x1024 : Shape := ⟨2, ![256, 1024]⟩
abbrev S1x256 : Shape := ⟨2, ![1, 256]⟩
abbrev S_ : Shape := ⟨0, ![]⟩
abbrev S2x256 : Shape := ⟨2, ![2, 256]⟩
abbrev S8190x256 : Shape := ⟨2, ![8190, 256]⟩
abbrev S8191x256 : Shape := ⟨2, ![8191, 256]⟩
abbrev S1024x256 : Shape := ⟨2, ![1024, 256]⟩
abbrev S8192x2432 : Shape := ⟨2, ![8192, 2432]⟩
abbrev S8192x3456 : Shape := ⟨2, ![8192, 3456]⟩
abbrev S32x1024 : Shape := ⟨2, ![32, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x3348, .f32⟩
  | .hbm, ⟨1, _⟩ => ⟨S8192x1024, .f32⟩
  | .hbm, ⟨2, _⟩ => ⟨S128x4x32x64, .f32⟩
  | .hbm, ⟨3, _⟩ => ⟨S128x4x64x128, .f32⟩
  | .hbm, ⟨4, _⟩ => ⟨S1024x1024, .f32⟩
  | .hbm, ⟨5, _⟩ => ⟨S3x256, .f32⟩
  | .hbm, ⟨6, _⟩ => ⟨S16x128, .f32⟩
  | .hbm, ⟨7, _⟩ => ⟨S128, .f32⟩
  | .hbm, ⟨8, _⟩ => ⟨S64, .f32⟩
  | .hbm, ⟨9, _⟩ => ⟨S4x64x64, .f32⟩
  | .hbm, ⟨10, _⟩ => ⟨S256, .f32⟩
  | .hbm, ⟨11, _⟩ => ⟨S4x768, .f32⟩
  | .hbm, ⟨12, _⟩ => ⟨S768, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S256, .f32⟩
  | .hbm, ⟨17, _⟩ => ⟨S8192x1024, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S256x1024, .f32⟩
  | .hbm, ⟨23, _⟩ => ⟨S8192x256, .f32⟩
  | .hbm, ⟨24, _⟩ => ⟨S1x256, .f32⟩
  | .hbm, ⟨25, _⟩ => ⟨S_, .f32⟩
  | .hbm, ⟨26, _⟩ => ⟨S2x256, .f32⟩
  | .hbm, ⟨27, _⟩ => ⟨S8190x256, .f32⟩
  | .hbm, ⟨28, _⟩ => ⟨S8192x256, .f32⟩
  | .hbm, ⟨29, _⟩ => ⟨S_, .f32⟩
  | .hbm, ⟨30, _⟩ => ⟨S2x256, .f32⟩
  | .hbm, ⟨31, _⟩ => ⟨S8192x256, .f32⟩
  | .hbm, ⟨32, _⟩ => ⟨S8192x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S8191x256, .f32⟩
  | .hbm, ⟨37, _⟩ => ⟨S8192x256, .f32⟩
  | .hbm, ⟨38, _⟩ => ⟨S_, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S1x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x1024, .f32⟩
  | .hbm, ⟨63, _⟩ => ⟨S1024x256, .f32⟩
  | .hbm, ⟨64, _⟩ => ⟨S256x1024, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S_, .f32⟩
  | .hbm, ⟨78, _⟩ => ⟨S256, .f32⟩
  | .hbm, ⟨79, _⟩ => ⟨S1x256, .f32⟩
  | .hbm, ⟨80, _⟩ => ⟨S_, .f32⟩
  | .hbm, ⟨81, _⟩ => ⟨S3x256, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S_, .f32⟩
  | .hbm, ⟨86, _⟩ => ⟨S256, .f32⟩
  | .hbm, ⟨87, _⟩ => ⟨S1x256, .f32⟩
  | .hbm, ⟨88, _⟩ => ⟨S1x256, .f32⟩
  | .hbm, ⟨89, _⟩ => ⟨S8191x256, .f32⟩
  | .hbm, ⟨90, _⟩ => ⟨S_, .f32⟩
  | .hbm, ⟨91, _⟩ => ⟨S8192x256, .f32⟩
  | .hbm, ⟨92, _⟩ => ⟨S8192x256, .f32⟩
  | .hbm, ⟨93, _⟩ => ⟨S_, .f32⟩
  | .hbm, ⟨94, _⟩ => ⟨S3x256, .f32⟩
  | .hbm, ⟨95, _⟩ => ⟨S3x256, .f32⟩
  | .hbm, ⟨96, _⟩ => ⟨S8192x256, .f32⟩
  | .hbm, ⟨97, _⟩ => ⟨S8192x256, .f32⟩
  | .hbm, ⟨98, _⟩ => ⟨S8192x256, .f32⟩
  | .hbm, ⟨99, _⟩ => ⟨S_, .f32⟩
  | .hbm, ⟨100, _⟩ => ⟨S256, .f32⟩
  | .hbm, ⟨101, _⟩ => ⟨S1x256, .f32⟩
  | .hbm, ⟨102, _⟩ => ⟨S2x256, .f32⟩
  | .hbm, ⟨103, _⟩ => ⟨S8190x256, .f32⟩
  | .hbm, ⟨104, _⟩ => ⟨S_, .f32⟩
  | .hbm, ⟨105, _⟩ => ⟨S8192x256, .f32⟩
  | .hbm, ⟨106, _⟩ => ⟨S8192x256, .f32⟩
  | .hbm, ⟨107, _⟩ => ⟨S_, .f32⟩
  | .hbm, ⟨108, _⟩ => ⟨S3x256, .f32⟩
  | .hbm, ⟨109, _⟩ => ⟨S3x256, .f32⟩
  | .hbm, ⟨110, _⟩ => ⟨S8192x256, .f32⟩
  | .hbm, ⟨111, _⟩ => ⟨S8192x256, .f32⟩
  | .hbm, ⟨112, _⟩ => ⟨S8192x1024, .f32⟩
  | .hbm, ⟨113, _⟩ => ⟨S1024x1024, .f32⟩
  | .hbm, ⟨114, _⟩ => ⟨S1024x1024, .f32⟩
  | .hbm, ⟨115, _⟩ => ⟨S8192x1024, .f32⟩
  | .hbm, ⟨116, _⟩ => ⟨S_, .f32⟩
  | .hbm, ⟨117, _⟩ => ⟨S8192x2432, .f32⟩
  | .hbm, ⟨118, _⟩ => ⟨S8192x3456, .f32⟩
  | .hbm, ⟨119, _⟩ => ⟨S8192x3456, .bf16⟩
  | .hbm, ⟨120, _⟩ => ⟨S_, .i32⟩
  | .hbm, ⟨121, _⟩ => ⟨S_, .f32⟩
  | .hbm, ⟨122, _⟩ => ⟨S32x1024, .f32⟩
  | _, _ => ⟨S8192x3348, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v26_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v26_1 : Ref sig .tc := ⟨.hbm, 59, rfl⟩
abbrev main_v26_0 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_v40 : Ref sig .tc := ⟨.hbm, 78, rfl⟩
abbrev main_v41 : Ref sig .tc := ⟨.hbm, 79, rfl⟩
abbrev main_cst_4 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_cst_7 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_8 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_9 : Ref sig .tc := ⟨.hbm, 104, rfl⟩
abbrev main_v61 : Ref sig .tc := ⟨.hbm, 105, rfl⟩
abbrev main_v62 : Ref sig .tc := ⟨.hbm, 106, rfl⟩
abbrev main_cst_10 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_11 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c : Ref sig .tc := ⟨.hbm, 120, rfl⟩
abbrev main_call2_v0 : Ref sig .tc := ⟨.hbm, 121, rfl⟩
abbrev main_v74 : Ref sig .tc := ⟨.hbm, 122, rfl⟩

abbrev nD : Nat := 1
abbrev τ : Topo := Topo.v7x

variable {F : FTy → Type} [FloatOps F]
-- ==== PoolPartIdeal.lean ====
abbrev S8192x3348 : Shape := ⟨2, ![8192, 3348]⟩
abbrev S8192x1024 : Shape := ⟨2, ![8192, 1024]⟩
abbrev S128x4x32x64 : Shape := ⟨4, ![128, 4, 32, 64]⟩
abbrev S128x4x64x128 : Shape := ⟨4, ![128, 4, 64, 128]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S8192x256 : Shape := ⟨2, ![8192, 256]⟩
abbrev S256x1024 : Shape := ⟨2, ![256, 1024]⟩
abbrev S8192x4x64 : Shape := ⟨3, ![8192, 4, 64]⟩
abbrev S4x8192x64 : Shape := ⟨3, ![4, 8192, 64]⟩
abbrev S4x8192x8192 : Shape := ⟨3, ![4, 8192, 8192]⟩
abbrev S_ : Shape := ⟨0, ![]⟩
abbrev S1x256 : Shape := ⟨2, ![1, 256]⟩
abbrev S1024x256 : Shape := ⟨2, ![1024, 256]⟩
abbrev S4x64x8192 : Shape := ⟨3, ![4, 64, 8192]⟩
abbrev S8192x1792 : Shape := ⟨2, ![8192, 1792]⟩
abbrev S8192x1152 : Shape := ⟨2, ![8192, 1152]⟩
abbrev S8192x3456 : Shape := ⟨2, ![8192, 3456]⟩
abbrev S4x4x16x64 : Shape := ⟨4, ![4, 4, 16, 64]⟩
abbrev S16x4x4x64 : Shape := ⟨4, ![16, 4, 4, 64]⟩
abbrev S16x1024 : Shape := ⟨2, ![16, 1024]⟩
abbrev S5x1024 : Shape := ⟨2, ![5, 1024]⟩
abbrev S11x1024 : Shape := ⟨2, ![11, 1024]⟩
abbrev S32x1024 : Shape := ⟨2, ![32, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8192x3348, .f32⟩
  | .hbm, ⟨1, _⟩ => ⟨S8192x1024, .f32⟩
  | .hbm, ⟨2, _⟩ => ⟨S128x4x32x64, .f32⟩
  | .hbm, ⟨3, _⟩ => ⟨S128x4x64x128, .f32⟩
  | .hbm, ⟨4, _⟩ => ⟨S1024x1024, .f32⟩
  | .hbm, ⟨5, _⟩ => ⟨S3x256, .f32⟩
  | .hbm, ⟨6, _⟩ => ⟨S16x128, .f32⟩
  | .hbm, ⟨7, _⟩ => ⟨S128, .f32⟩
  | .hbm, ⟨8, _⟩ => ⟨S64, .f32⟩
  | .hbm, ⟨9, _⟩ => ⟨S4x64x64, .f32⟩
  | .hbm, ⟨10, _⟩ => ⟨S256, .f32⟩
  | .hbm, ⟨11, _⟩ => ⟨S4x768, .f32⟩
  | .hbm, ⟨12, _⟩ => ⟨S768, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S256, .f32⟩
  | .hbm, ⟨17, _⟩ => ⟨S8192x1024, .f32⟩
  | .hbm, ⟨18, _⟩ => ⟨S8192x256, .f32⟩
  | .hbm, ⟨19, _⟩ => ⟨S8192x256, .f32⟩
  | .hbm, ⟨20, _⟩ => ⟨S256x1024, .f32⟩
  | .hbm, ⟨21, _⟩ => ⟨S8192x4x64, .f32⟩
  | .hbm, ⟨22, _⟩ => ⟨S4x8192x64, .f32⟩
  | .hbm, ⟨23, _⟩ => ⟨S4x8192x8192, .i32⟩
  | .hbm, ⟨24, _⟩ => ⟨S_, .i32⟩
  | .hbm, ⟨25, _⟩ => ⟨S4x8192x8192, .i32⟩
  | .hbm, ⟨26, _⟩ => ⟨S4x8192x8192, .i32⟩
  | .hbm, ⟨27, _⟩ => ⟨S4x8192x8192, .i32⟩
  | .hbm, ⟨28, _⟩ => ⟨S4x8192x8192, .i32⟩
  | .hbm, ⟨29, _⟩ => ⟨S4x8192x8192, .i32⟩
  | .hbm, ⟨30, _⟩ => ⟨S_, .i32⟩
  | .hbm, ⟨31, _⟩ => ⟨S4x8192x8192, .i32⟩
  | .hbm, ⟨32, _⟩ => ⟨S4x8192x8192, .i1⟩
  | .hbm, ⟨33, _⟩ => ⟨S4x8192x8192, .i1⟩
  | .hbm, ⟨34, _⟩ => ⟨S4x8192x8192, .i1⟩
  | .hbm, ⟨35, _⟩ => ⟨S4x8192x8192, .f32⟩
  | .hbm, ⟨36, _⟩ => ⟨S4x8192x64, .i32⟩
  | .hbm, ⟨37, _⟩ => ⟨S_, .i32⟩
  | .hbm, ⟨38, _⟩ => ⟨S4x8192x64, .i32⟩
  | .hbm, ⟨39, _⟩ => ⟨S4x8192x64, .i32⟩
  | .hbm, ⟨40, _⟩ => ⟨S4x8192x64, .i32⟩
  | .hbm, ⟨41, _⟩ => ⟨S_, .i32⟩
  | .hbm, ⟨42, _⟩ => ⟨S4x8192x64, .i32⟩
  | .hbm, ⟨43, _⟩ => ⟨S4x8192x64, .i32⟩
  | .hbm, ⟨44, _⟩ => ⟨S4x8192x64, .i32⟩
  | .hbm, ⟨45, _⟩ => ⟨S4x8192x64, .f32⟩
  | .hbm, ⟨46, _⟩ => ⟨S4x8192x64, .f32⟩
  | .hbm, ⟨47, _⟩ => ⟨S4x8192x64, .f32⟩
  | .hbm, ⟨48, _⟩ => ⟨S4x8192x64, .f32⟩
  | .hbm, ⟨49, _⟩ => ⟨S4x8192x64, .f32⟩
  | .hbm, ⟨50, _⟩ => ⟨S8192x4x64, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S_, .f32⟩
  | .hbm, ⟨58, _⟩ => ⟨S8192x256, .f32⟩
  | .hbm, ⟨59, _⟩ => ⟨S8192x256, .f32⟩
  | .hbm, ⟨60, _⟩ => ⟨S_, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x1024, .f32⟩
  | .hbm, ⟨70, _⟩ => ⟨S1024x256, .f32⟩
  | .hbm, ⟨71, _⟩ => ⟨S256x1024, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S8192x256, .f32⟩
  | .hbm, ⟨82, _⟩ => ⟨S_, .f32⟩
  | .hbm, ⟨83, _⟩ => ⟨S256, .f32⟩
  | .hbm, ⟨84, _⟩ => ⟨S1x256, .f32⟩
  | .hbm, ⟨85, _⟩ => ⟨S_, .f32⟩
  | .hbm, ⟨86, _⟩ => ⟨S256, .f32⟩
  | .hbm, ⟨87, _⟩ => ⟨S8192x4x64, .f32⟩
  | .hbm, ⟨88, _⟩ => ⟨S4x8192x64, .f32⟩
  | .hbm, ⟨89, _⟩ => ⟨S4x64x64, .f32⟩
  | .hbm, ⟨90, _⟩ => ⟨S4x64x64, .f32⟩
  | .hbm, ⟨91, _⟩ => ⟨S4x8192x64, .f32⟩
  | .hbm, ⟨92, _⟩ => ⟨S4x8192x64, .f32⟩
  | .hbm, ⟨93, _⟩ => ⟨S4x8192x64, .f32⟩
  | .hbm, ⟨94, _⟩ => ⟨S4x64x8192, .f32⟩
  | .hbm, ⟨95, _⟩ => ⟨S4x8192x64, .f32⟩
  | .hbm, ⟨96, _⟩ => ⟨S4x8192x64, .f32⟩
  | .hbm, ⟨97, _⟩ => ⟨S8192x4x64, .f32⟩
  | .hbm, ⟨98, _⟩ => ⟨S8192x256, .f32⟩
  | .hbm, ⟨99, _⟩ => ⟨S_, .f32⟩
  | .hbm, ⟨100, _⟩ => ⟨S8192x1792, .f32⟩
  | .hbm, ⟨101, _⟩ => ⟨S_, .f32⟩
  | .hbm, ⟨102, _⟩ => ⟨S8192x1152, .f32⟩
  | .hbm, ⟨103, _⟩ => ⟨S8192x3456, .f32⟩
  | .hbm, ⟨104, _⟩ => ⟨S4x4x16x64, .f32⟩
  | .hbm, ⟨105, _⟩ => ⟨S16x4x4x64, .f32⟩
  | .hbm, ⟨106, _⟩ => ⟨S16x1024, .f32⟩
  | .hbm, ⟨107, _⟩ => ⟨S_, .f32⟩
  | .hbm, ⟨108, _⟩ => ⟨S5x1024, .f32⟩
  | .hbm, ⟨109, _⟩ => ⟨S1x256, .f32⟩
  | .hbm, ⟨110, _⟩ => ⟨S_, .i32⟩
  | .hbm, ⟨111, _⟩ => ⟨S_, .f32⟩
  | .hbm, ⟨112, _⟩ => ⟨S11x1024, .f32⟩
  | .hbm, ⟨113, _⟩ => ⟨S32x1024, .f32⟩
  | .hbm, ⟨114, _⟩ => ⟨S8192x3456, .bf16⟩
  | .hbm, ⟨115, _⟩ => ⟨S_, .f32⟩
  | .hbm, ⟨116, _⟩ => ⟨S1024x1024, .f32⟩
  | _, _ => ⟨S8192x3348, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v33_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v33_1 : Ref sig .tc := ⟨.hbm, 66, rfl⟩
abbrev main_v33_0 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst : Ref sig .tc := ⟨.hbm, 82, rfl⟩
abbrev main_v45 : Ref sig .tc := ⟨.hbm, 83, rfl⟩
abbrev main_v46 : Ref sig .tc := ⟨.hbm, 84, rfl⟩
abbrev main_cst_3 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_4 : Ref sig .tc := ⟨.hbm, 99, rfl⟩
abbrev main_v60 : Ref sig .tc := ⟨.hbm, 100, rfl⟩
abbrev main_cst_5 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_6 : Ref sig .tc := ⟨.hbm, 107, rfl⟩
abbrev main_v66 : Ref sig .tc := ⟨.hbm, 108, rfl⟩
abbrev main_v67 : Ref sig .tc := ⟨.hbm, 109, rfl⟩
abbrev main_c_7 : Ref sig .tc := ⟨.hbm, 110, rfl⟩
abbrev main_call2_v0 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_8 : Ref sig .tc := ⟨.hbm, 115, rfl⟩
abbrev main_v71 : Ref sig .tc := ⟨.hbm, 116, rfl⟩

abbrev nD : Nat := 1
abbrev τ : Topo := Topo.v7x

variable {F : FTy → Type} [FloatOps F]
-- ==== DwinKernel.lean ====
abbrev S8192x1024 : Shape := ⟨2, ![8192, 1024]⟩
abbrev S1024 : Shape := ⟨1, ![1024]⟩
abbrev S1024x3348 : Shape := ⟨2, ![1024, 3348]⟩
abbrev S8192x3348 : Shape := ⟨2, ![8192, 3348]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S8192x1792 : Shape := ⟨2, ![8192, 1792]⟩
abbrev S8192x16 : Shape := ⟨2, ![8192, 16]⟩
abbrev S8192x4 : Shape := ⟨2, ![8192, 4]⟩
abbrev S8192x108 : Shape := ⟨2, ![8192, 108]⟩
abbrev S8192x3456 : Shape := ⟨2, ![8192, 3456]⟩
abbrev S1024x3456 : Shape := ⟨2, ![1024, 3456]⟩
abbrev S1024x1024 : Shape := ⟨2, ![1024, 1024]⟩

abbrev nBuf : Space → Nat
  | .hbm => 30
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3348, .f32⟩
  | .hbm, ⟨3, _⟩ => ⟨S8192x3348, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1536, .f32⟩
  | .hbm, ⟨22, _⟩ => ⟨S8192x1792, .f32⟩
  | .hbm, ⟨23, _⟩ => ⟨S8192x16, .f32⟩
  | .hbm, ⟨24, _⟩ => ⟨S8192x4, .f32⟩
  | .hbm, ⟨25, _⟩ => ⟨S_, .f32⟩
  | .hbm, ⟨26, _⟩ => ⟨S8192x108, .f32⟩
  | .hbm, ⟨27, _⟩ => ⟨S8192x3456, .f32⟩
  | .hbm, ⟨28, _⟩ => ⟨S8192x3456, .bf16⟩
  | .hbm, ⟨29, _⟩ => ⟨S1024x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x3456, .bf16⟩
  | .local _ .vmem, ⟨3, _⟩ => ⟨S1024x3456, .bf16⟩
  | .local _ .vmem, ⟨4, _⟩ => ⟨S1024x3456, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwinPartIdeal.lean ====
abbrev S8192x1024 : Shape := ⟨2, ![8192, 1024]⟩
abbrev S1024 : Shape := ⟨1, ![1024]⟩
abbrev S1024x3348 : Shape := ⟨2, ![1024, 3348]⟩
abbrev S8192x3348 : Shape := ⟨2, ![8192, 3348]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3348x1024 : Shape := ⟨2, ![3348, 1024]⟩
abbrev S1024x1536 : Shape := ⟨2, ![1024, 1536]⟩
abbrev S1024x1792 : Shape := ⟨2, ![1024, 1792]⟩
abbrev S1024x16 : Shape := ⟨2, ![1024, 16]⟩
abbrev S1024x4 : Shape := ⟨2, ![1024, 4]⟩
abbrev S1024x108 : Shape := ⟨2, ![1024, 108]⟩
abbrev S1024x3456 : Shape := ⟨2, ![1024, 3456]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3348, .f32⟩
  | .hbm, ⟨3, _⟩ => ⟨S8192x3348, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3348, .f32⟩
  | .hbm, ⟨21, _⟩ => ⟨S3348x1024, .f32⟩
  | .hbm, ⟨22, _⟩ => ⟨S1024x3348, .f32⟩
  | .hbm, ⟨23, _⟩ => ⟨S1024x1536, .f32⟩
  | .hbm, ⟨24, _⟩ => ⟨S1024x1792, .f32⟩
  | .hbm, ⟨25, _⟩ => ⟨S1024x16, .f32⟩
  | .hbm, ⟨26, _⟩ => ⟨S1024x4, .f32⟩
  | .hbm, ⟨27, _⟩ => ⟨S_, .f32⟩
  | .hbm, ⟨28, _⟩ => ⟨S1024x108, .f32⟩
  | .hbm, ⟨29, _⟩ => ⟨S1024x3456, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== RmsprojKernel.lean ====
abbrev S8192x1024 : Shape := ⟨2, ![8192, 1024]⟩
abbrev S1024 : Shape := ⟨1, ![1024]⟩
abbrev S1024x3348 : Shape := ⟨2, ![1024, 3348]⟩
abbrev S1x1024 : Shape := ⟨2, ![1, 1024]⟩
abbrev S1024x1536 : Shape := ⟨2, ![1024, 1536]⟩
abbrev S1024x1792 : Shape := ⟨2, ![1024, 1792]⟩
abbrev S1024x16 : Shape := ⟨2, ![1024, 16]⟩
abbrev S1024x4 : Shape := ⟨2, ![1024, 4]⟩
abbrev S_ : Shape := ⟨0, ![]⟩
abbrev S1024x108 : Shape := ⟨2, ![1024, 108]⟩
abbrev S1024x3456 : Shape := ⟨2, ![1024, 3456]⟩
abbrev S8192x3328 : Shape := ⟨2, ![8192, 3328]⟩
abbrev S8192x128 : Shape := ⟨2, ![8192, 128]⟩
abbrev S512x1024 : Shape := ⟨2, ![512, 1024]⟩
abbrev S512x3328 : Shape := ⟨2, ![512, 3328]⟩
abbrev S512x128 : Shape := ⟨2, ![512, 128]⟩
abbrev S512 : Shape := ⟨1, ![512]⟩
abbrev S512x1 : Shape := ⟨2, ![512, 1]⟩
abbrev S512x3456 : Shape := ⟨2, ![512, 3456]⟩

abbrev nBuf : Space → Nat
  | .hbm => 15
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3348, .f32⟩
  | .hbm, ⟨3, _⟩ => ⟨S1x1024, .f32⟩
  | .hbm, ⟨4, _⟩ => ⟨S1024x1536, .f32⟩
  | .hbm, ⟨5, _⟩ => ⟨S1024x1792, .f32⟩
  | .hbm, ⟨6, _⟩ => ⟨S1024x16, .f32⟩
  | .hbm, ⟨7, _⟩ => ⟨S1024x4, .f32⟩
  | .hbm, ⟨8, _⟩ => ⟨S_, .f32⟩
  | .hbm, ⟨9, _⟩ => ⟨S1024x108, .f32⟩
  | .hbm, ⟨10, _⟩ => ⟨S1024x3456, .f32⟩
  | .hbm, ⟨11, _⟩ => ⟨S1024x3456, .bf16⟩
  | .hbm, ⟨12, _⟩ => ⟨S8192x3328, .bf16⟩
  | .hbm, ⟨13, _⟩ => ⟨S8192x128, .f32⟩
  | .hbm, ⟨14, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x3328, .bf16⟩
  | .local _ .vmem, ⟨5, _⟩ => ⟨S512x3328, .bf16⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3328 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RmsprojPartIdeal.lean ====
abbrev S8192x1024 : Shape := ⟨2, ![8192, 1024]⟩
abbrev S1024 : Shape := ⟨1, ![1024]⟩
abbrev S1024x3348 : Shape := ⟨2, ![1024, 3348]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3348 : Shape := ⟨2, ![8192, 3348]⟩
abbrev S8192x1536 : Shape := ⟨2, ![8192, 1536]⟩
abbrev S8192x1792 : Shape := ⟨2, ![8192, 1792]⟩
abbrev S8192x16 : Shape := ⟨2, ![8192, 16]⟩
abbrev S8192x4 : Shape := ⟨2, ![8192, 4]⟩
abbrev S8192x108 : Shape := ⟨2, ![8192, 108]⟩
abbrev S8192x3456 : Shape := ⟨2, ![8192, 3456]⟩
abbrev S8192x3328 : Shape := ⟨2, ![8192, 3328]⟩
abbrev S8192x128 : Shape := ⟨2, ![8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3348, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3348, .f32⟩
  | .hbm, ⟨20, _⟩ => ⟨S8192x1536, .f32⟩
  | .hbm, ⟨21, _⟩ => ⟨S8192x1792, .f32⟩
  | .hbm, ⟨22, _⟩ => ⟨S8192x16, .f32⟩
  | .hbm, ⟨23, _⟩ => ⟨S8192x4, .f32⟩
  | .hbm, ⟨24, _⟩ => ⟨S_, .f32⟩
  | .hbm, ⟨25, _⟩ => ⟨S8192x108, .f32⟩
  | .hbm, ⟨26, _⟩ => ⟨S8192x3456, .f32⟩
  | .hbm, ⟨27, _⟩ => ⟨S8192x3328, .f32⟩
  | .hbm, ⟨28, _⟩ => ⟨S8192x3328, .bf16⟩
  | .hbm, ⟨29, _⟩ => ⟨S8192x128, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== DxinKernel.lean ====
abbrev S8192x1024 : Shape := ⟨2, ![8192, 1024]⟩
abbrev S1024 : Shape := ⟨1, ![1024]⟩
abbrev S1024x3348 : Shape := ⟨2, ![1024, 3348]⟩
abbrev S8192x3348 : Shape := ⟨2, ![8192, 3348]⟩
abbrev S8192x1536 : Shape := ⟨2, ![8192, 1536]⟩
abbrev S8192x1792 : Shape := ⟨2, ![8192, 1792]⟩
abbrev S8192x16 : Shape := ⟨2, ![8192, 16]⟩
abbrev S8192x4 : Shape := ⟨2, ![8192, 4]⟩
abbrev S_ : Shape := ⟨0, ![]⟩
abbrev S8192x108 : Shape := ⟨2, ![8192, 108]⟩
abbrev S8192x3456 : Shape := ⟨2, ![8192, 3456]⟩
abbrev S1024x1536 : Shape := ⟨2, ![1024, 1536]⟩
abbrev S1024x1792 : Shape := ⟨2, ![1024, 1792]⟩
abbrev S1024x16 : Shape := ⟨2, ![1024, 16]⟩
abbrev S1024x4 : Shape := ⟨2, ![1024, 4]⟩
abbrev S1024x108 : Shape := ⟨2, ![1024, 108]⟩
abbrev S1024x3456 : Shape := ⟨2, ![1024, 3456]⟩
abbrev S3456x1024 : Shape := ⟨2, ![3456, 1024]⟩
abbrev S1x1024 : Shape := ⟨2, ![1, 1024]⟩
abbrev S8x1024 : Shape := ⟨2, ![8, 1024]⟩
abbrev S512x3456 : Shape := ⟨2, ![512, 3456]⟩
abbrev S512x1024 : Shape := ⟨2, ![512, 1024]⟩
abbrev S512 : Shape := ⟨1, ![512]⟩
abbrev S512x1 : Shape := ⟨2, ![512, 1]⟩

abbrev nBuf : Space → Nat
  | .hbm => 25
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3348, .f32⟩
  | .hbm, ⟨3, _⟩ => ⟨S8192x3348, .f32⟩
  | .hbm, ⟨4, _⟩ => ⟨S8192x1024, .f32⟩
  | .hbm, ⟨5, _⟩ => ⟨S8192x1536, .f32⟩
  | .hbm, ⟨6, _⟩ => ⟨S8192x1792, .f32⟩
  | .hbm, ⟨7, _⟩ => ⟨S8192x16, .f32⟩
  | .hbm, ⟨8, _⟩ => ⟨S8192x4, .f32⟩
  | .hbm, ⟨9, _⟩ => ⟨S_, .f32⟩
  | .hbm, ⟨10, _⟩ => ⟨S8192x108, .f32⟩
  | .hbm, ⟨11, _⟩ => ⟨S8192x3456, .f32⟩
  | .hbm, ⟨12, _⟩ => ⟨S8192x3456, .bf16⟩
  | .hbm, ⟨13, _⟩ => ⟨S1024x1536, .f32⟩
  | .hbm, ⟨14, _⟩ => ⟨S1024x1792, .f32⟩
  | .hbm, ⟨15, _⟩ => ⟨S1024x16, .f32⟩
  | .hbm, ⟨16, _⟩ => ⟨S1024x4, .f32⟩
  | .hbm, ⟨17, _⟩ => ⟨S_, .f32⟩
  | .hbm, ⟨18, _⟩ => ⟨S1024x108, .f32⟩
  | .hbm, ⟨19, _⟩ => ⟨S1024x3456, .f32⟩
  | .hbm, ⟨20, _⟩ => ⟨S3456x1024, .f32⟩
  | .hbm, ⟨21, _⟩ => ⟨S3456x1024, .bf16⟩
  | .hbm, ⟨22, _⟩ => ⟨S1x1024, .f32⟩
  | .hbm, ⟨23, _⟩ => ⟨S8192x1024, .f32⟩
  | .hbm, ⟨24, _⟩ => ⟨S8x1024, .f32⟩
  | .local _ .vmem, ⟨0, _⟩ => ⟨S512x3456, .bf16⟩
  | .local _ .vmem, ⟨1, _⟩ => ⟨S512x3456, .bf16⟩
  | .local _ .vmem, ⟨2, _⟩ => ⟨S3456x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxinPartIdeal.lean ====
abbrev S8192x1024 : Shape := ⟨2, ![8192, 1024]⟩
abbrev S1024 : Shape := ⟨1, ![1024]⟩
abbrev S1024x3348 : Shape := ⟨2, ![1024, 3348]⟩
abbrev S8192x3348 : Shape := ⟨2, ![8192, 3348]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3348, .f32⟩
  | .hbm, ⟨3, _⟩ => ⟨S8192x3348, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3348, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S_, .i32⟩
  | .hbm, ⟨55, _⟩ => ⟨S_, .f32⟩
  | .hbm, ⟨56, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== AdamwOutKernel.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamwOutPartIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwInKernel.lean ====
abbrev S2x1024x837 : Shape := ⟨3, ![2, 1024, 837]⟩
abbrev S1x1024x837 : Shape := ⟨3, ![1, 1024, 837]⟩
abbrev S1024x837 : Shape := ⟨2, ![1024, 837]⟩
abbrev S837x2x1024 : Shape := ⟨3, ![837, 2, 1024]⟩
abbrev S93x2x1024 : Shape := ⟨3, ![93, 2, 1024]⟩
abbrev S93x1x1024 : Shape := ⟨3, ![93, 1, 1024]⟩
abbrev S93x1024 : Shape := ⟨2, ![93, 1024]⟩

abbrev nBuf : Space → Nat
  | .hbm => 19
  | .vmem => 16
  | .smem => 0
  | _ => 0

abbrev bufTy : (tb : Table) → Fin (tcTables nBuf tb) → BufTy
  | .hbm, ⟨0, _⟩ => ⟨S2x1024x837, .f32⟩
  | .hbm, ⟨1, _⟩ => ⟨S2x1024x837, .f32⟩
  | .hbm, ⟨2, _⟩ => ⟨S2x1024x837, .f32⟩
  | .hbm, ⟨3, _⟩ => ⟨S2x1024x837, .f32⟩
  | .hbm, ⟨4, _⟩ => ⟨S1x1024x837, .f32⟩
  | .hbm, ⟨5, _⟩ => ⟨S1024x837, .f32⟩
  | .hbm, ⟨6, _⟩ => ⟨S1x1024x837, .f32⟩
  | .hbm, ⟨7, _⟩ => ⟨S1024x837, .f32⟩
  | .hbm, ⟨8, _⟩ => ⟨S1x1024x837, .f32⟩
  | .hbm, ⟨9, _⟩ => ⟨S1x1024x837, .f32⟩
  | .hbm, ⟨10, _⟩ => ⟨S2x1024x837, .f32⟩
  | .hbm, ⟨11, _⟩ => ⟨S837x2x1024, .f32⟩
  | .hbm, ⟨12, _⟩ => ⟨S837x2x1024, .f32⟩
  | .hbm, ⟨13, _⟩ => ⟨S837x2x1024, .f32⟩
  | .hbm, ⟨14, _⟩ => ⟨S837x2x1024, .f32⟩
  | .hbm, ⟨15, _⟩ => ⟨S837x2x1024, .f32⟩
  | .hbm, ⟨16, _⟩ => ⟨S837x2x1024, .f32⟩
  | .hbm, ⟨17, _⟩ => ⟨S837x2x1024, .f32⟩
  | .hbm, ⟨18, _⟩ => ⟨S837x2x1024, .f32⟩
  | .local _ .vmem, ⟨0, _⟩ => ⟨S93x2x1024, .f32⟩
  | .local _ .vmem, ⟨1, _⟩ => ⟨S93x2x1024, .f32⟩
  | .local _ .vmem, ⟨2, _⟩ => ⟨S93x2x1024, .f32⟩
  | .local _ .vmem, ⟨3, _⟩ => ⟨S93x2x1024, .f32⟩
  | .local _ .vmem, ⟨4, _⟩ => ⟨S93x2x1024, .f32⟩
  | .local _ .vmem, ⟨5, _⟩ => ⟨S93x2x1024, .f32⟩
  | .local _ .vmem, ⟨6, _⟩ => ⟨S93x2x1024, .f32⟩
  | .local _ .vmem, ⟨7, _⟩ => ⟨S93x2x1024, .f32⟩
  | .local _ .vmem, ⟨8, _⟩ => ⟨S93x2x1024, .f32⟩
  | .local _ .vmem, ⟨9, _⟩ => ⟨S93x2x1024, .f32⟩
  | .local _ .vmem, ⟨10, _⟩ => ⟨S93x2x1024, .f32⟩
  | .local _ .vmem, ⟨11, _⟩ => ⟨S93x2x1024, .f32⟩
  | .local _ .vmem, ⟨12, _⟩ => ⟨S93x2x1024, .f32⟩
  | .local _ .vmem, ⟨13, _⟩ => ⟨S93x2x1024, .f32⟩
  | .local _ .vmem, ⟨14, _⟩ => ⟨S93x2x1024, .f32⟩
  | .local _ .vmem, ⟨15, _⟩ => ⟨S93x2x1024, .f32⟩
  | _, _ => ⟨S2x1024x837, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S93x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S93x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S93x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S93x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S93x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S93x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S93x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S93x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInPartIdeal.lean ====
abbrev S2x1024x837 : Shape := ⟨3, ![2, 1024, 837]⟩
abbrev S_ : Shape := ⟨0, ![]⟩
abbrev S837x2x1024 : Shape := ⟨3, ![837, 2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x837, .f32⟩
  | .hbm, ⟨1, _⟩ => ⟨S2x1024x837, .f32⟩
  | .hbm, ⟨2, _⟩ => ⟨S2x1024x837, .f32⟩
  | .hbm, ⟨3, _⟩ => ⟨S2x1024x837, .f32⟩
  | .hbm, ⟨4, _⟩ => ⟨S_, .f32⟩
  | .hbm, ⟨5, _⟩ => ⟨S2x1024x837, .f32⟩
  | .hbm, ⟨6, _⟩ => ⟨S2x1024x837, .f32⟩
  | .hbm, ⟨7, _⟩ => ⟨S_, .f32⟩
  | .hbm, ⟨8, _⟩ => ⟨S2x1024x837, .f32⟩
  | .hbm, ⟨9, _⟩ => ⟨S2x1024x837, .f32⟩
  | .hbm, ⟨10, _⟩ => ⟨S2x1024x837, .f32⟩
  | .hbm, ⟨11, _⟩ => ⟨S_, .f32⟩
  | .hbm, ⟨12, _⟩ => ⟨S2x1024x837, .f32⟩
  | .hbm, ⟨13, _⟩ => ⟨S2x1024x837, .f32⟩
  | .hbm, ⟨14, _⟩ => ⟨S2x1024x837, .f32⟩
  | .hbm, ⟨15, _⟩ => ⟨S_, .f32⟩
  | .hbm, ⟨16, _⟩ => ⟨S2x1024x837, .f32⟩
  | .hbm, ⟨17, _⟩ => ⟨S2x1024x837, .f32⟩
  | .hbm, ⟨18, _⟩ => ⟨S2x1024x837, .f32⟩
  | .hbm, ⟨19, _⟩ => ⟨S_, .f32⟩
  | .hbm, ⟨20, _⟩ => ⟨S2x1024x837, .f32⟩
  | .hbm, ⟨21, _⟩ => ⟨S2x1024x837, .f32⟩
  | .hbm, ⟨22, _⟩ => ⟨S_, .f32⟩
  | .hbm, ⟨23, _⟩ => ⟨S2x1024x837, .f32⟩
  | .hbm, ⟨24, _⟩ => ⟨S2x1024x837, .f32⟩
  | .hbm, ⟨25, _⟩ => ⟨S2x1024x837, .f32⟩
  | .hbm, ⟨26, _⟩ => ⟨S_, .f32⟩
  | .hbm, ⟨27, _⟩ => ⟨S2x1024x837, .f32⟩
  | .hbm, ⟨28, _⟩ => ⟨S2x1024x837, .f32⟩
  | .hbm, ⟨29, _⟩ => ⟨S2x1024x837, .f32⟩
  | .hbm, ⟨30, _⟩ => ⟨S_, .f32⟩
  | .hbm, ⟨31, _⟩ => ⟨S2x1024x837, .f32⟩
  | .hbm, ⟨32, _⟩ => ⟨S2x1024x837, .f32⟩
  | .hbm, ⟨33, _⟩ => ⟨S2x1024x837, .f32⟩
  | .hbm, ⟨34, _⟩ => ⟨S_, .f32⟩
  | .hbm, ⟨35, _⟩ => ⟨S2x1024x837, .f32⟩
  | .hbm, ⟨36, _⟩ => ⟨S2x1024x837, .f32⟩
  | .hbm, ⟨37, _⟩ => ⟨S837x2x1024, .f32⟩
  | .hbm, ⟨38, _⟩ => ⟨S837x2x1024, .f32⟩
  | .hbm, ⟨39, _⟩ => ⟨S837x2x1024, .f32⟩
  | .hbm, ⟨40, _⟩ => ⟨S837x2x1024, .f32⟩
  | _, _ => ⟨S2x1024x837, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== MixerKernel.lean ====
abbrev S8192x3348 : Shape := ⟨2, ![8192, 3348]⟩
abbrev S8192x1024 : Shape := ⟨2, ![8192, 1024]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S8192x1536 : Shape := ⟨2, ![8192, 1536]⟩
abbrev S8192x1792 : Shape := ⟨2, ![8192, 1792]⟩
abbrev S8192x16 : Shape := ⟨2, ![8192, 16]⟩
abbrev S8192x4 : Shape := ⟨2, ![8192, 4]⟩
abbrev S_ : Shape := ⟨0, ![]⟩
abbrev S8192x108 : Shape := ⟨2, ![8192, 108]⟩
abbrev S8192x3456 : Shape := ⟨2, ![8192, 3456]⟩
abbrev S3x768 : Shape := ⟨2, ![3, 768]⟩
abbrev S1x16 : Shape := ⟨2, ![1, 16]⟩
abbrev S16 : Shape := ⟨1, ![16]⟩
abbrev S20 : Shape := ⟨1, ![20]⟩
abbrev S3x512 : Shape := ⟨2, ![3, 512]⟩
abbrev S1x128 : Shape := ⟨2, ![1, 128]⟩
abbrev S1x640 : Shape := ⟨2, ![1, 640]⟩
abbrev S1x768 : Shape := ⟨2, ![1, 768]⟩
abbrev S1x64 : Shape := ⟨2, ![1, 64]⟩
abbrev S4x64 : Shape := ⟨2, ![4, 64]⟩
abbrev S1x256 : Shape := ⟨2, ![1, 256]⟩
abbrev S1x512 : Shape := ⟨2, ![1, 512]⟩
abbrev S1x20 : Shape := ⟨2, ![1, 20]⟩
abbrev S1x748 : Shape := ⟨2, ![1, 748]⟩
abbrev S16x768 : Shape := ⟨2, ![16, 768]⟩
abbrev S112x128 : Shape := ⟨2, ![112, 128]⟩
abbrev S128x128 : Shape := ⟨2, ![128, 128]⟩
abbrev S256x256 : Shape := ⟨2, ![256, 256]⟩
abbrev S256x64 : Shape := ⟨2, ![256, 64]⟩
abbrev S1x256x1x64 : Shape := ⟨4, ![1, 256, 1, 64]⟩
abbrev S1x256x4x64 : Shape := ⟨4, ![1, 256, 4, 64]⟩
abbrev S1x256x256 : Shape := ⟨3, ![1, 256, 256]⟩
abbrev S4x256x256 : Shape := ⟨3, ![4, 256, 256]⟩
abbrev S256x128 : Shape := ⟨2, ![256, 128]⟩
abbrev S8192x3328 : Shape := ⟨2, ![8192, 3328]⟩
abbrev S8192x128 : Shape := ⟨2, ![8192, 128]⟩
abbrev S128x256x128 : Shape := ⟨3, ![128, 256, 128]⟩
abbrev S128x128x256 : Shape := ⟨3, ![128, 128, 256]⟩
abbrev S8192x768 : Shape := ⟨2, ![8192, 768]⟩
abbrev S8192x256 : Shape := ⟨2, ![8192, 256]⟩
abbrev S512x3328 : Shape := ⟨2, ![512, 3328]⟩
abbrev S512x128 : Shape := ⟨2, ![512, 128]⟩
abbrev S512x1024 : Shape := ⟨2, ![512, 1024]⟩
abbrev S8x256x128 : Shape := ⟨3, ![8, 256, 128]⟩
abbrev S8x128x256 : Shape := ⟨3, ![8, 128, 256]⟩
abbrev S512x768 : Shape := ⟨2, ![512, 768]⟩
abbrev S512x256 : Shape := ⟨2, ![512, 256]⟩
abbrev S128x256 : Shape := ⟨2, ![128, 256]⟩
abbrev S8x256 : Shape := ⟨2, ![8, 256]⟩
abbrev S16x256 : Shape := ⟨2, ![16, 256]⟩
abbrev S8x768 : Shape := ⟨2, ![8, 768]⟩
abbrev S520x256 : Shape := ⟨2, ![520, 256]⟩
abbrev S528x256 : Shape := ⟨2, ![528, 256]⟩
abbrev S16x1 : Shape := ⟨2, ![16, 1]⟩
abbrev S496x256 : Shape := ⟨2, ![496, 256]⟩
abbrev S520x768 : Shape := ⟨2, ![520, 768]⟩
abbrev S1x128x256 : Shape := ⟨3, ![1, 128, 256]⟩
abbrev S512x384 : Shape := ⟨2, ![512, 384]⟩
abbrev S256x384 : Shape := ⟨2, ![256, 384]⟩
abbrev S64x128 : Shape := ⟨2, ![64, 128]⟩
abbrev S64x256 : Shape := ⟨2, ![64, 256]⟩
abbrev S1x256x128 : Shape := ⟨3, ![1, 256, 128]⟩
abbrev S512 : Shape := ⟨1, ![512]⟩
abbrev S512x1 : Shape := ⟨2, ![512, 1]⟩

abbrev nBuf : Space → Nat
  | .hbm => 148
  | .vmem => 33
  | .smem => 0
  | _ => 0

abbrev hbmTy0_0 (i : Nat) : BufTy := match i % 128 with
  | 0 => ⟨S8192x3348, .f32⟩
  | 1 => ⟨S8192x1024, .f32⟩
  | 2 => ⟨S1024x1024, .f32⟩
  | 3 => ⟨S3x256, .f32⟩
  | 4 => ⟨S16x128, .f32⟩
  | 5 => ⟨S128, .f32⟩
  | 6 => ⟨S64, .f32⟩
  | 7 => ⟨S4x64x64, .f32⟩
  | 8 => ⟨S256, .f32⟩
  | 9 => ⟨S4x768, .f32⟩
  | 10 => ⟨S768, .f32⟩
  | 11 => ⟨S4, .f32⟩
  | 12 => ⟨S4, .f32⟩
  | 13 => ⟨S4, .f32⟩
  | 14 => ⟨S256, .f32⟩
  | 15 => ⟨S8192x1536, .f32⟩
  | 16 => ⟨S8192x1792, .f32⟩
  | 17 => ⟨S8192x16, .f32⟩
  | 18 => ⟨S8192x4, .f32⟩
  | 19 => ⟨S_, .f32⟩
  | 20 => ⟨S8192x108, .f32⟩
  | 21 => ⟨S8192x3456, .f32⟩
  | 22 => ⟨S_, .f32⟩
  | 23 => ⟨S3x768, .f32⟩
  | 24 => ⟨S1x16, .f32⟩
  | 25 => ⟨S16, .f32⟩
  | 26 => ⟨S20, .f32⟩
  | 27 => ⟨S3x512, .f32⟩
  | 28 => ⟨S3x768, .f32⟩
  | 29 => ⟨S1x128, .f32⟩
  | 30 => ⟨S1x640, .f32⟩
  | 31 => ⟨S1x768, .f32⟩
  | 32 => ⟨S1x64, .f32⟩
  | 33 => ⟨S4x64, .f32⟩
  | 34 => ⟨S256, .f32⟩
  | 35 => ⟨S1x256, .f32⟩
  | 36 => ⟨S1x512, .f32⟩
  | 37 => ⟨S1x768, .f32⟩
  | 38 => ⟨S1x256, .f32⟩
  | 39 => ⟨S1x512, .f32⟩
  | 40 => ⟨S1x768, .f32⟩
  | 41 => ⟨S1x768, .f32⟩
  | 42 => ⟨S1x20, .f32⟩
  | 43 => ⟨S1x748, .f32⟩
  | 44 => ⟨S1x768, .f32⟩
  | 45 => ⟨S4, .f32⟩
  | 46 => ⟨S4, .f32⟩
  | 47 => ⟨S4x64, .f32⟩
  | 48 => ⟨S256, .f32⟩
  | 49 => ⟨S1x256, .f32⟩
  | 50 => ⟨S1x512, .f32⟩
  | 51 => ⟨S1x768, .f32⟩
  | 52 => ⟨S4x64, .f32⟩
  | 53 => ⟨S256, .f32⟩
  | 54 => ⟨S1x256, .f32⟩
  | 55 => ⟨S1x512, .f32⟩
  | 56 => ⟨S1x768, .f32⟩
  | 57 => ⟨S1x256, .f32⟩
  | 58 => ⟨S1x512, .f32⟩
  | 59 => ⟨S1x768, .f32⟩
  | 60 => ⟨S1x768, .f32⟩
  | 61 => ⟨S16x768, .f32⟩
  | 62 => ⟨S_, .f32⟩
  | 63 => ⟨S112x128, .f32⟩
  | 64 => ⟨S128x128, .f32⟩
  | 65 => ⟨S128x128, .bf16⟩
  | 66 => ⟨S256x256, .i32⟩
  | 67 => ⟨S_, .i32⟩
  | 68 => ⟨S256x256, .i32⟩
  | 69 => ⟨S256x256, .i32⟩
  | 70 => ⟨S256x256, .i32⟩
  | 71 => ⟨S_, .i32⟩
  | 72 => ⟨S256x256, .i32⟩
  | 73 => ⟨S256x256, .i32⟩
  | 74 => ⟨S256x256, .i1⟩
  | 75 => ⟨S256x64, .f32⟩
  | 76 => ⟨S1x256x1x64, .f32⟩
  | 77 => ⟨S1x256x4x64, .f32⟩
  | 78 => ⟨S256x256, .f32⟩
  | 79 => ⟨S_, .f32⟩
  | 80 => ⟨S256x256, .f32⟩
  | 81 => ⟨S256x256, .f32⟩
  | 82 => ⟨S256x256, .bf16⟩
  | 83 => ⟨S256x256, .i32⟩
  | 84 => ⟨S256x256, .i32⟩
  | 85 => ⟨S_, .f32⟩
  | 86 => ⟨S256x256, .f32⟩
  | 87 => ⟨S_, .f32⟩
  | 88 => ⟨S256x256, .f32⟩
  | 89 => ⟨S_, .i32⟩
  | 90 => ⟨S256x256, .i32⟩
  | 91 => ⟨S256x256, .i32⟩
  | 92 => ⟨S_, .i32⟩
  | 93 => ⟨S256x256, .i32⟩
  | 94 => ⟨S256x256, .i32⟩
  | 95 => ⟨S256x256, .i1⟩
  | 96 => ⟨S256x256, .i1⟩
  | 97 => ⟨S256x256, .i1⟩
  | 98 => ⟨S256x256, .f32⟩
  | 99 => ⟨S256x256, .i1⟩
  | 100 => ⟨S256x256, .i1⟩
  | 101 => ⟨S256x256, .f32⟩
  | 102 => ⟨S_, .f32⟩
  | 103 => ⟨S256x256, .f32⟩
  | 104 => ⟨S256x256, .f32⟩
  | 105 => ⟨S256x256, .f32⟩
  | 106 => ⟨S_, .i32⟩
  | 107 => ⟨S256x256, .i32⟩
  | 108 => ⟨S256x256, .i1⟩
  | 109 => ⟨S_, .i32⟩
  | 110 => ⟨S256x256, .i32⟩
  | 111 => ⟨S256x256, .i32⟩
  | 112 => ⟨S_, .i32⟩
  | 113 => ⟨S256x256, .i32⟩
  | 114 => ⟨S256x256, .i32⟩
  | 115 => ⟨S256x256, .i1⟩
  | 116 => ⟨S256x256, .i1⟩
  | 117 => ⟨S256x256, .f32⟩
  | 118 => ⟨S1x256x256, .f32⟩
  | 119 => ⟨S1x256x256, .f32⟩
  | 120 => ⟨S1x256x256, .f32⟩
  | 121 => ⟨S1x256x256, .f32⟩
  | 122 => ⟨S4x256x256, .f32⟩
  | 123 => ⟨S256x128, .i32⟩
  | 124 => ⟨S_, .i32⟩
  | 125 => ⟨S256x128, .i32⟩
  | 126 => ⟨S256x128, .i32⟩
  | 127 => ⟨S256x128, .i32⟩
  | _ => ⟨S8192x3348, .f32⟩

abbrev hbmTy0_1 (i : Nat) : BufTy := match i % 128 with
  | 0 => ⟨S_, .i32⟩
  | 1 => ⟨S256x128, .i32⟩
  | 2 => ⟨S256x128, .i32⟩
  | 3 => ⟨S256x128, .i1⟩
  | 4 => ⟨S256x128, .f32⟩
  | 5 => ⟨S256x128, .f32⟩
  | 6 => ⟨S256x128, .f32⟩
  | 7 => ⟨S4x256x256, .bf16⟩
  | 8 => ⟨S8192x3328, .f32⟩
  | 9 => ⟨S8192x3328, .bf16⟩
  | 10 => ⟨S8192x128, .f32⟩
  | 11 => ⟨S1024x1024, .bf16⟩
  | 12 => ⟨S8192x1024, .bf16⟩
  | 13 => ⟨S128x256x128, .f32⟩
  | 14 => ⟨S128x128x256, .f32⟩
  | 15 => ⟨S8192x1024, .f32⟩
  | 16 => ⟨S8192x768, .bf16⟩
  | 17 => ⟨S8192x768, .bf16⟩
  | 18 => ⟨S8192x256, .bf16⟩
  | 19 => ⟨S8192x256, .bf16⟩
  | _ => ⟨S8192x3348, .f32⟩

abbrev hbmTy (i : Nat) : BufTy := match i / 128 with
  | 0 => hbmTy0_0 i
  | 1 => hbmTy0_1 i
  | _ => ⟨S8192x3348, .f32⟩

abbrev bufTy : (tb : Table) → Fin (tcTables nBuf tb) → BufTy
  | .hbm, ⟨i, _⟩ => hbmTy i
  | .local _ .vmem, ⟨0, _⟩ => ⟨S512x3328, .bf16⟩
  | .local _ .vmem, ⟨1, _⟩ => ⟨S512x3328, .bf16⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S16x768, .f32⟩
  | .local _ .vmem, ⟨8, _⟩ => ⟨S128x128, .bf16⟩
  | .local _ .vmem, ⟨9, _⟩ => ⟨S256x256, .bf16⟩
  | .local _ .vmem, ⟨10, _⟩ => ⟨S4x256x256, .bf16⟩
  | .local _ .vmem, ⟨11, _⟩ => ⟨S256x128, .f32⟩
  | .local _ .vmem, ⟨12, _⟩ => ⟨S512x1024, .bf16⟩
  | .local _ .vmem, ⟨13, _⟩ => ⟨S512x1024, .bf16⟩
  | .local _ .vmem, ⟨14, _⟩ => ⟨S8x256x128, .f32⟩
  | .local _ .vmem, ⟨15, _⟩ => ⟨S8x256x128, .f32⟩
  | .local _ .vmem, ⟨16, _⟩ => ⟨S8x128x256, .f32⟩
  | .local _ .vmem, ⟨17, _⟩ => ⟨S8x128x256, .f32⟩
  | .local _ .vmem, ⟨18, _⟩ => ⟨S512x1024, .f32⟩
  | .local _ .vmem, ⟨19, _⟩ => ⟨S512x1024, .f32⟩
  | .local _ .vmem, ⟨20, _⟩ => ⟨S512x768, .bf16⟩
  | .local _ .vmem, ⟨21, _⟩ => ⟨S512x768, .bf16⟩
  | .local _ .vmem, ⟨22, _⟩ => ⟨S512x768, .bf16⟩
  | .local _ .vmem, ⟨23, _⟩ => ⟨S512x768, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S256x128, .f32⟩
  | .local _ .vmem, ⟨29, _⟩ => ⟨S128x256, .f32⟩
  | .local _ .vmem, ⟨30, _⟩ => ⟨S8x256, .f32⟩
  | .local _ .vmem, ⟨31, _⟩ => ⟨S16x256, .f32⟩
  | .local _ .vmem, ⟨32, _⟩ => ⟨S8x768, .f32⟩
  | _, _ => ⟨S8192x3348, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_2 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_3 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_4 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_c_6 : Ref sig .tc := ⟨.hbm, 89, rfl⟩
abbrev main_v66 : Ref sig .tc := ⟨.hbm, 90, rfl⟩
abbrev main_v67 : Ref sig .tc := ⟨.hbm, 91, rfl⟩
abbrev main_c_7 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_8 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_9 : Ref sig .tc := ⟨.hbm, 106, rfl⟩
abbrev main_v80 : Ref sig .tc := ⟨.hbm, 107, rfl⟩
abbrev main_v81 : Ref sig .tc := ⟨.hbm, 108, rfl⟩
abbrev main_c_10 : Ref sig .tc := ⟨.hbm, 109, rfl⟩
abbrev main_v82 : Ref sig .tc := ⟨.hbm, 110, rfl⟩
abbrev main_v83 : Ref sig .tc := ⟨.hbm, 111, rfl⟩
abbrev main_c_11 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_12 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_13 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109_0 : Ref sig .tc := ⟨.hbm, 140, rfl⟩
abbrev main_v109_1 : Ref sig .tc := ⟨.hbm, 141, rfl⟩
abbrev main_v109_2 : Ref sig .tc := ⟨.hbm, 142, rfl⟩
abbrev main_v109_3 : Ref sig .tc := ⟨.hbm, 143, rfl⟩
abbrev main_v109_4 : Ref sig .tc := ⟨.hbm, 144, rfl⟩
abbrev main_v109_5 : Ref sig .tc := ⟨.hbm, 145, rfl⟩
abbrev main_v109_6 : Ref sig .tc := ⟨.hbm, 146, rfl⟩
abbrev main_v109_7 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixerPartIdeal.lean ====
abbrev S8192x3348 : Shape := ⟨2, ![8192, 3348]⟩
abbrev S8192x1024 : Shape := ⟨2, ![8192, 1024]⟩
abbrev S1024x1024 : Shape := ⟨2, ![1024, 1024]⟩
abbrev S3x256 : Shape := ⟨2, ![3, 256]⟩
abbrev S16x128 : Shape := ⟨2, ![16, 128]⟩
abbrev S128 : Shape := ⟨1, ![128]⟩
abbrev S64 : Shape := ⟨1, ![64]⟩
abbrev S4x64x64 : Shape := ⟨3, ![4, 64, 64]⟩
abbrev S256 : Shape := ⟨1, ![256]⟩
abbrev S4x768 : Shape := ⟨2, ![4, 768]⟩
abbrev S768 : Shape := ⟨1, ![768]⟩
abbrev S4 : Shape := ⟨1, ![4]⟩
abbrev S8192x256 : Shape := ⟨2, ![8192, 256]⟩
abbrev S1x256 : Shape := ⟨2, ![1, 256]⟩
abbrev S_ : Shape := ⟨0, ![]⟩
abbrev S2x256 : Shape := ⟨2, ![2, 256]⟩
abbrev S8190x256 : Shape := ⟨2, ![8190, 256]⟩
abbrev S8191x256 : Shape := ⟨2, ![8191, 256]⟩
abbrev S8192x768 : Shape := ⟨2, ![8192, 768]⟩
abbrev S1x768 : Shape := ⟨2, ![1, 768]⟩
abbrev S3x768 : Shape := ⟨2, ![3, 768]⟩
abbrev S8189x768 : Shape := ⟨2, ![8189, 768]⟩
abbrev S2x768 : Shape := ⟨2, ![2, 768]⟩
abbrev S8190x768 : Shape := ⟨2, ![8190, 768]⟩
abbrev S8191x768 : Shape := ⟨2, ![8191, 768]⟩
abbrev S128x256x128 : Shape := ⟨3, ![128, 256, 128]⟩
abbrev S128x128x256 : Shape := ⟨3, ![128, 128, 256]⟩

abbrev nBuf : Space → Nat
  | .hbm => 106
  | .vmem => 0
  | .smem => 0
  | _ => 0

abbrev bufTy : (tb : Table) → Fin (tcTables nBuf tb) → BufTy
  | .hbm, ⟨0, _⟩ => ⟨S8192x3348, .f32⟩
  | .hbm, ⟨1, _⟩ => ⟨S8192x1024, .f32⟩
  | .hbm, ⟨2, _⟩ => ⟨S1024x1024, .f32⟩
  | .hbm, ⟨3, _⟩ => ⟨S3x256, .f32⟩
  | .hbm, ⟨4, _⟩ => ⟨S16x128, .f32⟩
  | .hbm, ⟨5, _⟩ => ⟨S128, .f32⟩
  | .hbm, ⟨6, _⟩ => ⟨S64, .f32⟩
  | .hbm, ⟨7, _⟩ => ⟨S4x64x64, .f32⟩
  | .hbm, ⟨8, _⟩ => ⟨S256, .f32⟩
  | .hbm, ⟨9, _⟩ => ⟨S4x768, .f32⟩
  | .hbm, ⟨10, _⟩ => ⟨S768, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S1x256, .f32⟩
  | .hbm, ⟨21, _⟩ => ⟨S_, .f32⟩
  | .hbm, ⟨22, _⟩ => ⟨S2x256, .f32⟩
  | .hbm, ⟨23, _⟩ => ⟨S8190x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S8191x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S_, .i32⟩
  | .hbm, ⟨51, _⟩ => ⟨S_, .f32⟩
  | .hbm, ⟨52, _⟩ => ⟨S8192x1024, .f32⟩
  | .hbm, ⟨53, _⟩ => ⟨S8192x768, .f32⟩
  | .hbm, ⟨54, _⟩ => ⟨S1x768, .f32⟩
  | .hbm, ⟨55, _⟩ => ⟨S_, .f32⟩
  | .hbm, ⟨56, _⟩ => ⟨S3x768, .f32⟩
  | .hbm, ⟨57, _⟩ => ⟨S8189x768, .f32⟩
  | .hbm, ⟨58, _⟩ => ⟨S8192x768, .f32⟩
  | .hbm, ⟨59, _⟩ => ⟨S8192x768, .f32⟩
  | .hbm, ⟨60, _⟩ => ⟨S8192x768, .f32⟩
  | .hbm, ⟨61, _⟩ => ⟨S1x768, .f32⟩
  | .hbm, ⟨62, _⟩ => ⟨S_, .f32⟩
  | .hbm, ⟨63, _⟩ => ⟨S2x768, .f32⟩
  | .hbm, ⟨64, _⟩ => ⟨S8190x768, .f32⟩
  | .hbm, ⟨65, _⟩ => ⟨S8192x768, .f32⟩
  | .hbm, ⟨66, _⟩ => ⟨S8192x768, .f32⟩
  | .hbm, ⟨67, _⟩ => ⟨S8192x768, .f32⟩
  | .hbm, ⟨68, _⟩ => ⟨S1x768, .f32⟩
  | .hbm, ⟨69, _⟩ => ⟨S_, .f32⟩
  | .hbm, ⟨70, _⟩ => ⟨S1x768, .f32⟩
  | .hbm, ⟨71, _⟩ => ⟨S8191x768, .f32⟩
  | .hbm, ⟨72, _⟩ => ⟨S8192x768, .f32⟩
  | .hbm, ⟨73, _⟩ => ⟨S8192x768, .f32⟩
  | .hbm, ⟨74, _⟩ => ⟨S8192x768, .f32⟩
  | .hbm, ⟨75, _⟩ => ⟨S1x768, .f32⟩
  | .hbm, ⟨76, _⟩ => ⟨S8192x768, .f32⟩
  | .hbm, ⟨77, _⟩ => ⟨S8192x768, .f32⟩
  | .hbm, ⟨78, _⟩ => ⟨S8192x768, .f32⟩
  | .hbm, ⟨79, _⟩ => ⟨S8192x768, .f32⟩
  | .hbm, ⟨80, _⟩ => ⟨S8192x768, .f32⟩
  | .hbm, ⟨81, _⟩ => ⟨S1x768, .f32⟩
  | .hbm, ⟨82, _⟩ => ⟨S8192x768, .f32⟩
  | .hbm, ⟨83, _⟩ => ⟨S8192x768, .f32⟩
  | .hbm, ⟨84, _⟩ => ⟨S8192x768, .f32⟩
  | .hbm, ⟨85, _⟩ => ⟨S8192x768, .f32⟩
  | .hbm, ⟨86, _⟩ => ⟨S_, .f32⟩
  | .hbm, ⟨87, _⟩ => ⟨S8192x768, .f32⟩
  | .hbm, ⟨88, _⟩ => ⟨S8192x768, .f32⟩
  | .hbm, ⟨89, _⟩ => ⟨S_, .f32⟩
  | .hbm, ⟨90, _⟩ => ⟨S8192x768, .f32⟩
  | .hbm, ⟨91, _⟩ => ⟨S8192x768, .f32⟩
  | .hbm, ⟨92, _⟩ => ⟨S8192x768, .f32⟩
  | .hbm, ⟨93, _⟩ => ⟨S8192x1024, .bf16⟩
  | .hbm, ⟨94, _⟩ => ⟨S_, .f32⟩
  | .hbm, ⟨95, _⟩ => ⟨S128x256x128, .f32⟩
  | .hbm, ⟨96, _⟩ => ⟨S_, .f32⟩
  | .hbm, ⟨97, _⟩ => ⟨S128x128x256, .f32⟩
  | .hbm, ⟨98, _⟩ => ⟨S_, .f32⟩
  | .hbm, ⟨99, _⟩ => ⟨S8192x1024, .f32⟩
  | .hbm, ⟨100, _⟩ => ⟨S8192x768, .bf16⟩
  | .hbm, ⟨101, _⟩ => ⟨S_, .bf16⟩
  | .hbm, ⟨102, _⟩ => ⟨S8192x768, .bf16⟩
  | .hbm, ⟨103, _⟩ => ⟨S8192x256, .bf16⟩
  | .hbm, ⟨104, _⟩ => ⟨S_, .bf16⟩
  | .hbm, ⟨105, _⟩ => ⟨S8192x256, .bf16⟩
  | _, _ => ⟨S8192x3348, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_call1_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_1 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_cst_4 : Ref sig .tc := ⟨.hbm, 94, rfl⟩
abbrev main_v56 : Ref sig .tc := ⟨.hbm, 95, rfl⟩
abbrev main_cst_5 : Ref sig .tc := ⟨.hbm, 96, rfl⟩
abbrev main_v57 : Ref sig .tc := ⟨.hbm, 97, rfl⟩
abbrev main_cst_6 : Ref sig .tc := ⟨.hbm, 98, rfl⟩
abbrev main_v58 : Ref sig .tc := ⟨.hbm, 99, rfl⟩
abbrev main_v59 : Ref sig .tc := ⟨.hbm, 100, rfl⟩
abbrev main_cst_7 : Ref sig .tc := ⟨.hbm, 101, rfl⟩
abbrev main_v60 : Ref sig .tc := ⟨.hbm, 102, rfl⟩
abbrev main_v61 : Ref sig .tc := ⟨.hbm, 103, rfl⟩
abbrev main_cst_8 : Ref sig .tc := ⟨.hbm, 104, rfl⟩
abbrev main_v62 : Ref sig .tc := ⟨.hbm, 105, rfl⟩

abbrev nD : Nat := 1
abbrev τ : Topo := Topo.v7x

variable {F : FTy → Type} [FloatOps F]
-- ==== Proof.Spec.lean ====
/-
  The formulas both programs are compared with: the short convolution mixer's gradients and the output projection's, over
  arrays read at plain numbers.

  An array is read with `at2`, zero outside it. That makes the shifts of the convolution plain: a token after the last one
  contributes zero.
-/
module

public import Idealize.ShloMosaic.Lib.Pipeline.ValueKit
public import Idealize.ShloMosaic.Lib.Pointwise

@[expose] public section

set_option maxRecDepth 16384

noncomputable section

namespace Cert.Conv

open Idealize.ShloMosaic

/-- The entry of a matrix at two numbers, zero outside the matrix. -/
def at2 {n m : ℕ} (X : (⟨2, ![n, m]⟩ : Shape).Idx → EReal) (r c : ℕ) : EReal :=
  if h : r < n ∧ c < m then X (ix2 ⟨r, h.1⟩ ⟨c, h.2⟩) else 0

theorem at2_of_lt {n m : ℕ} (X : (⟨2, ![n, m]⟩ : Shape).Idx → EReal) {r c : ℕ} (hr : r < n) (hc : c < m) :
    at2 X r c = X (ix2 ⟨r, hr⟩ ⟨c, hc⟩) := dif_pos ⟨hr, hc⟩

theorem at2_of_ge {n m : ℕ} (X : (⟨2, ![n, m]⟩ : Shape).Idx → EReal) {r : ℕ} (c : ℕ) (hr : n ≤ r) : at2 X r c = 0 :=
  dif_neg fun h => absurd h.1 (Nat.not_lt.mpr hr)

theorem at2_ix {n m : ℕ} (X : (⟨2, ![n, m]⟩ : Shape).Idx → EReal) (r : Fin n) (c : Fin m) : X (ix2 r c) = at2 X r.val c.val :=
  (at2_of_lt X r.isLt c.isLt).symm

/-- An array that agrees with a matrix entry by entry reads as the matrix does. -/
theorem at2_eq_of {n m : ℕ} (X : (⟨2, ![n, m]⟩ : Shape).Idx → EReal) (i : (⟨2, ![n, m]⟩ : Shape).Idx) : X i = at2 X (i 0).val (i 1).val := by
  rw [eq_ix2 i]; exact at2_ix X (i 0) (i 1)

/-- The number is a real one. -/
def IsReal (x : EReal) : Prop := ∃ r : ℝ, x = r

namespace IsReal

theorem zero : IsReal 0 := ⟨0, rfl⟩

theorem add {x y : EReal} : IsReal x → IsReal y → IsReal (x + y)
  | ⟨r, hr⟩, ⟨s, hs⟩ => ⟨r + s, by rw [hr, hs, EReal.coe_add]⟩

theorem mul {x y : EReal} : IsReal x → IsReal y → IsReal (x * y)
  | ⟨r, hr⟩, ⟨s, hs⟩ => ⟨r * s, by rw [hr, hs, EReal.coe_mul]⟩

theorem sum {ι : Type} (s : Finset ι) (f : ι → EReal) (h : ∀ i, IsReal (f i)) : IsReal (∑ i ∈ s, f i) := by
  classical
  induction s using Finset.induction_on with
  | empty => exact zero
  | insert i s hi ih => rw [Finset.sum_insert hi]; exact (h i).add ih

theorem at2 {n m : ℕ} {X : (⟨2, ![n, m]⟩ : Shape).Idx → EReal} (h : ∀ i, IsReal (X i)) (r c : ℕ) : IsReal (Conv.at2 X r c) := by
  unfold Conv.at2; split
  · exact h _
  · exact zero

end IsReal

/-- The projection, the output projection's weight, the convolution's weight and the gradient that comes in. -/
structure Args where
  x0 : (⟨2, ![8192, 3348]⟩ : Shape).Idx → EReal
  x1 : (⟨2, ![8192, 1024]⟩ : Shape).Idx → EReal
  x4 : (⟨2, ![1024, 1024]⟩ : Shape).Idx → EReal
  x5 : (⟨2, ![3, 256]⟩ : Shape).Idx → EReal
  x17 : (⟨2, ![8192, 1024]⟩ : Shape).Idx → EReal

namespace Args

variable (a : Args)

/-- The gradient of the concatenated mixers. -/
def dmix (t q : ℕ) : EReal := ∑ k : Fin 1024, at2 a.x17 t k.val * at2 a.x4 q k.val

/-- The sigmoid. -/
def sig (z : EReal) : EReal := Ideal.logistic z

/-- What the convolution is applied to. -/
def u (t c : ℕ) : EReal := at2 a.x0 t (512 + c) * at2 a.x0 t c

/-- The same, so many tokens earlier. -/
def uBack (k t c : ℕ) : EReal := if t < k then 0 else a.u (t - k) c

/-- The convolution. -/
def cv (t c : ℕ) : EReal := at2 a.x5 0 c * a.uBack 2 t c + at2 a.x5 1 c * a.uBack 1 t c + at2 a.x5 2 c * a.u t c

/-- The gate of the mixer. -/
def gate (t c : ℕ) : EReal := at2 a.x0 t (768 + c) * sig (at2 a.x0 t (768 + c))

/-- The gradient of the convolution's result. -/
def dcv (t c : ℕ) : EReal := a.dmix t c * at2 a.x0 t (256 + c) * a.gate t c

/-- The gradient of what the convolution is applied to. -/
def du (t c : ℕ) : EReal := at2 a.x5 2 c * a.dcv t c + at2 a.x5 1 c * a.dcv (t + 1) c + at2 a.x5 0 c * a.dcv (t + 2) c

/-- The four gradients of the projection's first columns. -/
def dh (t c : ℕ) : EReal := a.du t c * at2 a.x0 t (512 + c)
def dbg (t c : ℕ) : EReal := a.dmix t c * a.cv t c * a.gate t c
def dcg (t c : ℕ) : EReal := a.du t c * at2 a.x0 t c
def dz (t c : ℕ) : EReal :=
  a.dmix t c * at2 a.x0 t (256 + c) * a.cv t c *
    (sig (at2 a.x0 t (768 + c)) * (1 + at2 a.x0 t (768 + c) * (1 - sig (at2 a.x0 t (768 + c)))))

/-- The gradient of the projection at the columns of this mixer. -/
def dp (t C : ℕ) : EReal :=
  if C < 256 then a.dh t C else if C < 512 then a.dbg t (C - 256) else if C < 768 then a.dcg t (C - 512) else a.dz t (C - 768)

/-- The gradient of the convolution's weight for the tap so many tokens back. -/
def dconv (k c : ℕ) : EReal := ∑ t ∈ Finset.range 8192, a.u t c * a.dcv (t + k) c

/-- The gradient of the output projection's weight. -/
def dwo (p q : ℕ) : EReal := ∑ t ∈ Finset.range 8192, at2 a.x1 t p * at2 a.x17 t q

theorem dcv_of_ge {t : ℕ} (c : ℕ) (h : 8192 ≤ t) : a.dcv t c = 0 := by
  have hd : a.dmix t c = 0 := Finset.sum_eq_zero fun k _ => by rw [at2_of_ge _ _ h, zero_mul]
  rw [dcv, hd, zero_mul, zero_mul]

/-- Every number the gradients are taken at is finite, and so is the gradient that comes in. -/
structure Finite : Prop where
  x0 : ∀ i, IsReal (a.x0 i)
  x4 : ∀ i, IsReal (a.x4 i)
  x5 : ∀ i, IsReal (a.x5 i)
  x17 : ∀ i, IsReal (a.x17 i)

variable {a}

theorem Finite.dmix (h : a.Finite) (t q : ℕ) : IsReal (a.dmix t q) :=
  IsReal.sum _ _ fun _ => (IsReal.at2 h.x17 _ _).mul (IsReal.at2 h.x4 _ _)

theorem Finite.u (h : a.Finite) (t c : ℕ) : IsReal (a.u t c) := (IsReal.at2 h.x0 _ _).mul (IsReal.at2 h.x0 _ _)

theorem Finite.uBack (h : a.Finite) (k t c : ℕ) : IsReal (a.uBack k t c) := by
  unfold Args.uBack; split
  · exact IsReal.zero
  · exact h.u _ _

theorem Finite.cv (h : a.Finite) (t c : ℕ) : IsReal (a.cv t c) :=
  (((IsReal.at2 h.x5 _ _).mul (h.uBack _ _ _)).add ((IsReal.at2 h.x5 _ _).mul (h.uBack _ _ _))).add ((IsReal.at2 h.x5 _ _).mul (h.u _ _))

theorem isReal_sig {z : EReal} (h : IsReal z) : IsReal (sig z) := by
  obtain ⟨r, rfl⟩ := h
  refine ⟨1 / (1 + Real.exp (-r)), ?_⟩
  have hp : (1 + Real.exp (-r)) ≠ 0 := (add_pos one_pos (Real.exp_pos _)).ne'
  rw [sig, Ideal.logistic, ← EReal.coe_neg]
  show Ideal.div 1 (1 + ((Real.exp (-r) : ℝ) : EReal)) = _
  rw [Ideal.div, if_neg, ← EReal.coe_one, ← EReal.coe_add, ← EReal.coe_inv, ← EReal.coe_mul, one_mul, one_div]
  rw [← EReal.coe_one, ← EReal.coe_add]
  exact_mod_cast hp

end Args

/-- The two ways of writing the gradient through `z · sig z` agree on real numbers. -/
theorem silu_grad {x s z : EReal} (hx : IsReal x) (hs : IsReal s) (hz : IsReal z) :
    x * s + z * x * (s * (1 - s)) = x * (s * (1 + z * (1 - s))) := by
  obtain ⟨x, rfl⟩ := hx; obtain ⟨s, rfl⟩ := hs; obtain ⟨z, rfl⟩ := hz
  norm_cast
  ring

/-- A sum against a sequence moved back is the sum against the other sequence moved forward, where that one is zero past the end. -/
theorem sum_shift (N k : ℕ) (f g : ℕ → EReal) (hf : ∀ t, N ≤ t → f t = 0) :
    ∑ t ∈ Finset.range N, f t * (if t < k then 0 else g (t - k)) = ∑ t ∈ Finset.range N, g t * f (t + k) := by
  have e₁ : ∑ t ∈ Finset.range N, f t * (if t < k then 0 else g (t - k)) =
      ∑ t ∈ Finset.range (k + N), f t * (if t < k then 0 else g (t - k)) := by
    refine Finset.sum_subset (Finset.range_mono (Nat.le_add_left _ _)) fun t _ h => ?_
    rw [hf t (by simpa using h), zero_mul]
  rw [e₁, Finset.sum_range_add, Finset.sum_eq_zero (fun t ht => by rw [if_pos (Finset.mem_range.mp ht), mul_zero]), zero_add]
  refine Finset.sum_congr rfl fun t _ => ?_
  rw [if_neg (by omega), Nat.add_sub_cancel_left, mul_comm, Nat.add_comm k t]

end Cert.Conv

end
-- ==== Proof.Reals.lean ====
/-
  What a bound on every absolute value says: the numbers are real ones.
-/
module

public import Idealize.ShloMosaic.Lib.ReduceAll
public import proofs.«01_k».proof.Proof.Spec

@[expose] public section

set_option maxRecDepth 16384

noncomputable section

namespace Cert.Conv

open Idealize.ShloMosaic Idealize.ShloMosaic.TcCoe Idealize.SL.Sem

/-- A number whose absolute value is at most the largest float is a real one. -/
theorem isReal_of_abs_le {x : EReal} (h : max x (-x) ≤ Ideal.ofBits .f32 0x7F7FFFFF#32) : IsReal x := by
  have ht : Ideal.ofBits .f32 0x7F7FFFFF#32 < ⊤ := by
    simp [Ideal.ofBits, Ideal.ieee, -EReal.coe_mul]
  induction x using EReal.rec with
  | bot => simp at h; exact absurd h ht.ne
  | top => simp at h; exact absurd h ht.ne
  | coe r => exact ⟨r, rfl⟩

/-- The shape of a single number. -/
abbrev S0 : Shape := ⟨0, ![]⟩

instance : Subsingleton S0.Idx := ⟨fun _ _ => funext fun a => a.elim0⟩

/-- One array of a precondition: every entry is at most the largest float. -/
theorem real_of_all {s : Shape} {axes : List (Fin s.rank)} (x : FVec Ideal s .f32) (b : FVec Ideal s .f32)
    (hb : ∀ i, b i = Ideal.ofBits .f32 0x7F7FFFFF#32) (h : s.ReducesTo axes S0) (hu : 0 < S0.numel) (j : S0.Idx)
    (e : Host.reduce IntOp.andi (cmpf (F := Ideal) .ole (Host.absf x) b) (constantI S0 1 1#1) h hu j = 1#1) (i : s.Idx) : IsReal (x i) := by
  have := Host.reduce_andi_all _ _ h hu j e i
  refine isReal_of_abs_le ?_
  rw [← hb i]
  pointwise at this
  rcases hd : decide (FloatOps.absf (x i) ≤ b i)
  · rw [hd] at this; exact absurd this (by decide)
  · exact of_decide_eq_true hd

end Cert.Conv

end
-- ==== Proof.Cols.lean ====
/-
  The order the calls keep the projection's columns in: columns 1536 to 1551 behind column 3343, and zeros at the end.
-/
module

public import proofs.«01_k».proof.Proof.Spec

@[expose] public section

set_option maxRecDepth 16384

noncomputable section

namespace Cert.Cols

open Idealize.ShloMosaic

/-- One row with its columns moved, at a place. -/
def moved (f : ℕ → EReal) (q : ℕ) : EReal :=
  if q < 1536 then f q else if q < 3328 then f (q + 16) else if q < 3344 then f (q - 1792) else if q < 3348 then f q else 0

/-- Five pieces of a matrix side by side are the matrix with its columns moved. -/
theorem ladder {n : ℕ} (x : (⟨2, ![n, 3348]⟩ : Shape).Idx → EReal) (t : Fin n) (q : Fin 3456) :
    (if h : q.val < 1536 then x (ix2 t ⟨q.val, by omega⟩)
      else if h : q.val - 1536 < 1792 then x (ix2 t ⟨1552 + (q.val - 1536), by omega⟩)
      else if h : q.val - 1536 - 1792 < 16 then x (ix2 t ⟨1536 + (q.val - 1536 - 1792), by omega⟩)
      else if h : q.val - 1536 - 1792 - 16 < 4 then x (ix2 t ⟨3344 + (q.val - 1536 - 1792 - 16), by omega⟩) else 0) =
    moved (fun k => Conv.at2 x t.val k) q.val := by
  unfold moved
  by_cases h0 : q.val < 1536
  · rw [dif_pos h0, if_pos h0, Conv.at2_ix x]
  rw [dif_neg h0, if_neg h0]
  by_cases h1 : q.val < 3328
  · rw [dif_pos (by omega), if_pos h1, Conv.at2_ix x]
    exact congrArg _ (show 1552 + (q.val - 1536) = q.val + 16 by omega)
  rw [dif_neg (by omega), if_neg h1]
  by_cases h2 : q.val < 3344
  · rw [dif_pos (by omega), if_pos h2, Conv.at2_ix x]
    exact congrArg _ (show 1536 + (q.val - 1536 - 1792) = q.val - 1792 by omega)
  rw [dif_neg (by omega), if_neg h2]
  by_cases h3 : q.val < 3348
  · rw [dif_pos (by omega), if_pos h3, Conv.at2_ix x]
    exact congrArg _ (show 3344 + (q.val - 1536 - 1792 - 16) = q.val by omega)
  rw [dif_neg (by omega), if_neg h3]

/-- Columns may be moved before or after a product. -/
theorem moved_sum {ι : Type} (s : Finset ι) (a : ι → EReal) (f : ι → ℕ → EReal) (q : ℕ) :
    moved (fun k => ∑ i ∈ s, a i * f i k) q = ∑ i ∈ s, a i * moved (f i) q := by
  unfold moved
  split_ifs <;> simp only [mul_zero, Finset.sum_const_zero]

/-- Two rows that agree on the columns moved are moved alike. -/
theorem moved_congr {f g : ℕ → EReal} (h : ∀ k, k < 3348 → f k = g k) (q : ℕ) : moved f q = moved g q := by
  unfold moved
  split_ifs
  · exact h _ (by omega)
  · exact h _ (by omega)
  · exact h _ (by omega)
  · exact h _ (by omega)
  · rfl

/-- A product with the moved columns is the product with the columns in place. -/
theorem sum_moved (f g : ℕ → EReal) : ∑ q ∈ Finset.range 3456, moved f q * moved g q = ∑ k ∈ Finset.range 3348, f k * g k := by
  have e : ∀ q, moved f q * moved g q = moved (fun k => f k * g k) q := fun q => by
    unfold moved; split_ifs <;> simp only [mul_zero]
  simp only [e]
  rw [show 3456 = 1536 + (1792 + (16 + (4 + 108))) from rfl, show 3348 = 1536 + (16 + (1792 + 4)) from rfl]
  simp only [Finset.sum_range_add, ← Nat.add_assoc]
  have h0 : ∑ q ∈ Finset.range 1536, moved (fun k => f k * g k) q = ∑ q ∈ Finset.range 1536, f q * g q :=
    Finset.sum_congr rfl fun q hq => by have := Finset.mem_range.mp hq; unfold moved; rw [if_pos this]
  have h1 : ∑ q ∈ Finset.range 1792, moved (fun k => f k * g k) (1536 + q) = ∑ q ∈ Finset.range 1792, f (1536 + 16 + q) * g (1536 + 16 + q) :=
    Finset.sum_congr rfl fun q hq => by
      have := Finset.mem_range.mp hq; unfold moved
      rw [if_neg (by omega), if_pos (by omega), show 1536 + q + 16 = 1536 + 16 + q by omega]
  have h2 : ∑ q ∈ Finset.range 16, moved (fun k => f k * g k) (1536 + 1792 + q) = ∑ q ∈ Finset.range 16, f (1536 + q) * g (1536 + q) :=
    Finset.sum_congr rfl fun q hq => by
      have := Finset.mem_range.mp hq; unfold moved
      rw [if_neg (by omega), if_neg (by omega), if_pos (by omega), show 1536 + 1792 + q - 1792 = 1536 + q by omega]
  have h3 : ∑ q ∈ Finset.range 4, moved (fun k => f k * g k) (1536 + 1792 + 16 + q) = ∑ q ∈ Finset.range 4, f (1536 + 16 + 1792 + q) * g (1536 + 16 + 1792 + q) :=
    Finset.sum_congr rfl fun q hq => by
      have := Finset.mem_range.mp hq; unfold moved
      rw [if_neg (by omega), if_neg (by omega), if_neg (by omega), if_pos (by omega), show 1536 + 1792 + 16 + q = 1536 + 16 + 1792 + q by omega]
  have h4 : ∑ q ∈ Finset.range 108, moved (fun k => f k * g k) (1536 + 1792 + 16 + 4 + q) = 0 :=
    Finset.sum_eq_zero fun q hq => by
      unfold moved
      rw [if_neg (by omega), if_neg (by omega), if_neg (by omega), if_neg (by omega)]
  rw [h0, h1, h2, h3, h4, add_zero]
  ac_rfl

end Cert.Cols

end
-- ==== Proof.Dwin.lean ====
/-
  The gradient of the projection's weight: eight tiles of tokens, each adding its product to the weight's gradient.
-/
module

public import proofs.«01_k».proof.Proof.Gen.DwinKernelIdeal.Value
public import proofs.«01_k».proof.Proof.Gen.DwinPartIdeal.Run
public import proofs.«01_k».proof.Proof.Gen.DwinPartIdeal.Read
public import proofs.«01_k».proof.Proof.Cols

@[expose] public section

set_option maxRecDepth 16384

noncomputable section

namespace Cert.Dwin

open Idealize.ShloMosaic Idealize.ShloMosaic.TcCoe Idealize.SL.Sem
open Idealize.ShloMosaic.Pipeline (Dat)
open Cert.DwinKernelIdeal Cert.DwinKernelIdeal.Gen Cert.DwinPartIdeal.Read

variable (m : (ℓ : Loc nD τ sig) → Buf (Elt Ideal) ℓ)

/-- What one tile adds: the old value and the product over the tile's tokens. -/
theorem pay2_at (o : Vec Ideal S1024x3456 .f32) (x : Vec Ideal S1024x1024 .bf16) (g : Vec Ideal S1024x3456 .bf16) (p : Fin 1024) (q : Fin 3456) :
    k0_pay2 (F := Ideal) o x g (ix2 p q) = o (ix2 p q) + ∑ k : Fin 1024, x (ix2 k p) * g (ix2 k q) := by
  pointwise [k0_pay2]

theorem pay1_at (p : Fin 1024) (q : Fin 3456) : k0_pay1 (F := Ideal) (ix2 p q) = 0 := by
  pointwise [k0_pay1]

theorem idx : ∀ t : Fin cfg0.N, win0_0.index t = ![t.val, 0] ∧ win0_1.index t = ![t.val, 0] := (by decide +kernel :
  ∀ t : Fin grid0.N, win0_0.index t = ![t.val, 0] ∧ win0_1.index t = ![t.val, 0])

/-- The normalised tokens and the gradient of the projection, as the call finds them. -/
def hV (c : Dev nD) (t p : ℕ) : EReal := Conv.at2 (n := 8192) (m := 1024) (V m c main_v13) t p
def gV (c : Dev nD) (t q : ℕ) : EReal := Conv.at2 (n := 8192) (m := 3456) (V m c main_v20) t q

theorem iblk_h (c : Dev nD) (t : Fin cfg0.N) (k p : Fin 1024) : iblk m c 0 t (ix2 k p) = hV m c (t.val * 1024 + k.val) p.val := by
  have ht : t.val < 8 := lt_of_lt_of_eq t.isLt N_0
  rw [hV, Conv.at2_of_lt _ (by omega) p.isLt]
  blk_simp [iblk]
  blk_ext [idx t]

theorem iblk_g (c : Dev nD) (t : Fin cfg0.N) (k : Fin 1024) (q : Fin 3456) : iblk m c 1 t (ix2 k q) = gV m c (t.val * 1024 + k.val) q.val := by
  have ht : t.val < 8 := lt_of_lt_of_eq t.isLt N_0
  rw [gV, Conv.at2_of_lt _ (by omega) q.isLt]
  blk_simp [iblk]
  blk_ext [idx t]

/-- The array after the run: the sum over all the tokens. -/
theorem final (c : Dev nD) (p : Fin 1024) (q : Fin 3456) :
    Value.G2 m c (ix2 p q) = ∑ t : Fin 8192, hV m c t.val p.val * gV m c t.val q.val := by
  have hsum := Pipeline.eq_sum_of_reset_step_apply_single_of_mod (fun n h => outsAt0 m c n h) 8 (fun _ => (0 : EReal))
    (fun n i => ∑ k : Fin 1024, hV m c (n * 1024 + k.val) (i 0).val * gV m c (n * 1024 + k.val) (i 1).val)
    (fun t h i => by
      idx_vars i
      rw [outsAt0_A m c t h, Value.out_A_2_eq, pay2_at, pay1_at]
      simp only [iblk_h, iblk_g])
    (fun t h i => by
      idx_vars i
      rw [outsAt0_B m c t h, Value.out_B_2_eq, pay2_at]
      simp only [iblk_h, iblk_g])
    (by decide) (⟨7, by decide⟩ : Fin cfg0.N) (r := 7) rfl (ix2 p q)
  rw [Value.G2, dif_pos (show 8 * Value.run2Of (ix2 p q) + 7 < cfg0.N by
    show 8 * (1 * (p.val / 1024 - 0) + 1 * (q.val / 3456 - 0)) + 7 < 8
    have := p.isLt; have := q.isLt; omega)]
  have e := congrFun (Value.outsAt_2_eq m c ⟨7, by decide⟩) (ix2 p q)
  rw [hsum] at e
  have hr : Value.run2Of (ix2 p q) = 0 := by
    show 1 * (p.val / 1024 - 0) + 1 * (q.val / 3456 - 0) = 0
    have := p.isLt; have := q.isLt; omega
  have hl : Value.loc2Of (ix2 p q) = ix2 p q := by
    funext a; apply Fin.ext
    match a with
    | ⟨0, _⟩ => exact Nat.mod_eq_of_lt p.isLt
    | ⟨1, _⟩ => exact Nat.mod_eq_of_lt q.isLt
  have e2 : ∀ (b j : ℕ) (h : b + j < cfg0.N), b = 0 → j = 7 →
      Pipeline.accAt (Value.reset2 m c) (Value.step2 m c) b j h = Pipeline.accAt (Value.reset2 m c) (Value.step2 m c) (8 * (7 / 8)) (7 % 8) (by decide) := by
    intro b j h hb hj; subst hb; subst hj; rfl
  rw [hl, e2 _ _ _ (by rw [hr]) rfl, ← e, zero_add]
  refine (Fin.sum_univ_eq_sum_range (fun n => ∑ k : Fin 1024, hV m c (n * 1024 + k.val) p.val * gV m c (n * 1024 + k.val) q.val) 8).symm.trans ?_
  exact Fin.sum_univ_univ_mul_add 8 1024 fun t => hV m c t p.val * gV m c t q.val

theorem hV_eq (c : Dev nD) (t : Fin 8192) (p : Fin 1024) :
    hV m c t.val p.val = val_main_v12 (F := Ideal) (m ((c : Thread nD τ).loc main_arg0)) (m ((c : Thread nD τ).loc main_arg1)) (ix2 t p) := by
  rw [hV, Conv.at2_of_lt _ t.isLt p.isLt]
  entry_read
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The gradient of the projection with its columns moved. -/
def movedRows (x : Vec Ideal S8192x3348 .f32) : Vec Ideal S8192x3456 .bf16 :=
  truncf (F := Ideal) .bf16 (concatenate S8192x3456 1 [⟨S8192x1536, extractStridedSlice S8192x1536 ![0, 0] x slices_S8192x3348_S8192x1536_0_0⟩,
    ⟨S8192x1792, extractStridedSlice S8192x1792 ![0, 1552] x slices_S8192x3348_S8192x1792_0_1552⟩,
    ⟨S8192x16, extractStridedSlice S8192x16 ![0, 1536] x slices_S8192x3348_S8192x16_0_1536⟩,
    ⟨S8192x4, extractStridedSlice S8192x4 ![0, 3344] x slices_S8192x3348_S8192x4_0_3344⟩,
    ⟨S8192x108, broadcastInDim S8192x108 ![] bcast_S_S8192x108 (constant (F := Ideal) S_ .f32 0x00000000#32)⟩]
    concatenates_S8192x1536_S8192x1792_S8192x16_S8192x4_S8192x108_S8192x3456_d1 : FVec Ideal S8192x3456 .f32) bitsLt_bf16_f32

theorem V20 (c : Dev nD) : V m c main_v20 = movedRows (m ((c : Thread nD τ).loc main_arg3)) := by
  unfold V hostOps0
  after_results <;> rfl

theorem movedRows_at (x : Vec Ideal S8192x3348 .f32) (t : Fin 8192) (q : Fin 3456) :
    movedRows x (ix2 t q) = Cols.moved (fun k => Conv.at2 (n := 8192) (m := 3348) x t.val k) q.val := by
  rw [← Cols.ladder]
  pointwise [movedRows]

theorem gV_eq (c : Dev nD) (t : Fin 8192) (q : Fin 3456) :
    gV m c t.val q.val = Cols.moved (fun k => Conv.at2 (n := 8192) (m := 3348) (m ((c : Thread nD τ).loc main_arg3)) t.val k) q.val := by
  rw [gV, Conv.at2_of_lt _ t.isLt q.isLt, V20, ← movedRows_at]

/-- The reference's result: the same sum, the columns moved after it. -/
theorem ref_at (x0 : Vec Ideal S8192x1024 .f32) (x1 : Vec Ideal S1024 .f32) (x3 : Vec Ideal S8192x3348 .f32) (p : Fin 1024) (q : Fin 3456) :
    val_main_v21 (F := Ideal) x0 x1 x3 (ix2 p q) =
      ∑ t : Fin 8192, val_main_v12 (F := Ideal) x0 x1 (ix2 t p) * Cols.moved (fun k => Conv.at2 (n := 8192) (m := 3348) x3 t.val k) q.val := by
  have e (k : ℕ) (hk : k < 3348) : Conv.at2 (n := 1024) (m := 3348) (val_main_v15 (F := Ideal) x0 x1 x3) p.val k =
      ∑ t : Fin 8192, val_main_v12 (F := Ideal) x0 x1 (ix2 t p) * Conv.at2 (n := 8192) (m := 3348) x3 t.val k := by
    rw [Conv.at2_of_lt _ p.isLt hk]
    pointwise [val_main_v15, val_main_v14]
    refine Finset.sum_congr rfl fun t _ => ?_
    rw [Conv.at2_of_lt _ t.isLt hk, mul_comm]
  rw [← Cols.moved_sum, ← Cols.moved_congr e, ← Cols.ladder]
  pointwise [val_main_v21, val_main_v20, val_main_v19, val_main_v18, val_main_v17, val_main_v16, val_main_cst_2]

/-- The two results are one array. -/
theorem value (c : Dev nD) : Value.G2 m c = val_main_v21 (F := Ideal) (m ((c : Thread nD τ).loc main_arg0)) (m ((c : Thread nD τ).loc main_arg1))
    (m ((c : Thread nD τ).loc main_arg3)) := by
  funext i
  idx_vars i
  rw [final, ref_at]
  exact Finset.sum_congr (M := EReal) rfl fun t _ => by rw [hV_eq, gV_eq]

end Cert.Dwin

end
-- ==== Proof.Rmsproj.lean ====
/-
  The norm and the projection: every tile of tokens is normalised and multiplied by the weight, whose columns are moved.
-/
module

public import proofs.«01_k».proof.Proof.Gen.RmsprojKernelIdeal.Value
public import proofs.«01_k».proof.Proof.Gen.RmsprojPartIdeal.Run
public import proofs.«01_k».proof.Proof.Gen.RmsprojPartIdeal.Read
public import proofs.«01_k».proof.Proof.Cols

@[expose] public section

set_option maxRecDepth 16384

noncomputable section

namespace Cert.Rmsproj

open Idealize.ShloMosaic Idealize.ShloMosaic.TcCoe Idealize.SL.Sem
open Idealize.ShloMosaic.Pipeline (Dat)
open Cert.RmsprojKernelIdeal Cert.RmsprojKernelIdeal.Gen Cert.RmsprojPartIdeal.Read

variable (m : (ℓ : Loc nD τ sig) → Buf (Elt Ideal) ℓ)

theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![t.val, 0] := (by decide +kernel :
  ∀ t : Fin grid0.N, win0_0.index t = ![t.val, 0] ∧ win0_1.index t = ![0, 0] ∧ win0_2.index t = ![0, 0] ∧
    win0_3.index t = ![t.val, 0] ∧ win0_4.index t = ![t.val, 0] ∧ win0_5.index t = ![t.val, 0])

/-- The tokens, the norm's weight and the projection's. -/
abbrev X (c : Dev nD) : Vec Ideal S8192x1024 .f32 := m ((c : Thread nD τ).loc main_arg0)
abbrev W (c : Dev nD) : Vec Ideal S1024 .f32 := m ((c : Thread nD τ).loc main_arg1)
abbrev P (c : Dev nD) : Vec Ideal S1024x3348 .f32 := m ((c : Thread nD τ).loc main_arg2)

/-- A tile of normalised tokens. -/
theorem norm_at (c : Dev nD) (t : Fin cfg0.N) (r : Fin 512) (p : Fin 1024) (h : t.val * 512 + r.val < 8192) :
    k0_pay1 (F := Ideal) (iblk m c 0 t) (iblk m c 1 t) (ix2 r p) = val_main_v12 (F := Ideal) (X m c) (W m c) (ix2 ⟨t.val * 512 + r.val, h⟩ p) := by
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The projection's weight with its columns moved. -/
def movedRows (x : Vec Ideal S1024x3348 .f32) : Vec Ideal S1024x3456 .bf16 :=
  truncf (F := Ideal) .bf16 (concatenate S1024x3456 1 [⟨S1024x1536, extractStridedSlice S1024x1536 ![0, 0] x slices_S1024x3348_S1024x1536_0_0⟩,
    ⟨S1024x1792, extractStridedSlice S1024x1792 ![0, 1552] x slices_S1024x3348_S1024x1792_0_1552⟩,
    ⟨S1024x16, extractStridedSlice S1024x16 ![0, 1536] x slices_S1024x3348_S1024x16_0_1536⟩,
    ⟨S1024x4, extractStridedSlice S1024x4 ![0, 3344] x slices_S1024x3348_S1024x4_0_3344⟩,
    ⟨S1024x108, broadcastInDim S1024x108 ![] bcast_S_S1024x108 (constant (F := Ideal) S_ .f32 0x00000000#32)⟩]
    concatenates_S1024x1536_S1024x1792_S1024x16_S1024x4_S1024x108_S1024x3456_d1 : FVec Ideal S1024x3456 .f32) bitsLt_bf16_f32

theorem V7 (c : Dev nD) : V m c main_v7 = movedRows (P m c) := by
  unfold V hostOps0
  after_results <;> rfl

theorem movedRows_at (x : Vec Ideal S1024x3348 .f32) (k : Fin 1024) (q : Fin 3456) :
    movedRows x (ix2 k q) = Cols.moved (fun j => Conv.at2 (n := 1024) (m := 3348) x k.val j) q.val := by
  rw [← Cols.ladder]
  pointwise [movedRows]

theorem iblk_w (c : Dev nD) (t : Fin cfg0.N) (k : Fin 1024) (q : Fin 3456) :
    iblk m c 2 t (ix2 k q) = Cols.moved (fun j => Conv.at2 (n := 1024) (m := 3348) (P m c) k.val j) q.val := by
  rw [← movedRows_at, ← V7]
  blk_simp [iblk]
  blk_ext [idx t]

/-- A tile of the projection. -/
theorem proj_at (c : Dev nD) (t : Fin cfg0.N) (r : Fin 512) (q : Fin 3456) (h : t.val * 512 + r.val < 8192) :
    k0_pay2 (F := Ideal) (iblk m c 0 t) (iblk m c 1 t) (iblk m c 2 t) (ix2 r q) =
      val_main_v19 (F := Ideal) (X m c) (W m c) (P m c) (ix2 ⟨t.val * 512 + r.val, h⟩ q) := by
  have e (T : Fin 8192) (k : ℕ) (hk : k < 3348) : Conv.at2 (n := 8192) (m := 3348) (val_main_v13 (F := Ideal) (X m c) (W m c) (P m c)) T.val k =
      ∑ j : Fin 1024, val_main_v12 (F := Ideal) (X m c) (W m c) (ix2 T j) * Conv.at2 (n := 1024) (m := 3348) (P m c) j.val k := by
    rw [Conv.at2_of_lt _ T.isLt hk]
    pointwise [val_main_v13]
    refine Finset.sum_congr rfl fun j _ => ?_
    rw [Conv.at2_of_lt _ j.isLt hk]
  have e2 (T : Fin 8192) : val_main_v19 (F := Ideal) (X m c) (W m c) (P m c) (ix2 T q) =
      Cols.moved (fun k => Conv.at2 (n := 8192) (m := 3348) (val_main_v13 (F := Ideal) (X m c) (W m c) (P m c)) T.val k) q.val := by
    rw [← Cols.ladder]
    pointwise [val_main_v19, val_main_v18, val_main_v17, val_main_v16, val_main_v15, val_main_v14, val_main_cst_2]
  have e1 : k0_pay2 (F := Ideal) (iblk m c 0 t) (iblk m c 1 t) (iblk m c 2 t) (ix2 r q) =
      ∑ j : Fin 1024, k0_pay1 (F := Ideal) (iblk m c 0 t) (iblk m c 1 t) (ix2 r j) * iblk m c 2 t (ix2 j q) := by
    pointwise [k0_pay2]
  rw [e1, e2, Cols.moved_congr (e _), Cols.moved_sum]
  refine Finset.sum_congr rfl fun j _ => ?_
  rw [norm_at m c t r j h, iblk_w]

theorem proj (c : Dev nD) : (dats m 0 c).arrAt 3 cfg0.N = val_main_v21 (F := Ideal) (X m c) (W m c) (P m c) := by
  refine (dats m 0 c).arrAt_eq_of_covers 3 _ (by decide +kernel) fun t hf y => ?_
  have ht : t.val < 16 := lt_of_lt_of_eq t.isLt N_0
  blk_simp
  rw [after0_3]
  frame_out
  obtain ⟨r, q, rfl⟩ : ∃ (r : Fin 512) (q : Fin 3328), y = ix2 r q := ⟨y 0, y 1, eq_ix2 y⟩
  have h : t.val * 512 + r.val < 8192 := by omega
  refine Eq.trans ?_ (congrArg (val_main_v21 (F := Ideal) (X m c) (W m c) (P m c)) (show ix2 ⟨t.val * 512 + r.val, h⟩ q = _ by blk_ext [idx t]))
  pointwise [k0_pay3, val_main_v21, val_main_v20]
  exact proj_at m c t r ⟨q.val, by omega⟩ h

theorem tail (c : Dev nD) : (dats m 0 c).arrAt 4 cfg0.N = val_main_v22 (F := Ideal) (X m c) (W m c) (P m c) := by
  refine (dats m 0 c).arrAt_eq_of_covers 4 _ (by decide +kernel) fun t hf y => ?_
  have ht : t.val < 16 := lt_of_lt_of_eq t.isLt N_0
  blk_simp
  rw [after0_4]
  frame_out
  obtain ⟨r, q, rfl⟩ : ∃ (r : Fin 512) (q : Fin 128), y = ix2 r q := ⟨y 0, y 1, eq_ix2 y⟩
  have h : t.val * 512 + r.val < 8192 := by omega
  refine Eq.trans ?_ (congrArg (val_main_v22 (F := Ideal) (X m c) (W m c) (P m c)) (show ix2 ⟨t.val * 512 + r.val, h⟩ q = _ by blk_ext [idx t]))
  pointwise [k0_pay4, val_main_v22]
  exact proj_at m c t r ⟨3328 + q.val, by omega⟩ h

theorem norm (c : Dev nD) : (dats m 0 c).arrAt 5 cfg0.N = val_main_v23 (F := Ideal) (X m c) (W m c) := by
  refine (dats m 0 c).arrAt_eq_of_covers 5 _ (by decide +kernel) fun t hf y => ?_
  have ht : t.val < 16 := lt_of_lt_of_eq t.isLt N_0
  blk_simp
  rw [after0_5]
  frame_out
  obtain ⟨r, q, rfl⟩ : ∃ (r : Fin 512) (q : Fin 1024), y = ix2 r q := ⟨y 0, y 1, eq_ix2 y⟩
  have h : t.val * 512 + r.val < 8192 := by omega
  refine Eq.trans ?_ (congrArg (val_main_v23 (F := Ideal) (X m c) (W m c)) (show ix2 ⟨t.val * 512 + r.val, h⟩ q = _ by blk_ext [idx t]))
  exact (norm_at m c t r q h).trans (by pointwise [val_main_v23])

end Cert.Rmsproj

end
-- ==== Proof.Stores.lean ====
/-
  Reading a block back after several stores into parts of it.
-/
module

public import Idealize.ShloMosaic.Lib.Pipeline.ValueKit
public import Idealize.ShloMosaic.Lib.WritesUnit

@[expose] public section

noncomputable section

namespace Cert.Stores

open Idealize.ShloMosaic

variable {s : Shape} {e : EltTy} {Val : EltTy → Type} [∀ e, Nonempty (Val e)] {off size : Fin s.rank → ℕ}

/-- Under the newest store its own value is read. -/
theorem canon_in (inb : ∀ a, off a + size a ≤ s.size a) (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : y = (Rect.unit off size inb).emb x := funext fun a => Fin.ext (by
    show (y a).val = off a + 1 * (x a).val
    rw [hx a, Nat.one_mul])
  rw [hy]
  exact View.canon_cons_emb _ _ _ _

/-- Beside the newest store the older ones are read. -/
theorem canon_out (inb : ∀ a, off a + size a ≤ s.size a) (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ _ ?_
  show y ∉ (Rect.unit off size inb).set
  rw [Rect.mem_set_unit]
  intro hall
  have := hall a
  omega

/-- A load after the stores reads what they left at its place. -/
theorem readCov_at {sig : RefSig} {κ : Kind} {sp : Space} (v : View sig κ sp s e) (L : List (View.Piece Val s e)) (inb : ∀ a, off a + size a ≤ s.size a)
    (x : (Rect.unit off size inb).shape.Idx) (y : s.Idx) (hx : ∀ a, (y a).val = off a + (x a).val) :
    v.readCov L (Rect.unit off size inb).toLoadRect x = View.canon L y := by
  rw [View.readCov_eq_canon']
  refine congrArg (View.canon L) (funext fun a => Fin.ext ?_)
  rw [hx a]
  show off a + 1 * (x a).val = _
  rw [Nat.one_mul]

/-- Any index is the one with the same two coordinates. -/
theorem two {P : Fin 2 → Prop} (h0 : P 0) (h1 : P 1) : ∀ a, P a := Fin.forall_fin_two.mpr ⟨h0, h1⟩

end Cert.Stores

end
-- ==== Proof.RmsGrad.lean ====
/-
  The gradient of a row's norm, written the two ways the programs write it.
-/
module

public import proofs.«01_k».proof.Proof.Spec

@[expose] public section

noncomputable section

namespace Cert.RmsGrad

open Idealize.ShloMosaic Cert.Conv

theorem div_coe (x : ℝ) {y : ℝ} (h : y ≠ 0) : Ideal.div (x : EReal) (y : EReal) = ((x / y : ℝ) : EReal) := by
  rw [Ideal.div, if_neg (by exact_mod_cast h), div_eq_mul_inv, EReal.coe_mul, EReal.coe_inv]

theorem rsqrt_coe {a : ℝ} (h : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (by linarith), if_neg (by linarith)]

theorem k1024 : Ideal.ofBits .f32 1149239296#32 = ((1024 : ℝ) : EReal) := by
  simp [Ideal.ofBits, Ideal.ieee, -EReal.coe_mul]; norm_num

theorem kHalf : Ideal.ofBits .f32 3204448256#32 = ((-(1 / 2) : ℝ) : EReal) := by
  simp [Ideal.ofBits, Ideal.ieee, -EReal.coe_mul]; norm_num

theorem kEps : ∃ e : ℝ, 0 < e ∧ Ideal.ofBits .f32 897988541#32 = (e : EReal) := by
  refine ⟨_, ?_, (by simp [Ideal.ofBits, Ideal.ieee, -EReal.coe_mul]; rfl)⟩
  norm_num

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The mean of the squares and a positive constant: a positive real number. -/
theorem mean_pos {n : ℕ} (x : Fin n → EReal) (hx : ∀ i, IsReal (x i)) :
    ∃ a : ℝ, 0 < a ∧ Ideal.div (∑ i, x i * x i) (Ideal.ofBits .f32 1149239296#32) + Ideal.ofBits .f32 897988541#32 = (a : EReal) := by
  choose f hf using hx
  obtain ⟨e, he, hE⟩ := kEps
  refine ⟨(∑ i, f i * f i) / 1024 + e, by have := Finset.sum_nonneg fun i (_ : i ∈ Finset.univ) => mul_self_nonneg (f i); positivity, ?_⟩
  simp only [hf, ← EReal.coe_mul]
  rw [coe_sum, k1024, div_coe _ (by norm_num), hE, EReal.coe_add]

theorem row {n : ℕ} (x g : Fin n → EReal) (hx : ∀ i, IsReal (x i)) (hg : ∀ i, IsReal (g i)) (A : EReal) {a : ℝ} (ha : 0 < a) (hA : A = (a : EReal))
    (q : Fin n) :
    Ideal.rsqrt A * (g q - x q * Ideal.rsqrt A * Ideal.div (∑ i, g i * (x i * Ideal.rsqrt A)) (Ideal.ofBits .f32 1149239296#32)) =
      g q * Ideal.rsqrt A +
          x q * Ideal.div ((∑ i, x i * g i) * (Ideal.ofBits .f32 3204448256#32 * Ideal.div (Ideal.rsqrt A) A)) (Ideal.ofBits .f32 1149239296#32) +
        Ideal.div ((∑ i, x i * g i) * (Ideal.ofBits .f32 3204448256#32 * Ideal.div (Ideal.rsqrt A) A)) (Ideal.ofBits .f32 1149239296#32) * x q := by
  subst hA
  choose f hf using hx
  choose h hh using hg
  have hs : Real.sqrt a ≠ 0 := (Real.sqrt_pos.mpr ha).ne'
  have hq : a = Real.sqrt a * Real.sqrt a := (Real.mul_self_sqrt ha.le).symm
  simp only [hf, hh, rsqrt_coe ha, k1024, kHalf, div_coe _ ha.ne', ← EReal.coe_mul, coe_sum, div_coe _ (show (1024 : ℝ) ≠ 0 by norm_num), ← EReal.coe_sub, ← EReal.coe_add]
  refine congrArg _ ?_
  have e : ∑ i, h i * (f i * (Real.sqrt a)⁻¹) = (∑ i, f i * h i) * (Real.sqrt a)⁻¹ := by
    rw [Finset.sum_mul]
    exact Finset.sum_congr rfl fun i _ => by ring
  rw [e, show (Real.sqrt a)⁻¹ / a = (Real.sqrt a)⁻¹ / (Real.sqrt a * Real.sqrt a) by rw [← hq]]
  generalize ∑ i, f i * h i = S
  field_simp
  ring

end Cert.RmsGrad

end
-- ==== Proof.Dxin.lean ====
/-
  The gradient of the tokens before the projection: every tile of tokens on its own, and the gradient of the norm's weight
  added up over the tiles in the first of eight rows.
-/
module

public import proofs.«01_k».proof.Proof.Gen.DxinKernelIdeal.Value
public import proofs.«01_k».proof.Proof.Gen.DxinPartIdeal.Run
public import proofs.«01_k».proof.Proof.Gen.DxinPartIdeal.Read
public import proofs.«01_k».proof.Proof.Cols
public import proofs.«01_k».proof.Proof.Stores
public import proofs.«01_k».proof.Proof.RmsGrad

@[expose] public section

set_option maxRecDepth 16384

noncomputable section

namespace Cert.Dxin

open Idealize.ShloMosaic Idealize.ShloMosaic.TcCoe Idealize.SL.Sem
open Idealize.ShloMosaic.Pipeline (Dat)
open Cert.Conv (IsReal)
open Cert.DxinKernelIdeal Cert.DxinKernelIdeal.Gen Cert.DxinPartIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_6.index t = ![0, 0] := (by decide +kernel :
  ∀ t : Fin grid0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_6.index t = ![0, 0])

/-- The tokens, the norm's weight, the projection's, the projection's gradient and what the gradient is added to. -/
abbrev X (c : Dev nD) : Vec Ideal S8192x1024 .f32 := m ((c : Thread nD τ).loc main_arg0)
abbrev W (c : Dev nD) : Vec Ideal S1024 .f32 := m ((c : Thread nD τ).loc main_arg1)
abbrev P (c : Dev nD) : Vec Ideal S1024x3348 .f32 := m ((c : Thread nD τ).loc main_arg2)
abbrev G (c : Dev nD) : Vec Ideal S8192x3348 .f32 := m ((c : Thread nD τ).loc main_arg3)
abbrev D (c : Dev nD) : Vec Ideal S8192x1024 .f32 := m ((c : Thread nD τ).loc main_arg4)

/-- Rows with their columns moved. -/
def movedG (x : Vec Ideal S8192x3348 .f32) : Vec Ideal S8192x3456 .bf16 :=
  truncf (F := Ideal) .bf16 (concatenate S8192x3456 1 [⟨S8192x1536, extractStridedSlice S8192x1536 ![0, 0] x slices_S8192x3348_S8192x1536_0_0⟩,
    ⟨S8192x1792, extractStridedSlice S8192x1792 ![0, 1552] x slices_S8192x3348_S8192x1792_0_1552⟩,
    ⟨S8192x16, extractStridedSlice S8192x16 ![0, 1536] x slices_S8192x3348_S8192x16_0_1536⟩,
    ⟨S8192x4, extractStridedSlice S8192x4 ![0, 3344] x slices_S8192x3348_S8192x4_0_3344⟩,
    ⟨S8192x108, broadcastInDim S8192x108 ![] bcast_S_S8192x108 (constant (F := Ideal) S_ .f32 0x00000000#32)⟩]
    concatenates_S8192x1536_S8192x1792_S8192x16_S8192x4_S8192x108_S8192x3456_d1 : FVec Ideal S8192x3456 .f32) bitsLt_bf16_f32

theorem V6 (c : Dev nD) : V m c main_v6 = movedG (G m c) := by
  unfold V hostOps0
  after_results <;> rfl

theorem movedG_at (x : Vec Ideal S8192x3348 .f32) (t : Fin 8192) (q : Fin 3456) :
    movedG x (ix2 t q) = Cols.moved (fun k => Conv.at2 (n := 8192) (m := 3348) x t.val k) q.val := by
  rw [← Cols.ladder]
  pointwise [movedG]

/-- The same of the weight, its rows made columns. -/
def movedP (x : Vec Ideal S1024x3348 .f32) : Vec Ideal S1024x3456 .f32 :=
  concatenate S1024x3456 1 [⟨S1024x1536, extractStridedSlice S1024x1536 ![0, 0] x slices_S1024x3348_S1024x1536_0_0⟩,
    ⟨S1024x1792, extractStridedSlice S1024x1792 ![0, 1552] x slices_S1024x3348_S1024x1792_0_1552⟩,
    ⟨S1024x16, extractStridedSlice S1024x16 ![0, 1536] x slices_S1024x3348_S1024x16_0_1536⟩,
    ⟨S1024x4, extractStridedSlice S1024x4 ![0, 3344] x slices_S1024x3348_S1024x4_0_3344⟩,
    ⟨S1024x108, broadcastInDim S1024x108 ![] bcast_S_S1024x108 (constant (F := Ideal) S_ .f32 0x00000000#32)⟩]
    concatenates_S1024x1536_S1024x1792_S1024x16_S1024x4_S1024x108_S1024x3456_d1

def turned (x : Vec Ideal S1024x3456 .f32) : Vec Ideal S3456x1024 .bf16 :=
  truncf (F := Ideal) .bf16 (transpose S3456x1024 [1, 0] x transposes_S1024x3456_S3456x1024_1_0 : FVec Ideal S3456x1024 .f32) bitsLt_bf16_f32

theorem V14 (c : Dev nD) : V m c main_v14 = turned (movedP (P m c)) := by
  unfold V hostOps0
  after_results <;> rfl

theorem V15 (c : Dev nD) : V m c main_v15 = shapeCast _ (W m c) shapeCasts_S1024_S1x1024 := by
  unfold V hostOps0
  after_results <;> rfl

theorem movedP_at (x : Vec Ideal S1024x3348 .f32) (p : Fin 1024) (q : Fin 3456) :
    movedP x (ix2 p q) = Cols.moved (fun k => Conv.at2 (n := 1024) (m := 3348) x p.val k) q.val := by
  rw [← Cols.ladder]
  pointwise [movedP]

theorem turned_at (x : Vec Ideal S1024x3456 .f32) (q : Fin 3456) (p : Fin 1024) : turned x (ix2 q p) = x (ix2 p q) := by
  pointwise [turned]

theorem iblk_g (c : Dev nD) (t : Fin cfg0.N) (r : Fin 512) (q : Fin 3456) (h : t.val * 512 + r.val < 8192) :
    iblk m c 0 t (ix2 r q) = Cols.moved (fun k => Conv.at2 (n := 8192) (m := 3348) (G m c) (t.val * 512 + r.val) k) q.val := by
  have e := movedG_at (G m c) ⟨t.val * 512 + r.val, h⟩ q
  rw [← V6] at e
  refine Eq.trans ?_ e
  blk_simp [iblk]
  blk_ext [idx t]

theorem iblk_p (c : Dev nD) (t : Fin cfg0.N) (q : Fin 3456) (p : Fin 1024) :
    iblk m c 1 t (ix2 q p) = Cols.moved (fun k => Conv.at2 (n := 1024) (m := 3348) (P m c) p.val k) q.val := by
  rw [← movedP_at, ← turned_at (movedP (P m c)), ← V14]
  blk_simp [iblk]
  blk_ext [idx t]

theorem iblk_w (c : Dev nD) (t : Fin cfg0.N) (q : Fin 1024) : iblk m c 4 t (ix2 (0 : Fin 1) q) = W m c (ix1 q) := by
  have e : (shapeCast S1x1024 (W m c) shapeCasts_S1024_S1x1024) (ix2 (0 : Fin 1) q) = W m c (ix1 q) := by pointwise []
  rw [← V15] at e
  refine Eq.trans ?_ e
  blk_simp [iblk]
  blk_ext [idx t]

theorem pay3_at (g : Vec Ideal S512x3456 .bf16) (w : Vec Ideal S3456x1024 .bf16) (r : Fin 512) (p : Fin 1024) :
    k0_pay3 (F := Ideal) g w (ix2 r p) = ∑ q : Fin 3456, g (ix2 r q) * w (ix2 q p) := by
  pointwise [k0_pay3]

/-- The gradient of the normalised tokens: the projection's gradient times its weight. -/
theorem dh_at (c : Dev nD) (t : Fin cfg0.N) (r : Fin 512) (p : Fin 1024) (h : t.val * 512 + r.val < 8192) :
    k0_pay3 (F := Ideal) (iblk m c 0 t) (iblk m c 1 t) (ix2 r p) = val_main_v17 (F := Ideal) (P m c) (G m c) (ix2 ⟨t.val * 512 + r.val, h⟩ p) := by
  have e1 := pay3_at (iblk m c 0 t) (iblk m c 1 t) r p
  have e2 : val_main_v17 (F := Ideal) (P m c) (G m c) (ix2 ⟨t.val * 512 + r.val, h⟩ p) =
      ∑ k : Fin 3348, G m c (ix2 ⟨t.val * 512 + r.val, h⟩ k) * P m c (ix2 p k) := by
    pointwise [val_main_v17]
  rw [e1, e2]
  have e3 := Cols.sum_moved (fun k => Conv.at2 (n := 8192) (m := 3348) (G m c) (t.val * 512 + r.val) k) (fun k => Conv.at2 (n := 1024) (m := 3348) (P m c) p.val k)
  rw [← Fin.sum_univ_eq_sum_range (fun q => Cols.moved _ q * Cols.moved _ q), ← Fin.sum_univ_eq_sum_range (fun k => Conv.at2 _ _ k * Conv.at2 _ _ k)] at e3
  refine Eq.trans (Finset.sum_congr (M := EReal) rfl fun q _ => ?_) (e3.trans (Finset.sum_congr (M := EReal) rfl fun k _ => ?_))
  · rw [iblk_g m c t r q h, iblk_p]
  · rw [Conv.at2_of_lt _ h k.isLt, Conv.at2_of_lt _ p.isLt k.isLt]

theorem rs_at (c : Dev nD) (t : Fin cfg0.N) (r : Fin 512) (h : t.val * 512 + r.val < 8192) :
    k0_pay4 (F := Ideal) (iblk m c 2 t) (ix2 r (0 : Fin 1)) = val_main_v7 (F := Ideal) (X m c) (ix2 ⟨t.val * 512 + r.val, h⟩ (0 : Fin 1)) := by
  pointwise [k0_pay4, val_main_v7, val_main_v6, val_main_v5, val_main_v4, val_main_v3, val_main_v2, val_main_v1, val_main_v0, val_main_cst, val_main_cst_0, val_main_cst_1]
  blk_point [iblk, V, idx t]

theorem iblk_x (c : Dev nD) (t : Fin cfg0.N) (r : Fin 512) (p : Fin 1024) (h : t.val * 512 + r.val < 8192) :
    iblk m c 2 t (ix2 r p) = X m c (ix2 ⟨t.val * 512 + r.val, h⟩ p) := by
  blk_point [iblk, V, idx t]

theorem iblk_d (c : Dev nD) (t : Fin cfg0.N) (r : Fin 512) (p : Fin 1024) (h : t.val * 512 + r.val < 8192) :
    iblk m c 3 t (ix2 r p) = D m c (ix2 ⟨t.val * 512 + r.val, h⟩ p) := by
  blk_point [iblk, V, idx t]

theorem pay5_at (x : Vec Ideal S512x1024 .f32) (r : Fin 512) (p : Fin 1024) :
    k0_pay5 (F := Ideal) x (ix2 r p) = x (ix2 r p) * k0_pay4 (F := Ideal) x (ix2 r (0 : Fin 1)) := by
  pointwise [k0_pay5]

theorem pay6_at (g : Vec Ideal S512x3456 .bf16) (w : Vec Ideal S3456x1024 .bf16) (x : Vec Ideal S512x1024 .f32) (o : Vec Ideal S1x1024 .f32) (p : Fin 1024) :
    k0_pay6 (F := Ideal) g w x o (ix2 (0 : Fin 1) p) = o (ix2 (0 : Fin 1) p) +
      ∑ r : Fin 512, k0_pay3 (F := Ideal) g w (ix2 r p) * k0_pay5 (F := Ideal) x (ix2 r p) := by
  pointwise [k0_pay6]

theorem pay2_at (r : Fin 8) (p : Fin 1024) : k0_pay2 (F := Ideal) (ix2 r p) = 0 := by
  pointwise [k0_pay2]

/-- What one token adds to the gradient of the norm's weight. -/
def part (c : Dev nD) (t p : ℕ) : EReal := Conv.at2 (n := 8192) (m := 1024) (val_main_v18 (F := Ideal) (X m c) (P m c) (G m c)) t p

theorem part_at (c : Dev nD) (t : Fin cfg0.N) (r : Fin 512) (p : Fin 1024) :
    k0_pay3 (F := Ideal) (iblk m c 0 t) (iblk m c 1 t) (ix2 r p) * k0_pay5 (F := Ideal) (iblk m c 2 t) (ix2 r p) = part m c (t.val * 512 + r.val) p.val := by
  have ht : t.val < 16 := lt_of_lt_of_eq t.isLt N_0
  have h : t.val * 512 + r.val < 8192 := by omega
  rw [part, Conv.at2_of_lt _ h p.isLt, dh_at m c t r p h, pay5_at, rs_at m c t r h, iblk_x m c t r p h, mul_comm]
  pointwise [val_main_v18, val_main_v12, val_main_v11]

/-- What a tile adds to the eight rows. -/
def tile (c : Dev nD) (n : ℕ) (i : S8x1024.Idx) : EReal :=
  if (i 0).val = 0 then ∑ r : Fin 512, part m c (n * 512 + r.val) (i 1).val else 0

theorem tile_zero (c : Dev nD) (n : ℕ) (q : Fin 1024) : tile m c n (ix2 (0 : Fin 8) q) = ∑ r : Fin 512, part m c (n * 512 + r.val) q.val := if_pos rfl

theorem tile_pos (c : Dev nD) (n : ℕ) (r : Fin 8) (q : Fin 1024) (hr : ¬ r.val = 0) : tile m c n (ix2 r q) = 0 := if_neg hr

theorem first (c : Dev nD) (t : Fin cfg0.N) (h0 : t.val % 16 = 0) (r : Fin 8) (q : Fin 1024) :
    (outsAt0 m c t.val t.isLt).2 (ix2 r q) = 0 + tile m c t.val (ix2 r q) := by
  rw [outsAt0_A m c t h0]
  frame_out
  by_cases hr : r.val = 0
  · obtain rfl : r = 0 := Fin.ext hr
    rw [tile_zero]
    refine (Stores.canon_in (s := S8x1024) _ _ _ _ (ix2 (0 : Fin 1) q) (Stores.two rfl (by simp))).trans ?_
    rw [pay6_at]
    refine congrArg₂ (· + ·) ?_ (Finset.sum_congr (M := EReal) rfl fun k _ => part_at m c t k q)
    refine (Stores.readCov_at (s := S8x1024) _ _ _ _ (ix2 (0 : Fin 8) q) (Stores.two rfl (by simp))).trans ?_
    exact (Stores.canon_in (s := S8x1024) _ _ _ _ (ix2 (0 : Fin 8) q) (Stores.two rfl (by simp))).trans (pay2_at 0 q)
  · rw [tile_pos m c _ _ _ hr, add_zero]
    refine (Stores.canon_out (s := S8x1024) _ _ _ _ 0 (Or.inr ?_)).trans ?_
    · show 0 + 1 ≤ r.val; omega
    exact (Stores.canon_in (s := S8x1024) _ _ _ _ (ix2 r q) (Stores.two (by simp) (by simp))).trans (pay2_at r q)

theorem next (c : Dev nD) (t : Fin cfg0.N) (h0 : ¬ t.val % 16 = 0) (r : Fin 8) (q : Fin 1024) :
    (outsAt0 m c t.val t.isLt).2 (ix2 r q) = (outsAt0 m c (t.val - 1) (Nat.lt_of_le_of_lt (Nat.sub_le _ _) t.isLt)).2 (ix2 r q) + tile m c t.val (ix2 r q) := by
  rw [outsAt0_B m c t h0]
  frame_out
  by_cases hr : r.val = 0
  · obtain rfl : r = 0 := Fin.ext hr
    rw [tile_zero]
    refine (View.read_writes_cons_unit_of_mem (s := S8x1024) _ _ _ _ _ _ (ix2 (0 : Fin 1) q) rfl (Stores.two rfl (by simp))).trans ?_
    rw [pay6_at]
    refine congrArg₂ (· + ·) ?_ (Finset.sum_congr (M := EReal) rfl fun k _ => part_at m c t k q)
    exact View.ld_unit_apply_of _ _ _ _ _ (ix2 (0 : Fin 8) q) (Stores.two rfl (by simp))
  · rw [tile_pos m c _ _ _ hr, add_zero]
    refine (View.read_writes_cons_unit_of_not_mem (s := S8x1024) _ _ _ _ _ _ rfl 0 (Or.inr ?_)).trans ?_
    · show 0 + 1 ≤ r.val; omega
    exact congrFun (Memref.IsWhole.read_unread _ _) _

/-- The gradient of the norm's weight. -/
theorem dnw (c : Dev nD) : (dats m 0 c).arrAt 6 cfg0.N = val_main_v40 (F := Ideal) (X m c) (P m c) (G m c) := by
  refine (dats m 0 c).arrAt_eq_of_covers 6 _ (by decide +kernel) fun t hf y => ?_
  have ht : t.val = 15 := (by decide +kernel : ∀ t : Fin grid0.N, win0_6.flush t = true → t.val = 15) t hf
  blk_simp
  rw [after0_6]
  obtain ⟨r, q, rfl⟩ : ∃ (r : Fin 8) (q : Fin 1024), y = ix2 r q := ⟨y 0, y 1, eq_ix2 y⟩
  have hsum := Pipeline.eq_sum_of_reset_step_apply_single_of_mod (fun n h => (outsAt0 m c n h).2) 16 (fun _ => (0 : EReal)) (tile m c)
    (fun t h i => by idx_vars i; exact first m c t h _ _) (fun t h i => by idx_vars i; exact next m c t h _ _) (by decide) t (r := 15) (by rw [ht]) (ix2 r q)
  refine (hsum.trans ?_).trans (congrArg (val_main_v40 (F := Ideal) (X m c) (P m c) (G m c)) (show ix2 r q = _ by blk_ext [idx t]))
  rw [zero_add]
  by_cases hr : r.val = 0
  · obtain rfl : r = 0 := Fin.ext hr
    simp only [tile_zero]
    refine (Fin.sum_univ_eq_sum_range (fun n => ∑ k : Fin 512, part m c (n * 512 + k.val) q.val) 16).symm.trans ?_
    refine (Fin.sum_univ_univ_mul_add 16 512 fun t => part m c t q.val).trans ?_
    pointwise [val_main_v40, val_main_v39, val_main_v23, val_main_v20, val_main_v19, val_main_cst_3, val_main_cst_4]
    rw [Fin.sum_univ_one]
    refine Finset.sum_congr (M := EReal) rfl fun t _ => ?_
    exact Conv.at2_of_lt _ t.isLt q.isLt
  · simp only [tile_pos m c _ _ _ hr, Finset.sum_const_zero]
    pointwise [val_main_v40, val_main_call0_v0, val_main_c, dif_neg (show ¬ r.val < 1 by omega)]
    exact (show ((((0#32 : BitVec 32).toInt : ℝ)) : EReal) = 0 by simp).symm

theorem dx (c : Dev nD) (hX : ∀ i, IsReal (X m c i)) (hW : ∀ i, IsReal (W m c i)) (hP : ∀ i, IsReal (P m c i)) (hG : ∀ i, IsReal (G m c i)) : (dats m 0 c).arrAt 5 cfg0.N = val_main_v38 (F := Ideal) (X m c) (W m c) (P m c) (G m c) (D m c) := by
  refine (dats m 0 c).arrAt_eq_of_covers 5 _ (by decide +kernel) fun t hf y => ?_
  have ht : t.val < 16 := lt_of_lt_of_eq t.isLt N_0
  blk_simp
  rw [after0_5]
  obtain ⟨r, q, rfl⟩ : ∃ (r : Fin 512) (q : Fin 1024), y = ix2 r q := ⟨y 0, y 1, eq_ix2 y⟩
  have h : t.val * 512 + r.val < 8192 := by omega
  refine Eq.trans ?_ (congrArg (val_main_v38 (F := Ideal) (X m c) (W m c) (P m c) (G m c) (D m c)) (show ix2 ⟨t.val * 512 + r.val, h⟩ q = _ by blk_ext [idx t]))
  have e : (outsAt0 m c t.val t.isLt).1 (ix2 r q) = k0_pay1 (F := Ideal) (k0_pay4 (iblk m c 2 t)) (k0_pay5 (iblk m c 2 t)) (k0_pay7 (iblk m c 0 t) (iblk m c 1 t) (iblk m c 4 t))
      (iblk m c 3 t) (k0_pay8 (iblk m c 0 t) (iblk m c 1 t) (iblk m c 2 t) (iblk m c 4 t)) (FloatOps.ofBits FTy.f32 1149239296#32) (ix2 r q) := by
    by_cases h0 : t.val % 16 = 0
    · rw [outsAt0_A m c t h0]; frame_out
    · rw [outsAt0_B m c t h0]; frame_out
  refine e.trans ?_
  pointwise [k0_pay1, k0_pay7, k0_pay8, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_v10, val_main_v9, val_main_v8, val_main_cst_2, val_main_cst_5, val_main_cst_6, val_main_cst_7]
  rw [iblk_d m c t r q h]
  refine congrArg _ ?_
  have hv : ∀ p, IsReal (val_main_v17 (F := Ideal) (P m c) (G m c) (ix2 ⟨t.val * 512 + r.val, h⟩ p)) := fun p => by
    have e2 : val_main_v17 (F := Ideal) (P m c) (G m c) (ix2 ⟨t.val * 512 + r.val, h⟩ p) =
        ∑ k : Fin 3348, G m c (ix2 ⟨t.val * 512 + r.val, h⟩ k) * P m c (ix2 p k) := by
      pointwise [val_main_v17]
    rw [e2]
    exact IsReal.sum _ _ fun k => (hG _).mul (hP _)
  have h7 : val_main_v7 (F := Ideal) (X m c) (ix2 ⟨t.val * 512 + r.val, h⟩ (0 : Fin 1)) = Ideal.rsqrt (val_main_v6 (F := Ideal) (X m c) (ix2 ⟨t.val * 512 + r.val, h⟩ (0 : Fin 1))) := by
    pointwise [val_main_v7]
  have h6 : val_main_v6 (F := Ideal) (X m c) (ix2 ⟨t.val * 512 + r.val, h⟩ (0 : Fin 1)) =
      Ideal.div (∑ p : Fin 1024, X m c (ix2 ⟨t.val * 512 + r.val, h⟩ p) * X m c (ix2 ⟨t.val * 512 + r.val, h⟩ p)) (Ideal.ofBits .f32 1149239296#32) + Ideal.ofBits .f32 897988541#32 := by
    pointwise [val_main_v6, val_main_v5, val_main_v4, val_main_v3, val_main_v2, val_main_v1, val_main_v0, val_main_cst, val_main_cst_0, val_main_cst_1]
  obtain ⟨a, ha, hA⟩ := RmsGrad.mean_pos (fun p => X m c (ix2 ⟨t.val * 512 + r.val, h⟩ p)) fun p => hX _
  have := RmsGrad.row (fun p => X m c (ix2 ⟨t.val * 512 + r.val, h⟩ p))
    (fun p => val_main_v17 (F := Ideal) (P m c) (G m c) (ix2 ⟨t.val * 512 + r.val, h⟩ p) * W m c (ix1 p)) (fun p => hX _) (fun p => (hv p).mul (hW _)) _ ha (h6.trans hA) q
  simp only [dh_at m c t r _ h, pay5_at, rs_at m c t r h, iblk_x m c t r _ h, iblk_w, Finset.univ_unique, Finset.sum_singleton, Fin.default_eq_zero, h7]
  exact this

end Cert.Dxin

end
-- ==== Proof.Products.lean ====
/-
  The claims about the three products of the step: the projection with its norm, the gradient of the projection's weight, and
  the gradient that goes back through the projection and the norm.
-/
module

public import proofs.«01_k».proof.Defs
public import proofs.«01_k».proof.Proof.Gen.DwinKernel.Frame
public import proofs.«01_k».proof.Proof.Gen.RmsprojKernel.Frame
public import proofs.«01_k».proof.Proof.Gen.DxinKernel.Frame
public import proofs.«01_k».proof.Proof.Gen.DwinPartIdeal.Run
public import proofs.«01_k».proof.Proof.Gen.RmsprojPartIdeal.Run
public import proofs.«01_k».proof.Proof.Gen.DxinPartIdeal.Run
public import proofs.«01_k».proof.Proof.Gen.Pre_dxin_finite
public import Idealize.ShloMosaic.Lib.Quiescent
public import proofs.«01_k».proof.Proof.Reals
public import proofs.«01_k».proof.Proof.Dwin
public import proofs.«01_k».proof.Proof.Rmsproj
public import proofs.«01_k».proof.Proof.Dxin

@[expose] public section

set_option maxRecDepth 16384

noncomputable section

namespace Cert.Proof.Products

open Idealize.ShloMosaic Idealize.ShloMosaic.TcCoe Idealize.SL.Sem

/-- The references' own runs leave their arguments alone; they have no semaphore. -/
theorem frame_dwin : Cert.quiescent_DwinPartIdeal := fun m g _ =>
  (θ_run Cert.DwinPartIdeal.defs _ _).mono (fun r h => ⟨fun c => (h c).2, sem_eq_zero_of_no_sems (by decide) r.2⟩)
    (Cert.DwinPartIdeal.Value.run (F := Ideal) m g)

theorem frame_rmsproj : Cert.quiescent_RmsprojPartIdeal := fun m g _ =>
  (θ_run Cert.RmsprojPartIdeal.defs _ _).mono (fun r h => ⟨fun c => (h c).2.2.2, sem_eq_zero_of_no_sems (by decide) r.2⟩)
    (Cert.RmsprojPartIdeal.Value.run (F := Ideal) m g)

theorem frame_dxin : Cert.quiescent_DxinPartIdeal := fun m g _ =>
  (θ_run Cert.DxinPartIdeal.defs _ _).mono (fun r h => ⟨fun c => (h c).2.2, sem_eq_zero_of_no_sems (by decide) r.2⟩)
    (Cert.DxinPartIdeal.Value.run (F := Ideal) m g)

/-- The gradient of the projection's weight. -/
theorem dwin : Cert.algebraic_DwinKernelIdeal_DwinPartIdeal := by
  pair_intro
  · run_from Cert.DwinKernelIdeal.Value.run m g
  · run_from Cert.DwinPartIdeal.Value.run m' g'
    rw [Cert.Dwin.value m c, Cert.DwinPartIdeal.Read.val_main_v21_eq, (hagree c).1, (hagree c).2.1, (hagree c).2.2.2]

/-- The norm and the projection. -/
theorem rmsproj : Cert.algebraic_RmsprojKernelIdeal_RmsprojPartIdeal := by
  pair_intro
  · run_from Cert.RmsprojKernelIdeal.Value.run_blocks m g
  · run_from Cert.RmsprojPartIdeal.Value.run m' g'
    · rw [Cert.Rmsproj.proj m c, Cert.RmsprojPartIdeal.Read.val_main_v21_eq, (hagree c).1, (hagree c).2.1, (hagree c).2.2]
    · rw [Cert.Rmsproj.tail m c, Cert.RmsprojPartIdeal.Read.val_main_v22_eq, (hagree c).1, (hagree c).2.1, (hagree c).2.2]
    · rw [Cert.Rmsproj.norm m c]
      exact Cert.RmsprojPartIdeal.Read.val_main_v23_eq _ _

/-- What the precondition says. -/
theorem reals (x : FVec Ideal Cert.Pre_dxin_finite.S8192x1024 .f32) (w : FVec Ideal Cert.Pre_dxin_finite.S1024 .f32)
    (p : FVec Ideal Cert.Pre_dxin_finite.S1024x3348 .f32) (g : FVec Ideal Cert.Pre_dxin_finite.S8192x3348 .f32)
    (d : FVec Ideal Cert.Pre_dxin_finite.S8192x1024 .f32) (h : Cert.Pre_dxin_finite.fn (F := Ideal) x w p g d = fun _ => 1#1) :
    ((∀ i, Conv.IsReal (x i)) ∧ ∀ i, Conv.IsReal (w i)) ∧ (∀ i, Conv.IsReal (p i)) ∧ ∀ i, Conv.IsReal (g i) := by
  have h := congrFun h (Shape.Idx.first (s := Conv.S0) Cert.Pre_dxin_finite.Gen.facts.h_S_)
  unfold Cert.Pre_dxin_finite.fn Cert.Pre_dxin_finite.fn_part1 at h
  simp only [andi_apply, IntOp.andi_eq_one] at h
  obtain ⟨⟨⟨h0, h1⟩, h2⟩, h3⟩ := h
  refine ⟨⟨fun i => Conv.real_of_all _ _ (fun i => ?_) _ _ _ h0 i, fun i => Conv.real_of_all _ _ (fun i => ?_) _ _ _ h1 i⟩,
    fun i => Conv.real_of_all _ _ (fun i => ?_) _ _ _ h2 i, fun i => Conv.real_of_all _ _ (fun i => ?_) _ _ _ h3 i⟩ <;> rfl

/-- The gradient through the projection and the norm. -/
theorem dxin : Cert.algebraic_DxinKernelIdeal_DxinPartIdeal_pre_dxin_finite := by
  pair_intro
  · run_from Cert.DxinKernelIdeal.Value.run_blocks m g
  · run_from Cert.DxinPartIdeal.Value.run m' g'
    · obtain ⟨⟨hX, hW⟩, hP, hG⟩ := reals _ _ _ _ _ (hpre c)
      rw [Cert.Dxin.dx m c hX hW hP hG, Cert.DxinPartIdeal.Read.val_main_v38_eq, (hagree c).1, (hagree c).2.1, (hagree c).2.2.1,
        (hagree c).2.2.2.1, (hagree c).2.2.2.2]
    · rw [Cert.Dxin.dnw m c]
      exact Cert.DxinPartIdeal.Read.val_main_v40_eq _ _ _

end Cert.Proof.Products

end
-- ==== Proof.ConvPre.lean ====
/-
  What the precondition and the choice of entries say: the numbers are real ones, and an entry compared lies in the part named.
-/
module

public import proofs.«01_k».proof.Proof.Gen.Pre_finite
public import proofs.«01_k».proof.Proof.Gen.On_conv_results
public import Idealize.ShloMosaic.Lib.ReduceAll
public import Idealize.ShloMosaic.Lib.WordCmp
public import proofs.«01_k».proof.Proof.Reals

@[expose] public section

set_option maxRecDepth 16384

noncomputable section

namespace Cert.Conv

open Idealize.ShloMosaic Idealize.ShloMosaic.TcCoe Idealize.SL.Sem

section
open Cert.Pre_finite Cert.Pre_finite.Gen

/-- What the precondition says. -/
theorem finite_of_pre (a : Args) (x2 x3 x6 x7 x8 x9 x10 x11 x12 x13 x14 x15 x16)
    (h : Cert.Pre_finite.fn (F := Ideal) a.x0 a.x1 x2 x3 a.x4 a.x5 x6 x7 x8 x9 x10 x11 x12 x13 x14 x15 x16 a.x17 = fun _ => 1#1) :
    a.Finite := by
  have h := congrFun h (Shape.Idx.first h_S_)
  unfold Cert.Pre_finite.fn Cert.Pre_finite.fn_part1 at h
  simp only [andi_apply, IntOp.andi_eq_one] at h
  obtain ⟨⟨⟨h0, h4⟩, h5⟩, h17⟩ := h
  refine ⟨fun i => real_of_all _ _ (fun i => ?_) _ _ _ h0 i, fun i => real_of_all _ _ (fun i => ?_) _ _ _ h4 i,
    fun i => real_of_all _ _ (fun i => ?_) _ _ _ h5 i, fun i => real_of_all _ _ (fun i => ?_) _ _ _ h17 i⟩ <;> rfl

end

section
open Cert.On_conv_results Cert.On_conv_results.Gen

/-- Comparing two small numbers as words is comparing them. -/
theorem lt_of_slt {n k : ℕ} (hn : n < 2 ^ 31) (hk : k < 2 ^ 31) (h : IntOp.cmpi .slt (BitVec.ofNat 32 n) (BitVec.ofNat 32 k) = 1#1) :
    n < k := by
  rw [IntOp.cmpi_slt, BitVec.toInt_eq_toNat_of_lt (by rw [BitVec.toNat_ofNat]; omega), BitVec.toInt_eq_toNat_of_lt (by rw [BitVec.toNat_ofNat]; omega),
    BitVec.toNat_ofNat, BitVec.toNat_ofNat] at h
  omega

variable (x0 x1 x2 x3 x4 x5 x6 x7 x8 x9 x10 x11 x12 x13 x14 x15 x16 x17)

theorem on_dp (t : Fin 8192) (C : Fin 3456)
    (h : (Cert.On_conv_results.fn (F := Ideal) x0 x1 x2 x3 x4 x5 x6 x7 x8 x9 x10 x11 x12 x13 x14 x15 x16 x17).1 (ix2 t C) = 1#1) :
    C.val < 1024 := by
  unfold Cert.On_conv_results.fn at h
  pointwise at h
  exact lt_of_slt (by omega) (by omega) h

theorem on_sgc (k : Fin 32) (c : Fin 1024)
    (h : (Cert.On_conv_results.fn (F := Ideal) x0 x1 x2 x3 x4 x5 x6 x7 x8 x9 x10 x11 x12 x13 x14 x15 x16 x17).2.1 (ix2 k c) = 1#1) :
    k.val < 3 ∧ c.val < 256 := by
  unfold Cert.On_conv_results.fn at h
  pointwise at h
  rw [IntOp.andi_eq_one] at h
  exact ⟨lt_of_slt (by omega) (by omega) h.1, lt_of_slt (by omega) (by omega) h.2⟩

end

end Cert.Conv

end
-- ==== Proof.ConvRef.lean ====
/-
  The reference's results, entry by entry, as the formulas of `Cert.Conv.Args`.
-/
module

public import proofs.«01_k».proof.Proof.Gen.ConvPartIdeal.Read
public import proofs.«01_k».proof.Proof.Spec

@[expose] public section

set_option maxRecDepth 16384

noncomputable section

namespace Cert.Conv

open Idealize.ShloMosaic Idealize.ShloMosaic.TcCoe Idealize.SL.Sem
open Cert.ConvPartIdeal Cert.ConvPartIdeal.Gen Cert.ConvPartIdeal.Read

variable (a : Args)

theorem ref_u (t : Fin 8192) (c : Fin 256) : val_main_v5 (F := Ideal) a.x0 (ix2 t c) = a.u t c := by
  pointwise [val_main_v5, val_main_v2, val_main_v0]
  simp only [at2_ix, Args.u]

theorem ref_uBack1 (t : Fin 8192) (c : Fin 256) : val_main_v16 (F := Ideal) a.x0 (ix2 t c) = a.uBack 1 t c := by
  pointwise [val_main_v16, val_main_v14, val_main_v15, val_main_cst_1, ref_u]
  rfl

theorem ref_uBack2 (t : Fin 8192) (c : Fin 256) : val_main_v9 (F := Ideal) a.x0 (ix2 t c) = a.uBack 2 t c := by
  pointwise [val_main_v9, val_main_v7, val_main_v8, val_main_cst, ref_u]
  rfl

/-- The convolution. -/
theorem ref_cv (t : Fin 8192) (c : Fin 256) : val_main_v24 (F := Ideal) a.x0 a.x5 (ix2 t c) = a.cv t c := by
  pointwise [val_main_v24, val_main_v23, val_main_v22, val_main_v21, val_main_v20, val_main_v19, val_main_v18, val_main_v13, val_main_v12, val_main_v11, val_main_v6, ref_u, ref_uBack1, ref_uBack2]
  simp only [at2_ix]
  rfl

theorem ref_sig (t : Fin 8192) (c : Fin 256) : val_main_v26_2 (F := Ideal) a.x0 (ix2 t c) = Args.sig (at2 a.x0 t (768 + c)) := by
  pointwise [val_main_v26_2, val_main_call0_v4, val_main_call0_v3, val_main_call0_v2, val_main_call0_v1, val_main_call0_v0, val_main_call0_cst, val_main_call0_cst_0, val_main_v3]
  simp only [at2_ix]
  rfl

/-- The gradient of the concatenated mixers, at the columns of this mixer. -/
theorem ref_dmix (t : Fin 8192) (c : Fin 256) : val_main_v31 (F := Ideal) a.x4 a.x17 (ix2 t c) = a.dmix t c := by
  pointwise [val_main_v31, val_main_v4]
  simp only [at2_ix]
  rfl

theorem ref_gate (t : Fin 8192) (c : Fin 256) : val_main_v26_0 (F := Ideal) a.x0 (ix2 t c) = a.gate t c := by
  pointwise [val_main_v26_0, val_main_v3, ref_sig]
  simp only [at2_ix]
  rfl

/-- The gradient of the convolution's result. -/
theorem ref_dcv (t : Fin 8192) (c : Fin 256) : val_main_v35 (F := Ideal) a.x0 a.x4 a.x17 (ix2 t c) = a.dcv t c := by
  pointwise [val_main_v35, val_main_v33, val_main_v1, ref_gate, ref_dmix]
  simp only [at2_ix, Args.dcv]
  ac_rfl

/-- The gradient of what the convolution is applied to: a token past the end contributes zero. -/
theorem ref_du (t : Fin 8192) (c : Fin 256) : val_main_v62 (F := Ideal) a.x0 a.x4 a.x5 a.x17 (ix2 t c) = a.du t c := by
  pointwise [val_main_v62, val_main_v61, val_main_v60, val_main_v55, val_main_v54, val_main_v51, val_main_v50, val_main_v49, val_main_v44, val_main_v43, val_main_v38, val_main_v37, val_main_v20, val_main_v13, val_main_v6, val_main_cst_9, val_main_cst_6, ref_dcv]
  simp only [at2_ix, Args.du]
  simp only [Nat.add_comm 1 t.val, Nat.add_comm 2 t.val]
  refine congrArg₂ _ (congrArg₂ _ rfl ?_) ?_
  · split
    · rfl
    · rw [a.dcv_of_ge _ (by omega), mul_zero]
  · split
    · rfl
    · rw [a.dcv_of_ge _ (by omega), mul_zero]

theorem ref_dh (t : Fin 8192) (c : Fin 256) : val_main_v65 (F := Ideal) a.x0 a.x4 a.x5 a.x17 (ix2 t c) = a.dh t c := by
  pointwise [val_main_v65, val_main_v2, ref_du]
  simp only [at2_ix, Args.dh]
  ac_rfl

theorem ref_dbg (t : Fin 8192) (c : Fin 256) : val_main_v36 (F := Ideal) a.x0 a.x4 a.x5 a.x17 (ix2 t c) = a.dbg t c := by
  pointwise [val_main_v36, val_main_v33, ref_gate, ref_dmix, ref_cv]
  simp only [Args.dbg]
  ac_rfl

theorem ref_dcg (t : Fin 8192) (c : Fin 256) : val_main_v66 (F := Ideal) a.x0 a.x4 a.x5 a.x17 (ix2 t c) = a.dcg t c := by
  pointwise [val_main_v66, val_main_v0, ref_du]
  simp only [at2_ix, Args.dcg]

theorem ref_dz (hf : a.Finite) (t : Fin 8192) (c : Fin 256) : val_main_v34 (F := Ideal) a.x0 a.x4 a.x5 a.x17 (ix2 t c) = a.dz t c := by
  pointwise [val_main_v34, val_main_call1_v1, val_main_call1_v2, val_main_call1_v0, val_main_v32, val_main_v25, val_main_v26_1, val_main_call0_v7, val_main_call0_v6, val_main_call0_cst_1, val_main_v1, val_main_v3, ref_sig, ref_dmix, ref_cv]
  simp only [at2_ix]
  rw [silu_grad (((IsReal.at2 hf.x0 _ _).mul (hf.cv _ _)).mul (hf.dmix _ _)) (Args.isReal_sig (IsReal.at2 hf.x0 _ _)) (IsReal.at2 hf.x0 _ _)]
  simp only [Args.dz]
  ac_rfl

theorem ref_dconv (k : Fin 3) (c : Fin 256) : val_main_v64 (F := Ideal) a.x0 a.x4 a.x17 (ix2 k c) = a.dconv (2 - k) c := by
  pointwise [val_main_v64, val_main_v63, val_main_v58, val_main_v57, val_main_v56, val_main_v53, val_main_v52, val_main_v47, val_main_v46, val_main_v45, val_main_v42, val_main_v41, val_main_v40, val_main_v39, val_main_cst_3, val_main_cst_4, val_main_cst_5, val_main_cst_7, val_main_cst_8, val_main_cst_10, ref_dcv, ref_u, ref_uBack1, ref_uBack2]
  have h0 : ∑ t : Fin 8192, a.dcv t c * a.u t c = a.dconv 0 c := by
    rw [Args.dconv, Finset.sum_range]
    exact Finset.sum_congr rfl fun t _ => mul_comm _ _
  have hk (j : ℕ) : ∑ t : Fin 8192, a.dcv t c * a.uBack j t c = a.dconv j c := by
    rw [Args.dconv, ← sum_shift 8192 j (fun t => a.dcv t c) (fun t => a.u t c) (fun t h => a.dcv_of_ge _ h), Finset.sum_range]
    rfl
  simp only [h0, hk, Finset.univ_unique, Finset.sum_singleton]
  fin_cases k <;> simp

/-- The first result at the columns of this mixer. -/
theorem ref_dp (hf : a.Finite) (t : Fin 8192) (C : Fin 3456) (hC : C.val < 1024) :
    val_main_v73 (F := Ideal) a.x0 a.x4 a.x5 a.x17 (ix2 t C) = a.dp t C := by
  pointwise [val_main_v73, val_main_v72]
  unfold Args.dp
  by_cases h0 : C.val < 256
  · rw [dif_pos h0, if_pos h0]; exact ref_dh a t ⟨C, h0⟩
  rw [dif_neg h0, if_neg h0]
  by_cases h1 : C.val < 512
  · rw [dif_pos (by omega), if_pos h1]; exact ref_dbg a t ⟨C.val - 256, by omega⟩
  rw [dif_neg (by omega), if_neg h1]
  by_cases h2 : C.val < 768
  · rw [dif_pos (by omega), if_pos h2]; exact ref_dcg a t ⟨C.val - 512, by omega⟩
  rw [dif_neg (by omega), if_neg h2, dif_pos (by omega)]
  exact ref_dz a hf t ⟨C.val - 768, by omega⟩

theorem ref_sgc (k : Fin 32) (c : Fin 1024) (hk : k.val < 3) (hc : c.val < 256) :
    val_main_v74 (F := Ideal) a.x0 a.x4 a.x17 (ix2 k c) = a.dconv (2 - k) c := by
  pointwise [val_main_v74, ref_dconv]
  rw [dif_pos ⟨hk, hc⟩]

theorem ref_dwo (p q : Fin 1024) : val_main_v69 (F := Ideal) a.x1 a.x17 (ix2 p q) = a.dwo p q := by
  pointwise [val_main_v69, val_main_v68]
  rw [Args.dwo, Finset.sum_range]
  refine Finset.sum_congr rfl fun t _ => ?_
  simp only [at2_ix]
  ac_rfl

end Cert.Conv

end
-- ==== Proof.ConvHost.lean ====
/-
  The arrays the call reads, prepared on the host, entry by entry.
-/
module

public import proofs.«01_k».proof.Proof.Gen.KernelIdeal.Value
public import proofs.«01_k».proof.Proof.Cols

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The arrays this mixer and the output projection use. -/
abbrev args (c : Dev nD) : Args where
  x0 := m ((c : Thread nD τ).loc main_arg0)
  x1 := m ((c : Thread nD τ).loc main_arg1)
  x4 := m ((c : Thread nD τ).loc main_arg4)
  x5 := m ((c : Thread nD τ).loc main_arg5)
  x17 := m ((c : Thread nD τ).loc main_arg17)

/-- The projection with its columns moved. -/
def movedX (x : Vec Ideal S8192x3348 .f32) : Vec Ideal S8192x3456 .f32 :=
  concatenate S8192x3456 1 [⟨S8192x1536, extractStridedSlice S8192x1536 ![0, 0] x slices_S8192x3348_S8192x1536_0_0⟩,
    ⟨S8192x1792, extractStridedSlice S8192x1792 ![0, 1552] x slices_S8192x3348_S8192x1792_0_1552⟩,
    ⟨S8192x16, extractStridedSlice S8192x16 ![0, 1536] x slices_S8192x3348_S8192x16_0_1536⟩,
    ⟨S8192x4, extractStridedSlice S8192x4 ![0, 3344] x slices_S8192x3348_S8192x4_0_3344⟩,
    ⟨S8192x108, broadcastInDim S8192x108 ![] bcast_S_S8192x108 (constant (F := Ideal) S_ .f32 0x00000000#32)⟩]
    concatenates_S8192x1536_S8192x1792_S8192x16_S8192x4_S8192x108_S8192x3456_d1

theorem movedX_at (x : Vec Ideal S8192x3348 .f32) (t : Fin 8192) (q : Fin 3456) :
    movedX x (ix2 t q) = Cols.moved (fun k => at2 (n := 8192) (m := 3348) x t.val k) q.val := by
  rw [← Cols.ladder]
  pointwise [movedX]

/-- Its first 3328 columns. -/
def mainX (p : Vec Ideal S8192x3456 .f32) : Vec Ideal S8192x3328 .bf16 :=
  truncf (F := Ideal) .bf16 (extractStridedSlice S8192x3328 ![0, 0] p slices_S8192x3456_S8192x3328_0_0 : FVec Ideal S8192x3328 .f32) bitsLt_bf16_f32

theorem V211 (c : Dev nD) : V m c main_v211 = mainX (movedX (m ((c : Thread nD τ).loc main_arg0))) := by
  unfold V hostOps0
  after_results <;> rfl

theorem mainX_at (p : Vec Ideal S8192x3456 .f32) (t : Fin 8192) (q : Fin 3328) : mainX p (ix2 t q) = p (ix2 t ⟨q.val, by omega⟩) := by
  pointwise [mainX]

/-- The output projection's weight, its rows made columns. -/
def turned (x : Vec Ideal S1024x1024 .f32) : Vec Ideal S1024x1024 .bf16 :=
  truncf (F := Ideal) .bf16 (transpose S1024x1024 [1, 0] x transposes_S1024x1024_S1024x1024_1_0 : FVec Ideal S1024x1024 .f32) bitsLt_bf16_f32

theorem V214 (c : Dev nD) : V m c main_v214 = turned (m ((c : Thread nD τ).loc main_arg4)) := by
  unfold V hostOps0
  after_results <;> rfl

theorem turned_at (x : Vec Ideal S1024x1024 .f32) (p q : Fin 1024) : turned x (ix2 p q) = x (ix2 q p) := by
  pointwise [turned]

theorem V215 (c : Dev nD) : V m c main_v215 =
    (truncf (F := Ideal) .bf16 (m ((c : Thread nD τ).loc main_arg1) : FVec Ideal S8192x1024 .f32) bitsLt_bf16_f32 : Vec Ideal S8192x1024 .bf16) := by
  unfold V hostOps0
  after_results <;> rfl

/-- The convolution's input, and the same two and one tokens later. -/
def hostU (p : Vec Ideal S8192x3456 .f32) : Vec Ideal S8192x256 .f32 :=
  mulf (F := Ideal) (s := S8192x256) (φ := .f32) (extractStridedSlice S8192x256 ![0, 512] p slices_S8192x3456_S8192x256_0_512)
    (extractStridedSlice S8192x256 ![0, 0] p slices_S8192x3456_S8192x256_0_0)

def hostU2 (u : Vec Ideal S8192x256 .f32) : Vec Ideal S8192x256 .f32 :=
  concatenate S8192x256 0 [⟨S2x256, broadcastInDim S2x256 ![] bcast_S_S2x256 (constant (F := Ideal) S_ .f32 0x00000000#32)⟩,
    ⟨S8190x256, extractStridedSlice S8190x256 ![0, 0] u slices_S8192x256_S8190x256_0_0⟩] concatenates_S2x256_S8190x256_S8192x256_d0

def hostU1 (u : Vec Ideal S8192x256 .f32) : Vec Ideal S8192x256 .f32 :=
  concatenate S8192x256 0 [⟨S1x256, broadcastInDim S1x256 ![] bcast_S_S1x256 (constant (F := Ideal) S_ .f32 0x00000000#32)⟩,
    ⟨S8191x256, extractStridedSlice S8191x256 ![0, 0] u slices_S8192x256_S8191x256_0_0⟩] concatenates_S1x256_S8191x256_S8192x256_d0

/-- The convolution. -/
def hostCv (w : Vec Ideal S3x256 .f32) (u : Vec Ideal S8192x256 .f32) : Vec Ideal S8192x256 .bf16 :=
  truncf (F := Ideal) .bf16 (addf (addf
    (mulf (broadcastInDim S8192x256 ![0, 1] bcast_S1x256_S8192x256_0_1 (extractStridedSlice S1x256 ![0, 0] w slices_S3x256_S1x256_0_0)) (hostU2 u))
    (mulf (broadcastInDim S8192x256 ![0, 1] bcast_S1x256_S8192x256_0_1 (extractStridedSlice S1x256 ![1, 0] w slices_S3x256_S1x256_1_0)) (hostU1 u)))
    (mulf (broadcastInDim S8192x256 ![0, 1] bcast_S1x256_S8192x256_0_1 (extractStridedSlice S1x256 ![2, 0] w slices_S3x256_S1x256_2_0)) u) : FVec Ideal S8192x256 .f32) bitsLt_bf16_f32

theorem V225 (c : Dev nD) : V m c main_v225 = hostCv (m ((c : Thread nD τ).loc main_arg5)) (hostU (movedX (m ((c : Thread nD τ).loc main_arg0)))) := by
  unfold V hostOps0
  after_results <;> rfl

theorem hostU_at (p : Vec Ideal S8192x3456 .f32) (t : Fin 8192) (q : Fin 256) :
    hostU p (ix2 t q) = p (ix2 t ⟨512 + q.val, by omega⟩) * p (ix2 t ⟨q.val, by omega⟩) := by
  pointwise [hostU]

theorem hostU2_at (u : Vec Ideal S8192x256 .f32) (t : Fin 8192) (q : Fin 256) :
    hostU2 u (ix2 t q) = if t.val < 2 then 0 else at2 (n := 8192) (m := 256) u (t.val - 2) q.val := by
  have e : hostU2 u (ix2 t q) = if h : t.val < 2 then (0 : EReal) else u (ix2 ⟨t.val - 2, by omega⟩ q) := by pointwise [hostU2]
  rw [e]
  split
  · rfl
  · exact at2_ix u _ q

theorem hostU1_at (u : Vec Ideal S8192x256 .f32) (t : Fin 8192) (q : Fin 256) :
    hostU1 u (ix2 t q) = if t.val < 1 then 0 else at2 (n := 8192) (m := 256) u (t.val - 1) q.val := by
  have e : hostU1 u (ix2 t q) = if h : t.val < 1 then (0 : EReal) else u (ix2 ⟨t.val - 1, by omega⟩ q) := by pointwise [hostU1]
  rw [e]
  split
  · rfl
  · exact at2_ix u _ q

theorem hostCv_at (w : Vec Ideal S3x256 .f32) (u : Vec Ideal S8192x256 .f32) (t : Fin 8192) (q : Fin 256) :
    hostCv w u (ix2 t q) = w (ix2 0 q) * hostU2 u (ix2 t q) + w (ix2 1 q) * hostU1 u (ix2 t q) + w (ix2 2 q) * u (ix2 t q) := by
  pointwise [hostCv]

/-- The convolution's weight is the first rows of the small parameters. -/
def firstRows (w : Vec Ideal S3x256 .f32) (z : Vec Ideal S3x512 .f32) : Vec Ideal S3x768 .f32 :=
  concatenate S3x768 1 [⟨S3x256, w⟩, ⟨S3x512, z⟩] concatenates_S3x256_S3x512_S3x768_d1

theorem V116 (c : Dev nD) : V m c main_v116 = firstRows (m ((c : Thread nD τ).loc main_arg5)) (V m c main_v115) := by
  unfold V hostOps0
  after_results <;> rfl

/-- The small parameters, one under the other. -/
def allRows (x : Vec Ideal S3x768 .f32) (x3 x4 x5 x6 x7 x8 x9 x10 x11 : Vec Ideal S1x768 .f32) (x12 : Vec Ideal S4x768 .f32) : Vec Ideal S16x768 .f32 :=
  concatenate S16x768 0 [⟨S3x768, x⟩, ⟨S1x768, x3⟩, ⟨S1x768, x4⟩, ⟨S1x768, x5⟩, ⟨S1x768, x6⟩, ⟨S1x768, x7⟩, ⟨S1x768, x8⟩, ⟨S1x768, x9⟩, ⟨S1x768, x10⟩, ⟨S1x768, x11⟩, ⟨S4x768, x12⟩] concatenates_S3x768_S1x768_S1x768_S1x768_S1x768_S1x768_S1x768_S1x768_S1x768_S1x768_S4x768_S16x768_d0

theorem V149 (c : Dev nD) : V m c main_v149 = allRows (V m c main_v116) (V m c main_v119) (V m c main_v125) (V m c main_v128) (V m c main_v129)
    (V m c main_v132) (V m c main_v139) (V m c main_v144) (V m c main_v147) (V m c main_v148) (m ((c : Thread nD τ).loc main_arg11)) := by
  unfold V hostOps0
  after_results <;> rfl

theorem firstRows_at (w : Vec Ideal S3x256 .f32) (z : Vec Ideal S3x512 .f32) (r : Fin 3) (q : Fin 256) :
    firstRows w z (ix2 r ⟨q.val, by omega⟩) = w (ix2 r q) := by
  pointwise [firstRows]

theorem allRows_at (x : Vec Ideal S3x768 .f32) (x3 x4 x5 x6 x7 x8 x9 x10 x11 : Vec Ideal S1x768 .f32) (x12 : Vec Ideal S4x768 .f32)
    (r : Fin 3) (q : Fin 768) : allRows x x3 x4 x5 x6 x7 x8 x9 x10 x11 x12 (ix2 ⟨r.val, by omega⟩ q) = x (ix2 r q) := by
  pointwise [allRows]

end Cert.Conv

end
-- ==== Proof.ConvBlocks.lean ====
/-
  The blocks a grid point reads, entry by entry: the tiles of tokens come last tile first.
-/
module

public import proofs.«01_k».proof.Proof.ConvHost

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx : ∀ t : Fin cfg0.N, win0_0.index t = ![15 - t.val, 0] ∧ win0_2.index t = ![15 - t.val, 0] ∧ win0_3.index t = ![0, 0] ∧
    win0_4.index t = ![15 - t.val, 0] ∧ win0_9.index t = ![15 - t.val, 0] ∧ win0_11.index t = ![0, 0] ∧
    win0_16.index t = ![15 - t.val, 0] ∧ win0_17.index t = ![0, 0] ∧ win0_18.index t = ![0, 0] := (by decide +kernel :
  ∀ t : Fin grid0.N, win0_0.index t = ![15 - t.val, 0] ∧ win0_2.index t = ![15 - t.val, 0] ∧ win0_3.index t = ![0, 0] ∧
    win0_4.index t = ![15 - t.val, 0] ∧ win0_9.index t = ![15 - t.val, 0] ∧ win0_11.index t = ![0, 0] ∧
    win0_16.index t = ![15 - t.val, 0] ∧ win0_17.index t = ![0, 0] ∧ win0_18.index t = ![0, 0])

/-- The token a row of a tile is. -/
def tok (t r : ℕ) : ℕ := (15 - t) * 512 + r

theorem tok_lt (t : ℕ) (r : Fin 512) : tok t r.val < 8192 := by unfold tok; omega

/-- All tiles together hold every token once. -/
theorem sum_tok (f : ℕ → EReal) : ∑ k ∈ Finset.range 16, ∑ r : Fin 512, f (tok k r.val) = ∑ t ∈ Finset.range 8192, f t := by
  refine (Finset.sum_range_reflect (fun k => ∑ r : Fin 512, f (k * 512 + r.val)) 16).trans ?_
  refine (Fin.sum_univ_eq_sum_range (fun k => ∑ r : Fin 512, f (k * 512 + r.val)) 16).symm.trans ?_
  exact (Fin.sum_univ_univ_mul_add 16 512 fun t => f t).trans (Fin.sum_univ_eq_sum_range f 8192)

theorem blk0 (c : Dev nD) (t : Fin cfg0.N) (r : Fin 512) (q : Fin 3328) :
    iblk m c 0 t (ix2 r q) = Cols.moved (fun k => at2 (args m c).x0 (tok t.val r.val) k) q.val := by
  have e := mainX_at (movedX (m ((c : Thread nD τ).loc main_arg0))) ⟨tok t.val r.val, tok_lt _ _⟩ q
  rw [movedX_at, ← V211 m c] at e
  refine Eq.trans ?_ e
  unfold tok
  blk_simp [iblk]
  blk_ext [idx t]

theorem blk2 (c : Dev nD) (t : Fin cfg0.N) (r : Fin 512) (q : Fin 1024) :
    iblk m c 2 t (ix2 r q) = at2 (args m c).x17 (tok t.val r.val) q.val := by
  rw [at2_of_lt _ (tok_lt _ _) q.isLt]
  unfold tok
  blk_point [iblk, V, idx t]

theorem blk3 (c : Dev nD) (t : Fin cfg0.N) (k q : Fin 1024) : iblk m c 3 t (ix2 k q) = at2 (args m c).x4 q.val k.val := by
  have e := turned_at (m ((c : Thread nD τ).loc main_arg4)) k q
  rw [← V214 m c] at e
  rw [at2_of_lt _ q.isLt k.isLt]
  refine Eq.trans ?_ e
  blk_simp [iblk]
  blk_ext [idx t]

theorem blk4 (c : Dev nD) (t : Fin cfg0.N) (r : Fin 512) (q : Fin 1024) :
    iblk m c 4 t (ix2 r q) = at2 (args m c).x1 (tok t.val r.val) q.val := by
  rw [at2_of_lt _ (tok_lt _ _) q.isLt]
  refine Eq.trans ?_ (congrFun (V215 m c) (ix2 ⟨tok t.val r.val, tok_lt _ _⟩ q))
  unfold tok
  blk_simp [iblk]
  blk_ext [idx t]

theorem hostU_eq (c : Dev nD) (t : Fin 8192) (q : Fin 256) :
    hostU (movedX (m ((c : Thread nD τ).loc main_arg0))) (ix2 t q) = (args m c).u t.val q.val := by
  rw [hostU_at, movedX_at, movedX_at]
  unfold Cols.moved
  rw [if_pos (show 512 + q.val < 1536 by omega), if_pos (show q.val < 1536 by omega)]
  rfl

theorem blk9 (c : Dev nD) (t : Fin cfg0.N) (r : Fin 512) (q : Fin 256) :
    iblk m c 9 t (ix2 r q) = (args m c).cv (tok t.val r.val) q.val := by
  have e := hostCv_at (m ((c : Thread nD τ).loc main_arg5)) (hostU (movedX (m ((c : Thread nD τ).loc main_arg0)))) ⟨tok t.val r.val, tok_lt _ _⟩ q
  have back (k : ℕ) : (if tok t.val r.val < k then (0 : EReal) else
      at2 (n := 8192) (m := 256) (hostU (movedX (m ((c : Thread nD τ).loc main_arg0)))) (tok t.val r.val - k) q.val) =
      (args m c).uBack k (tok t.val r.val) q.val := by
    unfold Args.uBack
    split
    · rfl
    · have := tok_lt t.val r
      rw [at2_of_lt _ (by omega) q.isLt]
      exact hostU_eq m c ⟨_, _⟩ q
  rw [← V225 m c, hostU2_at, hostU1_at, hostU_eq, at2_ix (m ((c : Thread nD τ).loc main_arg5)), at2_ix (m ((c : Thread nD τ).loc main_arg5)),
    at2_ix (m ((c : Thread nD τ).loc main_arg5)), back, back] at e
  refine Eq.trans ?_ e
  unfold tok
  blk_simp [iblk]
  blk_ext [idx t]

theorem blk11 (c : Dev nD) (t : Fin cfg0.N) (r : Fin 3) (q : Fin 256) :
    iblk m c 11 t (ix2 (⟨r.val, by omega⟩ : Fin 16) (⟨q.val, by omega⟩ : Fin 768)) = at2 (args m c).x5 r.val q.val := by
  have e := allRows_at (V m c main_v116) (V m c main_v119) (V m c main_v125) (V m c main_v128) (V m c main_v129)
    (V m c main_v132) (V m c main_v139) (V m c main_v144) (V m c main_v147) (V m c main_v148) (m ((c : Thread nD τ).loc main_arg11)) r ⟨q.val, by omega⟩
  rw [← V149 m c, V116 m c, firstRows_at] at e
  rw [at2_of_lt _ r.isLt q.isLt]
  refine Eq.trans ?_ e
  blk_simp [iblk]
  blk_ext [idx t]

end Cert.Conv

end
-- ==== Proof.ConvPay.lean ====
/-
  The values the kernel's body stores for the short convolution mixer, entry by entry.
-/
module

public import proofs.«01_k».proof.Proof.Gen.KernelIdeal.Skeleton
public import proofs.«01_k».proof.Proof.Spec

@[expose] public section

set_option maxRecDepth 16384

noncomputable section

namespace Cert.Conv

open Idealize.ShloMosaic Idealize.ShloMosaic.TcCoe Idealize.SL.Sem
open Cert.KernelIdeal Cert.KernelIdeal.Gen

/-- The gradient of the concatenated mixers. -/
theorem pay24_at (g : FVec Ideal S512x1024 .f32) (w : FVec Ideal S1024x1024 .bf16) (r : Fin 512) (q : Fin 1024) :
    k0_pay24 (F := Ideal) g w (ix2 r q) = ∑ k : Fin 1024, g (ix2 r k) * w (ix2 k q) := by
  pointwise [k0_pay24, k0_pay23]

theorem pay25_at (g : FVec Ideal S512x1024 .f32) (o : FVec Ideal S1024x1024 .f32) (x : FVec Ideal S512x1024 .bf16) (p q : Fin 1024) :
    k0_pay25 (F := Ideal) g o x (ix2 p q) = o (ix2 p q) + ∑ k : Fin 512, x (ix2 k p) * g (ix2 k q) := by
  pointwise [k0_pay25, k0_pay23]

theorem pay37_at (z cv : FVec Ideal S512x256 .bf16) (d : FVec Ideal S512x256 .f32) (r : Fin 512) (c : Fin 256) :
    k0_pay37 (F := Ideal) z cv d (ix2 r c) = d (ix2 r c) * cv (ix2 r c) * (z (ix2 r c) * Args.sig (z (ix2 r c))) := by
  pointwise [k0_pay37, k0_pay34, k0_pay36, k0_pay30, k0_pay35, Args.sig]

theorem pay38_at (b : FVec Ideal S512x256 .f32) (z cv : FVec Ideal S512x256 .bf16) (d : FVec Ideal S512x256 .f32) (r : Fin 512) (c : Fin 256) :
    k0_pay38 (F := Ideal) b z cv d (ix2 r c) = d (ix2 r c) * b (ix2 r c) * cv (ix2 r c) *
      (Args.sig (z (ix2 r c)) * (1 + z (ix2 r c) * (1 - Args.sig (z (ix2 r c))))) := by
  pointwise [k0_pay38, k0_pay34, k0_pay36, k0_pay30, k0_pay35, Args.sig]

theorem pay39_at (b : FVec Ideal S512x256 .f32) (z : FVec Ideal S512x256 .bf16) (d : FVec Ideal S512x256 .f32) (r : Fin 512) (c : Fin 256) :
    k0_pay39 (F := Ideal) b z d (ix2 r c) = d (ix2 r c) * b (ix2 r c) * (z (ix2 r c) * Args.sig (z (ix2 r c))) := by
  pointwise [k0_pay39, k0_pay36, k0_pay30, k0_pay35, Args.sig]

theorem pay41_at (b : FVec Ideal S512x256 .f32) (z : FVec Ideal S512x256 .bf16) (d : FVec Ideal S512x256 .f32) (h : FVec Ideal S8x256 .f32)
    (r : Fin 512) (c : Fin 256) :
    k0_pay41 (F := Ideal) b z d h (ix2 r c) = if hr : r.val + 1 < 512 then k0_pay39 (F := Ideal) b z d (ix2 ⟨r.val + 1, hr⟩ c)
      else h (ix2 ⟨r.val + 1 - 512, by omega⟩ c) := by
  pointwise [k0_pay41, k0_pay40]
  have e : (r.val + 520 - 519) % 520 = r.val + 1 := by omega
  simp only [e]

theorem pay42_at (b : FVec Ideal S512x256 .f32) (z : FVec Ideal S512x256 .bf16) (d : FVec Ideal S512x256 .f32) (h : FVec Ideal S8x256 .f32)
    (r : Fin 512) (c : Fin 256) :
    k0_pay42 (F := Ideal) b z d h (ix2 r c) = if hr : r.val + 2 < 512 then k0_pay39 (F := Ideal) b z d (ix2 ⟨r.val + 2, hr⟩ c)
      else h (ix2 ⟨r.val + 2 - 512, by omega⟩ c) := by
  pointwise [k0_pay42, k0_pay40]
  have e : (r.val + 520 - 518) % 520 = r.val + 2 := by omega
  simp only [e]

theorem pay44_at (w0 w1 : FVec Ideal S1x256 .f32) (w2 : FVec Ideal S1x256 .f32) (d0 d1 d2 : FVec Ideal S512x256 .f32) (r : Fin 512) (c : Fin 256) :
    k0_pay44 (F := Ideal) w0 w1 d0 d1 d2 (k0_pay43 (F := Ideal) w2) (ix2 r c) =
      w2 (ix2 0 c) * d0 (ix2 r c) + w1 (ix2 0 c) * d1 (ix2 r c) + w0 (ix2 0 c) * d2 (ix2 r c) := by
  pointwise [k0_pay44, k0_pay43]

theorem pay47_at (u d : FVec Ideal S512x256 .f32) (o : FVec Ideal S1x256 .f32) (c : Fin 256) :
    k0_pay47 (F := Ideal) u d o (ix2 0 c) = o (ix2 0 c) + ∑ r : Fin 512, u (ix2 r c) * d (ix2 r c) := by
  pointwise [k0_pay47]

theorem pay48_at (u d : FVec Ideal S512x256 .f32) (o : FVec Ideal S1x256 .f32) (c : Fin 256) :
    k0_pay48 (F := Ideal) u d o (ix2 0 c) = o (ix2 0 c) + ∑ r : Fin 512, u (ix2 r c) * d (ix2 r c) := by
  pointwise [k0_pay48]

theorem pay49_at (u d : FVec Ideal S512x256 .f32) (o : FVec Ideal S1x256 .f32) (c : Fin 256) :
    k0_pay49 (F := Ideal) u d o (ix2 0 c) = o (ix2 0 c) + ∑ r : Fin 512, u (ix2 r c) * d (ix2 r c) := by
  pointwise [k0_pay49]

theorem pay50_at (d : FVec Ideal S512x256 .f32) (r : Fin 8) (c : Fin 256) :
    k0_pay50 (F := Ideal) d (ix2 r c) = d (ix2 ⟨r.val, by omega⟩ c) := by
  pointwise [k0_pay50]

theorem pay10_at (r : Fin 8) (c : Fin 256) : k0_pay10 (F := Ideal) (ix2 r c) = 0 := by
  pointwise [k0_pay10]

theorem pay31_at (v : FVec Ideal S1x256 .f32) (c : Fin 256) : k0_pay31 (F := Ideal) v (ix2 0 c) = v (ix2 0 c) := by
  pointwise [k0_pay31]

theorem pay32_at (v : FVec Ideal S1x256 .f32) (c : Fin 256) : k0_pay32 (F := Ideal) v (ix2 0 c) = v (ix2 0 c) := by
  pointwise [k0_pay32]

theorem pay33_at (h k : FVec Ideal S512x256 .f32) (r : Fin 512) (c : Fin 256) :
    k0_pay33 (F := Ideal) h k (ix2 r c) = k (ix2 r c) * h (ix2 r c) := by
  pointwise [k0_pay33]

theorem pay45_at (h : FVec Ideal S512x256 .f32) (w0 w1 : FVec Ideal S1x256 .f32) (d0 d1 d2 s : FVec Ideal S512x256 .f32) (r : Fin 512) (c : Fin 256) :
    k0_pay45 (F := Ideal) h w0 w1 d0 d1 d2 s (ix2 r c) = k0_pay44 (F := Ideal) w0 w1 d0 d1 d2 s (ix2 r c) * h (ix2 r c) := by
  pointwise [k0_pay45]

theorem pay46_at (h : FVec Ideal S512x256 .f32) (w0 w1 : FVec Ideal S1x256 .f32) (d0 d1 d2 s : FVec Ideal S512x256 .f32) (r : Fin 512) (c : Fin 256) :
    k0_pay46 (F := Ideal) h w0 w1 d0 d1 d2 s (ix2 r c) = k0_pay44 (F := Ideal) w0 w1 d0 d1 d2 s (ix2 r c) * h (ix2 r c) := by
  pointwise [k0_pay46]

theorem pay13_at (r : Fin 16) (c : Fin 768) : k0_pay13 (F := Ideal) (ix2 r c) = 0 := by
  pointwise [k0_pay13]

/-- The first rows are given out as they are. -/
theorem pay17_at (x : FVec Ideal S8x256 .f32) (k : Fin 3) (c : Fin 256) :
    k0_pay17 (F := Ideal) x (ix2 (⟨k.val, by omega⟩ : Fin 8) c) = x (ix2 (⟨k.val, by omega⟩ : Fin 8) c) := by
  have e : ∀ k : Fin 3, IntOp.cmpi CmpIPredicate.eq (BitVec.ofNat 32 k.val) 4#32 = 0#1 := by decide
  pointwise [k0_pay17]
  rw [e k]
  rfl

end Cert.Conv

end
-- ==== Proof.ConvTile.lean ====
/-
  What a grid point computes for the short convolution mixer, tile by tile.
-/
module

public import proofs.«01_k».proof.Proof.ConvBlocks
public import proofs.«01_k».proof.Proof.ConvPay
public import proofs.«01_k».proof.Proof.Stores

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A tile of 256 columns holds a formula over the tokens. -/
def IsTile (t : ℕ) (X : S512x256.Idx → EReal) (f : ℕ → ℕ → EReal) : Prop :=
  ∀ (r : Fin 512) (q : Fin 256), X (ix2 r q) = f (tok t r.val) q.val

/-- Columns of the projection loaded from the block. -/
theorem ld0 (c : Dev nD) (t : Fin cfg0.N) (off : ℕ) (inb : ∀ a, (![0, off] : Fin 2 → ℕ) a + S512x256.size a ≤ S512x3328.size a) (h : off + 256 ≤ 1536) :
    IsTile t.val (View.ld (iblk m c 0 t) (Rect.unit (s := S512x3328) ![0, off] S512x256.size inb)) fun T q => at2 (args m c).x0 T (off + q) := fun r q => by
  refine (View.ld_unit_apply_of _ _ _ _ _ (ix2 r (⟨off + q.val, by omega⟩ : Fin 3328)) (Stores.two (by simp) rfl)).trans ?_
  refine (blk0 m c t r ⟨off + q.val, by omega⟩).trans ?_
  unfold Cols.moved
  exact if_pos (by show off + q.val < 1536; omega)

theorem ah (c : Dev nD) (t : Fin cfg0.N) :
    IsTile t.val (k0_pay26 (F := Ideal) (View.ld (iblk m c 0 t) (Rect.unit (s := S512x3328) ![0, 0] S512x256.size inb_S512x3328_S512x256_0_0))) fun T q => at2 (args m c).x0 T q := fun r q => by
  have e : ∀ v : FVec Ideal S512x256 .bf16, k0_pay26 (F := Ideal) v (ix2 r q) = v (ix2 r q) := fun v => by pointwise [k0_pay26]
  rw [e]
  refine (ld0 m c t 0 _ (by omega) r q).trans ?_
  beta_reduce
  rw [Nat.zero_add]

theorem ac (c : Dev nD) (t : Fin cfg0.N) :
    IsTile t.val (k0_pay27 (F := Ideal) (View.ld (iblk m c 0 t) (Rect.unit (s := S512x3328) ![0, 512] S512x256.size inb_S512x3328_S512x256_0_512))) fun T q => at2 (args m c).x0 T (512 + q) := fun r q => by
  have e : ∀ v : FVec Ideal S512x256 .bf16, k0_pay27 (F := Ideal) v (ix2 r q) = v (ix2 r q) := fun v => by pointwise [k0_pay27]
  rw [e]
  exact ld0 m c t 512 _ (by omega) r q

theorem ab (c : Dev nD) (t : Fin cfg0.N) :
    IsTile t.val (k0_pay28 (F := Ideal) (View.ld (iblk m c 0 t) (Rect.unit (s := S512x3328) ![0, 256] S512x256.size inb_S512x3328_S512x256_0_256))) fun T q => at2 (args m c).x0 T (256 + q) := fun r q => by
  have e : ∀ v : FVec Ideal S512x256 .bf16, k0_pay28 (F := Ideal) v (ix2 r q) = v (ix2 r q) := fun v => by pointwise [k0_pay28]
  rw [e]
  exact ld0 m c t 256 _ (by omega) r q

theorem az (c : Dev nD) (t : Fin cfg0.N) :
    IsTile t.val (k0_pay29 (F := Ideal) (View.ld (iblk m c 0 t) (Rect.unit (s := S512x3328) ![0, 768] S512x256.size inb_S512x3328_S512x256_0_768))) fun T q => at2 (args m c).x0 T (768 + q) := fun r q => by
  have e : ∀ v : FVec Ideal S512x256 .bf16, k0_pay29 (F := Ideal) v (ix2 r q) = v (ix2 r q) := fun v => by pointwise [k0_pay29]
  rw [e]
  exact ld0 m c t 768 _ (by omega) r q

/-- The gradient of the concatenated mixers, 256 columns of it read back. -/
theorem dm (c : Dev nD) (t : Fin cfg0.N) (off : ℕ)
    (inb : ∀ a, (![0, off] : Fin 2 → ℕ) a + S512x256.size a ≤ S512x1024.size a) (h : off + 256 ≤ 1024) :
    IsTile t.val (View.readCov (s := S512x1024) (e := .f32) (View.whole cc0_scratch8)
      [(⟨Rect.unit (s := S512x1024) ![0, 0] S512x1024.size inb_S512x1024_S512x1024_0_0, k0_pay24 (F := Ideal) (iblk m c 2 t) (iblk m c 3 t)⟩ : View.Piece (Elt Ideal) S512x1024 .f32)]
      (Rect.unit (s := S512x1024) ![0, off] S512x256.size inb).toLoadRect) fun T q => (args m c).dmix T (off + q) := fun r q => by
  refine (Stores.readCov_at (s := S512x1024) _ _ _ _ (ix2 r (⟨off + q.val, by omega⟩ : Fin 1024)) (Stores.two (by simp) rfl)).trans ?_
  refine (Stores.canon_in (s := S512x1024) _ _ _ _ (ix2 r (⟨off + q.val, by omega⟩ : Fin 1024)) (Stores.two (by simp) (by simp))).trans ?_
  refine (pay24_at _ _ r _).trans (Finset.sum_congr (M := EReal) rfl fun k _ => ?_)
  rw [blk2, blk3]

section
variable {c : Dev nD} {t : ℕ} {b : FVec Ideal S512x256 .f32} {z : FVec Ideal S512x256 .bf16} {d : FVec Ideal S512x256 .f32} {h : FVec Ideal S8x256 .f32}

theorem dcv_tile (hb : IsTile t b fun T q => at2 (args m c).x0 T (256 + q)) (hz : IsTile t z fun T q => at2 (args m c).x0 T (768 + q))
    (hd : IsTile t d fun T q => (args m c).dmix T (0 + q)) : IsTile t (k0_pay39 (F := Ideal) b z d) (args m c).dcv := fun r q => by
  rw [pay39_at, hb, hz, hd]
  beta_reduce
  rw [Nat.zero_add]
  rfl

theorem dcv1_tile (hD : IsTile t (k0_pay39 (F := Ideal) b z d) (args m c).dcv) (hh : ∀ (r : Fin 8) (q : Fin 256), h (ix2 r q) = (args m c).dcv (tok t (512 + r.val)) q.val) :
    IsTile t (k0_pay41 (F := Ideal) b z d h) fun T q => (args m c).dcv (T + 1) q := fun r q => by
  rw [pay41_at]
  split
  · exact hD ⟨r.val + 1, _⟩ q
  · refine (hh _ q).trans ?_
    exact congrArg (fun T => (args m c).dcv T q.val) (show tok t (512 + (r.val + 1 - 512)) = tok t r.val + 1 by unfold tok; omega)

theorem dcv2_tile (hD : IsTile t (k0_pay39 (F := Ideal) b z d) (args m c).dcv) (hh : ∀ (r : Fin 8) (q : Fin 256), h (ix2 r q) = (args m c).dcv (tok t (512 + r.val)) q.val) :
    IsTile t (k0_pay42 (F := Ideal) b z d h) fun T q => (args m c).dcv (T + 2) q := fun r q => by
  rw [pay42_at]
  split
  · exact hD ⟨r.val + 2, _⟩ q
  · refine (hh _ q).trans ?_
    exact congrArg (fun T => (args m c).dcv T q.val) (show tok t (512 + (r.val + 2 - 512)) = tok t r.val + 2 by unfold tok; omega)

end

/-- A row of the parameters loaded from the block. -/
theorem row11 (c : Dev nD) (t : Fin cfg0.N) (k : Fin 3) (inb : ∀ a, (![k.val, 0] : Fin 2 → ℕ) a + S1x256.size a ≤ S16x768.size a) (q : Fin 256) :
    View.ld (iblk m c 11 t) (Rect.unit (s := S16x768) ![k.val, 0] S1x256.size inb) (ix2 0 q) = at2 (args m c).x5 k.val q.val := by
  refine (View.ld_unit_apply_of _ _ _ _ _ (ix2 (⟨k.val, by omega⟩ : Fin 16) (⟨q.val, by omega⟩ : Fin 768)) (Stores.two (by simp) (by simp))).trans ?_
  exact blk11 m c t k q

section
variable {c : Dev nD} {t : ℕ} {h k b d d0 d1 d2 : FVec Ideal S512x256 .f32} {z cv : FVec Ideal S512x256 .bf16} {w0 w1 w2 : FVec Ideal S1x256 .f32}

theorem u_tile (hh : IsTile t h fun T q => at2 (args m c).x0 T q) (hk : IsTile t k fun T q => at2 (args m c).x0 T (512 + q)) :
    IsTile t (k0_pay33 (F := Ideal) h k) (args m c).u := fun r q => by
  rw [pay33_at, hh, hk]
  rfl

theorem du_tile (h0 : IsTile t d0 (args m c).dcv) (h1 : IsTile t d1 fun T q => (args m c).dcv (T + 1) q)
    (h2 : IsTile t d2 fun T q => (args m c).dcv (T + 2) q) (e0 : ∀ q : Fin 256, w0 (ix2 0 q) = at2 (args m c).x5 0 q.val)
    (e1 : ∀ q : Fin 256, w1 (ix2 0 q) = at2 (args m c).x5 1 q.val) (e2 : ∀ q : Fin 256, w2 (ix2 0 q) = at2 (args m c).x5 2 q.val) :
    IsTile t (k0_pay44 (F := Ideal) (k0_pay31 (F := Ideal) w0) (k0_pay32 (F := Ideal) w1) d0 d1 d2 (k0_pay43 (F := Ideal) w2)) (args m c).du := fun r q => by
  rw [pay44_at, pay31_at, pay32_at, h0, h1, h2, e0, e1, e2]
  rfl

theorem dbg_tile (hz : IsTile t z fun T q => at2 (args m c).x0 T (768 + q)) (hv : IsTile t cv (args m c).cv)
    (hd : IsTile t d fun T q => (args m c).dmix T (0 + q)) : IsTile t (k0_pay37 (F := Ideal) z cv d) (args m c).dbg := fun r q => by
  rw [pay37_at, hz, hv, hd]
  beta_reduce
  rw [Nat.zero_add]
  rfl

theorem dz_tile (hb : IsTile t b fun T q => at2 (args m c).x0 T (256 + q)) (hz : IsTile t z fun T q => at2 (args m c).x0 T (768 + q))
    (hv : IsTile t cv (args m c).cv) (hd : IsTile t d fun T q => (args m c).dmix T (0 + q)) :
    IsTile t (k0_pay38 (F := Ideal) b z cv d) (args m c).dz := fun r q => by
  rw [pay38_at, hb, hz, hv, hd]
  beta_reduce
  rw [Nat.zero_add]
  rfl

end

end Cert.Conv

end
-- ==== Proof.ConvCarry.lean ====
/-
  The rows carried from a tile of tokens to the one before it: the first rows of the convolution's gradient.
-/
module

public import proofs.«01_k».proof.Proof.ConvTile

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- After every grid point the carried rows are the first ones of its tile. -/
theorem carried (c : Dev nD) (t : Fin cfg0.N) (r : Fin 8) (q : Fin 256) :
    (outsAt0 m c t.val t.isLt).2.2.2.2.2.1 (ix2 r q) = (args m c).dcv (tok t.val r.val) q.val := by
  have e := dcv_tile m (ab m c t) (az m c t) (dm m c t 0 inb_S512x1024_S512x256_0_0 (by omega)) ⟨r.val, by omega⟩ q
  by_cases h0 : t.val % 16 = 0
  · rw [outsAt0_A m c t h0 (by omega)]
    frame_out
    exact (pay50_at _ r q).trans e
  · by_cases h1 : t.val % 16 = 15
    · rw [outsAt0_C m c t h0 h1]
      frame_out
      exact (pay50_at _ r q).trans e
    · rw [outsAt0_B m c t h0 h1]
      frame_out
      exact (pay50_at _ r q).trans e

end Cert.Conv

end
-- ==== Proof.ConvPoint.lean ====
/-
  What a grid point leaves of the short convolution mixer: the first columns of the projection's gradient, and what it adds
  to the gradient of the convolution's weight.
-/
module

public import proofs.«01_k».proof.Proof.ConvCarry

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The parts of the projection a grid point loads. -/
abbrev lH (c : Dev nD) (t : Fin cfg0.N) : FVec Ideal S512x256 .f32 :=
  k0_pay26 (F := Ideal) (View.ld (iblk m c 0 t) (Rect.unit (s := S512x3328) ![0, 0] S512x256.size inb_S512x3328_S512x256_0_0))
abbrev lC (c : Dev nD) (t : Fin cfg0.N) : FVec Ideal S512x256 .f32 :=
  k0_pay27 (F := Ideal) (View.ld (iblk m c 0 t) (Rect.unit (s := S512x3328) ![0, 512] S512x256.size inb_S512x3328_S512x256_0_512))
abbrev lB (c : Dev nD) (t : Fin cfg0.N) : FVec Ideal S512x256 .f32 :=
  k0_pay28 (F := Ideal) (View.ld (iblk m c 0 t) (Rect.unit (s := S512x3328) ![0, 256] S512x256.size inb_S512x3328_S512x256_0_256))
abbrev lZ (c : Dev nD) (t : Fin cfg0.N) : FVec Ideal S512x256 .bf16 :=
  k0_pay29 (F := Ideal) (View.ld (iblk m c 0 t) (Rect.unit (s := S512x3328) ![0, 768] S512x256.size inb_S512x3328_S512x256_0_768))

/-- The gradient of the mixers at this mixer's columns. -/
abbrev lD (c : Dev nD) (t : Fin cfg0.N) : FVec Ideal S512x256 .f32 :=
  View.readCov (s := S512x1024) (e := .f32) (View.whole cc0_scratch8)
    [(⟨Rect.unit (s := S512x1024) ![0, 0] S512x1024.size inb_S512x1024_S512x1024_0_0, k0_pay24 (F := Ideal) (iblk m c 2 t) (iblk m c 3 t)⟩ : View.Piece (Elt Ideal) S512x1024 .f32)]
    (Rect.unit (s := S512x1024) ![0, 0] S512x256.size inb_S512x1024_S512x256_0_0).toLoadRect

/-- The gradient of the convolution's result, and the same one and two tokens on. -/
abbrev g0 (c : Dev nD) (t : Fin cfg0.N) : FVec Ideal S512x256 .f32 := k0_pay39 (F := Ideal) (lB m c t) (lZ m c t) (lD m c t)
abbrev g1 (c : Dev nD) (t : Fin cfg0.N) (h : FVec Ideal S8x256 .f32) : FVec Ideal S512x256 .f32 :=
  k0_pay41 (F := Ideal) (lB m c t) (lZ m c t) (lD m c t) h
abbrev g2 (c : Dev nD) (t : Fin cfg0.N) (h : FVec Ideal S8x256 .f32) : FVec Ideal S512x256 .f32 :=
  k0_pay42 (F := Ideal) (lB m c t) (lZ m c t) (lD m c t) h

/-- The rows of the convolution's weight. -/
abbrev w0 (c : Dev nD) (t : Fin cfg0.N) : FVec Ideal S1x256 .f32 :=
  k0_pay31 (F := Ideal) (View.ld (iblk m c 11 t) (Rect.unit (s := S16x768) ![0, 0] S1x256.size inb_S16x768_S1x256_0_0))
abbrev w1 (c : Dev nD) (t : Fin cfg0.N) : FVec Ideal S1x256 .f32 :=
  k0_pay32 (F := Ideal) (View.ld (iblk m c 11 t) (Rect.unit (s := S16x768) ![1, 0] S1x256.size inb_S16x768_S1x256_1_0))
abbrev w2 (c : Dev nD) (t : Fin cfg0.N) : FVec Ideal S512x256 .f32 :=
  k0_pay43 (F := Ideal) (View.ld (iblk m c 11 t) (Rect.unit (s := S16x768) ![2, 0] S1x256.size inb_S16x768_S1x256_2_0))

/-- The rows carried in are the ones after this tile. -/
def Follows (c : Dev nD) (t : ℕ) (h : FVec Ideal S8x256 .f32) : Prop :=
  ∀ (r : Fin 8) (q : Fin 256), h (ix2 r q) = (args m c).dcv (tok t (512 + r.val)) q.val

theorem g0_tile (c : Dev nD) (t : Fin cfg0.N) : IsTile t.val (g0 m c t) (args m c).dcv :=
  dcv_tile m (ab m c t) (az m c t) (dm m c t 0 inb_S512x1024_S512x256_0_0 (by omega))

theorem duOf_tile (c : Dev nD) (t : Fin cfg0.N) (h : FVec Ideal S8x256 .f32) (hh : Follows m c t.val h) :
    IsTile t.val (k0_pay44 (F := Ideal) (w0 m c t) (w1 m c t) (g0 m c t) (g1 m c t h) (g2 m c t h) (w2 m c t)) (args m c).du :=
  du_tile m (g0_tile m c t) (dcv1_tile m (g0_tile m c t) hh) (dcv2_tile m (g0_tile m c t) hh) (row11 m c t 0 _) (row11 m c t 1 _) (row11 m c t 2 _)

/-- The stores into the four groups of columns, the newest first. -/
abbrev four (c : Dev nD) (t : Fin cfg0.N) (h : FVec Ideal S8x256 .f32) : List (View.Piece (Elt Ideal) S512x3456 .bf16) :=
  [⟨Rect.unit (s := S512x3456) ![0, 0] S512x256.size inb_S512x3456_S512x256_0_0,
      k0_pay46 (F := Ideal) (lC m c t) (w0 m c t) (w1 m c t) (g0 m c t) (g1 m c t h) (g2 m c t h) (w2 m c t)⟩,
    ⟨Rect.unit (s := S512x3456) ![0, 512] S512x256.size inb_S512x3456_S512x256_0_512,
      k0_pay45 (F := Ideal) (lH m c t) (w0 m c t) (w1 m c t) (g0 m c t) (g1 m c t h) (g2 m c t h) (w2 m c t)⟩,
    ⟨Rect.unit (s := S512x3456) ![0, 768] S512x256.size inb_S512x3456_S512x256_0_768, k0_pay38 (F := Ideal) (lB m c t) (lZ m c t) (iblk m c 9 t) (lD m c t)⟩,
    ⟨Rect.unit (s := S512x3456) ![0, 256] S512x256.size inb_S512x3456_S512x256_0_256, k0_pay37 (F := Ideal) (lZ m c t) (iblk m c 9 t) (lD m c t)⟩]

theorem four_at (c : Dev nD) (t : Fin cfg0.N) (h : FVec Ideal S8x256 .f32) (hh : Follows m c t.val h) (r : Fin 512) (C : Fin 3456) (hC : C.val < 1024) :
    View.canon (four m c t h) (ix2 r C) = (args m c).dp (tok t.val r.val) C.val := by
  have hd := dm m c t 0 inb_S512x1024_S512x256_0_0 (by omega)
  have hv : IsTile t.val (iblk m c 9 t) (args m c).cv := blk9 m c t
  unfold Args.dp
  by_cases h1 : C.val < 256
  · refine (Stores.canon_in (s := S512x3456) _ _ _ _ (ix2 r (⟨C.val, h1⟩ : Fin 256)) (Stores.two (by simp) (by simp))).trans ?_
    rw [if_pos h1, pay46_at]
    exact congrArg₂ (· * ·) (duOf_tile m c t h hh r ⟨C.val, h1⟩) (ac m c t r ⟨C.val, h1⟩)
  rw [if_neg h1]
  refine (Stores.canon_out (s := S512x3456) _ _ _ _ 1 (Or.inr (by simp; omega))).trans ?_
  by_cases h2 : C.val < 512
  · refine (Stores.canon_out (s := S512x3456) _ _ _ _ 1 (Or.inl (by simp; omega))).trans ?_
    refine (Stores.canon_out (s := S512x3456) _ _ _ _ 1 (Or.inl (by simp; omega))).trans ?_
    refine (Stores.canon_in (s := S512x3456) _ _ _ _ (ix2 r (⟨C.val - 256, by omega⟩ : Fin 256)) (Stores.two (by simp) (by simp; omega))).trans ?_
    rw [if_pos h2]
    exact dbg_tile m (az m c t) hv hd r ⟨C.val - 256, by omega⟩
  rw [if_neg h2]
  by_cases h3 : C.val < 768
  · refine (Stores.canon_in (s := S512x3456) _ _ _ _ (ix2 r (⟨C.val - 512, by omega⟩ : Fin 256)) (Stores.two (by simp) (by simp; omega))).trans ?_
    rw [if_pos h3, pay45_at]
    exact congrArg₂ (· * ·) (duOf_tile m c t h hh r ⟨C.val - 512, by omega⟩) (ah m c t r ⟨C.val - 512, by omega⟩)
  rw [if_neg h3]
  refine (Stores.canon_out (s := S512x3456) _ _ _ _ 1 (Or.inr (by simp; omega))).trans ?_
  refine (Stores.canon_in (s := S512x3456) _ _ _ _ (ix2 r (⟨C.val - 768, by omega⟩ : Fin 256)) (Stores.two (by simp) (by simp; omega))).trans ?_
  exact dz_tile m (ab m c t) (az m c t) hv hd r ⟨C.val - 768, by omega⟩

/-- What a tile adds to a row of the weight's gradient. -/
def part (c : Dev nD) (k t q : ℕ) : EReal := ∑ r : Fin 512, (args m c).u (tok t r.val) q * (args m c).dcv (tok t r.val + (2 - k)) q

theorem part_eq {c : Dev nD} {t : ℕ} {U D : FVec Ideal S512x256 .f32} (k : ℕ) (hU : IsTile t U (args m c).u)
    (hD : IsTile t D fun T q => (args m c).dcv (T + (2 - k)) q) (o : EReal) (q : Fin 256) :
    o + ∑ r : Fin 512, U (ix2 r q) * D (ix2 r q) = o + part m c k t q.val :=
  congrArg _ (Finset.sum_congr (M := EReal) rfl fun r _ => congrArg₂ (· * ·) (hU r q) (hD r q))

/-- The stores into the three rows, the newest first, over the rows they add to. -/
abbrev three (c : Dev nD) (t : Fin cfg0.N) (h : FVec Ideal S8x256 .f32) (o0 o1 o2 : FVec Ideal S1x256 .f32) : List (View.Piece (Elt Ideal) S16x768 .f32) :=
  [⟨Rect.unit (s := S16x768) ![2, 0] S1x256.size inb_S16x768_S1x256_2_0, k0_pay49 (F := Ideal) (k0_pay33 (F := Ideal) (lH m c t) (lC m c t)) (g0 m c t) o2⟩,
    ⟨Rect.unit (s := S16x768) ![1, 0] S1x256.size inb_S16x768_S1x256_1_0, k0_pay48 (F := Ideal) (k0_pay33 (F := Ideal) (lH m c t) (lC m c t)) (g1 m c t h) o1⟩,
    ⟨Rect.unit (s := S16x768) ![0, 0] S1x256.size inb_S16x768_S1x256_0_0, k0_pay47 (F := Ideal) (k0_pay33 (F := Ideal) (lH m c t) (lC m c t)) (g2 m c t h) o0⟩]

theorem new0 (c : Dev nD) (t : Fin cfg0.N) (h : FVec Ideal S8x256 .f32) (hh : Follows m c t.val h) (o : FVec Ideal S1x256 .f32) (q : Fin 256) :
    k0_pay47 (F := Ideal) (k0_pay33 (F := Ideal) (lH m c t) (lC m c t)) (g2 m c t h) o (ix2 0 q) = o (ix2 0 q) + part m c 0 t.val q.val :=
  (pay47_at _ _ _ q).trans (part_eq m 0 (u_tile m (ah m c t) (ac m c t)) (dcv2_tile m (g0_tile m c t) hh) _ q)

theorem new1 (c : Dev nD) (t : Fin cfg0.N) (h : FVec Ideal S8x256 .f32) (hh : Follows m c t.val h) (o : FVec Ideal S1x256 .f32) (q : Fin 256) :
    k0_pay48 (F := Ideal) (k0_pay33 (F := Ideal) (lH m c t) (lC m c t)) (g1 m c t h) o (ix2 0 q) = o (ix2 0 q) + part m c 1 t.val q.val :=
  (pay48_at _ _ _ q).trans (part_eq m 1 (u_tile m (ah m c t) (ac m c t)) (dcv1_tile m (g0_tile m c t) hh) _ q)

theorem new2 (c : Dev nD) (t : Fin cfg0.N) (o : FVec Ideal S1x256 .f32) (q : Fin 256) :
    k0_pay49 (F := Ideal) (k0_pay33 (F := Ideal) (lH m c t) (lC m c t)) (g0 m c t) o (ix2 0 q) = o (ix2 0 q) + part m c 2 t.val q.val :=
  (pay49_at _ _ _ q).trans (part_eq m 2 (u_tile m (ah m c t) (ac m c t)) (g0_tile m c t) _ q)

/-- The rows read back: each is what it was and this tile's part. -/
theorem three_at (c : Dev nD) (t : Fin cfg0.N) (h : FVec Ideal S8x256 .f32) (hh : Follows m c t.val h) (o0 o1 o2 : FVec Ideal S1x256 .f32)
    (L : List (View.Piece (Elt Ideal) S16x768 .f32)) (f : Fin 3 → EReal) (k : Fin 3) (q : Fin 256)
    (e0 : o0 (ix2 0 q) = f 0) (e1 : o1 (ix2 0 q) = f 1) (e2 : o2 (ix2 0 q) = f 2) :
    View.canon (three m c t h o0 o1 o2 ++ L) (ix2 (⟨k.val, by omega⟩ : Fin 16) (⟨q.val, by omega⟩ : Fin 768)) = f k + part m c k.val t.val q.val := by
  match k with
  | 0 =>
    refine (Stores.canon_out (s := S16x768) _ _ _ _ 0 (Or.inl (by simp))).trans ?_
    refine (Stores.canon_out (s := S16x768) _ _ _ _ 0 (Or.inl (by simp))).trans ?_
    refine (Stores.canon_in (s := S16x768) _ _ _ _ (ix2 0 q) (Stores.two (by simp) (by simp))).trans ?_
    exact (new0 m c t h hh o0 q).trans (congrArg (· + _) e0)
  | 1 =>
    refine (Stores.canon_out (s := S16x768) _ _ _ _ 0 (Or.inl (by simp))).trans ?_
    refine (Stores.canon_in (s := S16x768) _ _ _ _ (ix2 0 q) (Stores.two (by simp) (by simp))).trans ?_
    exact (new1 m c t h hh o1 q).trans (congrArg (· + _) e1)
  | 2 =>
    refine (Stores.canon_in (s := S16x768) _ _ _ _ (ix2 0 q) (Stores.two (by simp) (by simp))).trans ?_
    exact (new2 m c t o2 q).trans (congrArg (· + _) e2)

end Cert.Conv

end
-- ==== Proof.ConvGrid.lean ====
/-
  The short convolution mixer over the grid: the columns each point leaves, and the weight's gradient added up.
-/
module

public import proofs.«01_k».proof.Proof.ConvPoint

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The carried rows as a point finds them. -/
theorem follows (c : Dev nD) (t : Fin cfg0.N) (h0 : ¬t.val % 16 = 0) (h : FVec Ideal S8x256 .f32)
    (e : h = (outsAt0 m c (t.val - 1) (Nat.lt_of_le_of_lt (Nat.sub_le _ _) t.isLt)).2.2.2.2.2.1) : Follows m c t.val h := fun r q => by
  rw [e]
  refine (carried m c ⟨t.val - 1, Nat.lt_of_le_of_lt (Nat.sub_le _ _) t.isLt⟩ r q).trans (congrArg (fun T => (args m c).dcv T q.val) ?_)
  have : t.val < 16 := t.isLt
  show tok (t.val - 1) r.val = tok t.val (512 + r.val)
  unfold tok
  omega

theorem follows_zero (c : Dev nD) (t : Fin cfg0.N) (h0 : t.val % 16 = 0) : Follows m c t.val (k0_pay10 (F := Ideal)) := fun r q => by
  have : t.val < 16 := t.isLt
  rw [pay10_at, Args.dcv_of_ge]
  unfold tok
  omega

/-- The gradient of the projection a point leaves. -/
theorem columns (c : Dev nD) (t : Fin cfg0.N) (r : Fin 512) (C : Fin 3456) (hC : C.val < 1024) :
    (outsAt0 m c t.val t.isLt).1 (ix2 r C) = (args m c).dp (tok t.val r.val) C.val := by
  by_cases h0 : t.val % 16 = 0
  · rw [outsAt0_A m c t h0 (by omega)]
    frame_out
    repeat refine (Stores.canon_out (s := S512x3456) _ _ _ _ 1 (Or.inl (by simp; omega))).trans ?_
    exact four_at m c t _ (follows_zero m c t h0) r C hC
  · by_cases h1 : t.val % 16 = 15
    · rw [outsAt0_C m c t h0 h1]
      frame_out
      repeat refine (Stores.canon_out (s := S512x3456) _ _ _ _ 1 (Or.inl (by simp; omega))).trans ?_
      exact four_at m c t _ (follows m c t h0 _ (Memref.IsWhole.read_unread _ _)) r C hC
    · rw [outsAt0_B m c t h0 h1]
      frame_out
      repeat refine (Stores.canon_out (s := S512x3456) _ _ _ _ 1 (Or.inl (by simp; omega))).trans ?_
      exact four_at m c t _ (follows m c t h0 _ (Memref.IsWhole.read_unread _ _)) r C hC

end Cert.Conv

end
-- ==== Proof.ConvRows.lean ====
/-
  The gradient of the convolution's weight, added up over the grid.
-/
module

public import proofs.«01_k».proof.Proof.ConvGrid

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The row of the weight's gradient, where it is kept. -/
abbrev at16 (k : Fin 3) (q : Fin 256) : S16x768.Idx := ix2 (⟨k.val, by omega⟩ : Fin 16) (⟨q.val, by omega⟩ : Fin 768)

theorem three_covers (c : Dev nD) (t : Fin cfg0.N) (h : FVec Ideal S8x256 .f32) (o0 o1 o2 : FVec Ideal S1x256 .f32) (k : Fin 3) (q : Fin 256) :
    ∃ p ∈ three m c t h o0 o1 o2, at16 k q ∈ p.1.set := by
  match k with
  | 0 => exact ⟨_, List.mem_cons_of_mem _ (List.mem_cons_of_mem _ List.mem_cons_self), (Rect.mem_set_unit (inb := inb_S16x768_S1x256_0_0)).mpr (Stores.two (by simp) (by simp))⟩
  | 1 => exact ⟨_, List.mem_cons_of_mem _ List.mem_cons_self, (Rect.mem_set_unit (inb := inb_S16x768_S1x256_1_0)).mpr (Stores.two (by simp) (by simp))⟩
  | 2 => exact ⟨_, List.mem_cons_self, (Rect.mem_set_unit (inb := inb_S16x768_S1x256_2_0)).mpr (Stores.two (by simp) (by simp))⟩

/-- The rows read back over what was there before. -/
theorem three_read (c : Dev nD) (t : Fin cfg0.N) (h : FVec Ideal S8x256 .f32) (hh : Follows m c t.val h) (X : FVec Ideal S16x768 .f32)
    (f : _) (k : Fin 3) (q : Fin 256) :
    View.read (Elt Ideal) (View.whole cc0_scratch5) (View.writes (View.whole cc0_scratch5) (Elt Ideal) f
      (three m c t h (View.ld (Val := Elt Ideal) (e' := .f32) X (Rect.unit (s := S16x768) ![0, 0] S1x256.size inb_S16x768_S1x256_0_0))
        (View.ld (Val := Elt Ideal) (e' := .f32) X (Rect.unit (s := S16x768) ![1, 0] S1x256.size inb_S16x768_S1x256_1_0))
        (View.ld (Val := Elt Ideal) (e' := .f32) X (Rect.unit (s := S16x768) ![2, 0] S1x256.size inb_S16x768_S1x256_2_0)))) (at16 k q) = X (at16 k q) + part m c k.val t.val q.val := by
  refine (View.read_writes_apply_eq_canon _ _ _ _ (three_covers m c t h _ _ _ k q)).trans ?_
  exact three_at m c t h hh _ _ _ [] (fun k => X (at16 k q)) k q
    (View.ld_unit_apply_of _ _ _ _ _ (at16 0 q) (Stores.two (by simp) (by simp)))
    (View.ld_unit_apply_of _ _ _ _ _ (at16 1 q) (Stores.two (by simp) (by simp)))
    (View.ld_unit_apply_of _ _ _ _ _ (at16 2 q) (Stores.two (by simp) (by simp)))

theorem rows_next (c : Dev nD) (t : Fin cfg0.N) (h0 : ¬t.val % 16 = 0) (h1 : ¬t.val % 16 = 15) (k : Fin 3) (q : Fin 256) :
    (outsAt0 m c t.val t.isLt).2.2.2.2.2.2.2.2.1 (at16 k q) =
      (outsAt0 m c (t.val - 1) (Nat.lt_of_le_of_lt (Nat.sub_le _ _) t.isLt)).2.2.2.2.2.2.2.2.1 (at16 k q) + part m c k.val t.val q.val := by
  rw [outsAt0_B m c t h0 h1]
  frame_out
  repeat refine (View.read_writes_cons_unit_of_not_mem (s := S16x768) _ _ _ _ _ _ rfl 0 (Or.inl (Nat.lt_of_lt_of_le k.isLt (Nat.le_of_ble_eq_true rfl)))).trans ?_
  refine (three_read m c t _ ?_ _ _ k q).trans ?_
  · exact follows m c t h0 _ (Memref.IsWhole.read_unread _ _)
  exact congrArg (· + _) (congrFun (Memref.IsWhole.read_unread _ _) _)

theorem rows_first (c : Dev nD) (t : Fin cfg0.N) (h0 : t.val % 16 = 0) (k : Fin 3) (q : Fin 256) :
    (outsAt0 m c t.val t.isLt).2.2.2.2.2.2.2.2.1 (at16 k q) = 0 + part m c k.val t.val q.val := by
  rw [outsAt0_A m c t h0 (by omega)]
  frame_out
  repeat refine (Stores.canon_out (s := S16x768) _ _ _ _ 0 (Or.inl (Nat.lt_of_lt_of_le k.isLt (Nat.le_of_ble_eq_true rfl)))).trans ?_
  refine three_at m c t _ (follows_zero m c t h0) _ _ _ _ (fun _ => 0) k q ?_ ?_ ?_
  · refine (Stores.readCov_at (s := S16x768) _ _ _ _ (at16 0 q) (Stores.two (by simp) (by simp))).trans ?_
    refine (Stores.canon_in (s := S16x768) _ _ _ _ (at16 0 q) (Stores.two (by simp) (by simp))).trans ?_
    exact pay13_at _ _
  · refine (Stores.readCov_at (s := S16x768) _ _ _ _ (at16 1 q) (Stores.two (by simp) (by simp))).trans ?_
    refine (Stores.canon_out (s := S16x768) _ _ _ _ 0 (Or.inr (by simp))).trans ?_
    refine (Stores.canon_in (s := S16x768) _ _ _ _ (at16 1 q) (Stores.two (by simp) (by simp))).trans ?_
    exact pay13_at _ _
  · refine (Stores.readCov_at (s := S16x768) _ _ _ _ (at16 2 q) (Stores.two (by simp) (by simp))).trans ?_
    refine (Stores.canon_out (s := S16x768) _ _ _ _ 0 (Or.inr (by simp))).trans ?_
    refine (Stores.canon_out (s := S16x768) _ _ _ _ 0 (Or.inr (by simp))).trans ?_
    refine (Stores.canon_in (s := S16x768) _ _ _ _ (at16 2 q) (Stores.two (by simp) (by simp))).trans ?_
    exact pay13_at _ _

/-- What the last point gives out: the rows it found and its own part. -/
theorem rows_last (c : Dev nD) (t : Fin cfg0.N) (h1 : t.val % 16 = 15) (k : Fin 3) (q : Fin 256) :
    (outsAt0 m c t.val t.isLt).2.1 (ix2 (⟨k.val, by omega⟩ : Fin 32) (⟨q.val, by omega⟩ : Fin 1024)) =
      (outsAt0 m c (t.val - 1) (Nat.lt_of_le_of_lt (Nat.sub_le _ _) t.isLt)).2.2.2.2.2.2.2.2.1 (at16 k q) + part m c k.val t.val q.val := by
  have h0 : ¬t.val % 16 = 0 := by omega
  rw [outsAt0_C m c t h0 h1]
  frame_out
  repeat refine (Stores.canon_out (s := S32x1024) _ _ _ _ 0 (Or.inl (Nat.lt_of_lt_of_le k.isLt (Nat.le_of_ble_eq_true rfl)))).trans ?_
  repeat refine (Stores.canon_out (s := S32x1024) _ _ _ _ 1 (Or.inl (Nat.lt_of_lt_of_le q.isLt (Nat.le_of_ble_eq_true rfl)))).trans ?_
  refine (Stores.canon_out (s := S32x1024) _ _ _ _ 0 (Or.inl (Nat.lt_of_lt_of_le k.isLt (Nat.le_of_ble_eq_true rfl)))).trans ?_
  refine (Stores.canon_in (s := S32x1024) _ _ _ _ (ix2 (⟨k.val, by omega⟩ : Fin 8) q) (Stores.two (by simp) (by simp))).trans ?_
  refine (pay17_at _ k q).trans ?_
  refine (View.ld_unit_apply_of _ _ _ _ _ (at16 k q) (Stores.two (by simp) (by simp))).trans ?_
  repeat refine (View.read_writes_cons_unit_of_not_mem (s := S16x768) _ _ _ _ _ _ rfl 0 (Or.inl (Nat.lt_of_lt_of_le k.isLt (Nat.le_of_ble_eq_true rfl)))).trans ?_
  refine (three_read m c t _ ?_ _ _ k q).trans ?_
  · exact follows m c t h0 _ (Memref.IsWhole.read_unread _ _)
  exact congrArg (· + _) (congrFun (Memref.IsWhole.read_unread _ _) _)

end Cert.Conv

end
-- ==== Proof.ConvValues.lean ====
/-
  The arrays the kernel ends with, at the short convolution mixer's entries.
-/
module

public import proofs.«01_k».proof.Proof.ConvRows

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The projection's gradient at the columns of this mixer. -/
theorem dp_value (c : Dev nD) (t : Fin 8192) (C : Fin 3456) (hC : C.val < 1024) :
    (dats m 0 c).arrAt 16 cfg0.N (ix2 t C) = (args m c).dp t.val C.val := by
  refine ((dats m 0 c).arrAt_forall_of_covers 16 (fun i v => (i 1).val < 1024 → v = (args m c).dp (i 0).val (i 1).val) (by decide +kernel)
    (fun s hf y => ?_) (ix2 t C)) hC
  blk_simp
  rw [after0_16]
  obtain ⟨r, q, rfl⟩ : ∃ (r : Fin 512) (q : Fin 3456), y = ix2 r q := ⟨y 0, y 1, eq_ix2 y⟩
  rw [(idx s).2.2.2.2.2.2.1]
  show 0 * 3456 + q.val < 1024 → _ = (args m c).dp ((15 - s.val) * 512 + r.val) (0 * 3456 + q.val)
  rw [Nat.zero_mul, Nat.zero_add]
  exact columns m c s r q

/-- The gradient of the convolution's weight. -/
theorem sgc_value (c : Dev nD) (k : Fin 3) (q : Fin 256) :
    (dats m 0 c).arrAt 17 cfg0.N (ix2 (⟨k.val, by omega⟩ : Fin 32) (⟨q.val, by omega⟩ : Fin 1024)) = (args m c).dconv (2 - k.val) q.val := by
  have ht : ∀ t : Fin grid0.N, win0_17.flush t = true → t.val = 15 := by decide +kernel
  refine ((dats m 0 c).arrAt_forall_of_covers 17 (fun i v => (i 0).val = k.val → (i 1).val = q.val → v = (args m c).dconv (2 - k.val) q.val) (by decide +kernel)
    (fun s hf y => ?_) _) rfl rfl
  have h15 := ht s hf
  blk_simp
  rw [after0_17]
  obtain ⟨r, C, rfl⟩ : ∃ (r : Fin 32) (C : Fin 1024), y = ix2 r C := ⟨y 0, y 1, eq_ix2 y⟩
  rw [(idx s).2.2.2.2.2.2.2.1]
  show 0 * 32 + r.val = k.val → 0 * 1024 + C.val = q.val → _
  rw [Nat.zero_mul, Nat.zero_add, Nat.zero_add]
  intro hr hC
  rw [show ix2 r C = ix2 (⟨k.val, by omega⟩ : Fin 32) (⟨q.val, by omega⟩ : Fin 1024) from congrArg₂ ix2 (Fin.ext hr) (Fin.ext hC)]
  have hN : s.val - 1 < cfg0.N := Nat.lt_of_le_of_lt (Nat.sub_le _ _) s.isLt
  have before : ∀ (n : ℕ) (hn : n < cfg0.N), n < 15 →
      (outsAt0 m c n hn).2.2.2.2.2.2.2.2.1 (at16 k q) = ∑ j ∈ Finset.range (n + 1), part m c k.val j q.val := by
    intro n
    induction n with
    | zero => intro hn _; rw [Finset.sum_range_one]; exact (rows_first m c ⟨0, hn⟩ rfl k q).trans (zero_add _)
    | succ n ih =>
      intro hn h
      rw [Finset.sum_range_succ, ← ih (by omega) (by omega)]
      exact rows_next m c ⟨n + 1, hn⟩ (by show ¬(n + 1) % 16 = 0; omega) (by show ¬(n + 1) % 16 = 15; omega) k q
  refine (rows_last m c s (by omega) k q).trans ?_
  rw [before _ hN (by omega), h15]
  refine (Finset.sum_range_succ (fun j => part m c k.val j q.val) 15).symm.trans ?_
  exact sum_tok fun t => (args m c).u t q.val * (args m c).dcv (t + (2 - k.val)) q.val

end Cert.Conv

end
-- ==== Proof.Dwo.lean ====
/-
  The gradient of the output projection's weight: the tiles of tokens, one grid point each, added up.
-/
module

public import proofs.«01_k».proof.Proof.ConvBlocks
public import proofs.«01_k».proof.Proof.ConvPay
public import proofs.«01_k».proof.Proof.Stores

@[expose] public section

set_option maxRecDepth 16384

noncomputable section

namespace Cert.Dwo

open Idealize.ShloMosaic Idealize.ShloMosaic.TcCoe Idealize.SL.Sem
open Idealize.ShloMosaic.Pipeline (Dat)
open Cert.KernelIdeal Cert.KernelIdeal.Gen
open Cert.Conv (at2 args tok)

variable (m : (ℓ : Loc nD τ sig) → Buf (Elt Ideal) ℓ)

/-- What a tile adds. -/
def tile (c : Dev nD) (n : ℕ) (i : S1024x1024.Idx) : EReal :=
  ∑ r : Fin 512, at2 (args m c).x1 (tok n r.val) (i 0).val * at2 (args m c).x17 (tok n r.val) (i 1).val

theorem pay22_at (p q : Fin 1024) : k0_pay22 (F := Ideal) (ix2 p q) = 0 := by
  pointwise [k0_pay22]

/-- One point's product is its tile's part. -/
theorem step (c : Dev nD) (t : Fin cfg0.N) (o : FVec Ideal S1024x1024 .f32) (p q : Fin 1024) :
    k0_pay25 (F := Ideal) (iblk m c 2 t) o (iblk m c 4 t) (ix2 p q) = o (ix2 p q) + tile m c t.val (ix2 p q) := by
  refine (Conv.pay25_at _ _ _ p q).trans (congrArg _ (Finset.sum_congr (M := EReal) rfl fun r _ => ?_))
  rw [Conv.blk4, Conv.blk2]
  rfl

theorem first (c : Dev nD) (t : Fin cfg0.N) (h0 : t.val % 16 = 0) (p q : Fin 1024) :
    (outsAt0 m c t.val t.isLt).2.2.1 (ix2 p q) = 0 + tile m c t.val (ix2 p q) := by
  rw [outsAt0_A m c t h0 (by omega)]
  frame_out
  exact (step m c t _ p q).trans (congrArg (· + _) (pay22_at p q))

theorem next (c : Dev nD) (t : Fin cfg0.N) (h0 : ¬ t.val % 16 = 0) (p q : Fin 1024) :
    (outsAt0 m c t.val t.isLt).2.2.1 (ix2 p q) = (outsAt0 m c (t.val - 1) (Nat.lt_of_le_of_lt (Nat.sub_le _ _) t.isLt)).2.2.1 (ix2 p q) + tile m c t.val (ix2 p q) := by
  by_cases h1 : t.val % 16 = 15
  · rw [outsAt0_C m c t h0 h1]
    frame_out
    exact step m c t _ p q
  · rw [outsAt0_B m c t h0 h1]
    frame_out
    exact step m c t _ p q

/-- The gradient of the output projection's weight. -/
theorem value (c : Dev nD) (X : Vec Ideal S1024x1024 .f32) (hX : ∀ p q : Fin 1024, X (ix2 p q) = (args m c).dwo p.val q.val) :
    (dats m 0 c).arrAt 18 cfg0.N = X := by
  refine (dats m 0 c).arrAt_eq_of_covers 18 _ (by decide +kernel) fun t hf y => ?_
  have ht : t.val = 15 := (by decide +kernel : ∀ t : Fin grid0.N, win0_18.flush t = true → t.val = 15) t hf
  blk_simp
  rw [after0_18]
  obtain ⟨p, q, rfl⟩ : ∃ (p q : Fin 1024), y = ix2 p q := ⟨y 0, y 1, eq_ix2 y⟩
  have hsum := Pipeline.eq_sum_of_reset_step_apply_single_of_mod (fun n h => (outsAt0 m c n h).2.2.1) 16 (fun _ => (0 : EReal)) (tile m c)
    (fun t h i => by idx_vars i; exact first m c t h _ _) (fun t h i => by idx_vars i; exact next m c t h _ _) (by decide) t (r := 15) (by rw [ht]) (ix2 p q)
  refine (hsum.trans ?_).trans (congrArg X (show ix2 p q = _ by blk_ext [Conv.idx t]))
  rw [zero_add, hX]
  exact Conv.sum_tok fun t => at2 (args m c).x1 t p.val * at2 (args m c).x17 t q.val

end Cert.Dwo

end
-- ==== Proof.ConvClaim.lean ====
/-
  The claim about the short convolution mixer and the output projection: the kernel and the reference end with the same
  entries.
-/
module

public import proofs.«01_k».proof.Defs
public import proofs.«01_k».proof.Proof.Gen.KernelIdeal.Value
public import proofs.«01_k».proof.Proof.Gen.ConvPartIdeal.Run
public import Idealize.ShloMosaic.Lib.Quiescent
public import proofs.«01_k».proof.Proof.ConvPre
public import proofs.«01_k».proof.Proof.ConvRef
public import proofs.«01_k».proof.Proof.ConvValues
public import proofs.«01_k».proof.Proof.Dwo

@[expose] public section

set_option maxRecDepth 16384

noncomputable section

namespace Cert.Proof.ConvClaim

open Idealize.ShloMosaic Idealize.ShloMosaic.TcCoe Idealize.SL.Sem

/-- The reference's own run leaves its arguments alone; it has no semaphore. -/
theorem frame : Cert.quiescent_ConvPartIdeal := fun m g _ =>
  (θ_run Cert.ConvPartIdeal.defs _ _).mono (fun r h => ⟨fun c => (h c).2.2.2, sem_eq_zero_of_no_sems (by decide) r.2⟩)
    (Cert.ConvPartIdeal.Value.run (F := Ideal) m g)

theorem claim : Cert.algebraic_KernelIdeal_ConvPartIdeal_on_conv_results_pre_finite := by
  intro m g m' g' hpre hagree
  have agree := fun c => hagree c
  refine ⟨fun c => (Cert.KernelIdeal.Gen.dats m 0 c).arrAt 16 Cert.KernelIdeal.cfg0.N,
    fun c => (Cert.KernelIdeal.Gen.dats m 0 c).arrAt 17 Cert.KernelIdeal.cfg0.N,
    fun c => (Cert.KernelIdeal.Gen.dats m 0 c).arrAt 18 Cert.KernelIdeal.cfg0.N, ?_, ?_⟩
  · exact (θ_run Cert.KernelIdeal.defs _ _).mono
      (fun _ h c => ⟨fun i _ => congrFun (h c).1 i, fun i _ => congrFun (h c).2.1 i, fun i _ => congrFun (h c).2.2.1 i, (h c).2.2.2⟩)
      (Cert.KernelIdeal.Value.run_blocks (F := Ideal) m g)
  · refine (θ_run Cert.ConvPartIdeal.defs _ _).mono
      (fun _ h c => ⟨fun i hi => (congrFun (h c).1 i).trans ?_, fun i hi => (congrFun (h c).2.1 i).trans ?_, fun i hi => (congrFun (h c).2.2.1 i).trans ?_, (h c).2.2.2⟩)
      (Cert.ConvPartIdeal.Value.run (F := Ideal) m' g')
    · obtain ⟨t, C, rfl⟩ : ∃ (t : Fin 8192) (C : Fin 3456), i = ix2 t C := ⟨i 0, i 1, eq_ix2 i⟩
      have hC := Conv.on_dp _ _ _ _ _ _ _ _ _ _ _ _ _ _ _ _ _ _ t C hi
      refine Eq.trans ?_ (Conv.dp_value m c t C hC).symm
      rw [Cert.ConvPartIdeal.Read.val_main_v73_eq, (hagree c).1, (hagree c).2.2.2.2.1, (hagree c).2.2.2.2.2.1, (hagree c).2.2.2.2.2.2.2.2.2.2.2.2.2.2.2.2.2]
      exact Conv.ref_dp (Conv.args m c) (Conv.finite_of_pre (Conv.args m c) _ _ _ _ _ _ _ _ _ _ _ _ _ (hpre c)) t C hC
    · obtain ⟨k, q, rfl⟩ : ∃ (k : Fin 32) (q : Fin 1024), i = ix2 k q := ⟨i 0, i 1, eq_ix2 i⟩
      obtain ⟨hk, hq⟩ := Conv.on_sgc _ _ _ _ _ _ _ _ _ _ _ _ _ _ _ _ _ _ k q hi
      refine Eq.trans ?_ (Conv.sgc_value m c ⟨k.val, hk⟩ ⟨q.val, hq⟩).symm
      rw [Cert.ConvPartIdeal.Read.val_main_v74_eq, (hagree c).1, (hagree c).2.2.2.2.1, (hagree c).2.2.2.2.2.2.2.2.2.2.2.2.2.2.2.2.2]
      exact Conv.ref_sgc (Conv.args m c) k q hk hq
    · refine congrFun ?_ i
      refine Eq.trans ?_ (Dwo.value m c (Cert.ConvPartIdeal.Read.val_main_v69 (F := Ideal) (Conv.args m c).x1 (Conv.args m c).x17) fun p q => Conv.ref_dwo (Conv.args m c) p q).symm
      rw [Cert.ConvPartIdeal.Read.val_main_v69_eq, (hagree c).2.1, (hagree c).2.2.2.2.2.2.2.2.2.2.2.2.2.2.2.2.2]

end Cert.Proof.ConvClaim

end
-- ==== Proof.PoolSpec.lean ====
/-
  The formulas of the pooling mixer's gradients, over arrays read at plain numbers.

  The 256 columns come in four groups of 64; the columns of group `g` take the mean of the last `2 ^ (g + 1)` tokens, of
  fewer where there are fewer. A token outside the sequence contributes zero, so every window is a sum of a fixed length.
-/
module

public import proofs.«01_k».proof.Proof.Spec
public import Idealize.ShloMosaic.Lib.WordCmp

@[expose] public section

set_option maxRecDepth 16384

noncomputable section

namespace Cert.Pool

open Idealize.ShloMosaic
open Cert.Conv (at2 at2_ix at2_of_ge IsReal)
open Cert.Conv.Args (sig)

/-- The entry of a stack of matrices at three numbers, zero outside it. -/
def at3 {l n m : ℕ} (X : (⟨3, ![l, n, m]⟩ : Shape).Idx → EReal) (g r c : ℕ) : EReal :=
  if h : g < l ∧ r < n ∧ c < m then X (ix3 ⟨g, h.1⟩ ⟨r, h.2.1⟩ ⟨c, h.2.2⟩) else 0

theorem at3_ix {l n m : ℕ} (X : (⟨3, ![l, n, m]⟩ : Shape).Idx → EReal) (g : Fin l) (r : Fin n) (c : Fin m) :
    X (ix3 g r c) = at3 X g.val r.val c.val := by
  rw [at3, dif_pos ⟨g.isLt, r.isLt, c.isLt⟩]

theorem IsReal.at3 {l n m : ℕ} {X : (⟨3, ![l, n, m]⟩ : Shape).Idx → EReal} (h : ∀ i, IsReal (X i)) (g r c : ℕ) :
    IsReal (Pool.at3 X g r c) := by
  unfold Pool.at3; split
  · exact h _
  · exact IsReal.zero

/-- The entry of a row at a number, zero outside it. -/
def at1 {n : ℕ} (X : (⟨1, ![n]⟩ : Shape).Idx → EReal) (c : ℕ) : EReal := if h : c < n then X (ix1 ⟨c, h⟩) else 0

theorem at1_ix {n : ℕ} (X : (⟨1, ![n]⟩ : Shape).Idx → EReal) (c : Fin n) : X (ix1 c) = at1 X c.val := by
  rw [at1, dif_pos c.isLt]

theorem IsReal.at1 {n : ℕ} {X : (⟨1, ![n]⟩ : Shape).Idx → EReal} (h : ∀ i, IsReal (X i)) (c : ℕ) : IsReal (Pool.at1 X c) := by
  unfold Pool.at1; split
  · exact h _
  · exact IsReal.zero

/-- The arrays of the short convolution mixer, and the two weights of the pooling mixer. -/
structure Args extends Conv.Args where
  x9 : (⟨3, ![4, 64, 64]⟩ : Shape).Idx → EReal
  x10 : (⟨1, ![256]⟩ : Shape).Idx → EReal

/-- How many tokens the mean of a column is taken over, -/
def win (c : ℕ) : ℕ := 2 ^ (c / 64 + 1)

/-- and how many of them there are. -/
def cnt (t c : ℕ) : ℕ := min (t + 1) (win c)

/-- The sum of a sequence over a window that ends at a token, -/
def back (n : ℕ) (f : ℕ → EReal) (t : ℕ) : EReal := ∑ k ∈ Finset.range n, if t < k then 0 else f (t - k)

/-- and over one that starts at it. -/
def ahead (n : ℕ) (f : ℕ → EReal) (t : ℕ) : EReal := ∑ k ∈ Finset.range n, f (t + k)

namespace Args

variable (a : Args)

/-- The two parts of the projection. -/
def u (t c : ℕ) : EReal := at2 a.x0 t (1808 + c)
def z (t c : ℕ) : EReal := at2 a.x0 t (2064 + c)

/-- The mean less the token itself, -/
def pooled (t c : ℕ) : EReal := Ideal.div (back (win c) (fun s => a.u s c) t) ((cnt t c : ℝ) : EReal) - a.u t c

/-- mixed within its group. -/
def mixed (t c : ℕ) : EReal := ∑ i : Fin 64, a.pooled t (64 * (c / 64) + i.val) * at3 a.x9 (c / 64) i.val (c % 64)

/-- The gradient of the mixer's columns of the concatenated mixers. -/
def dm (t c : ℕ) : EReal := a.dmix t (512 + c)

def gate (t c : ℕ) : EReal := a.z t c * sig (a.z t c)

/-- The gradients: of the mixed columns, of the pooled ones, of the windows' sums, -/
def dmixed (t c : ℕ) : EReal := a.dm t c * at1 a.x10 c * a.gate t c
def dpooled (t c : ℕ) : EReal := ∑ d : Fin 64, a.dmixed t (64 * (c / 64) + d.val) * at3 a.x9 (c / 64) (c % 64) d.val
def dtot (t c : ℕ) : EReal := Ideal.div (a.dpooled t c) ((cnt t c : ℝ) : EReal)

/-- of the two parts of the projection, -/
def du (t c : ℕ) : EReal := ahead (win c) (fun s => a.dtot s c) t - a.dpooled t c
def dz (t c : ℕ) : EReal :=
  a.dm t c * at1 a.x10 c * a.mixed t c * (sig (a.z t c) * (1 + a.z t c * (1 - sig (a.z t c))))

/-- and of the two weights. -/
def dscale (c : ℕ) : EReal := ∑ t ∈ Finset.range 8192, a.dm t c * a.mixed t c * a.gate t c
def dpw (g i d : ℕ) : EReal := ∑ t ∈ Finset.range 8192, a.pooled t (64 * g + i) * a.dmixed t (64 * g + d)

/-- The gradient of the projection at the columns of this mixer. -/
def dp (t C : ℕ) : EReal := if C < 2048 then a.du t (C - 1792) else a.dz t (C - 2048)

/-- The gradients of the weights, as they lie together: the scale's in row 5, the mixing weight's in the last 16 rows. -/
def sgc (k c : ℕ) : EReal := if k < 16 then a.dscale c else a.dpw (c % 256 / 64) (c / 256 * 16 + (k - 16)) (c % 64)

theorem dmixed_of_ge {t : ℕ} (c : ℕ) (h : 8192 ≤ t) : a.dmixed t c = 0 := by
  have hd : a.dm t c = 0 := by
    unfold dm Conv.Args.dmix
    exact Finset.sum_eq_zero fun k _ => by rw [at2_of_ge _ _ h, zero_mul]
  rw [dmixed, hd, zero_mul, zero_mul]

theorem dpooled_of_ge {t : ℕ} (c : ℕ) (h : 8192 ≤ t) : a.dpooled t c = 0 :=
  Finset.sum_eq_zero fun d _ => by rw [a.dmixed_of_ge _ h, zero_mul]

end Args

theorem win_pos (c : ℕ) : 0 < win c := Nat.pow_pos (by decide)

theorem cnt_pos (t c : ℕ) : 0 < cnt t c := Nat.lt_min.mpr ⟨Nat.succ_pos t, win_pos c⟩

theorem win_le {c : ℕ} (h : c < 256) : win c ≤ 16 := by
  have : c / 64 + 1 ≤ 4 := by omega
  exact Nat.pow_le_pow_right (by decide) this

/-- Dividing by a positive number is multiplying by its inverse. -/
theorem div_nat (x : EReal) {n : ℕ} (h : 0 < n) : Ideal.div x ((n : ℝ) : EReal) = x * ((1 / (n : ℝ) : ℝ) : EReal) :=
  Ideal.div_coe (by positivity) x

namespace Args

variable (a : Args)

theorem dtot_of_ge {t : ℕ} (c : ℕ) (h : 8192 ≤ t) : a.dtot t c = 0 := by
  rw [dtot, a.dpooled_of_ge _ h, div_nat _ (cnt_pos t c), zero_mul]

/-- Every number the gradients are taken at is finite, and so is the gradient that comes in. -/
structure Finite : Prop where
  x0 : ∀ i, IsReal (a.x0 i)
  x4 : ∀ i, IsReal (a.x4 i)
  x9 : ∀ i, IsReal (a.x9 i)
  x10 : ∀ i, IsReal (a.x10 i)
  x17 : ∀ i, IsReal (a.x17 i)

variable {a}

theorem Finite.dm (h : a.Finite) (t c : ℕ) : IsReal (a.dm t c) := by
  unfold Args.dm Conv.Args.dmix
  exact IsReal.sum _ _ fun _ => (IsReal.at2 h.x17 _ _).mul (IsReal.at2 h.x4 _ _)

theorem Finite.u (h : a.Finite) (t c : ℕ) : IsReal (a.u t c) := IsReal.at2 h.x0 _ _

theorem Finite.z (h : a.Finite) (t c : ℕ) : IsReal (a.z t c) := IsReal.at2 h.x0 _ _

theorem Finite.pooled (h : a.Finite) (t c : ℕ) : IsReal (a.pooled t c) := by
  rw [Args.pooled, div_nat _ (cnt_pos t c)]
  have hb : IsReal (back (win c) (fun s => a.u s c) t) := IsReal.sum _ _ fun k => by
    split
    · exact IsReal.zero
    · exact h.u _ _
  obtain ⟨x, hx⟩ := hb
  obtain ⟨y, hy⟩ := h.u t c
  refine ⟨x * (1 / (cnt t c : ℝ)) - y, ?_⟩
  rw [hx, hy, ← EReal.coe_mul, ← EReal.coe_sub]

theorem Finite.mixed (h : a.Finite) (t c : ℕ) : IsReal (a.mixed t c) :=
  IsReal.sum _ _ fun _ => (h.pooled _ _).mul (IsReal.at3 h.x9 _ _ _)

end Args

/-- A sum against the band of a window that ends at a token is the sum over that window. -/
theorem sum_back (N n : ℕ) (f : ℕ → EReal) {t : ℕ} (ht : t < N) :
    ∑ s : Fin N, (if s.val ≤ t ∧ t - s.val < n then 1 else 0) * f s.val = back n f t := by
  rw [back, ← Finset.sum_range (fun s => (if s ≤ t ∧ t - s < n then 1 else 0) * f s)]
  have e₁ : ∑ s ∈ Finset.range N, (if s ≤ t ∧ t - s < n then (1 : EReal) else 0) * f s =
      ∑ s ∈ Finset.range (t + 1), (if s ≤ t ∧ t - s < n then 1 else 0) * f s := by
    refine (Finset.sum_subset (Finset.range_mono (by omega)) fun s _ hs => ?_).symm
    rw [if_neg (by simp at hs; omega), zero_mul]
  rw [e₁, ← Finset.sum_range_reflect]
  have e₂ : ∀ M, n ≤ M → t + 1 ≤ M →
      ∑ k ∈ Finset.range M, (if k < n then (if t < k then 0 else f (t - k)) else 0) =
        ∑ k ∈ Finset.range n, if t < k then 0 else f (t - k) := fun M h _ => by
    rw [← Finset.sum_subset (Finset.range_mono h) fun k _ hk => if_neg (by simpa using hk)]
    exact Finset.sum_congr rfl fun k hk => if_pos (by simpa using hk)
  rw [← e₂ (n + (t + 1)) (by omega) (by omega)]
  rw [← Finset.sum_subset (Finset.range_mono (show t + 1 ≤ n + (t + 1) by omega)) fun k _ hk => by
    rw [if_pos (show t < k by simp at hk; omega), ite_self]]
  refine Finset.sum_congr rfl fun k hk => ?_
  have hk' : k ≤ t := by simp at hk; omega
  rw [show t + 1 - 1 - k = t - k by omega, if_neg (show ¬t < k by omega)]
  by_cases h : k < n
  · rw [if_pos ⟨by omega, by omega⟩, if_pos h, one_mul]
  · rw [if_neg (by omega), if_neg h, zero_mul]

/-- A sum against the band of a window that starts at a token is the sum over that window, of a sequence that is zero past the end. -/
theorem sum_ahead (N n : ℕ) (f : ℕ → EReal) (hf : ∀ t, N ≤ t → f t = 0) {s : ℕ} (hs : s < N) :
    ∑ t : Fin N, f t.val * (if s ≤ t.val ∧ t.val - s < n then 1 else 0) = ahead n f s := by
  rw [ahead, ← Finset.sum_range (fun t => f t * (if s ≤ t ∧ t - s < n then 1 else 0))]
  have e₁ : ∑ t ∈ Finset.range N, f t * (if s ≤ t ∧ t - s < n then (1 : EReal) else 0) =
      ∑ t ∈ Finset.range (s + (n + N)), f t * (if s ≤ t ∧ t - s < n then 1 else 0) := by
    refine Finset.sum_subset (Finset.range_mono (by omega)) fun t _ h => ?_
    rw [hf t (by simpa using h), zero_mul]
  rw [e₁, Finset.sum_range_add, Finset.sum_eq_zero (fun t ht => by
    rw [if_neg (by have := Finset.mem_range.mp ht; omega), mul_zero]), zero_add]
  rw [← Finset.sum_subset (Finset.range_mono (Nat.le_add_right n N)) fun t _ ht => by
    rw [if_neg (by simp at ht; omega), mul_zero]]
  refine Finset.sum_congr rfl fun k hk => ?_
  rw [if_pos ⟨by omega, by have := Finset.mem_range.mp hk; omega⟩, mul_one]

/-- Two columns' numbers, of the same group. -/
theorem col_div {g j : ℕ} (h : j < 64) : (64 * g + j) / 64 = g := by omega
theorem col_mod {g j : ℕ} (h : j < 64) : (64 * g + j) % 64 = j := by omega

theorem win_col {g j : ℕ} (h : j < 64) : win (64 * g + j) = 2 ^ (g + 1) := by rw [win, col_div h]

/-- The window's length, as a word. -/
theorem shli_two (g : Fin 4) : IntOp.shli .host 2#32 (BitVec.ofNat 32 g.val) = BitVec.ofNat 32 (2 ^ (g.val + 1)) := by
  fin_cases g <;> rfl

/-- The smaller of two small numbers, as words. -/
theorem minsi_nat {x y : ℕ} (hx : x < 2 ^ (32 - 1)) (hy : y < 2 ^ (32 - 1)) :
    IntOp.minsi (BitVec.ofNat 32 x) (BitVec.ofNat 32 y) = BitVec.ofNat 32 (min x y) := by
  unfold IntOp.minsi
  rw [BitVec.slt_eq_decide, WordCmp.toInt_ofNat_of_lt hx, WordCmp.toInt_ofNat_of_lt hy]
  by_cases h : x < y
  · rw [if_pos (by simpa using h), Nat.min_eq_left h.le]
  · rw [if_neg (by simpa using h), Nat.min_eq_right (by omega)]

end Cert.Pool

end
-- ==== Proof.PoolPre.lean ====
/-
  What the pooling mixer's precondition and choice of entries say: the numbers are real ones, and an entry compared lies in
  the part named.
-/
module

public import proofs.«01_k».proof.Proof.Gen.Pre_pool_finite
public import proofs.«01_k».proof.Proof.Gen.On_pool_results
public import proofs.«01_k».proof.Proof.ConvPre
public import proofs.«01_k».proof.Proof.PoolSpec

@[expose] public section

set_option maxRecDepth 16384

noncomputable section

namespace Cert.Pool

open Idealize.ShloMosaic Idealize.ShloMosaic.TcCoe Idealize.SL.Sem
open Cert.Conv (real_of_all lt_of_slt)

section
open Cert.Pre_pool_finite Cert.Pre_pool_finite.Gen

/-- What the precondition says. -/
theorem finite_of_pre (a : Args) (x1 x2 x3 x5 x6 x7 x8 x11 x12 x13 x14 x15 x16)
    (h : Cert.Pre_pool_finite.fn (F := Ideal) a.x0 x1 x2 x3 a.x4 x5 x6 x7 x8 a.x9 a.x10 x11 x12 x13 x14 x15 x16 a.x17 = fun _ => 1#1) :
    a.Finite := by
  have h := congrFun h (Shape.Idx.first h_S_)
  unfold Cert.Pre_pool_finite.fn Cert.Pre_pool_finite.fn_part1 at h
  simp only [andi_apply, IntOp.andi_eq_one] at h
  obtain ⟨⟨⟨⟨h0, h4⟩, h9⟩, h10⟩, h17⟩ := h
  refine ⟨fun i => real_of_all _ _ (fun i => ?_) _ _ _ h0 i, fun i => real_of_all _ _ (fun i => ?_) _ _ _ h4 i,
    fun i => real_of_all _ _ (fun i => ?_) _ _ _ h9 i, fun i => real_of_all _ _ (fun i => ?_) _ _ _ h10 i,
    fun i => real_of_all _ _ (fun i => ?_) _ _ _ h17 i⟩ <;> rfl

end

section
open Cert.On_pool_results Cert.On_pool_results.Gen

/-- Comparing two small numbers as words is comparing them. -/
theorem le_of_sge {n k : ℕ} (hn : n < 2 ^ 31) (hk : k < 2 ^ 31) (h : IntOp.cmpi .sge (BitVec.ofNat 32 n) (BitVec.ofNat 32 k) = 1#1) :
    k ≤ n := by
  rw [IntOp.cmpi_sge, BitVec.toInt_eq_toNat_of_lt (by rw [BitVec.toNat_ofNat]; omega), BitVec.toInt_eq_toNat_of_lt (by rw [BitVec.toNat_ofNat]; omega),
    BitVec.toNat_ofNat, BitVec.toNat_ofNat] at h
  omega

variable (x0 x1 x2 x3 x4 x5 x6 x7 x8 x9 x10 x11 x12 x13 x14 x15 x16 x17)

theorem on_dp (t : Fin 8192) (C : Fin 3456)
    (h : (Cert.On_pool_results.fn (F := Ideal) x0 x1 x2 x3 x4 x5 x6 x7 x8 x9 x10 x11 x12 x13 x14 x15 x16 x17).1 (ix2 t C) = 1#1) :
    1792 ≤ C.val ∧ C.val < 2304 := by
  unfold Cert.On_pool_results.fn Cert.On_pool_results.fn_part1 at h
  pointwise at h
  rw [IntOp.andi_eq_one] at h
  exact ⟨le_of_sge (by omega) (by omega) h.1, lt_of_slt (by omega) (by omega) h.2⟩

/-- A disjunction that holds has a side that does. -/
theorem of_ori {x y : BitVec 1} (h : IntOp.ori x y = 1#1) : x = 1#1 ∨ y = 1#1 := by
  revert x y; decide

theorem on_sgc (k : Fin 32) (c : Fin 1024)
    (h : (Cert.On_pool_results.fn (F := Ideal) x0 x1 x2 x3 x4 x5 x6 x7 x8 x9 x10 x11 x12 x13 x14 x15 x16 x17).2.1 (ix2 k c) = 1#1) :
    16 ≤ k.val ∨ (k.val = 5 ∧ c.val < 256) := by
  unfold Cert.On_pool_results.fn Cert.On_pool_results.fn_part1 at h
  pointwise at h
  refine (of_ori h).imp (le_of_sge (by omega) (by omega)) fun h => ?_
  rw [IntOp.andi_eq_one] at h
  refine ⟨?_, lt_of_slt (by omega) (by omega) h.2⟩
  have e := congrArg BitVec.toNat (IntOp.cmpi_eq.mp h.1)
  rw [BitVec.toNat_ofNat, BitVec.toNat_ofNat] at e
  omega

theorem on_dwo (p q : Fin 1024)
    (h : (Cert.On_pool_results.fn (F := Ideal) x0 x1 x2 x3 x4 x5 x6 x7 x8 x9 x10 x11 x12 x13 x14 x15 x16 x17).2.2 (ix2 p q) = 1#1) : False := by
  unfold Cert.On_pool_results.fn Cert.On_pool_results.fn_part1 at h
  pointwise at h
  exact absurd (lt_of_slt (n := p.val) (k := 0) (by omega) (by omega) h) (Nat.not_lt_zero _)

end

end Cert.Pool

end
-- ==== Proof.PoolRef.lean ====
/-
  The reference's results for the pooling mixer, entry by entry, as the formulas of `Cert.Pool.Args`.
-/
module

public import proofs.«01_k».proof.Proof.Gen.PoolPartIdeal.Read
public import proofs.«01_k».proof.Proof.PoolSpec
public import Idealize.ShloMosaic.Lib.WordCmp

@[expose] public section

set_option maxRecDepth 16384

noncomputable section

namespace Cert.Pool

open Idealize.ShloMosaic Idealize.ShloMosaic.TcCoe Idealize.SL.Sem
open Cert.PoolPartIdeal Cert.PoolPartIdeal.Gen Cert.PoolPartIdeal.Read
open Idealize.ShloMosaic.WordCmp
open Cert.Conv (at2 at2_ix IsReal)
open Cert.Conv.Args (sig)

/-- The difference of two tokens' numbers, as a signed word. -/
theorem toInt_sub {t s : ℕ} (ht : t < 8192) (hs : s < 8192) :
    (IntOp.subi (BitVec.ofNat 32 t) (BitVec.ofNat 32 s)).toInt = (t : ℤ) - s := by
  show (BitVec.ofNat 32 t - BitVec.ofNat 32 s).toInt = _
  rw [BitVec.toInt_sub, toInt_ofNat_of_lt (show t < 2 ^ (32 - 1) by omega), toInt_ofNat_of_lt (show s < 2 ^ (32 - 1) by omega)]
  simp only [Int.bmod_def]
  omega

/-- The band of a window. -/
theorem ref_band (g : Fin 4) (t s : Fin 8192) :
    val_main_v15 (F := Ideal) (ix3 g t s) = if s.val ≤ t.val ∧ t.val - s.val < 2 ^ (g.val + 1) then 1 else 0 := by
  have e : val_main_v14 (F := Ideal) (ix3 g t s) = BitVec.ofBool (decide (s.val ≤ t.val ∧ t.val - s.val < 2 ^ (g.val + 1))) := by
    rw [val_main_v14_apply, val_main_v12_apply, val_main_v13_apply, val_main_v10_apply, val_main_v11_apply, val_main_c_0_apply,
      val_main_v8_apply, val_main_v9_apply, val_main_v7_apply, val_main_v6_apply, val_main_c_apply, val_main_v5_apply]
    have hg : 2 ^ (g.val + 1) ≤ 16 := Nat.pow_le_pow_right (n := 2) (j := 4) (by decide) (show g.val + 1 ≤ 4 by omega)
    show IntOp.andi (IntOp.cmpi .sge (IntOp.subi (BitVec.ofNat 32 t.val) (BitVec.ofNat 32 s.val)) 0#32)
      (IntOp.cmpi .slt (IntOp.subi (BitVec.ofNat 32 t.val) (BitVec.ofNat 32 s.val)) (IntOp.shli .host 2#32 (BitVec.ofNat 32 g.val))) = _
    rw [shli_two, cmpi_sge_eq, cmpi_slt_eq, toInt_sub t.isLt s.isLt, toInt_ofNat_of_lt (a := 2 ^ (g.val + 1)) (by omega), andi_ofBool]
    rw [← Bool.decide_and]
    congr 1
    refine decide_eq_decide.mpr ?_
    rw [BitVec.toInt_zero]
    omega
  rw [val_main_v15_apply, e]
  show (((BitVec.ofBool _).toNat : ℝ) : EReal) = _
  by_cases h : s.val ≤ t.val ∧ t.val - s.val < 2 ^ (g.val + 1)
  · rw [if_pos h, decide_eq_true h]; simp
  · rw [if_neg h, decide_eq_false h]; simp

/-- How many tokens there are in a window. -/
theorem ref_count (g : Fin 4) (t : Fin 8192) (j : Fin 64) :
    val_main_v23 (F := Ideal) (ix3 g t j) = ((cnt t.val (64 * g.val + j.val) : ℝ) : EReal) := by
  rw [val_main_v23_apply, val_main_v22_apply, val_main_v18_apply, val_main_v16_apply, val_main_v17_apply, val_main_c_1_apply,
    val_main_v21_apply, val_main_v20_apply, val_main_c_2_apply, val_main_v19_apply]
  have hg : 2 ^ (g.val + 1) ≤ 16 := Nat.pow_le_pow_right (n := 2) (j := 4) (by decide) (show g.val + 1 ≤ 4 by omega)
  have e : IntOp.minsi (IntOp.addi (BitVec.ofNat 32 t.val) 1#32) (IntOp.shli .host 2#32 (BitVec.ofNat 32 g.val)) =
      BitVec.ofNat 32 (cnt t.val (64 * g.val + j.val)) := by
    rw [shli_two, cnt, win_col j.isLt]
    show IntOp.minsi (BitVec.ofNat 32 t.val + BitVec.ofNat 32 1) _ = _
    rw [← BitVec.ofNat_add, minsi_nat (by omega) (by omega)]
  show (((IntOp.minsi (IntOp.addi (BitVec.ofNat 32 t.val) 1#32) (IntOp.shli .host 2#32 (BitVec.ofNat 32 g.val))).toInt : ℝ) : EReal) = _
  rw [e, toInt_ofNat_of_lt]
  · norm_cast
  · have : cnt t.val (64 * g.val + j.val) ≤ 16 := (Nat.min_le_right _ _).trans (by rw [win_col j.isLt]; exact hg)
    omega

variable (a : Args)

theorem ref_u (g : Fin 4) (t : Fin 8192) (j : Fin 64) : val_main_v4 (F := Ideal) a.x0 (ix3 g t j) = a.u t (64 * g.val + j.val) := by
  pointwise [val_main_v4, val_main_v3, val_main_v0]
  simp only [at2_ix, Args.u]
  try (congr 1 <;> omega)

/-- The mean less the token itself. -/
theorem ref_pooled (g : Fin 4) (t : Fin 8192) (j : Fin 64) :
    val_main_v26 (F := Ideal) a.x0 (ix3 g t j) = a.pooled t (64 * g.val + j.val) := by
  pointwise [val_main_v26, val_main_v25, val_main_v24, ref_u, ref_count, ref_band]
  rw [Args.pooled, win_col j.isLt, sum_back 8192 (2 ^ (g.val + 1)) (fun s => a.u s (64 * g.val + j.val)) t.isLt]

theorem ref_mixed (t : Fin 8192) (c : Fin 256) : val_main_v29 (F := Ideal) a.x0 a.x9 (ix2 t c) = a.mixed t c := by
  pointwise [val_main_v29, val_main_v28, val_main_v27, ref_pooled]
  simp only [at3_ix, Args.mixed]

theorem ref_scale (t : Fin 8192) (c : Fin 256) : val_main_v31 (F := Ideal) a.x10 (ix2 t c) = at1 a.x10 c := by
  pointwise [val_main_v31, val_main_v30]
  exact at1_ix _ _

theorem ref_scale' (t : Fin 8192) (c : Fin 256) : val_main_v42 (F := Ideal) a.x10 (ix2 t c) = at1 a.x10 c := by
  pointwise [val_main_v42, val_main_v30]
  exact at1_ix _ _

theorem ref_sig (t : Fin 8192) (c : Fin 256) : val_main_v33_2 (F := Ideal) a.x0 (ix2 t c) = sig (a.z t c) := by
  pointwise [val_main_v33_2, val_main_call0_v4, val_main_call0_v3, val_main_call0_v2, val_main_call0_v1, val_main_call0_v0, val_main_call0_cst, val_main_call0_cst_0, val_main_v1]
  simp only [at2_ix]
  rfl

theorem ref_gate (t : Fin 8192) (c : Fin 256) : val_main_v33_0 (F := Ideal) a.x0 (ix2 t c) = a.gate t c := by
  pointwise [val_main_v33_0, val_main_v1, ref_sig]
  simp only [at2_ix]
  rfl

theorem ref_dm (t : Fin 8192) (c : Fin 256) : val_main_v38 (F := Ideal) a.x4 a.x17 (ix2 t c) = a.dm t c := by
  pointwise [val_main_v38, val_main_v2]
  simp only [at2_ix]
  rfl

theorem ref_dmixed (t : Fin 8192) (c : Fin 256) : val_main_v43 (F := Ideal) a.x0 a.x4 a.x10 a.x17 (ix2 t c) = a.dmixed t c := by
  pointwise [val_main_v43, val_main_v40, ref_scale', ref_gate, ref_dm]
  simp only [Args.dmixed]
  ac_rfl

theorem ref_dmixed' (g : Fin 4) (t : Fin 8192) (j : Fin 64) :
    val_main_v49 (F := Ideal) a.x0 a.x4 a.x10 a.x17 (ix3 g t j) = a.dmixed t (64 * g.val + j.val) := by
  pointwise [val_main_v49, val_main_v48, ref_dmixed]
  try (congr 1 <;> simp <;> omega)

theorem ref_dpooled (g : Fin 4) (t : Fin 8192) (j : Fin 64) :
    val_main_v52 (F := Ideal) a.x0 a.x4 a.x9 a.x10 a.x17 (ix3 g t j) = a.dpooled t (64 * g.val + j.val) := by
  pointwise [val_main_v52, ref_dmixed']
  simp only [at3_ix, Args.dpooled]
  rw [col_div j.isLt, col_mod j.isLt]

theorem ref_du (t : Fin 8192) (c : Fin 256) : val_main_v59 (F := Ideal) a.x0 a.x4 a.x9 a.x10 a.x17 (ix2 t c) = a.du t c := by
  have e (g : Fin 4) (j : Fin 64) : val_main_v57 (F := Ideal) a.x0 a.x4 a.x9 a.x10 a.x17 (ix3 g t j) = a.du t (64 * g.val + j.val) := by
    pointwise [val_main_v57, val_main_v56, val_main_v55, val_main_v54, val_main_v53, ref_dpooled, ref_band, ref_count]
    rw [Args.du, win_col j.isLt, sub_eq_add_neg, add_comm,
      ← sum_ahead 8192 (2 ^ (g.val + 1)) (fun s => a.dtot s (64 * g.val + j.val)) (fun s h => a.dtot_of_ge _ h) t.isLt]
    rfl
  pointwise [val_main_v59, val_main_v58, e]
  rw [Nat.div_add_mod]

theorem ref_dz (hf : a.Finite) (t : Fin 8192) (c : Fin 256) : val_main_v41 (F := Ideal) a.x0 a.x4 a.x9 a.x10 a.x17 (ix2 t c) = a.dz t c := by
  pointwise [val_main_v41, val_main_call1_v1, val_main_call1_v2, val_main_call1_v0, val_main_v39, val_main_v32, val_main_v33_1, val_main_call0_v7, val_main_call0_v6, val_main_call0_cst_1, val_main_v1, ref_sig, ref_dm, ref_mixed, ref_scale]
  simp only [at2_ix]
  rw [show at2 a.x0 t.val (2064 + c.val) = a.z t.val c.val from rfl]
  rw [Conv.silu_grad (((IsReal.at1 hf.x10 _).mul (hf.mixed _ _)).mul (hf.dm _ _)) (Conv.Args.isReal_sig (hf.z _ _)) (hf.z _ _)]
  simp only [Args.dz]
  ac_rfl

theorem ref_dscale (c : Fin 256) : val_main_v47 (F := Ideal) a.x0 a.x4 a.x9 a.x17 (ix1 c) = a.dscale c := by
  pointwise [val_main_v47, val_main_v46, val_main_v45, val_main_v44, val_main_v40, val_main_cst, val_main_cst_3, ref_mixed, ref_gate, ref_dm]
  rw [Args.dscale, Finset.sum_range]
  simp only [Finset.univ_unique, Finset.sum_singleton]
  try simp only [zero_add]
  refine Finset.sum_congr rfl fun t _ => ?_
  ac_rfl

theorem ref_dpw (r : Fin 16) (c : Fin 1024) :
    val_main_v65 (F := Ideal) a.x0 a.x4 a.x10 a.x17 (ix2 r c) = a.dpw (c % 256 / 64) (c / 256 * 16 + r) (c % 64) := by
  pointwise [val_main_v65, val_main_v64, val_main_v63, val_main_v51, val_main_v50, ref_dmixed', ref_pooled]
  rw [Args.dpw, Finset.sum_range]
  refine Finset.sum_congr rfl fun t _ => ?_
  rw [mul_comm]
  congr 2 <;> simp <;> omega

/-- The first result at the columns of this mixer. -/
theorem ref_dp (hf : a.Finite) (t : Fin 8192) (C : Fin 3456) (h : 1792 ≤ C.val) (hC : C.val < 2304) :
    val_main_v70 (F := Ideal) a.x0 a.x4 a.x9 a.x10 a.x17 (ix2 t C) = a.dp t C := by
  pointwise [val_main_v70, val_main_v62]
  unfold Args.dp
  rw [dif_neg (by omega)]
  by_cases h1 : C.val < 2048
  · rw [dif_pos (by omega), if_pos h1]; exact ref_du a t ⟨C.val - 1792, by omega⟩
  rw [dif_neg (by omega), if_neg h1, dif_pos (by omega)]
  exact ref_dz a hf t ⟨C.val - 2048, by omega⟩

theorem ref_pad (k : Fin 11) (c : Fin 1024) (hk : k.val = 0) (hc : c.val < 256) :
    val_main_v68 (F := Ideal) a.x0 a.x4 a.x9 a.x17 (ix2 k c) = a.dscale c := by
  pointwise [val_main_v68, val_main_v67, ref_dscale]
  exact dif_pos ⟨by omega, hc⟩

theorem ref_sgc_scale (k : Fin 32) (c : Fin 1024) (hk : k.val = 5) (hc : c.val < 256) :
    val_main_v69 (F := Ideal) a.x0 a.x4 a.x9 a.x10 a.x17 (ix2 k c) = a.sgc k c := by
  rw [Args.sgc, if_pos (show k.val < 16 by omega)]
  pointwise [val_main_v69]
  refine (dif_neg (by omega)).trans ((dif_pos (by omega)).trans ?_)
  exact ref_pad a ⟨k.val - 5, by omega⟩ c (by show k.val - 5 = 0; omega) hc

theorem ref_sgc_pw (k : Fin 32) (c : Fin 1024) (hk : 16 ≤ k.val) :
    val_main_v69 (F := Ideal) a.x0 a.x4 a.x9 a.x10 a.x17 (ix2 k c) = a.sgc k c := by
  rw [Args.sgc, if_neg (show ¬k.val < 16 by omega)]
  pointwise [val_main_v69]
  refine (dif_neg (by omega)).trans ((dif_neg (by omega)).trans ?_)
  rw [ref_dpw]
  rfl

end Cert.Pool

end
-- ==== Proof.PoolHost.lean ====
/-
  The arrays the call reads for the pooling mixer, prepared on the host, entry by entry.

  The host sums a window by doubling: the sum over the last `2n` tokens is the one over the last `n` and the one over the
  `n` before those.
-/
module

public import proofs.«01_k».proof.Proof.ConvBlocks
public import proofs.«01_k».proof.Proof.PoolSpec

@[expose] public section

set_option maxRecDepth 16384

noncomputable section

namespace Cert.Pool

open Idealize.ShloMosaic Idealize.ShloMosaic.TcCoe Idealize.SL.Sem
open Idealize.ShloMosaic.Pipeline (Dat)
open Idealize.ShloMosaic.WordCmp
open Cert.KernelIdeal Cert.KernelIdeal.Gen
open Cert.Conv (at2 at2_ix at2_of_lt movedX movedX_at tok tok_lt idx)

variable (m : (ℓ : Loc nD τ sig) → Buf (Elt Ideal) ℓ)

/-- The arrays the pooling mixer uses. -/
abbrev args (c : Dev nD) : Args where
  toArgs := Conv.args m c
  x9 := m ((c : Thread nD τ).loc main_arg9)
  x10 := m ((c : Thread nD τ).loc main_arg10)

theorem back_one (f : ℕ → EReal) (t : ℕ) : back 1 f t = f t := by
  rw [back, Finset.sum_range_one, if_neg (Nat.not_lt_zero t), Nat.sub_zero]

theorem back_double (n : ℕ) (f : ℕ → EReal) (t : ℕ) : back n f t + (if t < n then 0 else back n f (t - n)) = back (n + n) f t := by
  unfold back
  rw [Finset.sum_range_add]
  refine congrArg₂ _ rfl ?_
  split
  · exact (Finset.sum_eq_zero fun k _ => if_pos (by omega)).symm
  · refine Finset.sum_congr rfl fun k _ => ?_
    rw [Nat.sub_sub]
    by_cases h : t - n < k
    · rw [if_pos h, if_pos (by omega)]
    · rw [if_neg h, if_neg (by omega)]

/-- The columns the mean is taken of. -/
def hostU (p : Vec Ideal S8192x3456 .f32) : Vec Ideal S8192x256 .f32 :=
  extractStridedSlice S8192x256 ![0, 1792] p slices_S8192x3456_S8192x256_0_1792

/-- The sums over the last 2, 4, 8, 16 tokens, each from the one before. -/
def two (u : Vec Ideal S8192x256 .f32) : Vec Ideal S8192x256 .f32 :=
  addf (F := Ideal) (s := S8192x256) (φ := .f32) u (concatenate S8192x256 0 [⟨S1x256, broadcastInDim S1x256 ![] bcast_S_S1x256 (constant (F := Ideal) S_ .f32 0x00000000#32)⟩,
    ⟨S8191x256, extractStridedSlice S8191x256 ![0, 0] u slices_S8192x256_S8191x256_0_0⟩] concatenates_S1x256_S8191x256_S8192x256_d0)

def four (u : Vec Ideal S8192x256 .f32) : Vec Ideal S8192x256 .f32 :=
  addf (F := Ideal) (s := S8192x256) (φ := .f32) u (concatenate S8192x256 0 [⟨S2x256, broadcastInDim S2x256 ![] bcast_S_S2x256 (constant (F := Ideal) S_ .f32 0x00000000#32)⟩,
    ⟨S8190x256, extractStridedSlice S8190x256 ![0, 0] u slices_S8192x256_S8190x256_0_0⟩] concatenates_S2x256_S8190x256_S8192x256_d0)

def eight (u : Vec Ideal S8192x256 .f32) : Vec Ideal S8192x256 .f32 :=
  addf (F := Ideal) (s := S8192x256) (φ := .f32) u (concatenate S8192x256 0 [⟨S4x256, broadcastInDim S4x256 ![] bcast_S_S4x256 (constant (F := Ideal) S_ .f32 0x00000000#32)⟩,
    ⟨S8188x256, extractStridedSlice S8188x256 ![0, 0] u slices_S8192x256_S8188x256_0_0⟩] concatenates_S4x256_S8188x256_S8192x256_d0)

def sixteen (u : Vec Ideal S8192x256 .f32) : Vec Ideal S8192x256 .f32 :=
  addf (F := Ideal) (s := S8192x256) (φ := .f32) u (concatenate S8192x256 0 [⟨S8x256, broadcastInDim S8x256 ![] bcast_S_S8x256 (constant (F := Ideal) S_ .f32 0x00000000#32)⟩,
    ⟨S8184x256, extractStridedSlice S8184x256 ![0, 0] u slices_S8192x256_S8184x256_0_0⟩] concatenates_S8x256_S8184x256_S8192x256_d0)

/-- One step of the doubling, as an entry. -/
theorem step_at {v : Vec Ideal S8192x256 .f32} {f : ℕ → ℕ → EReal} (n : ℕ)
    (hv : ∀ (t : Fin 8192) (q : Fin 256), v (ix2 t q) = back n (fun s => f s q.val) t.val) (t : Fin 8192) (q : Fin 256) :
    v (ix2 t q) + (if h : t.val < n then (0 : EReal) else v (ix2 ⟨t.val - n, by omega⟩ q)) = back (n + n) (fun s => f s q.val) t.val := by
  rw [← back_double, hv]
  refine congrArg₂ _ rfl ?_
  split
  · rfl
  · exact hv _ _

variable (u : Vec Ideal S8192x256 .f32) {f : ℕ → ℕ → EReal} (hu : ∀ (t : Fin 8192) (q : Fin 256), u (ix2 t q) = f t.val q.val)

include hu in
theorem two_at (t : Fin 8192) (q : Fin 256) : two u (ix2 t q) = back 2 (fun s => f s q.val) t.val := by
  refine Eq.trans ?_ (step_at (v := u) 1 (fun t q => (hu t q).trans (back_one _ _).symm) t q)
  pointwise [two]

include hu in
theorem four_at (t : Fin 8192) (q : Fin 256) : four (two u) (ix2 t q) = back 4 (fun s => f s q.val) t.val := by
  refine Eq.trans ?_ (step_at (v := two u) 2 (two_at u hu) t q)
  pointwise [four]

include hu in
theorem eight_at (t : Fin 8192) (q : Fin 256) : eight (four (two u)) (ix2 t q) = back 8 (fun s => f s q.val) t.val := by
  refine Eq.trans ?_ (step_at (v := four (two u)) 4 (four_at u hu) t q)
  pointwise [eight]

include hu in
theorem sixteen_at (t : Fin 8192) (q : Fin 256) : sixteen (eight (four (two u))) (ix2 t q) = back 16 (fun s => f s q.val) t.val := by
  refine Eq.trans ?_ (step_at (v := eight (four (two u))) 8 (eight_at u hu) t q)
  pointwise [sixteen]

/-- Sixty-four columns from one on. -/
def group (o : ℕ) (h : S8192x256.Slices ![0, o] S8192x64) (x : Vec Ideal S8192x256 .f32) : Vec Ideal S8192x64 .f32 := extractStridedSlice S8192x64 ![0, o] x h

/-- Four groups of columns side by side. -/
def join (a b c d : Vec Ideal S8192x64 .f32) : Vec Ideal S8192x256 .f32 :=
  concatenate S8192x256 1 [⟨S8192x64, a⟩, ⟨S8192x64, b⟩, ⟨S8192x64, c⟩, ⟨S8192x64, d⟩]
    concatenates_S8192x64_S8192x64_S8192x64_S8192x64_S8192x256_d1

/-- The windows' sums: each group of columns takes its own. -/
def sums (x2 x4 x8 x16 : Vec Ideal S8192x256 .f32) : Vec Ideal S8192x256 .f32 :=
  join (group 0 slices_S8192x256_S8192x64_0_0 x2) (group 64 slices_S8192x256_S8192x64_0_64 x4)
    (group 128 slices_S8192x256_S8192x64_0_128 x8) (group 192 slices_S8192x256_S8192x64_0_192 x16)

/-- How many tokens there are in a window. -/
def counts : Vec Ideal S8192x256 .f32 :=
  sitofp (F := Ideal) .f32 (minsi (addi (iotaInDim S8192x256 32 0) (broadcastInDim S8192x256 ![] bcast_S_S8192x256 (constantI S_ 32 1#32)))
    (Host.shli (broadcastInDim S8192x256 ![] bcast_S_S8192x256 (constantI S_ 32 2#32))
      (Host.shrsi (iotaInDim S8192x256 32 1) (broadcastInDim S8192x256 ![] bcast_S_S8192x256 (constantI S_ 32 6#32)))))

/-- The means less the tokens. -/
def means (x2 x4 x8 x16 u : Vec Ideal S8192x256 .f32) : Vec Ideal S8192x256 .bf16 :=
  truncf (F := Ideal) .bf16 (subf (Host.divf (sums x2 x4 x8 x16) counts) u : FVec Ideal S8192x256 .f32) bitsLt_bf16_f32

theorem V26 (c : Dev nD) : V m c main_v26 = hostU (movedX (m ((c : Thread nD τ).loc main_arg0))) := by
  unfold V hostOps0
  after_results <;> rfl

theorem V30 (c : Dev nD) : V m c main_v30 = two (V m c main_v26) := by
  unfold V hostOps0
  after_results <;> rfl

theorem V35 (c : Dev nD) : V m c main_v35 = four (V m c main_v30) := by
  unfold V hostOps0
  after_results <;> rfl

theorem V40 (c : Dev nD) : V m c main_v40 = eight (V m c main_v35) := by
  unfold V hostOps0
  after_results <;> rfl

theorem V45 (c : Dev nD) : V m c main_v45 = sixteen (V m c main_v40) := by
  unfold V hostOps0
  after_results <;> rfl

theorem V31 (c : Dev nD) : V m c main_v31 = group 0 slices_S8192x256_S8192x64_0_0 (V m c main_v30) := by
  unfold V hostOps0
  after_results <;> rfl

theorem V36 (c : Dev nD) : V m c main_v36 = group 64 slices_S8192x256_S8192x64_0_64 (V m c main_v35) := by
  unfold V hostOps0
  after_results <;> rfl

theorem V41 (c : Dev nD) : V m c main_v41 = group 128 slices_S8192x256_S8192x64_0_128 (V m c main_v40) := by
  unfold V hostOps0
  after_results <;> rfl

theorem V46 (c : Dev nD) : V m c main_v46 = group 192 slices_S8192x256_S8192x64_0_192 (V m c main_v45) := by
  unfold V hostOps0
  after_results <;> rfl

/-- The operations after some of them, from what those leave. -/
theorem after_split {τ : Topo} {sig : RefSig} {Val : EltTy → Type} (n : ℕ) (ops : List (HloOp τ sig Val)) (F : Valuation τ sig Val) :
    StableHlo.after ops F = StableHlo.after (ops.drop n) (StableHlo.after (ops.take n) F) := by
  induction n generalizing ops F with
  | zero => rfl
  | succ n ih => cases ops with
    | nil => rfl
    | cons op ops => exact ih ops _

theorem V56 (c : Dev nD) : V m c main_v56 = join (V m c main_v31) (V m c main_v36) (V m c main_v41) (V m c main_v46) := by
  unfold V
  rw [after_split 66 (hostOps0 (F := Ideal))]
  generalize StableHlo.after (List.take 66 (hostOps0 (F := Ideal))) _ = F
  simp only [hostOps0, List.drop_succ_cons, List.drop_zero]
  after_results <;> rfl

theorem V57 (c : Dev nD) : V m c main_v57 = counts := by
  unfold V hostOps0
  after_results <;> rfl

theorem V59 (c : Dev nD) : V m c main_v59 = subf (F := Ideal) (s := S8192x256) (φ := .f32) (Host.divf (V m c main_v56) (V m c main_v57)) (V m c main_v26) := by
  unfold V hostOps0
  after_results <;> rfl

theorem V226_eq (c : Dev nD) : V m c main_v226 =
    (truncf (F := Ideal) .bf16 (V m c main_v59 : FVec Ideal S8192x256 .f32) bitsLt_bf16_f32 : Vec Ideal S8192x256 .bf16) := by
  unfold V hostOps0
  after_results <;> rfl

theorem V226 (c : Dev nD) : V m c main_v226 = means (V m c main_v30) (V m c main_v35) (V m c main_v40) (V m c main_v45) (V m c main_v26) := by
  rw [V226_eq, V59, V56, V57, V31, V36, V41, V46]
  rfl

theorem shr_six : ∀ c : Fin 256, IntOp.shrsi .host (BitVec.ofNat 32 c.val) 6#32 = BitVec.ofNat 32 (c.val / 64) := by decide +kernel

theorem counts_at (t : Fin 8192) (q : Fin 256) : counts (ix2 t q) = ((cnt t.val q.val : ℝ) : EReal) := by
  have hw := win_le q.isLt
  have e : IntOp.minsi (IntOp.addi (BitVec.ofNat 32 t.val) 1#32) (IntOp.shli .host 2#32 (IntOp.shrsi .host (BitVec.ofNat 32 q.val) 6#32)) =
      BitVec.ofNat 32 (cnt t.val q.val) := by
    rw [shr_six]
    have := shli_two ⟨q.val / 64, by omega⟩
    simp only at this
    rw [this, cnt]
    show IntOp.minsi (BitVec.ofNat 32 t.val + BitVec.ofNat 32 1) (BitVec.ofNat 32 (win q.val)) = _
    rw [← BitVec.ofNat_add, minsi_nat (by omega) (by omega)]
  show (((IntOp.minsi (IntOp.addi (BitVec.ofNat 32 t.val) 1#32) (IntOp.shli .host 2#32 (IntOp.shrsi .host (BitVec.ofNat 32 q.val) 6#32))).toInt : ℝ) : EReal) = _
  rw [e, toInt_ofNat_of_lt]
  · norm_cast
  · have : cnt t.val q.val ≤ 16 := (Nat.min_le_right _ _).trans hw
    omega

theorem sums_at (x2 x4 x8 x16 : Vec Ideal S8192x256 .f32) (t : Fin 8192) (q : Fin 256) : sums x2 x4 x8 x16 (ix2 t q) =
    if q.val < 64 then x2 (ix2 t q) else if q.val < 128 then x4 (ix2 t q) else if q.val < 192 then x8 (ix2 t q) else x16 (ix2 t q) := by
  pointwise [sums, join, group]
  by_cases h0 : q.val < 64
  · exact (dif_pos h0).trans (if_pos h0).symm
  refine (dif_neg h0).trans (Eq.trans ?_ (if_neg h0).symm)
  by_cases h1 : q.val < 128
  · refine (dif_pos (show q.val - 64 < 64 by omega)).trans (Eq.trans ?_ (if_pos h1).symm)
    exact congrArg (fun k => x4 (ix2 t k)) (Fin.ext (show 64 + (q.val - 64) = q.val by omega))
  refine (dif_neg (show ¬q.val - 64 < 64 by omega)).trans (Eq.trans ?_ (if_neg h1).symm)
  by_cases h2 : q.val < 192
  · refine (dif_pos (show q.val - 64 - 64 < 64 by omega)).trans (Eq.trans ?_ (if_pos h2).symm)
    exact congrArg (fun k => x8 (ix2 t k)) (Fin.ext (show 128 + (q.val - 64 - 64) = q.val by omega))
  refine (dif_neg (show ¬q.val - 64 - 64 < 64 by omega)).trans (Eq.trans ?_ (if_neg h2).symm)
  exact congrArg (fun k => x16 (ix2 t k)) (Fin.ext (show 192 + (q.val - 64 - 64 - 64) = q.val by omega))

include hu in
theorem means_at (t : Fin 8192) (q : Fin 256) :
    means (two u) (four (two u)) (eight (four (two u))) (sixteen (eight (four (two u)))) u (ix2 t q) =
      Ideal.div (back (win q.val) (fun s => f s q.val) t.val) ((cnt t.val q.val : ℝ) : EReal) - f t.val q.val := by
  have e : sums (two u) (four (two u)) (eight (four (two u))) (sixteen (eight (four (two u)))) (ix2 t q) =
      back (win q.val) (fun s => f s q.val) t.val := by
    rw [sums_at, two_at u hu, four_at u hu, eight_at u hu, sixteen_at u hu]
    unfold win
    split
    · rw [show q.val / 64 + 1 = 1 by omega]; rfl
    split
    · rw [show q.val / 64 + 1 = 2 by omega]; rfl
    split
    · rw [show q.val / 64 + 1 = 3 by omega]; rfl
    · rw [show q.val / 64 + 1 = 4 by omega]; rfl
  pointwise [means]
  rw [e, counts_at, hu]

/-- The mixing weight of all groups, as one matrix with a block for each. -/
def blocks (w : Vec Ideal S4x64x64 .f32) : Vec Ideal S256x256 .bf16 :=
  truncf (F := Ideal) .bf16 (select
    (cmpi .eq (Host.shrsi (iotaInDim S256x256 32 0) (broadcastInDim S256x256 ![] bcast_S_S256x256 (constantI S_ 32 6#32)))
      (Host.shrsi (iotaInDim S256x256 32 1) (broadcastInDim S256x256 ![] bcast_S_S256x256 (constantI S_ 32 6#32))))
    (shapeCast S256x256 (broadcastInDim S1x256x4x64 ![0, 1, 2, 3] bcast_S1x256x1x64_S1x256x4x64_0_1_2_3
      (shapeCast S1x256x1x64 (shapeCast S256x64 w shapeCasts_S4x64x64_S256x64) shapeCasts_S256x64_S1x256x1x64)) shapeCasts_S1x256x4x64_S256x256)
    (broadcastInDim S256x256 ![] bcast_S_S256x256 (constant (F := Ideal) S_ .f32 0x00000000#32)) : FVec Ideal S256x256 .f32) bitsLt_bf16_f32

theorem V166 (c : Dev nD) : V m c main_v166 = blocks (m ((c : Thread nD τ).loc main_arg9)) := by
  unfold V hostOps0
  after_results <;> rfl

theorem blocks_at (w : Vec Ideal S4x64x64 .f32) (i j : Fin 256) : blocks w (ix2 i j) =
    if i.val / 64 = j.val / 64 then at3 (l := 4) (n := 64) (m := 64) w (i.val / 64) (i.val % 64) (j.val % 64) else 0 := by
  have e : cmpi .eq (Host.shrsi (iotaInDim S256x256 32 0) (broadcastInDim S256x256 ![] bcast_S_S256x256 (constantI S_ 32 6#32)))
      (Host.shrsi (iotaInDim S256x256 32 1) (broadcastInDim S256x256 ![] bcast_S_S256x256 (constantI S_ 32 6#32))) (ix2 i j) =
      BitVec.ofBool (decide (i.val / 64 = j.val / 64)) := by
    show IntOp.cmpi .eq (IntOp.shrsi .host (BitVec.ofNat 32 i.val) 6#32) (IntOp.shrsi .host (BitVec.ofNat 32 j.val) 6#32) = _
    rw [shr_six, shr_six, cmpi_eq_ofNat (by omega) (by omega)]
  unfold blocks
  pointwise [e]
  split
  · exact at3_ix (l := 4) (n := 64) (m := 64) w ⟨_, _⟩ ⟨_, _⟩ ⟨_, _⟩
  · rfl

/-- The scale is a row of the small parameters. -/
def scaleRow (w : Vec Ideal S256 .f32) (z : Vec Ideal S1x512 .f32) : Vec Ideal S1x768 .f32 :=
  concatenate S1x768 1 [⟨S1x256, shapeCast S1x256 w shapeCasts_S256_S1x256⟩, ⟨S1x512, z⟩] concatenates_S1x256_S1x512_S1x768_d1

theorem V128 (c : Dev nD) : V m c main_v128 = scaleRow (m ((c : Thread nD τ).loc main_arg10)) (V m c main_v127) := by
  unfold V hostOps0
  after_results <;> rfl

theorem scaleRow_at (w : Vec Ideal S256 .f32) (z : Vec Ideal S1x512 .f32) (q : Fin 256) :
    scaleRow w z (ix2 (0 : Fin 1) (⟨q.val, by omega⟩ : Fin 768)) = at1 (n := 256) w q.val := by
  rw [← at1_ix]
  pointwise [scaleRow]

theorem allRows_five (x : Vec Ideal S3x768 .f32) (x3 x4 x5 x6 x7 x8 x9 x10 x11 : Vec Ideal S1x768 .f32) (x12 : Vec Ideal S4x768 .f32)
    (q : Fin 768) : Conv.allRows x x3 x4 x5 x6 x7 x8 x9 x10 x11 x12 (ix2 (5 : Fin 16) q) = x5 (ix2 (0 : Fin 1) q) := by
  pointwise [Conv.allRows]

theorem idx' : ∀ t : Fin cfg0.N, win0_10.index t = ![15 - t.val, 0] ∧ win0_13.index t = ![0, 0] := (by decide +kernel :
  ∀ t : Fin grid0.N, win0_10.index t = ![15 - t.val, 0] ∧ win0_13.index t = ![0, 0])

theorem hostU_eq (c : Dev nD) (t : Fin 8192) (q : Fin 256) :
    hostU (movedX (m ((c : Thread nD τ).loc main_arg0))) (ix2 t q) = (args m c).u t.val q.val := by
  have e : hostU (movedX (m ((c : Thread nD τ).loc main_arg0))) (ix2 t q) =
      movedX (m ((c : Thread nD τ).loc main_arg0)) (ix2 t (⟨1792 + q.val, by omega⟩ : Fin 3456)) := by pointwise [hostU]
  rw [e, movedX_at]
  unfold Cols.moved
  rw [if_neg (show ¬1792 + q.val < 1536 by omega), if_pos (show 1792 + q.val < 3328 by omega), Args.u]
  exact congrArg _ (show 1792 + q.val + 16 = 1808 + q.val by omega)

theorem blk10 (c : Dev nD) (t : Fin cfg0.N) (r : Fin 512) (q : Fin 256) :
    iblk m c 10 t (ix2 r q) = (args m c).pooled (tok t.val r.val) q.val := by
  have e := means_at (V m c main_v26) (f := (args m c).u) (fun t q => by rw [V26]; exact hostU_eq m c t q) ⟨tok t.val r.val, tok_lt _ _⟩ q
  rw [← V30, ← V35, ← V40, ← V45, ← V226 m c] at e
  refine Eq.trans ?_ e
  unfold tok
  blk_simp [iblk]
  blk_ext [idx' t]

theorem blk13 (c : Dev nD) (t : Fin cfg0.N) (i j : Fin 256) : iblk m c 13 t (ix2 i j) =
    if i.val / 64 = j.val / 64 then at3 (args m c).x9 (i.val / 64) (i.val % 64) (j.val % 64) else 0 := by
  have e := blocks_at (m ((c : Thread nD τ).loc main_arg9)) i j
  rw [← V166 m c] at e
  refine Eq.trans ?_ e
  blk_simp [iblk]
  blk_ext [idx' t]

/-- The scale. -/
theorem blk_scale (c : Dev nD) (t : Fin cfg0.N) (q : Fin 256) :
    iblk m c 11 t (ix2 (5 : Fin 16) (⟨q.val, by omega⟩ : Fin 768)) = at1 (args m c).x10 q.val := by
  have e := allRows_five (V m c main_v116) (V m c main_v119) (V m c main_v125) (V m c main_v128) (V m c main_v129)
    (V m c main_v132) (V m c main_v139) (V m c main_v144) (V m c main_v147) (V m c main_v148) (m ((c : Thread nD τ).loc main_arg11)) ⟨q.val, by omega⟩
  rw [← Conv.V149 m c, V128 m c, scaleRow_at] at e
  refine Eq.trans ?_ e
  blk_simp [iblk]
  blk_ext [idx t]

/-- The gate's columns. -/
theorem blk_z (c : Dev nD) (t : Fin cfg0.N) (r : Fin 512) (q : Fin 256) :
    iblk m c 0 t (ix2 r (⟨2048 + q.val, by omega⟩ : Fin 3328)) = (args m c).z (tok t.val r.val) q.val := by
  rw [Conv.blk0]
  unfold Cols.moved
  rw [if_neg (show ¬2048 + q.val < 1536 by omega), if_pos (show 2048 + q.val < 3328 by omega), Args.z]
  exact congrArg _ (show 2048 + q.val + 16 = 2064 + q.val by omega)

end Cert.Pool

end
-- ==== Proof.PoolPay.lean ====
/-
  The values the kernel's body stores for the pooling mixer, entry by entry.
-/
module

public import proofs.«01_k».proof.Proof.ConvPay
public import proofs.«01_k».proof.Proof.ConvBlocks
public import proofs.«01_k».proof.Proof.PoolSpec
public import Idealize.ShloMosaic.Lib.FinSumWindow

@[expose] public section

set_option maxRecDepth 16384

noncomputable section

namespace Cert.Pool

open Idealize.ShloMosaic Idealize.ShloMosaic.TcCoe Idealize.SL.Sem
open Idealize.ShloMosaic.WordCmp
open Cert.KernelIdeal Cert.KernelIdeal.Gen
open Cert.Conv (tok)

theorem pay55_at (p : FVec Ideal S512x256 .bf16) (w : FVec Ideal S256x256 .bf16) (r : Fin 512) (c : Fin 256) :
    k0_pay55 (F := Ideal) p w (ix2 r c) = ∑ i : Fin 256, p (ix2 r i) * w (ix2 i c) := by
  pointwise [k0_pay55, k0_pay53, k0_pay54]

theorem pay57_at (z : FVec Ideal S512x256 .bf16) (r : Fin 512) (c : Fin 256) :
    k0_pay57 (F := Ideal) z (ix2 r c) = z (ix2 r c) * Conv.Args.sig (z (ix2 r c)) := by
  pointwise [k0_pay57, k0_pay51, k0_pay56, Conv.Args.sig]

theorem pay58_at (z p : FVec Ideal S512x256 .bf16) (w : FVec Ideal S256x256 .bf16) (g : FVec Ideal S512x256 .f32) (o : FVec Ideal S1x256 .f32) (c : Fin 256) :
    k0_pay58 (F := Ideal) z p w g o (ix2 0 c) =
      o (ix2 0 c) + ∑ r : Fin 512, g (ix2 r c) * k0_pay55 (F := Ideal) p w (ix2 r c) * k0_pay57 (F := Ideal) z (ix2 r c) := by
  pointwise [k0_pay58]

theorem pay59_at (z : FVec Ideal S512x256 .bf16) (s : FVec Ideal S1x256 .f32) (p : FVec Ideal S512x256 .bf16) (w : FVec Ideal S256x256 .bf16)
    (g : FVec Ideal S512x256 .f32) (r : Fin 512) (c : Fin 256) :
    k0_pay59 (F := Ideal) z s p w g (ix2 r c) = g (ix2 r c) * s (ix2 0 c) * k0_pay55 (F := Ideal) p w (ix2 r c) *
      (Conv.Args.sig (z (ix2 r c)) * (1 + z (ix2 r c) * (1 - Conv.Args.sig (z (ix2 r c))))) := by
  pointwise [k0_pay59, k0_pay51, k0_pay56, k0_pay52, Conv.Args.sig]

/-- The gradient of the mixed columns. -/
theorem pay60_at (s : FVec Ideal S1x256 .f32) (g : FVec Ideal S512x256 .f32) (e : FVec Ideal S512x256 .f32) (r : Fin 512) (c : Fin 256) :
    k0_pay60 (F := Ideal) (k0_pay52 (F := Ideal) s) g e (ix2 r c) = g (ix2 r c) * s (ix2 0 c) * e (ix2 r c) := by
  pointwise [k0_pay60, k0_pay52]

theorem pay61_at (s : FVec Ideal S1x256 .f32) (p : FVec Ideal S512x256 .bf16) (g : FVec Ideal S512x256 .f32) (e : FVec Ideal S512x256 .f32)
    (o : FVec Ideal S256x256 .f32) (i j : Fin 256) :
    k0_pay61 (F := Ideal) s (k0_pay53 (F := Ideal) p) g e o (ix2 i j) =
      o (ix2 i j) + ∑ r : Fin 512, p (ix2 r i) * k0_pay60 (F := Ideal) s g e (ix2 r j) := by
  pointwise [k0_pay61, k0_pay53]

theorem pay62_at (s : FVec Ideal S1x256 .f32) (w : FVec Ideal S256x256 .bf16) (g : FVec Ideal S512x256 .f32) (e : FVec Ideal S512x256 .f32)
    (r : Fin 512) (c : Fin 256) :
    k0_pay62 (F := Ideal) s (k0_pay54 (F := Ideal) w) g e (ix2 r c) = ∑ j : Fin 256, k0_pay60 (F := Ideal) s g e (ix2 r j) * w (ix2 c j) := by
  pointwise [k0_pay62, k0_pay54]

theorem pay64_at (s : FVec Ideal S1x256 .f32) (w : FVec Ideal S256x256 .bf16) (g : FVec Ideal S512x256 .f32) (e : FVec Ideal S512x256 .f32)
    (r : Fin 16) (c : Fin 256) :
    k0_pay64 (F := Ideal) s w g e (ix2 r c) = k0_pay62 (F := Ideal) s w g e (ix2 (⟨r.val, by omega⟩ : Fin 512) c) := by
  pointwise [k0_pay64]

/-- A sum over all columns of what is zero outside one group is the sum over the group. -/
theorem sum_group (f h : ℕ → EReal) {g : ℕ} (hg : g < 4) :
    ∑ i : Fin 256, f i.val * (if i.val / 64 = g then h i.val else 0) = ∑ j : Fin 64, f (64 * g + j.val) * h (64 * g + j.val) := by
  refine (FinSumWindow.sum_window (W := 64) (64 * g) (by omega) (fun i : Fin 256 => f i.val * (if i.val / 64 = g then h i.val else 0)) fun i hi => ?_).trans ?_
  · rw [if_neg (by omega), mul_zero]
  · refine Finset.sum_congr rfl fun j _ => ?_
    show f (64 * g + j.val) * (if (64 * g + j.val) / 64 = g then h (64 * g + j.val) else 0) = _
    rw [if_pos (col_div j.isLt)]

theorem two_f32 : Ideal.ofBits .f32 0x40000000#32 = ((2 : ℝ) : EReal) := by
  simp [Ideal.ofBits, Ideal.ieee, -EReal.coe_mul]; norm_num
theorem four_f32 : Ideal.ofBits .f32 0x40800000#32 = ((4 : ℝ) : EReal) := by
  simp [Ideal.ofBits, Ideal.ieee, -EReal.coe_mul]; norm_num
theorem eight_f32 : Ideal.ofBits .f32 0x41000000#32 = ((8 : ℝ) : EReal) := by
  simp [Ideal.ofBits, Ideal.ieee, -EReal.coe_mul]; norm_num
theorem sixteen_f32 : Ideal.ofBits .f32 0x41800000#32 = ((16 : ℝ) : EReal) := by
  simp [Ideal.ofBits, Ideal.ieee, -EReal.coe_mul]; norm_num

/-- Whether a column is before another. -/
theorem lane (q : Fin 256) {b : ℕ} (hb : b < 256) : IntOp.cmpi .slt (BitVec.ofNat 32 q.val) (BitVec.ofNat 32 b) = BitVec.ofBool (decide (q.val < b)) :=
  cmpi_slt_ofNat (by omega) (by omega)

/-- The choice of one of four by the column's group. -/
theorem choose (q : Fin 256) (F : ℕ → EReal) :
    Scalar.select (IntOp.cmpi .slt (BitVec.ofNat 32 q.val) 64#32) (F 2) (Scalar.select (IntOp.cmpi .slt (BitVec.ofNat 32 q.val) 128#32) (F 4)
      (Scalar.select (IntOp.cmpi .slt (BitVec.ofNat 32 q.val) 192#32) (F 8) (F 16))) = F (win q.val) := by
  rw [lane q (b := 64) (by omega), lane q (b := 128) (by omega), lane q (b := 192) (by omega), select_decide, select_decide, select_decide]
  unfold win
  split
  · rw [show q.val / 64 + 1 = 1 by omega]; rfl
  split
  · rw [show q.val / 64 + 1 = 2 by omega]; rfl
  split
  · rw [show q.val / 64 + 1 = 3 by omega]; rfl
  · rw [show q.val / 64 + 1 = 4 by omega]; rfl

theorem choose_width (q : Fin 256) :
    Scalar.select (IntOp.cmpi .slt (BitVec.ofNat 32 q.val) 64#32) (Ideal.ofBits .f32 0x40000000#32)
      (Scalar.select (IntOp.cmpi .slt (BitVec.ofNat 32 q.val) 128#32) (Ideal.ofBits .f32 0x40800000#32)
        (Scalar.select (IntOp.cmpi .slt (BitVec.ofNat 32 q.val) 192#32) (Ideal.ofBits .f32 0x41000000#32) (Ideal.ofBits .f32 0x41800000#32))) =
      ((win q.val : ℝ) : EReal) := by
  refine Eq.trans ?_ (choose q fun n => ((n : ℝ) : EReal))
  rw [two_f32, four_f32, eight_f32, sixteen_f32]
  norm_cast

theorem pay63_at (q : Fin 256) : k0_pay63 (F := Ideal) (ix2 0 q) = ((win q.val : ℝ) : EReal) := by
  refine Eq.trans ?_ (choose_width q)
  pointwise [k0_pay63]

/-- The word holding one more than a row's token. -/
theorem pos_word {t : ℕ} (ht : t < 16) {r : ℕ} (hr : r < 512) :
    (FloatOps.sitofp (self := instFloatOpsIdeal) .f32 (IntOp.addi (IntOp.addi (Scalar.muli (BitVec.ofNat 32 (15 - t)) 512#32) (BitVec.ofNat 32 r)) 1#32) : EReal) =
      ((((tok t r + 1 : ℕ) : ℝ)) : EReal) := by
  have e : IntOp.addi (IntOp.addi (Scalar.muli (BitVec.ofNat 32 (15 - t)) 512#32) (BitVec.ofNat 32 r)) 1#32 = BitVec.ofNat 32 (tok t r + 1) := by
    show BitVec.ofNat 32 (15 - t) * BitVec.ofNat 32 512 + BitVec.ofNat 32 r + BitVec.ofNat 32 1 = _
    rw [← BitVec.ofNat_mul, ← BitVec.ofNat_add, ← BitVec.ofNat_add]
    rfl
  rw [e]
  show ((((BitVec.ofNat 32 (tok t r + 1)).toInt : ℝ)) : EReal) = _
  rw [toInt_ofNat_of_lt (a := tok t r + 1) (by unfold Conv.tok; omega)]
  norm_cast

/-- The gradient of the windows' sums: each row is divided by how many tokens its window has. -/
theorem pay68_at {t : ℕ} (ht : t < 16) (X : FVec Ideal S512x256 .f32) (Y : FVec Ideal S16x256 .f32)
    (hY : ∀ (r : Fin 16) (q : Fin 256), Y (ix2 r q) = X (ix2 (⟨r.val, by omega⟩ : Fin 512) q)) (r : Fin 512) (q : Fin 256) :
    k0_pay68 (F := Ideal) (BitVec.ofNat 32 (15 - t)) X k0_pay63 Y k0_pay65 k0_pay66 k0_pay67 (ix2 r q) =
      Ideal.div (X (ix2 r q)) ((cnt (tok t r.val) q.val : ℝ) : EReal) := by
  have hw := win_pos q.val
  have hl := win_le (c := q.val) q.isLt
  pointwise [k0_pay68, k0_pay65, k0_pay66, k0_pay67]
  rw [choose_width, pos_word ht r.isLt, pay63_at, div_nat _ (cnt_pos _ _), div_nat _ hw, div_nat _ (Nat.succ_pos _)]
  by_cases h : r.val < 16
  · refine (dif_pos h).trans ?_
    rw [hY, one_mul, one_mul]
    have hc : (((win q.val : ℝ) : EReal) ≤ (((tok t r.val + 1 : ℕ) : ℝ) : EReal)) ↔ win q.val ≤ tok t r.val + 1 := by
      rw [EReal.coe_le_coe_iff, Nat.cast_le]
    refine congrArg (X (ix2 r q) * ·) ?_
    by_cases hk : win q.val ≤ tok t r.val + 1
    · rw [if_pos (hc.2 hk), show cnt (tok t r.val) q.val = win q.val from Nat.min_eq_right hk]
    · rw [if_neg fun h => hk (hc.1 h), show cnt (tok t r.val) q.val = tok t r.val + 1 from Nat.min_eq_left (by omega)]
  · refine (dif_neg h).trans ?_
    rw [one_mul, show cnt (tok t r.val) q.val = win q.val from Nat.min_eq_right (by unfold Conv.tok; omega)]
    exact congrArg (fun k => X (ix2 k q) * _) (Fin.ext (show 16 + (r.val - 16) = r.val by omega))

/-- Two sums ahead, one after the other. -/
theorem ahead_double (n : ℕ) (f : ℕ → EReal) (t : ℕ) : ahead n f t + ahead n f (t + n) = ahead (n + n) f t := by
  unfold ahead
  rw [Finset.sum_range_add]
  simp only [Nat.add_assoc]

theorem ahead_one (f : ℕ → EReal) (t : ℕ) : ahead 1 f t = f t := by simp [ahead]

/-- Adding the rows `n` further on doubles the sums. -/
theorem rotated {X : FVec Ideal S528x256 .f32} {f : ℕ → ℕ → EReal} {b t0 : ℕ} (n : ℕ) (hn : n ≤ 16)
    (hX : ∀ (r : Fin 528) (q : Fin 256), r.val + b ≤ 528 → X (ix2 r q) = ahead n (fun s => f s q.val) (t0 + r.val)) (hb : n ≤ b)
    (r r' : Fin 528) (q : Fin 256) (hr : r.val + (b + n) ≤ 528) (e : r'.val = r.val + n) :
    X (ix2 r q) + X (ix2 r' q) = ahead (n + n) (fun s => f s q.val) (t0 + r.val) := by
  rw [← ahead_double, hX r q (by omega), hX r' q (by omega), e, Nat.add_assoc]

variable (W : BitVec 32) (X : FVec Ideal S512x256 .f32) (v : FVec Ideal S1x256 .f32) (Y : FVec Ideal S16x256 .f32)
  (a b : IVec S1x256 1) (s : FVec Ideal S1x256 .f32) (h : FVec Ideal S16x256 .f32) {f : ℕ → ℕ → EReal} {t0 : ℕ}
  (hD : ∀ (r : Fin 512) (q : Fin 256), k0_pay68 (F := Ideal) W X v Y a b s (ix2 r q) = f (t0 + r.val) q.val)
  (hh : ∀ (r : Fin 16) (q : Fin 256), h (ix2 r q) = f (t0 + (512 + r.val)) q.val)

/-- The tile's rows, then the 16 after them. -/
def long : FVec Ideal S528x256 .f32 :=
  concatenate S528x256 0 [⟨S512x256, k0_pay68 (F := Ideal) W X v Y a b s⟩, ⟨S16x256, h⟩] concatenates_S512x256_S16x256_S528x256_d0

include hD hh in
theorem long_at (r : Fin 528) (q : Fin 256) : long W X v Y a b s h (ix2 r q) = f (t0 + r.val) q.val := by
  pointwise [long]
  by_cases hr : r.val < 512
  · exact (dif_pos hr).trans (hD _ _)
  · refine (dif_neg hr).trans ((hh _ _).trans ?_)
    exact congrArg (fun k => f (t0 + k) q.val) (show 512 + (r.val - 512) = r.val by omega)

/-- A value of the rows, added to itself turned by some rows. -/
def turned (n : BitVec 32) (x : FVec Ideal S528x256 .f32) : FVec Ideal S528x256 .f32 :=
  addf (F := Ideal) (s := S528x256) (φ := .f32) x (dynamicRotate 0 n none x rotates_S528x256_d0)

theorem turned_1 (x : FVec Ideal S528x256 .f32) (r : Fin 528) (q : Fin 256) (hr : r.val + 1 < 528) :
    turned 527#32 x (ix2 r q) = x (ix2 r q) + x (ix2 ⟨r.val + 1, hr⟩ q) := by
  pointwise [turned]
  exact congrArg (fun k => x (ix2 r q) + x (ix2 k q)) (Fin.ext (show (r.val + 528 - 527) % 528 = r.val + 1 by omega))

theorem turned_2 (x : FVec Ideal S528x256 .f32) (r : Fin 528) (q : Fin 256) (hr : r.val + 2 < 528) :
    turned 526#32 x (ix2 r q) = x (ix2 r q) + x (ix2 ⟨r.val + 2, hr⟩ q) := by
  pointwise [turned]
  exact congrArg (fun k => x (ix2 r q) + x (ix2 k q)) (Fin.ext (show (r.val + 528 - 526) % 528 = r.val + 2 by omega))

theorem turned_4 (x : FVec Ideal S528x256 .f32) (r : Fin 528) (q : Fin 256) (hr : r.val + 4 < 528) :
    turned 524#32 x (ix2 r q) = x (ix2 r q) + x (ix2 ⟨r.val + 4, hr⟩ q) := by
  pointwise [turned]
  exact congrArg (fun k => x (ix2 r q) + x (ix2 k q)) (Fin.ext (show (r.val + 528 - 524) % 528 = r.val + 4 by omega))

theorem turned_8 (x : FVec Ideal S528x256 .f32) (r : Fin 528) (q : Fin 256) (hr : r.val + 8 < 528) :
    turned 520#32 x (ix2 r q) = x (ix2 r q) + x (ix2 ⟨r.val + 8, hr⟩ q) := by
  pointwise [turned]
  exact congrArg (fun k => x (ix2 r q) + x (ix2 k q)) (Fin.ext (show (r.val + 528 - 520) % 528 = r.val + 8 by omega))

include hD hh in
theorem pay69_at (r : Fin 528) (q : Fin 256) (hr : r.val + 2 ≤ 528) :
    k0_pay69 (F := Ideal) W X v Y a b s h (ix2 r q) = ahead 2 (fun s => f s q.val) (t0 + r.val) :=
  (turned_1 (long W X v Y a b s h) r q (by omega)).trans (rotated (b := 1) 1 (by omega)
    (fun r q _ => (long_at W X v Y a b s h hD hh r q).trans (ahead_one _ _).symm) le_rfl r _ q hr rfl)

include hD hh in
theorem pay70_at (r : Fin 528) (q : Fin 256) (hr : r.val + 4 ≤ 528) :
    k0_pay70 (F := Ideal) W X v Y a b s h (ix2 r q) = ahead 4 (fun s => f s q.val) (t0 + r.val) :=
  (turned_2 (k0_pay69 (F := Ideal) W X v Y a b s h) r q (by omega)).trans (rotated (b := 2) 2 (by omega)
    (pay69_at W X v Y a b s h hD hh) le_rfl r _ q hr rfl)

include hD hh in
theorem pay71_at (r : Fin 528) (q : Fin 256) (hr : r.val + 8 ≤ 528) :
    k0_pay71 (F := Ideal) W X v Y a b s h (ix2 r q) = ahead 8 (fun s => f s q.val) (t0 + r.val) :=
  (turned_4 (k0_pay70 (F := Ideal) W X v Y a b s h) r q (by omega)).trans (rotated (b := 4) 4 (by omega)
    (pay70_at W X v Y a b s h hD hh) le_rfl r _ q hr rfl)

include hD hh in
theorem pay72_at (r : Fin 528) (q : Fin 256) (hr : r.val + 16 ≤ 528) :
    k0_pay72 (F := Ideal) W X v Y a b s h (ix2 r q) = ahead 16 (fun s => f s q.val) (t0 + r.val) :=
  (turned_8 (k0_pay71 (F := Ideal) W X v Y a b s h) r q (by omega)).trans (rotated (b := 8) 8 (by omega)
    (pay71_at W X v Y a b s h hD hh) le_rfl r _ q hr rfl)

include hD hh in
/-- The gradient of the inputs: the sum ahead over the column's own window, less the gradient of the mean. -/
theorem pay75_at (I : IVec S1x256 32) (hI : ∀ q : Fin 256, I (ix2 0 q) = BitVec.ofNat 32 q.val) (r : Fin 512) (q : Fin 256) :
    k0_pay75 (F := Ideal) I X (k0_pay69 (F := Ideal) W X v Y a b s h) (k0_pay70 (F := Ideal) W X v Y a b s h)
      (k0_pay71 (F := Ideal) W X v Y a b s h) (k0_pay72 (F := Ideal) W X v Y a b s h) (k0_pay73 I) (k0_pay74 I) 192#32 (ix2 r q) =
      ahead (win q.val) (fun s => f s q.val) (t0 + r.val) - X (ix2 r q) := by
  refine Eq.trans ?_ (congrArg (· - X (ix2 r q)) (choose q fun n => ahead n (fun s => f s q.val) (t0 + r.val)))
  pointwise [k0_pay75, k0_pay73, k0_pay74]
  rw [hI]
  have h2 := pay69_at W X v Y a b s h hD hh ⟨r.val, by omega⟩ q (show r.val + 2 ≤ 528 by omega)
  have h4 := pay70_at W X v Y a b s h hD hh ⟨r.val, by omega⟩ q (show r.val + 4 ≤ 528 by omega)
  have h8 := pay71_at W X v Y a b s h hD hh ⟨r.val, by omega⟩ q (show r.val + 8 ≤ 528 by omega)
  have h16 := pay72_at W X v Y a b s h hD hh ⟨r.val, by omega⟩ q (show r.val + 16 ≤ 528 by omega)
  rw [h2, h4, h8, h16]

/-- The choice of one of four by the column's group. -/
theorem choose_group (q : Fin 256) (Z : ℕ → EReal) :
    Scalar.select (IntOp.cmpi .slt (BitVec.ofNat 32 q.val) 64#32) (Z 0) (Scalar.select (IntOp.cmpi .slt (BitVec.ofNat 32 q.val) 128#32) (Z 1)
      (Scalar.select (IntOp.cmpi .slt (BitVec.ofNat 32 q.val) 192#32) (Z 2) (Z 3))) = Z (q.val / 64) := by
  rw [lane q (b := 64) (by omega), lane q (b := 128) (by omega), lane q (b := 192) (by omega), select_decide, select_decide, select_decide]
  split
  · rw [show q.val / 64 = 0 by omega]
  split
  · rw [show q.val / 64 = 1 by omega]
  split
  · rw [show q.val / 64 = 2 by omega]
  · rw [show q.val / 64 = 3 by omega]

/-- The four blocks of the mixing weights' gradient, each at its own columns. -/
theorem pay3_at (I : IVec S1x256 32) (hI : ∀ q : Fin 256, I (ix2 0 q) = BitVec.ofNat 32 q.val) (A B C D : Vec Ideal S64x256 .f32)
    (Z : ℕ → EReal) (i : Fin 64) (q : Fin 256) (hA : A (ix2 i q) = Z 0) (hB : B (ix2 i q) = Z 1) (hC : C (ix2 i q) = Z 2) (hD : D (ix2 i q) = Z 3) :
    k0_pay3 (F := Ideal) I A B C D (ix2 i q) = Z (q.val / 64) := by
  refine Eq.trans ?_ (choose_group q Z)
  pointwise [k0_pay3]
  rw [hI, hA, hB, hC, hD]

theorem pay4_at (I : IVec S1x256 32) (A B C D : Vec Ideal S64x256 .f32) (i : Fin 16) (q : Fin 256) :
    k0_pay4 (F := Ideal) I A B C D (ix2 i q) = k0_pay3 (F := Ideal) I A B C D (ix2 (⟨i.val, by omega⟩ : Fin 64) q) := by
  pointwise [k0_pay4]

theorem pay5_at (I : IVec S1x256 32) (A B C D : Vec Ideal S64x256 .f32) (i : Fin 16) (q : Fin 256) :
    k0_pay5 (F := Ideal) I A B C D (ix2 i q) = k0_pay3 (F := Ideal) I A B C D (ix2 (⟨16 + i.val, by omega⟩ : Fin 64) q) := by
  pointwise [k0_pay5]

theorem pay6_at (I : IVec S1x256 32) (A B C D : Vec Ideal S64x256 .f32) (i : Fin 16) (q : Fin 256) :
    k0_pay6 (F := Ideal) I A B C D (ix2 i q) = k0_pay3 (F := Ideal) I A B C D (ix2 (⟨32 + i.val, by omega⟩ : Fin 64) q) := by
  pointwise [k0_pay6]

theorem pay7_at (I : IVec S1x256 32) (A B C D : Vec Ideal S64x256 .f32) (i : Fin 16) (q : Fin 256) :
    k0_pay7 (F := Ideal) I A B C D (ix2 i q) = k0_pay3 (F := Ideal) I A B C D (ix2 (⟨48 + i.val, by omega⟩ : Fin 64) q) := by
  pointwise [k0_pay7]

/-- The rows the next tile's sums run into. -/
theorem pay76_at (D : FVec Ideal S512x256 .f32) (r : Fin 16) (q : Fin 256) :
    k0_pay76 (F := Ideal) D (ix2 r q) = D (ix2 (⟨r.val, by omega⟩ : Fin 512) q) := by
  pointwise [k0_pay76]

end Cert.Pool

end
-- ==== Proof.PoolTile.lean ====
/-
  What a grid point computes for the pooling mixer, tile by tile.
-/
module

public import proofs.«01_k».proof.Proof.ConvTile
public import proofs.«01_k».proof.Proof.PoolHost
public import proofs.«01_k».proof.Proof.PoolPay

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen
open Cert.Conv (tok IsTile at2)

variable (m : (ℓ : Loc nD τ sig) → Buf (Elt Ideal) ℓ)

/-- What a grid point loads: the gate's columns, the row of scales, the means, the weight and the gradient of the mixers. -/
abbrev lZ (c : Dev nD) (t : Fin cfg0.N) : FVec Ideal S512x256 .bf16 :=
  View.ld (iblk m c 0 t) (Rect.unit (s := S512x3328) ![0, 2048] S512x256.size inb_S512x3328_S512x256_0_2048)
abbrev lS (c : Dev nD) (t : Fin cfg0.N) : FVec Ideal S1x256 .f32 :=
  View.ld (iblk m c 11 t) (Rect.unit (s := S16x768) ![5, 0] S1x256.size inb_S16x768_S1x256_5_0)
abbrev lP (c : Dev nD) (t : Fin cfg0.N) : FVec Ideal S512x256 .bf16 := iblk m c 10 t
abbrev lW (c : Dev nD) (t : Fin cfg0.N) : FVec Ideal S256x256 .bf16 := iblk m c 13 t
abbrev lD (c : Dev nD) (t : Fin cfg0.N) : FVec Ideal S512x256 .f32 :=
  View.readCov (s := S512x1024) (e := .f32) (View.whole cc0_scratch8)
    [(⟨Rect.unit (s := S512x1024) ![0, 0] S512x1024.size inb_S512x1024_S512x1024_0_0, k0_pay24 (F := Ideal) (iblk m c 2 t) (iblk m c 3 t)⟩ : View.Piece (Elt Ideal) S512x1024 .f32)]
    (Rect.unit (s := S512x1024) ![0, 512] S512x256.size inb_S512x1024_S512x256_0_512).toLoadRect

theorem lZ_tile (c : Dev nD) (t : Fin cfg0.N) : IsTile t.val (lZ m c t) (args m c).z := fun r q =>
  (View.ld_unit_apply_of _ _ _ _ _ (ix2 r (⟨2048 + q.val, by omega⟩ : Fin 3328)) (Stores.two (by simp) rfl)).trans (blk_z m c t r q)

theorem lS_at (c : Dev nD) (t : Fin cfg0.N) (q : Fin 256) : lS m c t (ix2 0 q) = at1 (args m c).x10 q.val :=
  (View.ld_unit_apply_of _ _ _ _ _ (ix2 (5 : Fin 16) (⟨q.val, by omega⟩ : Fin 768)) (Stores.two (by simp) (by simp))).trans (blk_scale m c t q)

theorem lP_tile (c : Dev nD) (t : Fin cfg0.N) : IsTile t.val (lP m c t) (args m c).pooled := blk10 m c t

theorem lD_tile (c : Dev nD) (t : Fin cfg0.N) : IsTile t.val (lD m c t) (args m c).dm :=
  Conv.dm m c t 512 inb_S512x1024_S512x256_0_512 (by omega)

/-- The gate. -/
abbrev lG (c : Dev nD) (t : Fin cfg0.N) : FVec Ideal S512x256 .f32 := k0_pay57 (F := Ideal) (lZ m c t)

theorem lG_tile (c : Dev nD) (t : Fin cfg0.N) : IsTile t.val (lG m c t) (args m c).gate := fun r q => by
  refine (pay57_at _ r q).trans ?_
  rw [lZ_tile m c t]
  rfl

/-- The mixed columns. -/
theorem mixed_tile (c : Dev nD) (t : Fin cfg0.N) : IsTile t.val (k0_pay55 (F := Ideal) (lP m c t) (lW m c t)) (args m c).mixed := fun r q => by
  rw [pay55_at]
  refine (Finset.sum_congr (M := EReal) rfl fun i _ => congrArg₂ (· * ·) (lP_tile m c t r i) (blk13 m c t i q)).trans ?_
  refine (sum_group (fun i => (args m c).pooled (tok t.val r.val) i) (fun i => at3 (args m c).x9 (i / 64) (i % 64) (q.val % 64))
    (show q.val / 64 < 4 by omega)).trans ?_
  refine Finset.sum_congr (M := EReal) rfl fun i _ => ?_
  show _ * at3 _ ((64 * (q.val / 64) + i.val) / 64) ((64 * (q.val / 64) + i.val) % 64) _ = _
  rw [col_div i.isLt, col_mod i.isLt]

/-- The gradient of the mixed columns. -/
abbrev lM (c : Dev nD) (t : Fin cfg0.N) : FVec Ideal S512x256 .f32 := k0_pay60 (F := Ideal) (k0_pay52 (F := Ideal) (lS m c t)) (lD m c t) (lG m c t)

theorem lM_tile (c : Dev nD) (t : Fin cfg0.N) : IsTile t.val (lM m c t) (args m c).dmixed := fun r q => by
  refine (pay60_at _ _ _ r q).trans ?_
  rw [lD_tile m c t, lS_at, lG_tile m c t]
  rfl

/-- The gradient of the pooled columns. -/
abbrev lX (c : Dev nD) (t : Fin cfg0.N) : FVec Ideal S512x256 .f32 :=
  k0_pay62 (F := Ideal) (k0_pay52 (F := Ideal) (lS m c t)) (k0_pay54 (F := Ideal) (lW m c t)) (lD m c t) (lG m c t)

theorem lX_tile (c : Dev nD) (t : Fin cfg0.N) : IsTile t.val (lX m c t) (args m c).dpooled := fun r q => by
  refine (pay62_at _ _ _ _ r q).trans ?_
  refine (Finset.sum_congr (M := EReal) rfl fun j _ => congrArg₂ (· * ·) (lM_tile m c t r j)
    ((blk13 m c t q j).trans (if_congr eq_comm rfl rfl))).trans ?_
  refine (sum_group (fun j => (args m c).dmixed (tok t.val r.val) j) (fun j => at3 (args m c).x9 (q.val / 64) (q.val % 64) (j % 64))
    (show q.val / 64 < 4 by omega)).trans ?_
  refine Finset.sum_congr (M := EReal) rfl fun j _ => ?_
  show _ * at3 _ _ _ ((64 * (q.val / 64) + j.val) % 64) = _
  rw [col_mod j.isLt]

/-- The tile's number, as the kernel counts it. -/
theorem word_eq : ∀ t : Fin cfg0.N, Scalar.subi 15#32 (BitVec.ofNat 32 (grid0.coords t 0).val) = BitVec.ofNat 32 (15 - t.val) := (by decide +kernel :
  ∀ t : Fin grid0.N, Scalar.subi 15#32 (BitVec.ofNat 32 (grid0.coords t 0).val) = BitVec.ofNat 32 (15 - t.val))

/-- The gradient of the windows' sums. -/
abbrev lT (c : Dev nD) (t : Fin cfg0.N) : FVec Ideal S512x256 .f32 :=
  k0_pay68 (F := Ideal) (Scalar.subi 15#32 (BitVec.ofNat 32 (grid0.coords t 0).val)) (lX m c t) k0_pay63
    (k0_pay64 (F := Ideal) (k0_pay52 (F := Ideal) (lS m c t)) (k0_pay54 (F := Ideal) (lW m c t)) (lD m c t) (lG m c t)) k0_pay65 k0_pay66 k0_pay67

theorem lT_tile (c : Dev nD) (t : Fin cfg0.N) : IsTile t.val (lT m c t) (args m c).dtot := fun r q => by
  unfold lT
  rw [word_eq]
  refine (pay68_at (show t.val < 16 from t.isLt) _ _ (fun r q => pay64_at _ _ _ _ r q) r q).trans ?_
  have e : lX m c t (ix2 r q) = (args m c).dpooled (tok t.val r.val) q.val := lX_tile m c t r q
  unfold Args.dtot
  rw [← e]

/-- The rows carried in are the ones after this tile. -/
def Follows (c : Dev nD) (t : ℕ) (h : FVec Ideal S16x256 .f32) : Prop :=
  ∀ (r : Fin 16) (q : Fin 256), h (ix2 r q) = (args m c).dtot (tok t (512 + r.val)) q.val

theorem lane_at (q : Fin 256) : iota Kind.tc S1x256 32 [1] iota_S1x256_d1_w32 (ix2 0 q) = BitVec.ofNat 32 q.val := by
  pointwise []

/-- The gradient of the pooled columns' inputs. -/
abbrev lU (c : Dev nD) (t : Fin cfg0.N) (h : FVec Ideal S16x256 .f32) : FVec Ideal S512x256 .bf16 :=
  k0_pay75 (F := Ideal) (iota Kind.tc S1x256 32 [1] iota_S1x256_d1_w32) (lX m c t)
    (k0_pay69 (F := Ideal) (Scalar.subi 15#32 (BitVec.ofNat 32 (grid0.coords t 0).val)) (lX m c t) k0_pay63
      (k0_pay64 (F := Ideal) (k0_pay52 (F := Ideal) (lS m c t)) (k0_pay54 (F := Ideal) (lW m c t)) (lD m c t) (lG m c t)) k0_pay65 k0_pay66 k0_pay67 h)
    (k0_pay70 (F := Ideal) (Scalar.subi 15#32 (BitVec.ofNat 32 (grid0.coords t 0).val)) (lX m c t) k0_pay63
      (k0_pay64 (F := Ideal) (k0_pay52 (F := Ideal) (lS m c t)) (k0_pay54 (F := Ideal) (lW m c t)) (lD m c t) (lG m c t)) k0_pay65 k0_pay66 k0_pay67 h)
    (k0_pay71 (F := Ideal) (Scalar.subi 15#32 (BitVec.ofNat 32 (grid0.coords t 0).val)) (lX m c t) k0_pay63
      (k0_pay64 (F := Ideal) (k0_pay52 (F := Ideal) (lS m c t)) (k0_pay54 (F := Ideal) (lW m c t)) (lD m c t) (lG m c t)) k0_pay65 k0_pay66 k0_pay67 h)
    (k0_pay72 (F := Ideal) (Scalar.subi 15#32 (BitVec.ofNat 32 (grid0.coords t 0).val)) (lX m c t) k0_pay63
      (k0_pay64 (F := Ideal) (k0_pay52 (F := Ideal) (lS m c t)) (k0_pay54 (F := Ideal) (lW m c t)) (lD m c t) (lG m c t)) k0_pay65 k0_pay66 k0_pay67 h)
    (k0_pay73 (iota Kind.tc S1x256 32 [1] iota_S1x256_d1_w32)) (k0_pay74 (iota Kind.tc S1x256 32 [1] iota_S1x256_d1_w32)) 192#32

theorem lU_tile (c : Dev nD) (t : Fin cfg0.N) (h : FVec Ideal S16x256 .f32) (hh : Follows m c t.val h) : IsTile t.val (lU m c t h) (args m c).du := fun r q => by
  refine (pay75_at (f := (args m c).dtot) (t0 := (15 - t.val) * 512) _ _ _ _ _ _ _ h (lT_tile m c t) hh _ lane_at r q).trans ?_
  have e : lX m c t (ix2 r q) = (args m c).dpooled (tok t.val r.val) q.val := lX_tile m c t r q
  unfold Args.du
  rw [← e]
  rfl

/-- The gradient of the gate's columns. -/
abbrev lV (c : Dev nD) (t : Fin cfg0.N) : FVec Ideal S512x256 .bf16 := k0_pay59 (F := Ideal) (lZ m c t) (lS m c t) (lP m c t) (lW m c t) (lD m c t)

theorem lV_tile (c : Dev nD) (t : Fin cfg0.N) : IsTile t.val (lV m c t) (args m c).dz := fun r q => by
  refine (pay59_at _ _ _ _ _ r q).trans ?_
  rw [lD_tile m c t, lS_at, mixed_tile m c t, lZ_tile m c t]
  rfl

/-- What a tile adds to the scale's gradient. -/
def partScale (c : Dev nD) (t q : ℕ) : EReal := ∑ r : Fin 512, (args m c).dm (tok t r.val) q * (args m c).mixed (tok t r.val) q * (args m c).gate (tok t r.val) q

theorem newScale (c : Dev nD) (t : Fin cfg0.N) (o : FVec Ideal S1x256 .f32) (q : Fin 256) :
    k0_pay58 (F := Ideal) (lZ m c t) (lP m c t) (lW m c t) (lD m c t) o (ix2 0 q) = o (ix2 0 q) + partScale m c t.val q.val := by
  rw [pay58_at]
  exact congrArg _ (Finset.sum_congr (M := EReal) rfl fun r _ => congrArg₂ (· * ·) (congrArg₂ (· * ·) (lD_tile m c t r q) (mixed_tile m c t r q)) (lG_tile m c t r q))

/-- What a tile adds to the weight's gradient. -/
def partW (c : Dev nD) (t i j : ℕ) : EReal := ∑ r : Fin 512, (args m c).pooled (tok t r.val) i * (args m c).dmixed (tok t r.val) j

theorem newW (c : Dev nD) (t : Fin cfg0.N) (o : FVec Ideal S256x256 .f32) (i j : Fin 256) :
    k0_pay61 (F := Ideal) (k0_pay52 (F := Ideal) (lS m c t)) (k0_pay53 (F := Ideal) (lP m c t)) (lD m c t) (lG m c t) o (ix2 i j) =
      o (ix2 i j) + partW m c t.val i.val j.val := by
  rw [pay61_at]
  exact congrArg _ (Finset.sum_congr (M := EReal) rfl fun r _ => congrArg₂ (· * ·) (lP_tile m c t r i) (lM_tile m c t r j))

end Cert.Pool

end
-- ==== Proof.PoolGrid.lean ====
/-
  The pooling mixer over the grid: the rows carried from a tile to the next, and the columns each point leaves.
-/
module

public import proofs.«01_k».proof.Proof.PoolTile

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen
open Cert.Conv (tok IsTile at2)

variable (m : (ℓ : Loc nD τ sig) → Buf (Elt Ideal) ℓ)

/-- After every grid point the carried rows are the first ones of its tile. -/
theorem carried (c : Dev nD) (t : Fin cfg0.N) (r : Fin 16) (q : Fin 256) :
    (outsAt0 m c t.val t.isLt).2.2.2.2.2.2.1 (ix2 r q) = (args m c).dtot (tok t.val r.val) q.val := by
  have hr : r.val < 512 := by omega
  have e := (pay76_at (lT m c t) r q).trans (lT_tile m c t ⟨r.val, hr⟩ q)
  by_cases h0 : t.val % 16 = 0
  · rw [outsAt0_A m c t h0 (by omega)]
    frame_out
    exact e
  · by_cases h1 : t.val % 16 = 15
    · rw [outsAt0_C m c t h0 h1]
      frame_out
      exact e
    · rw [outsAt0_B m c t h0 h1]
      frame_out
      exact e

/-- The carried rows as a point finds them. -/
theorem follows (c : Dev nD) (t : Fin cfg0.N) (h0 : ¬t.val % 16 = 0) (h : FVec Ideal S16x256 .f32)
    (e : h = (outsAt0 m c (t.val - 1) (Nat.lt_of_le_of_lt (Nat.sub_le _ _) t.isLt)).2.2.2.2.2.2.1) : Follows m c t.val h := fun r q => by
  rw [e]
  refine (carried m c ⟨t.val - 1, Nat.lt_of_le_of_lt (Nat.sub_le _ _) t.isLt⟩ r q).trans (congrArg (fun T => (args m c).dtot T q.val) ?_)
  have : t.val < 16 := t.isLt
  show tok (t.val - 1) r.val = tok t.val (512 + r.val)
  unfold tok
  omega

theorem follows_zero (c : Dev nD) (t : Fin cfg0.N) (h0 : t.val % 16 = 0) : Follows m c t.val (k0_pay11 (F := Ideal)) := fun r q => by
  have : t.val < 16 := t.isLt
  have e : k0_pay11 (F := Ideal) (ix2 r q) = 0 := by pointwise [k0_pay11]
  rw [e, Args.dtot_of_ge]
  unfold tok
  omega

/-- The two stores into this mixer's columns, the newest first. -/
theorem pair_at (c : Dev nD) (t : Fin cfg0.N) (h : FVec Ideal S16x256 .f32) (hh : Follows m c t.val h) (L : List (View.Piece (Elt Ideal) S512x3456 .bf16))
    (r : Fin 512) (C : Fin 3456) (h0 : 1792 ≤ C.val) (h1 : C.val < 2304) :
    View.canon (⟨Rect.unit (s := S512x3456) ![0, 1792] S512x256.size inb_S512x3456_S512x256_0_1792, lU m c t h⟩ ::
      ⟨Rect.unit (s := S512x3456) ![0, 2048] S512x256.size inb_S512x3456_S512x256_0_2048, lV m c t⟩ :: L) (ix2 r C) =
      (args m c).dp (tok t.val r.val) C.val := by
  unfold Args.dp
  by_cases h2 : C.val < 2048
  · refine (Stores.canon_in (s := S512x3456) _ _ _ _ (ix2 r (⟨C.val - 1792, by omega⟩ : Fin 256)) (Stores.two (by simp) (by simp; omega))).trans ?_
    rw [if_pos h2]
    exact lU_tile m c t h hh r ⟨C.val - 1792, by omega⟩
  · refine (Stores.canon_out (s := S512x3456) _ _ _ _ 1 (Or.inr (by simp; omega))).trans ?_
    refine (Stores.canon_in (s := S512x3456) _ _ _ _ (ix2 r (⟨C.val - 2048, by omega⟩ : Fin 256)) (Stores.two (by simp) (by simp; omega))).trans ?_
    rw [if_neg h2]
    exact lV_tile m c t r ⟨C.val - 2048, by omega⟩

/-- The gradient of the projection a point leaves. -/
theorem columns (c : Dev nD) (t : Fin cfg0.N) (r : Fin 512) (C : Fin 3456) (hC0 : 1792 ≤ C.val) (hC1 : C.val < 2304) :
    (outsAt0 m c t.val t.isLt).1 (ix2 r C) = (args m c).dp (tok t.val r.val) C.val := by
  by_cases h0 : t.val % 16 = 0
  · rw [outsAt0_A m c t h0 (by omega)]
    frame_out
    refine (Stores.canon_out (s := S512x3456) _ _ _ _ 1 (Or.inl (by simp; omega))).trans ?_
    refine (Stores.canon_out (s := S512x3456) _ _ _ _ 1 (Or.inl (by simp; omega))).trans ?_
    refine (Stores.canon_out (s := S512x3456) _ _ _ _ 1 (Or.inr (by simp; omega))).trans ?_
    refine (Stores.canon_out (s := S512x3456) _ _ _ _ 1 (Or.inr (by simp; omega))).trans ?_
    refine (Stores.canon_out (s := S512x3456) _ _ _ _ 1 (Or.inr (by simp; omega))).trans ?_
    refine (Stores.canon_out (s := S512x3456) _ _ _ _ 1 (Or.inl (by simp; omega))).trans ?_
    refine (Stores.canon_out (s := S512x3456) _ _ _ _ 1 (Or.inr (by simp; omega))).trans ?_
    exact pair_at m c t _ (follows_zero m c t h0) _ r C hC0 hC1
  · by_cases h1 : t.val % 16 = 15
    · rw [outsAt0_C m c t h0 h1]
      frame_out
      refine (Stores.canon_out (s := S512x3456) _ _ _ _ 1 (Or.inl (by simp; omega))).trans ?_
      refine (Stores.canon_out (s := S512x3456) _ _ _ _ 1 (Or.inl (by simp; omega))).trans ?_
      refine (Stores.canon_out (s := S512x3456) _ _ _ _ 1 (Or.inr (by simp; omega))).trans ?_
      refine (Stores.canon_out (s := S512x3456) _ _ _ _ 1 (Or.inr (by simp; omega))).trans ?_
      refine (Stores.canon_out (s := S512x3456) _ _ _ _ 1 (Or.inr (by simp; omega))).trans ?_
      refine (Stores.canon_out (s := S512x3456) _ _ _ _ 1 (Or.inl (by simp; omega))).trans ?_
      refine (Stores.canon_out (s := S512x3456) _ _ _ _ 1 (Or.inr (by simp; omega))).trans ?_
      exact pair_at m c t _ (follows m c t h0 _ (Memref.IsWhole.read_unread _ _)) _ r C hC0 hC1
    · rw [outsAt0_B m c t h0 h1]
      frame_out
      refine (Stores.canon_out (s := S512x3456) _ _ _ _ 1 (Or.inl (by simp; omega))).trans ?_
      refine (Stores.canon_out (s := S512x3456) _ _ _ _ 1 (Or.inl (by simp; omega))).trans ?_
      refine (Stores.canon_out (s := S512x3456) _ _ _ _ 1 (Or.inr (by simp; omega))).trans ?_
      refine (Stores.canon_out (s := S512x3456) _ _ _ _ 1 (Or.inr (by simp; omega))).trans ?_
      refine (Stores.canon_out (s := S512x3456) _ _ _ _ 1 (Or.inr (by simp; omega))).trans ?_
      refine (Stores.canon_out (s := S512x3456) _ _ _ _ 1 (Or.inl (by simp; omega))).trans ?_
      refine (Stores.canon_out (s := S512x3456) _ _ _ _ 1 (Or.inr (by simp; omega))).trans ?_
      exact pair_at m c t _ (follows m c t h0 _ (Memref.IsWhole.read_unread _ _)) _ r C hC0 hC1

end Cert.Pool

end
-- ==== Proof.PoolRows.lean ====
/-
  The gradients of the pooling mixer's scale and weight, added up over the grid and given out by the last point.
-/
module

public import proofs.«01_k».proof.Proof.PoolGrid

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen
open Cert.Conv (tok IsTile at2)

variable (m : (ℓ : Loc nD τ sig) → Buf (Elt Ideal) ℓ)

/-- The contents the point before left. -/
abbrev prev (c : Dev nD) (t : Fin cfg0.N) := outsAt0 m c (t.val - 1) (Nat.lt_of_le_of_lt (Nat.sub_le _ _) t.isLt)

/-- Where the scale's gradient is kept. -/
abbrev at5 (q : Fin 256) : S16x768.Idx := ix2 (5 : Fin 16) (⟨q.val, by omega⟩ : Fin 768)

theorem at5_mem (q : Fin 256) : at5 q ∈ (Rect.unit (s := S16x768) ![5, 0] S1x256.size inb_S16x768_S1x256_5_0).set :=
  (Rect.mem_set_unit (inb := inb_S16x768_S1x256_5_0)).mpr (Stores.two (by simp) (by simp))

/-- The store into that row. -/
abbrev row (c : Dev nD) (t : Fin cfg0.N) (o : FVec Ideal S1x256 .f32) : View.Piece (Elt Ideal) S16x768 .f32 :=
  ⟨Rect.unit (s := S16x768) ![5, 0] S1x256.size inb_S16x768_S1x256_5_0, k0_pay58 (F := Ideal) (lZ m c t) (lP m c t) (lW m c t) (lD m c t) o⟩

theorem row_mem (c : Dev nD) (t : Fin cfg0.N) (o : FVec Ideal S1x256 .f32) (L : List (View.Piece (Elt Ideal) S16x768 .f32)) (q : Fin 256) :
    ∃ p ∈ row m c t o :: L, at5 q ∈ p.1.set := ⟨row m c t o, List.mem_cons_self, at5_mem q⟩

theorem row_canon (c : Dev nD) (t : Fin cfg0.N) (o : FVec Ideal S1x256 .f32) (L : List (View.Piece (Elt Ideal) S16x768 .f32)) (x : EReal) (q : Fin 256)
    (ho : o (ix2 0 q) = x) : View.canon (row m c t o :: L) (at5 q) = x + partScale m c t.val q.val := by
  refine (Stores.canon_in (s := S16x768) _ _ _ _ (ix2 0 q) (Stores.two (by simp) (by simp))).trans ?_
  rw [newScale m c t o q, ho]

/-- The row read back: what it was and this tile's part. -/
theorem row_read (c : Dev nD) (t : Fin cfg0.N) (o : FVec Ideal S1x256 .f32) (f : _) (L : List (View.Piece (Elt Ideal) S16x768 .f32)) (x : EReal) (q : Fin 256)
    (ho : o (ix2 0 q) = x) :
    View.read (Elt Ideal) (View.whole cc0_scratch5) (View.writes (View.whole cc0_scratch5) (Elt Ideal) f (row m c t o :: L)) (at5 q) =
      x + partScale m c t.val q.val :=
  (View.read_writes_apply_eq_canon _ _ _ _ (row_mem m c t o L q)).trans (row_canon m c t o L x q ho)

theorem scale_next (c : Dev nD) (t : Fin cfg0.N) (h0 : ¬t.val % 16 = 0) (h1 : ¬t.val % 16 = 15) (q : Fin 256) :
    (outsAt0 m c t.val t.isLt).2.2.2.2.2.2.2.2.1 (at5 q) = (prev m c t).2.2.2.2.2.2.2.2.1 (at5 q) + partScale m c t.val q.val := by
  rw [outsAt0_B m c t h0 h1]
  frame_out
  repeat (first
    | refine (View.read_writes_cons_unit_of_not_mem (s := S16x768) _ _ _ _ _ _ rfl 0 (Or.inl (Nat.le_of_ble_eq_true rfl))).trans ?_
    | refine (View.read_writes_cons_unit_of_not_mem (s := S16x768) _ _ _ _ _ _ rfl 0 (Or.inr (Nat.le_of_ble_eq_true rfl))).trans ?_)
  refine row_read m c t _ _ _ _ q ?_
  refine (View.ld_unit_apply_of _ _ _ _ _ (at5 q) (Stores.two (by simp) (by simp))).trans ?_
  exact congrFun (Memref.IsWhole.read_unread _ _) _

theorem scale_first (c : Dev nD) (t : Fin cfg0.N) (h0 : t.val % 16 = 0) (q : Fin 256) :
    (outsAt0 m c t.val t.isLt).2.2.2.2.2.2.2.2.1 (at5 q) = 0 + partScale m c t.val q.val := by
  rw [outsAt0_A m c t h0 (by omega)]
  frame_out
  repeat (first
    | refine (Stores.canon_out (s := S16x768) _ _ _ _ 0 (Or.inl (Nat.le_of_ble_eq_true rfl))).trans ?_
    | refine (Stores.canon_out (s := S16x768) _ _ _ _ 0 (Or.inr (Nat.le_of_ble_eq_true rfl))).trans ?_)
  refine row_canon m c t _ _ 0 q ?_
  refine (Stores.readCov_at (s := S16x768) _ _ _ _ (at5 q) (Stores.two (by simp) (by simp))).trans ?_
  repeat refine (Stores.canon_out (s := S16x768) _ _ _ _ 0 (Or.inr (Nat.le_of_ble_eq_true rfl))).trans ?_
  refine (Stores.canon_in (s := S16x768) _ _ _ _ (at5 q) (Stores.two (by simp) (by simp))).trans ?_
  exact Conv.pay13_at _ _

/-- The rows given out are given as they are. -/
theorem pay17_five (x : FVec Ideal S8x256 .f32) (q : Fin 256) : k0_pay17 (F := Ideal) x (ix2 (5 : Fin 8) q) = x (ix2 (5 : Fin 8) q) := by
  have e : IntOp.cmpi CmpIPredicate.eq 5#32 4#32 = 0#1 := by decide
  pointwise [k0_pay17]
  rw [e]
  rfl

/-- What the last point gives out as the scale's gradient. -/
theorem scale_last (c : Dev nD) (t : Fin cfg0.N) (h1 : t.val % 16 = 15) (q : Fin 256) :
    (outsAt0 m c t.val t.isLt).2.1 (ix2 (5 : Fin 32) (⟨q.val, by omega⟩ : Fin 1024)) =
      (prev m c t).2.2.2.2.2.2.2.2.1 (at5 q) + partScale m c t.val q.val := by
  have h0 : ¬t.val % 16 = 0 := by omega
  rw [outsAt0_C m c t h0 h1]
  frame_out
  repeat (first
    | refine (Stores.canon_out (s := S32x1024) _ _ _ _ 0 (Or.inl (Nat.le_of_ble_eq_true rfl))).trans ?_
    | refine (Stores.canon_out (s := S32x1024) _ _ _ _ 1 (Or.inl (Nat.lt_of_lt_of_le q.isLt (Nat.le_of_ble_eq_true rfl)))).trans ?_)
  refine (Stores.canon_in (s := S32x1024) _ _ _ _ (ix2 (5 : Fin 8) q) (Stores.two (by simp) (by simp))).trans ?_
  refine (pay17_five _ q).trans ?_
  refine (View.ld_unit_apply_of _ _ _ _ _ (at5 q) (Stores.two (by simp) (by simp))).trans ?_
  repeat (first
    | refine (View.read_writes_cons_unit_of_not_mem (s := S16x768) _ _ _ _ _ _ rfl 0 (Or.inl (Nat.le_of_ble_eq_true rfl))).trans ?_
    | refine (View.read_writes_cons_unit_of_not_mem (s := S16x768) _ _ _ _ _ _ rfl 0 (Or.inr (Nat.le_of_ble_eq_true rfl))).trans ?_)
  refine row_read m c t _ _ _ _ q ?_
  refine (View.ld_unit_apply_of _ _ _ _ _ (at5 q) (Stores.two (by simp) (by simp))).trans ?_
  exact congrFun (Memref.IsWhole.read_unread _ _) _

theorem w_next (c : Dev nD) (t : Fin cfg0.N) (h0 : ¬t.val % 16 = 0) (h1 : ¬t.val % 16 = 15) (i j : Fin 256) :
    (outsAt0 m c t.val t.isLt).2.2.2.2.2.2.2.2.2.2 (ix2 i j) = (prev m c t).2.2.2.2.2.2.2.2.2.2 (ix2 i j) + partW m c t.val i.val j.val := by
  rw [outsAt0_B m c t h0 h1]
  frame_out
  refine (newW m c t _ i j).trans (congrArg (· + _) ?_)
  exact congrFun (Memref.IsWhole.read_unread _ _) _

theorem w_first (c : Dev nD) (t : Fin cfg0.N) (h0 : t.val % 16 = 0) (i j : Fin 256) :
    (outsAt0 m c t.val t.isLt).2.2.2.2.2.2.2.2.2.2 (ix2 i j) = 0 + partW m c t.val i.val j.val := by
  rw [outsAt0_A m c t h0 (by omega)]
  frame_out
  refine (newW m c t _ i j).trans (congrArg (· + _) ?_)
  pointwise [k0_pay21, k0_pay15]

/-- What the last point finds, with its own part. -/
def total (c : Dev nD) (t : Fin cfg0.N) (i j : ℕ) : EReal :=
  at2 (n := 256) (m := 256) (prev m c t).2.2.2.2.2.2.2.2.2.2 i j + partW m c t.val i j

/-- The weight's gradient after the last point's own part. -/
abbrev lN (c : Dev nD) (t : Fin cfg0.N) (o : FVec Ideal S256x256 .f32) : FVec Ideal S256x256 .f32 :=
  k0_pay61 (F := Ideal) (k0_pay52 (F := Ideal) (lS m c t)) (k0_pay53 (F := Ideal) (lP m c t)) (lD m c t) (lG m c t) o

/-- Rows of it read back. -/
abbrev lR (c : Dev nD) (t : Fin cfg0.N) (o : FVec Ideal S256x256 .f32) (a : ℕ) (inb : ∀ k, (![a, 0] : Fin 2 → ℕ) k + S64x256.size k ≤ S256x256.size k) : Vec Ideal S64x256 .f32 :=
  View.readCov (s := S256x256) (e := .f32) (View.whole cc0_scratch7)
    [(⟨Rect.unit (s := S256x256) ![0, 0] S256x256.size inb_S256x256_S256x256_0_0, lN m c t o⟩ : View.Piece (Elt Ideal) S256x256 .f32)]
    (Rect.unit (s := S256x256) ![a, 0] S64x256.size inb).toLoadRect

theorem lR_at (c : Dev nD) (t : Fin cfg0.N) (o : FVec Ideal S256x256 .f32) (ho : o = (prev m c t).2.2.2.2.2.2.2.2.2.2) (a : ℕ)
    (inb : ∀ k, (![a, 0] : Fin 2 → ℕ) k + S64x256.size k ≤ S256x256.size k) (ha : a + 64 ≤ 256) (i : Fin 64) (q : Fin 256) :
    lR m c t o a inb (ix2 i q) = total m c t (a + i.val) q.val := by
  refine (Stores.readCov_at (s := S256x256) _ _ _ _ (ix2 (⟨a + i.val, by omega⟩ : Fin 256) q) (Stores.two rfl (by simp))).trans ?_
  refine (Stores.canon_in (s := S256x256) _ _ _ _ (ix2 (⟨a + i.val, by omega⟩ : Fin 256) q) (Stores.two (by simp) (by simp))).trans ?_
  refine (newW m c t o _ q).trans (congrArg (· + _) ?_)
  rw [ho]
  exact Conv.at2_ix _ _ _

/-- One of the four blocks, at its own columns. -/
theorem blocks_read (c : Dev nD) (t : Fin cfg0.N) (o : FVec Ideal S256x256 .f32) (ho : o = (prev m c t).2.2.2.2.2.2.2.2.2.2) (i : Fin 64) (q : Fin 256) :
    k0_pay3 (F := Ideal) (iota Kind.tc S1x256 32 [1] iota_S1x256_d1_w32) (lR m c t o 0 inb_S256x256_S64x256_0_0) (lR m c t o 64 inb_S256x256_S64x256_64_0)
      (lR m c t o 128 inb_S256x256_S64x256_128_0) (lR m c t o 192 inb_S256x256_S64x256_192_0) (ix2 i q) = total m c t (64 * (q.val / 64) + i.val) q.val :=
  pay3_at _ lane_at _ _ _ _ (fun g => total m c t (64 * g + i.val) q.val) i q (lR_at m c t o ho _ _ (by omega) i q) (lR_at m c t o ho _ _ (by omega) i q)
    (lR_at m c t o ho _ _ (by omega) i q) (lR_at m c t o ho _ _ (by omega) i q)

/-- What the last point gives out as the weight's gradient: four blocks of 16 rows side by side. -/
theorem w_last (c : Dev nD) (t : Fin cfg0.N) (h1 : t.val % 16 = 15) (k : Fin 32) (hk : 16 ≤ k.val) (C : Fin 1024) :
    (outsAt0 m c t.val t.isLt).2.1 (ix2 k C) =
      total m c t (64 * (C.val % 256 / 64) + (C.val / 256 * 16 + (k.val - 16))) (C.val % 256) := by
  have h0 : ¬t.val % 16 = 0 := by omega
  have hr : (prev m c t).2.2.2.2.2.2.2.2.2.2 = (prev m c t).2.2.2.2.2.2.2.2.2.2 := rfl
  rw [outsAt0_C m c t h0 h1]
  frame_out
  by_cases c3 : 768 ≤ C.val
  · refine (Stores.canon_in (s := S32x1024) _ _ _ _ (ix2 (⟨k.val - 16, by omega⟩ : Fin 16) (⟨C.val - 768, by omega⟩ : Fin 256)) (Stores.two (by simp; omega) (by simp; omega))).trans ?_
    refine (pay7_at _ _ _ _ _ _ _).trans ((blocks_read m c t _ ?_ _ _).trans ?_)
    · exact Memref.IsWhole.read_unread _ _
    show total m c t (64 * ((C.val - 768) / 64) + (48 + (k.val - 16))) (C.val - 768) = _
    rw [show C.val % 256 = C.val - 768 by omega, show C.val / 256 = 3 by omega]
  refine (Stores.canon_out (s := S32x1024) _ _ _ _ 1 (Or.inl (by simp; omega))).trans ?_
  by_cases c2 : 512 ≤ C.val
  · refine (Stores.canon_in (s := S32x1024) _ _ _ _ (ix2 (⟨k.val - 16, by omega⟩ : Fin 16) (⟨C.val - 512, by omega⟩ : Fin 256)) (Stores.two (by simp; omega) (by simp; omega))).trans ?_
    refine (pay6_at _ _ _ _ _ _ _).trans ((blocks_read m c t _ ?_ _ _).trans ?_)
    · exact Memref.IsWhole.read_unread _ _
    show total m c t (64 * ((C.val - 512) / 64) + (32 + (k.val - 16))) (C.val - 512) = _
    rw [show C.val % 256 = C.val - 512 by omega, show C.val / 256 = 2 by omega]
  refine (Stores.canon_out (s := S32x1024) _ _ _ _ 1 (Or.inl (by simp; omega))).trans ?_
  by_cases c1 : 256 ≤ C.val
  · refine (Stores.canon_in (s := S32x1024) _ _ _ _ (ix2 (⟨k.val - 16, by omega⟩ : Fin 16) (⟨C.val - 256, by omega⟩ : Fin 256)) (Stores.two (by simp; omega) (by simp; omega))).trans ?_
    refine (pay5_at _ _ _ _ _ _ _).trans ((blocks_read m c t _ ?_ _ _).trans ?_)
    · exact Memref.IsWhole.read_unread _ _
    show total m c t (64 * ((C.val - 256) / 64) + (16 + (k.val - 16))) (C.val - 256) = _
    rw [show C.val % 256 = C.val - 256 by omega, show C.val / 256 = 1 by omega]
  refine (Stores.canon_out (s := S32x1024) _ _ _ _ 1 (Or.inl (by simp; omega))).trans ?_
  refine (Stores.canon_in (s := S32x1024) _ _ _ _ (ix2 (⟨k.val - 16, by omega⟩ : Fin 16) (⟨C.val, by omega⟩ : Fin 256)) (Stores.two (by simp; omega) (by simp))).trans ?_
  refine (pay4_at _ _ _ _ _ _ _).trans ((blocks_read m c t _ ?_ _ _).trans ?_)
  · exact Memref.IsWhole.read_unread _ _
  show total m c t (64 * (C.val / 64) + (k.val - 16)) C.val = _
  rw [show C.val % 256 = C.val by omega, show C.val / 256 = 0 by omega, Nat.zero_mul, Nat.zero_add]

end Cert.Pool

end
-- ==== Proof.PoolValues.lean ====
/-
  The arrays the kernel ends with, at the pooling mixer's entries.
-/
module

public import proofs.«01_k».proof.Proof.PoolRows

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen
open Cert.Conv (idx tok sum_tok at2 at2_ix)

variable (m : (ℓ : Loc nD τ sig) → Buf (Elt Ideal) ℓ)

/-- The projection's gradient at the columns of this mixer. -/
theorem dp_value (c : Dev nD) (t : Fin 8192) (C : Fin 3456) (h0 : 1792 ≤ C.val) (h1 : C.val < 2304) :
    (dats m 0 c).arrAt 16 cfg0.N (ix2 t C) = (args m c).dp t.val C.val := by
  refine ((dats m 0 c).arrAt_forall_of_covers 16 (fun i v => 1792 ≤ (i 1).val → (i 1).val < 2304 → v = (args m c).dp (i 0).val (i 1).val) (by decide +kernel)
    (fun s hf y => ?_) (ix2 t C)) h0 h1
  blk_simp
  rw [after0_16]
  obtain ⟨r, q, rfl⟩ : ∃ (r : Fin 512) (q : Fin 3456), y = ix2 r q := ⟨y 0, y 1, eq_ix2 y⟩
  rw [(idx s).2.2.2.2.2.2.1]
  show 1792 ≤ 0 * 3456 + q.val → 0 * 3456 + q.val < 2304 → _ = (args m c).dp ((15 - s.val) * 512 + r.val) (0 * 3456 + q.val)
  rw [Nat.zero_mul, Nat.zero_add]
  exact columns m c s r q

/-- What the last point writes of the small gradients is what they end as. -/
theorem small_value (c : Dev nD) (k : Fin 32) (C : Fin 1024) (x : EReal)
    (h : ∀ s : Fin cfg0.N, s.val = 15 → (outsAt0 m c s.val s.isLt).2.1 (ix2 k C) = x) : (dats m 0 c).arrAt 17 cfg0.N (ix2 k C) = x := by
  have ht : ∀ t : Fin grid0.N, win0_17.flush t = true → t.val = 15 := by decide +kernel
  refine ((dats m 0 c).arrAt_forall_of_covers 17 (fun i v => (i 0).val = k.val → (i 1).val = C.val → v = x) (by decide +kernel)
    (fun s hf y => ?_) _) rfl rfl
  have h15 := ht s hf
  blk_simp
  rw [after0_17]
  obtain ⟨r, q, rfl⟩ : ∃ (r : Fin 32) (q : Fin 1024), y = ix2 r q := ⟨y 0, y 1, eq_ix2 y⟩
  rw [(idx s).2.2.2.2.2.2.2.1]
  show 0 * 32 + r.val = k.val → 0 * 1024 + q.val = C.val → _
  rw [Nat.zero_mul, Nat.zero_add, Nat.zero_add]
  intro hr hC
  rw [show ix2 r q = ix2 k C from congrArg₂ ix2 (Fin.ext hr) (Fin.ext hC)]
  exact h s h15

/-- The gradient of the scale. -/
theorem scale_value (c : Dev nD) (q : Fin 256) :
    (dats m 0 c).arrAt 17 cfg0.N (ix2 (5 : Fin 32) (⟨q.val, by omega⟩ : Fin 1024)) = (args m c).dscale q.val := by
  refine small_value m c _ _ _ fun s h15 => ?_
  have before : ∀ (n : ℕ) (hn : n < cfg0.N), n < 15 →
      (outsAt0 m c n hn).2.2.2.2.2.2.2.2.1 (at5 q) = ∑ j ∈ Finset.range (n + 1), partScale m c j q.val := by
    intro n
    induction n with
    | zero => intro hn _; rw [Finset.sum_range_one]; exact (scale_first m c ⟨0, hn⟩ rfl q).trans (zero_add _)
    | succ n ih =>
      intro hn h
      rw [Finset.sum_range_succ, ← ih (by omega) (by omega)]
      exact scale_next m c ⟨n + 1, hn⟩ (by show ¬(n + 1) % 16 = 0; omega) (by show ¬(n + 1) % 16 = 15; omega) q
  refine (scale_last m c s (by omega) q).trans ?_
  rw [before _ (Nat.lt_of_le_of_lt (Nat.sub_le _ _) s.isLt) (by omega), h15]
  refine (Finset.sum_range_succ (fun j => partScale m c j q.val) 15).symm.trans ?_
  exact sum_tok fun t => (args m c).dm t q.val * (args m c).mixed t q.val * (args m c).gate t q.val

/-- The gradient of the mixing weight, at a row and a column of its own. -/
theorem weight_sum (c : Dev nD) (s : Fin cfg0.N) (h15 : s.val = 15) (i j : Fin 256) :
    total m c s i.val j.val = ∑ t ∈ Finset.range 8192, (args m c).pooled t i.val * (args m c).dmixed t j.val := by
  have before : ∀ (n : ℕ) (hn : n < cfg0.N), n < 15 →
      (outsAt0 m c n hn).2.2.2.2.2.2.2.2.2.2 (ix2 i j) = ∑ k ∈ Finset.range (n + 1), partW m c k i.val j.val := by
    intro n
    induction n with
    | zero => intro hn _; rw [Finset.sum_range_one]; exact (w_first m c ⟨0, hn⟩ rfl i j).trans (zero_add _)
    | succ n ih =>
      intro hn h
      rw [Finset.sum_range_succ, ← ih (by omega) (by omega)]
      exact w_next m c ⟨n + 1, hn⟩ (by show ¬(n + 1) % 16 = 0; omega) (by show ¬(n + 1) % 16 = 15; omega) i j
  unfold total
  rw [← at2_ix, before _ (Nat.lt_of_le_of_lt (Nat.sub_le _ _) s.isLt) (by omega), h15]
  refine (Finset.sum_range_succ (fun k => partW m c k i.val j.val) 15).symm.trans ?_
  exact sum_tok fun t => (args m c).pooled t i.val * (args m c).dmixed t j.val

theorem w_value (c : Dev nD) (k : Fin 32) (hk : 16 ≤ k.val) (C : Fin 1024) :
    (dats m 0 c).arrAt 17 cfg0.N (ix2 k C) = (args m c).dpw (C.val % 256 / 64) (C.val / 256 * 16 + (k.val - 16)) (C.val % 64) := by
  refine small_value m c _ _ _ fun s h15 => ?_
  refine (w_last m c s (by omega) k hk C).trans ?_
  refine (weight_sum m c s h15 ⟨64 * (C.val % 256 / 64) + (C.val / 256 * 16 + (k.val - 16)), by omega⟩ ⟨C.val % 256, by omega⟩).trans ?_
  unfold Args.dpw
  rw [show 64 * (C.val % 256 / 64) + C.val % 64 = C.val % 256 by omega]

end Cert.Pool

end
-- ==== Proof.PoolClaim.lean ====
/-
  The claim about the pooling mixer: the kernel and the reference end with the same entries.
-/
module

public import proofs.«01_k».proof.Defs
public import proofs.«01_k».proof.Proof.Gen.KernelIdeal.Value
public import proofs.«01_k».proof.Proof.Gen.PoolPartIdeal.Run
public import Idealize.ShloMosaic.Lib.Quiescent
public import proofs.«01_k».proof.Proof.PoolPre
public import proofs.«01_k».proof.Proof.PoolRef
public import proofs.«01_k».proof.Proof.PoolValues

@[expose] public section

set_option maxRecDepth 16384

noncomputable section

namespace Cert.Proof.PoolClaim

open Idealize.ShloMosaic Idealize.ShloMosaic.TcCoe Idealize.SL.Sem

/-- The reference's own run leaves its arguments alone; it has no semaphore. -/
theorem frame : Cert.quiescent_PoolPartIdeal := fun m g _ =>
  (θ_run Cert.PoolPartIdeal.defs _ _).mono (fun r h => ⟨fun c => (h c).2.2.2, sem_eq_zero_of_no_sems (by decide) r.2⟩)
    (Cert.PoolPartIdeal.Value.run (F := Ideal) m g)

theorem claim : Cert.algebraic_KernelIdeal_PoolPartIdeal_on_pool_results_pre_pool_finite := by
  intro m g m' g' hpre hagree
  refine ⟨fun c => (Cert.KernelIdeal.Gen.dats m 0 c).arrAt 16 Cert.KernelIdeal.cfg0.N,
    fun c => (Cert.KernelIdeal.Gen.dats m 0 c).arrAt 17 Cert.KernelIdeal.cfg0.N,
    fun c => (Cert.KernelIdeal.Gen.dats m 0 c).arrAt 18 Cert.KernelIdeal.cfg0.N, ?_, ?_⟩
  · exact (θ_run Cert.KernelIdeal.defs _ _).mono
      (fun _ h c => ⟨fun i _ => congrFun (h c).1 i, fun i _ => congrFun (h c).2.1 i, fun i _ => congrFun (h c).2.2.1 i, (h c).2.2.2⟩)
      (Cert.KernelIdeal.Value.run_blocks (F := Ideal) m g)
  · refine (θ_run Cert.PoolPartIdeal.defs _ _).mono
      (fun _ h c => ⟨fun i hi => (congrFun (h c).1 i).trans ?_, fun i hi => (congrFun (h c).2.1 i).trans ?_, fun i hi => ?_, (h c).2.2.2⟩)
      (Cert.PoolPartIdeal.Value.run (F := Ideal) m' g')
    · obtain ⟨t, C, rfl⟩ : ∃ (t : Fin 8192) (C : Fin 3456), i = ix2 t C := ⟨i 0, i 1, eq_ix2 i⟩
      obtain ⟨h0, h1⟩ := Pool.on_dp _ _ _ _ _ _ _ _ _ _ _ _ _ _ _ _ _ _ t C hi
      refine Eq.trans ?_ (Pool.dp_value m c t C h0 h1).symm
      rw [Cert.PoolPartIdeal.Read.val_main_v70_eq, (hagree c).1, (hagree c).2.2.2.2.1, (hagree c).2.2.2.2.2.2.2.2.2.1, (hagree c).2.2.2.2.2.2.2.2.2.2.1,
        (hagree c).2.2.2.2.2.2.2.2.2.2.2.2.2.2.2.2.2]
      exact Pool.ref_dp (Pool.args m c) (Pool.finite_of_pre (Pool.args m c) _ _ _ _ _ _ _ _ _ _ _ _ _ (hpre c)) t C h0 h1
    · obtain ⟨k, q, rfl⟩ : ∃ (k : Fin 32) (q : Fin 1024), i = ix2 k q := ⟨i 0, i 1, eq_ix2 i⟩
      rw [Cert.PoolPartIdeal.Read.val_main_v69_eq, (hagree c).1, (hagree c).2.2.2.2.1, (hagree c).2.2.2.2.2.2.2.2.2.1, (hagree c).2.2.2.2.2.2.2.2.2.2.1,
        (hagree c).2.2.2.2.2.2.2.2.2.2.2.2.2.2.2.2.2]
      obtain hk | ⟨hk, hq⟩ := Pool.on_sgc _ _ _ _ _ _ _ _ _ _ _ _ _ _ _ _ _ _ k q hi
      · refine Eq.trans ?_ (Pool.w_value m c k hk q).symm
        exact (Pool.ref_sgc_pw (Pool.args m c) k q hk).trans (if_neg (by omega))
      · obtain rfl : k = 5 := Fin.ext hk
        refine Eq.trans ?_ (Pool.scale_value m c ⟨q.val, hq⟩).symm
        exact (Pool.ref_sgc_scale (Pool.args m c) 5 q rfl hq).trans (if_pos (by decide))
    · obtain ⟨p, q, rfl⟩ : ∃ (p q : Fin 1024), i = ix2 p q := ⟨i 0, i 1, eq_ix2 i⟩
      exact (Pool.on_dwo _ _ _ _ _ _ _ _ _ _ _ _ _ _ _ _ _ _ p q hi).elim

end Cert.Proof.PoolClaim

end
-- ==== Proof.AdamwIn.lean ====
/-
  The optimiser's step on the projection's weight: the call has the columns first, and works on the two layers in turn.
-/
module

public import proofs.«01_k».proof.Proof.Gen.AdamwInKernelIdeal.Value
public import proofs.«01_k».proof.Proof.Gen.AdamwInPartIdeal.Read
public import proofs.«01_k».proof.Proof.Stores
public import Idealize.ShloMosaic.Lib.Claim

@[expose] public section

set_option maxRecDepth 16384

noncomputable section

namespace Cert.AdamwIn

open Idealize.ShloMosaic Idealize.ShloMosaic.TcCoe Idealize.SL.Sem
open Idealize.ShloMosaic.Pipeline (Dat)
open Cert.AdamwInKernelIdeal Cert.AdamwInKernelIdeal.Gen Cert.AdamwInPartIdeal.Read

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧ win0_6.index t = ![t.val, 0, 0] ∧
    win0_7.index t = ![t.val, 0, 0] := (by decide +kernel :
  ∀ t : Fin grid0.N, win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧ win0_6.index t = ![t.val, 0, 0] ∧
    win0_7.index t = ![t.val, 0, 0])

/-- The weight, its gradient and the two moments. -/
abbrev W (c : Dev nD) : Vec Ideal S2x1024x837 .f32 := m ((c : Thread nD τ).loc main_arg0)
abbrev G (c : Dev nD) : Vec Ideal S2x1024x837 .f32 := m ((c : Thread nD τ).loc main_arg1)
abbrev M1 (c : Dev nD) : Vec Ideal S2x1024x837 .f32 := m ((c : Thread nD τ).loc main_arg2)
abbrev M2 (c : Dev nD) : Vec Ideal S2x1024x837 .f32 := m ((c : Thread nD τ).loc main_arg3)

/-- What holds of three numbers one by one. -/
theorem three {P : Fin 3 → Prop} (h0 : P 0) (h1 : P 1) (h2 : P 2) : ∀ a, P a := fun a => match a with
  | ⟨0, _⟩ => h0
  | ⟨1, _⟩ => h1
  | ⟨2, _⟩ => h2

/-- An array with its columns first. -/
abbrev lead (x : Vec Ideal S2x1024x837 .f32) : Vec Ideal S837x2x1024 .f32 := transpose S837x2x1024 [2, 0, 1] x transposes_S2x1024x837_S837x2x1024_2_0_1

/-- The gradient cut into its two layers and put together again. -/
def stacked (x : Vec Ideal S2x1024x837 .f32) : Vec Ideal S2x1024x837 .f32 :=
  concatenate S2x1024x837 0 [
    ⟨S1x1024x837, broadcastInDim S1x1024x837 ![1, 2] bcast_S1024x837_S1x1024x837_1_2 (shapeCast S1024x837
      (extractStridedSlice S1x1024x837 ![0, 0, 0] x slices_S2x1024x837_S1x1024x837_0_0_0) shapeCasts_S1x1024x837_S1024x837)⟩,
    ⟨S1x1024x837, broadcastInDim S1x1024x837 ![1, 2] bcast_S1024x837_S1x1024x837_1_2 (shapeCast S1024x837
      (extractStridedSlice S1x1024x837 ![1, 0, 0] x slices_S2x1024x837_S1x1024x837_1_0_0) shapeCasts_S1x1024x837_S1024x837)⟩]
    concatenates_S1x1024x837_S1x1024x837_S2x1024x837_d0

theorem V7 (c : Dev nD) : V m c main_v7 = lead (W m c) := by
  unfold V hostOps0
  after_results <;> rfl

theorem V8 (c : Dev nD) : V m c main_v8 = lead (stacked (G m c)) := by
  unfold V hostOps0
  after_results <;> rfl

theorem V9 (c : Dev nD) : V m c main_v9 = lead (M1 m c) := by
  unfold V hostOps0
  after_results <;> rfl

theorem V10 (c : Dev nD) : V m c main_v10 = lead (M2 m c) := by
  unfold V hostOps0
  after_results <;> rfl

theorem stacked_at (x : Vec Ideal S2x1024x837 .f32) (l : Fin 2) (k : Fin 1024) (q : Fin 837) : stacked x (ix3 l k q) = x (ix3 l k q) := by
  pointwise [stacked]
  split
  · exact congrArg x (congrArg (ix3 · k q) (Fin.ext (by show 0 = l.val; omega)))
  · exact congrArg x (congrArg (ix3 · k q) (Fin.ext (by show 1 = l.val; omega)))

variable (c : Dev nD) (t : Fin cfg0.N) (r : Fin 93) (l : Fin 2) (k : Fin 1024) (h : t.val * 93 + r.val < 837)

theorem iblk_w : iblk m c 0 t (ix3 r l k) = W m c (ix3 l k ⟨t.val * 93 + r.val, h⟩) := by
  have e : lead (W m c) (ix3 ⟨t.val * 93 + r.val, h⟩ l k) = W m c (ix3 l k ⟨t.val * 93 + r.val, h⟩) := by pointwise
  rw [← e, ← V7]
  blk_simp [iblk]
  blk_ext [idx t]

theorem iblk_g : iblk m c 1 t (ix3 r l k) = G m c (ix3 l k ⟨t.val * 93 + r.val, h⟩) := by
  have e : lead (stacked (G m c)) (ix3 ⟨t.val * 93 + r.val, h⟩ l k) = G m c (ix3 l k ⟨t.val * 93 + r.val, h⟩) :=
    Eq.trans (by pointwise) (stacked_at (G m c) l k ⟨t.val * 93 + r.val, h⟩)
  rw [← e, ← V8]
  blk_simp [iblk]
  blk_ext [idx t]

theorem iblk_m : iblk m c 2 t (ix3 r l k) = M1 m c (ix3 l k ⟨t.val * 93 + r.val, h⟩) := by
  have e : lead (M1 m c) (ix3 ⟨t.val * 93 + r.val, h⟩ l k) = M1 m c (ix3 l k ⟨t.val * 93 + r.val, h⟩) := by pointwise
  rw [← e, ← V9]
  blk_simp [iblk]
  blk_ext [idx t]

theorem iblk_v : iblk m c 3 t (ix3 r l k) = M2 m c (ix3 l k ⟨t.val * 93 + r.val, h⟩) := by
  have e : lead (M2 m c) (ix3 ⟨t.val * 93 + r.val, h⟩ l k) = M2 m c (ix3 l k ⟨t.val * 93 + r.val, h⟩) := by pointwise
  rw [← e, ← V10]
  blk_simp [iblk]
  blk_ext [idx t]

/-- The two layers of a block. -/
theorem ld_zero (x : Vec Ideal S93x2x1024 .f32) : View.ld x r0_0 (ix3 r (0 : Fin 1) k) = x (ix3 r (0 : Fin 2) k) :=
  View.ld_unit_apply_of _ _ _ _ _ (ix3 r (0 : Fin 2) k) (three (by simp) rfl (by simp))

theorem ld_one (x : Vec Ideal S93x2x1024 .f32) : View.ld x r0_1 (ix3 r (0 : Fin 1) k) = x (ix3 r (1 : Fin 2) k) :=
  View.ld_unit_apply_of _ _ _ _ _ (ix3 r (1 : Fin 2) k) (three (by simp) rfl (by simp))

/-- A block written layer by layer. -/
theorem layers (p1 p0 : Vec Ideal S93x1x1024 .f32) (x : EReal) (h0 : l = 0 → p0 (ix3 r (0 : Fin 1) k) = x) (h1 : l = 1 → p1 (ix3 r (0 : Fin 1) k) = x) :
    View.canon ([⟨r0_1, p1⟩, ⟨r0_0, p0⟩] : List (View.Piece (Elt Ideal) S93x2x1024 .f32)) (ix3 r l k) = x :=
  match l with
  | 0 => ((Stores.canon_out (s := S93x2x1024) _ _ _ _ 1 (Or.inl Nat.one_pos)).trans
      (Stores.canon_in (s := S93x2x1024) _ _ _ _ (ix3 r (0 : Fin 1) k) (three (by simp) rfl (by simp)))).trans (h0 rfl)
  | 1 => (Stores.canon_in (s := S93x2x1024) _ _ _ _ (ix3 r (0 : Fin 1) k) (three (by simp) rfl (by simp))).trans (h1 rfl)

/-- What a point writes, for either layer: the gradient, the step, and the two moments. -/
theorem out4 : out0_4 (iblk m c 0 t) (iblk m c 1 t) (iblk m c 2 t) (iblk m c 3 t) (ix3 r l k) = val_main_v24 (F := Ideal) (G m c) (ix3 ⟨t.val * 93 + r.val, h⟩ l k) := by
  unfold_out out0_4
  refine layers r l k _ _ _ ?_ ?_ <;> rintro rfl <;>
    pointwise [k0_pay4, k0_pay5, k0_pay11, k0_pay12, ld_zero, ld_one, val_main_v24, iblk_g m c t r _ k h]

theorem out5 : out0_5 (iblk m c 0 t) (iblk m c 1 t) (iblk m c 2 t) (iblk m c 3 t) (ix3 r l k) =
    val_main_v25 (F := Ideal) (W m c) (G m c) (M1 m c) (M2 m c) (ix3 ⟨t.val * 93 + r.val, h⟩ l k) := by
  unfold_out out0_5
  refine layers r l k _ _ _ ?_ ?_ <;> rintro rfl <;>
    pointwise [k0_pay1, k0_pay5, k0_pay6, k0_pay7, k0_pay8, k0_pay12, k0_pay13, k0_pay14, k0_pay15, k0_pay16, ld_zero, ld_one, iblk_w m c t r _ k h, iblk_g m c t r _ k h, iblk_m m c t r _ k h,
      iblk_v m c t r _ k h, val_main_v25, val_main_v23, val_main_v22, val_main_v21, val_main_v20, val_main_v19, val_main_v18, val_main_v17, val_main_v16, val_main_v15, val_main_v14, val_main_v13, val_main_v12, val_main_v11,
      val_main_v4, val_main_v3, val_main_v2, val_main_v1, val_main_v0, val_main_v10, val_main_v9, val_main_v8, val_main_v7, val_main_v6, val_main_v5, val_main_cst_1, val_main_cst_2,
      val_main_cst, val_main_cst_0, val_main_cst_3, val_main_cst_4, val_main_cst_5, val_main_cst_6, val_main_cst_7]

theorem out6 : out0_6 (iblk m c 0 t) (iblk m c 1 t) (iblk m c 2 t) (iblk m c 3 t) (ix3 r l k) =
    val_main_v26 (F := Ideal) (G m c) (M1 m c) (ix3 ⟨t.val * 93 + r.val, h⟩ l k) := by
  unfold_out out0_6
  refine layers r l k _ _ _ ?_ ?_ <;> rintro rfl <;>
    pointwise [k0_pay2, k0_pay6, k0_pay5, k0_pay9, k0_pay12, k0_pay14, ld_zero, ld_one, iblk_g m c t r _ k h, iblk_m m c t r _ k h, val_main_v26, val_main_v4, val_main_v3, val_main_v2,
      val_main_v1, val_main_v0, val_main_cst, val_main_cst_0]

theorem out7 : out0_7 (iblk m c 0 t) (iblk m c 1 t) (iblk m c 2 t) (iblk m c 3 t) (ix3 r l k) =
    val_main_v27 (F := Ideal) (G m c) (M2 m c) (ix3 ⟨t.val * 93 + r.val, h⟩ l k) := by
  unfold_out out0_7
  refine layers r l k _ _ _ ?_ ?_ <;> rintro rfl <;>
    pointwise [k0_pay3, k0_pay5, k0_pay7, k0_pay10, k0_pay12, k0_pay15, ld_zero, ld_one, iblk_g m c t r _ k h, iblk_v m c t r _ k h, val_main_v27,
      val_main_v10, val_main_v9, val_main_v8, val_main_v7, val_main_v6, val_main_v5, val_main_cst_1, val_main_cst_2]

/-! ## The results -/

theorem place (t : Fin cfg0.N) (y : S93x2x1024.Idx) : ∃ (r : Fin 93) (l : Fin 2) (k : Fin 1024) (_ : t.val * 93 + r.val < 837), y = ix3 r l k :=
  have ht : t.val < 9 := lt_of_lt_of_eq t.isLt N_0
  ⟨y 0, y 1, y 2, by have := (y 0).isLt; change _ < 93 at this; omega, eq_ix3 y⟩

theorem grad : (dats m 0 c).arrAt 4 cfg0.N = val_main_v24 (F := Ideal) (G m c) := by
  refine (dats m 0 c).arrAt_eq_of_covers 4 _ (by decide +kernel) fun t hf y => ?_
  obtain ⟨r, l, k, h, rfl⟩ := place t y
  blk_simp
  rw [after0_4]
  exact (out4 m c t r l k h).trans (congrArg (val_main_v24 (F := Ideal) (G m c)) (by blk_ext [idx t]))

theorem delta : (dats m 0 c).arrAt 5 cfg0.N = val_main_v25 (F := Ideal) (W m c) (G m c) (M1 m c) (M2 m c) := by
  refine (dats m 0 c).arrAt_eq_of_covers 5 _ (by decide +kernel) fun t hf y => ?_
  obtain ⟨r, l, k, h, rfl⟩ := place t y
  blk_simp
  rw [after0_5]
  exact (out5 m c t r l k h).trans (congrArg (val_main_v25 (F := Ideal) (W m c) (G m c) (M1 m c) (M2 m c)) (by blk_ext [idx t]))

theorem newM : (dats m 0 c).arrAt 6 cfg0.N = val_main_v26 (F := Ideal) (G m c) (M1 m c) := by
  refine (dats m 0 c).arrAt_eq_of_covers 6 _ (by decide +kernel) fun t hf y => ?_
  obtain ⟨r, l, k, h, rfl⟩ := place t y
  blk_simp
  rw [after0_6]
  exact (out6 m c t r l k h).trans (congrArg (val_main_v26 (F := Ideal) (G m c) (M1 m c)) (by blk_ext [idx t]))

theorem newV : (dats m 0 c).arrAt 7 cfg0.N = val_main_v27 (F := Ideal) (G m c) (M2 m c) := by
  refine (dats m 0 c).arrAt_eq_of_covers 7 _ (by decide +kernel) fun t hf y => ?_
  obtain ⟨r, l, k, h, rfl⟩ := place t y
  blk_simp
  rw [after0_7]
  exact (out7 m c t r l k h).trans (congrArg (val_main_v27 (F := Ideal) (G m c) (M2 m c)) (by blk_ext [idx t]))

end Cert.AdamwIn

end
-- ==== Proof.AdamwClaim.lean ====
/-
  The claims about the optimiser's step on the two large weights.
-/
module

public import proofs.«01_k».proof.Defs
public import proofs.«01_k».proof.Proof.Gen.AdamwOutKernelIdeal.Value
public import proofs.«01_k».proof.Proof.Gen.AdamwOutPartIdeal.Run
public import proofs.«01_k».proof.Proof.Gen.AdamwOutPartIdeal.Read
public import proofs.«01_k».proof.Proof.Gen.AdamwInPartIdeal.Run
public import proofs.«01_k».proof.Proof.AdamwIn
public import Idealize.ShloMosaic.Lib.Quiescent

@[expose] public section

set_option maxRecDepth 16384

noncomputable section

namespace Cert.Proof.AdamwClaim

open Idealize.ShloMosaic Idealize.ShloMosaic.TcCoe Idealize.SL.Sem

/-- The references' own runs leave their arguments alone; they have no semaphore. -/
theorem frame_out : Cert.quiescent_AdamwOutPartIdeal := fun m g _ =>
  (θ_run Cert.AdamwOutPartIdeal.defs _ _).mono (fun r h => ⟨fun c => (h c).2.2.2, sem_eq_zero_of_no_sems (by decide) r.2⟩)
    (Cert.AdamwOutPartIdeal.Value.run (F := Ideal) m g)

theorem frame_in : Cert.quiescent_AdamwInPartIdeal := fun m g _ =>
  (θ_run Cert.AdamwInPartIdeal.defs _ _).mono (fun r h => ⟨fun c => (h c).2.2.2.2, sem_eq_zero_of_no_sems (by decide) r.2⟩)
    (Cert.AdamwInPartIdeal.Value.run (F := Ideal) m g)

/-- The weight that projects out: the call works entry by entry. -/
theorem out : Cert.algebraic_AdamwOutKernelIdeal_AdamwOutPartIdeal := by
  pair_intro
  · run_from Cert.AdamwOutKernelIdeal.Value.run m g
  · run_from Cert.AdamwOutPartIdeal.Value.run m' g'
    all_goals rfl

/-- The weight that projects in. -/
theorem into : Cert.algebraic_AdamwInKernelIdeal_AdamwInPartIdeal := by
  pair_intro
  · run_from Cert.AdamwInKernelIdeal.Value.run_blocks m g
  · run_from Cert.AdamwInPartIdeal.Value.run m' g'
    · rw [Cert.AdamwIn.grad m c]
      rfl
    · rw [Cert.AdamwIn.delta m c, Cert.AdamwInPartIdeal.Read.val_main_v25_eq]
    · rw [Cert.AdamwIn.newM m c, Cert.AdamwInPartIdeal.Read.val_main_v26_eq]
    · rw [Cert.AdamwIn.newV m c, Cert.AdamwInPartIdeal.Read.val_main_v27_eq]

end Cert.Proof.AdamwClaim

end
-- ==== Proof.FwdSpec.lean ====
/-
  The forward formulas both programs are compared with: the short convolution mixer and the convolution of the SSD mixer,
  over arrays read at plain numbers.
-/
module

public import proofs.«01_k».proof.Proof.Spec

@[expose] public section

set_option maxRecDepth 16384

noncomputable section

namespace Cert.Fwd

open Idealize.ShloMosaic
open Cert.Conv (at2 at2_ix at2_of_lt)

/-- The projection, the two convolutions' weights and the bias of the second. -/
structure Args where
  x : (⟨2, ![8192, 3348]⟩ : Shape).Idx → EReal
  a : (⟨2, ![3, 256]⟩ : Shape).Idx → EReal
  w : (⟨2, ![4, 768]⟩ : Shape).Idx → EReal
  b : (⟨1, ![768]⟩ : Shape).Idx → EReal

/-- A sequence so many tokens earlier, zero before the first token. -/
def back (f : ℕ → ℕ → EReal) (k t c : ℕ) : EReal := if t < k then 0 else f (t - k) c

/-- The factor `z · sigmoid z`. -/
def silu (z : EReal) : EReal := z * Ideal.logistic z

namespace Args

variable (p : Args)

/-- What the short convolution is applied to. -/
def u (t c : ℕ) : EReal := at2 p.x t (512 + c) * at2 p.x t c

/-- The short convolution. -/
def cv (t c : ℕ) : EReal := at2 p.a 2 c * p.u t c + at2 p.a 1 c * back p.u 1 t c + at2 p.a 0 c * back p.u 2 t c

/-- The columns of the short convolution mixer. -/
def mix (t c : ℕ) : EReal := at2 p.x t (256 + c) * p.cv t c * silu (at2 p.x t (768 + c))

/-- What the SSD mixer's convolution is applied to. -/
def sx (t c : ℕ) : EReal := at2 p.x t (2576 + c)

/-- The SSD mixer's convolution and its bias. -/
def pre (t : ℕ) (c : Fin 768) : EReal :=
  at2 p.w 3 c * p.sx t c + at2 p.w 2 c * back p.sx 1 t c + at2 p.w 1 c * back p.sx 2 t c + at2 p.w 0 c * back p.sx 3 t c + p.b (ix1 c)

end Args

/-- A tile moved some rows down, the rows carried from the tile before it coming first. -/
def dn {n : ℕ} (h : (⟨2, ![8, n]⟩ : Shape).Idx → EReal) (u : (⟨2, ![512, n]⟩ : Shape).Idx → EReal) (k r c : ℕ) : EReal :=
  if r + (8 - k) < 8 then at2 h (r + (8 - k)) c else at2 u (r + (8 - k) - 8) c

/-- Its entry, read from the carried rows and the tile one under the other. -/
theorem dn_of {n : ℕ} (h : (⟨2, ![8, n]⟩ : Shape).Idx → EReal) (u : (⟨2, ![512, n]⟩ : Shape).Idx → EReal) (k : ℕ) (r : Fin 512) (c : Fin n) (j : ℕ)
    (hj : j = r.val + (8 - k)) (hu : j - 8 < 512) :
    (if e : j < 8 then h (ix2 ⟨j, e⟩ c) else u (ix2 ⟨j - 8, hu⟩ c)) = dn h u k r.val c.val := by
  subst hj
  unfold dn
  split
  · exact at2_ix h _ _
  · exact at2_ix u _ _

/-- Where the carried rows are the last ones before the tile, it is the sequence moved later. -/
theorem dn_back {n : ℕ} (f : ℕ → ℕ → EReal) (t : ℕ) (h : (⟨2, ![8, n]⟩ : Shape).Idx → EReal) (u : (⟨2, ![512, n]⟩ : Shape).Idx → EReal)
    (hh : ∀ (r : Fin 8) (c : Fin n), h (ix2 r c) = back f 8 (t * 512 + r.val) c.val)
    (hu : ∀ (r : Fin 512) (c : Fin n), u (ix2 r c) = f (t * 512 + r.val) c.val) (k : ℕ) (hk : k ≤ 8) (r : Fin 512) (c : Fin n) :
    dn h u k r.val c.val = back f k (t * 512 + r.val) c.val := by
  unfold dn
  split
  · next e =>
    rw [at2_of_lt _ e c.isLt, hh]
    unfold back
    show (if t * 512 + (r.val + (8 - k)) < 8 then (0 : EReal) else f (t * 512 + (r.val + (8 - k)) - 8) c.val) = _
    by_cases h0 : t * 512 + r.val < k
    · rw [if_pos h0, if_pos (by omega)]
    · rw [if_neg h0, if_neg (by omega)]
      exact congrArg (fun T => f T c.val) (by omega)
  · next e =>
    rw [at2_of_lt _ (show r.val + (8 - k) - 8 < 512 by omega) c.isLt, hu]
    unfold back
    rw [if_neg (by omega)]
    exact congrArg (fun T => f T c.val) (show t * 512 + (r.val + (8 - k) - 8) = t * 512 + r.val - k by omega)

end Cert.Fwd

end
-- ==== Proof.FwdRef.lean ====
/-
  The forward reference's results, entry by entry, as the formulas of `Cert.Fwd.Args`.
-/
module

public import proofs.«01_k».proof.Proof.Gen.MixerPartIdeal.Read
public import proofs.«01_k».proof.Proof.FwdSpec

@[expose] public section

set_option maxRecDepth 16384

noncomputable section

namespace Cert.Fwd

open Idealize.ShloMosaic Idealize.ShloMosaic.TcCoe Idealize.SL.Sem
open Cert.MixerPartIdeal Cert.MixerPartIdeal.Gen Cert.MixerPartIdeal.Read
open Cert.Conv (at2 at2_ix at2_of_lt)

variable (p : Args)

theorem ref_u (t : Fin 8192) (c : Fin 256) : val_main_v4 (F := Ideal) p.x (ix2 t c) = p.u t c := by
  pointwise [val_main_v4, val_main_v2, val_main_v0]
  simp only [at2_ix, Args.u]

theorem ref_u2 (t : Fin 8192) (c : Fin 256) : val_main_v8 (F := Ideal) p.x (ix2 t c) = back p.u 2 t c := by
  pointwise [val_main_v8, val_main_v7, val_main_v6, val_main_cst, ref_u]
  rfl

theorem ref_u1 (t : Fin 8192) (c : Fin 256) : val_main_v14 (F := Ideal) p.x (ix2 t c) = back p.u 1 t c := by
  pointwise [val_main_v14, val_main_v13, val_main_v12, val_main_cst_0, ref_u]
  rfl

/-- The short convolution. -/
theorem ref_cv (t : Fin 8192) (c : Fin 256) : val_main_v21 (F := Ideal) p.x p.a (ix2 t c) = p.cv t c := by
  pointwise [val_main_v21, val_main_v20, val_main_v19, val_main_v18, val_main_v17, val_main_v16, val_main_v15, val_main_v11, val_main_v10, val_main_v9, val_main_v5, ref_u, ref_u1, ref_u2]
  simp only [at2_ix, Args.cv]
  have swap (a b c : EReal) : a + b + c = c + b + a := by rw [add_comm (a + b) c, add_comm a b, ← add_assoc]
  exact swap _ _ _

theorem ref_silu (t : Fin 8192) (c : Fin 256) : val_main_v23 (F := Ideal) p.x (ix2 t c) = silu (at2 p.x t (768 + c)) := by
  pointwise [val_main_v23, val_main_call0_v5, val_main_call0_v4, val_main_call0_v3, val_main_call0_v2, val_main_call0_v1, val_main_call0_v0, val_main_call0_cst, val_main_call0_cst_0, val_main_v3]
  simp only [at2_ix]
  rfl

theorem ref_mix (t : Fin 8192) (c : Fin 256) : val_main_v24 (F := Ideal) p.x p.a (ix2 t c) = p.mix t c := by
  pointwise [val_main_v24, val_main_v22, val_main_v1, ref_silu, ref_cv]
  simp only [at2_ix]
  rfl

/-- The mixers' columns this claim is about. -/
theorem ref_columns (t : Fin 8192) (c : Fin 256) : val_main_v55 (F := Ideal) p.x p.a (ix2 t (⟨c.val, by omega⟩ : Fin 1024)) = p.mix t c := by
  pointwise [val_main_v55, val_main_v25, ref_mix]

theorem ref_saved (t : Fin 8192) (c : Fin 256) : val_main_v61 (F := Ideal) p.x p.a (ix2 t c) = p.cv t c := by
  pointwise [val_main_v61, ref_cv]

theorem ref_sx (t : Fin 8192) (c : Fin 768) : val_main_v26 (F := Ideal) p.x (ix2 t c) = p.sx t c := by
  pointwise [val_main_v26]
  simp only [at2_ix, Args.sx]

theorem ref_sx3 (t : Fin 8192) (c : Fin 768) : val_main_v30 (F := Ideal) p.x (ix2 t c) = back p.sx 3 t c := by
  pointwise [val_main_v30, val_main_v29, val_main_v28, val_main_cst_1, ref_sx]
  rfl

theorem ref_sx2 (t : Fin 8192) (c : Fin 768) : val_main_v36 (F := Ideal) p.x (ix2 t c) = back p.sx 2 t c := by
  pointwise [val_main_v36, val_main_v35, val_main_v34, val_main_cst_2, ref_sx]
  rfl

theorem ref_sx1 (t : Fin 8192) (c : Fin 768) : val_main_v42 (F := Ideal) p.x (ix2 t c) = back p.sx 1 t c := by
  pointwise [val_main_v42, val_main_v41, val_main_v40, val_main_cst_3, ref_sx]
  rfl

/-- The SSD mixer's convolution with its bias. -/
theorem ref_pre (t : Fin 8192) (c : Fin 768) : val_main_v53 (F := Ideal) p.x p.w p.b (ix2 t c) = p.pre t c := by
  pointwise [val_main_v53, val_main_v52, val_main_v51, val_main_v50, val_main_v49, val_main_v48, val_main_v47, val_main_v46, val_main_v45, val_main_v44, val_main_v43, val_main_v39, val_main_v38, val_main_v37, val_main_v33, val_main_v32, val_main_v31, val_main_v27, ref_sx, ref_sx1, ref_sx2, ref_sx3]
  simp only [at2_ix, Args.pre]
  refine congrArg (· + _) ?_
  have swap (a b c d : EReal) : a + b + c + d = d + c + b + a := by
    rw [add_comm (a + b + c) d, add_comm (a + b) c, add_comm a b, ← add_assoc, ← add_assoc]
  exact swap _ _ _ _

theorem ref_xc (t : Fin 8192) (c : Fin 768) : val_main_v59 (F := Ideal) p.x p.w p.b (ix2 t c) = silu (p.pre t c) := by
  pointwise [val_main_v59, val_main_v54, val_main_call2_v5, val_main_call2_v4, val_main_call2_v3, val_main_call2_v2, val_main_call2_v1, val_main_call2_v0, val_main_call2_cst, val_main_call2_cst_0, ref_pre]
  rfl

end Cert.Fwd

end
-- ==== Proof.FwdHost.lean ====
/-
  The arrays and the blocks the forward call reads, entry by entry: the tiles of tokens come in order.
-/
module

public import proofs.«01_k».proof.Proof.Gen.MixerKernelIdeal.Value
public import proofs.«01_k».proof.Proof.ConvHost
public import proofs.«01_k».proof.Proof.FwdSpec

@[expose] public section

set_option maxRecDepth 16384

noncomputable section

namespace Cert.Fwd

open Idealize.ShloMosaic Idealize.ShloMosaic.TcCoe Idealize.SL.Sem
open Idealize.ShloMosaic.Pipeline (Dat)
open Cert.MixerKernelIdeal Cert.MixerKernelIdeal.Gen
open Cert.Conv (at2 at2_ix at2_of_lt)

variable (m : (ℓ : Loc nD τ sig) → Buf (Elt Ideal) ℓ)

/-- The arrays these convolutions use. -/
abbrev args (c : Dev nD) : Args where
  x := m ((c : Thread nD τ).loc main_arg0)
  a := m ((c : Thread nD τ).loc main_arg3)
  w := m ((c : Thread nD τ).loc main_arg9)
  b := m ((c : Thread nD τ).loc main_arg10)

theorem V106 (c : Dev nD) : V m c main_v106 = Conv.mainX (Conv.movedX (m ((c : Thread nD τ).loc main_arg0))) := by
  unfold V hostOps0
  after_results <;> rfl

theorem V11 (c : Dev nD) : V m c main_v11 = Conv.firstRows (m ((c : Thread nD τ).loc main_arg3)) (V m c main_v10) := by
  unfold V hostOps0
  after_results <;> rfl

/-- The bias as a row. -/
def biasRow (b : Vec Ideal S768 .f32) : Vec Ideal S1x768 .f32 := shapeCast S1x768 b shapeCasts_S768_S1x768

theorem biasRow_at (b : Vec Ideal S768 .f32) (q : Fin 768) : biasRow b (ix2 0 q) = b (ix1 q) := by
  pointwise [biasRow]

theorem V24 (c : Dev nD) : V m c main_v24 = biasRow (m ((c : Thread nD τ).loc main_arg10)) := by
  unfold V hostOps0
  after_results <;> rfl

theorem V44 (c : Dev nD) : V m c main_v44 = Conv.allRows (V m c main_v11) (V m c main_v14) (V m c main_v20) (V m c main_v23) (V m c main_v24)
    (V m c main_v27) (V m c main_v34) (V m c main_v39) (V m c main_v42) (V m c main_v43) (m ((c : Thread nD τ).loc main_arg9)) := by
  unfold V hostOps0
  after_results <;> rfl

section
variable (x : Vec Ideal S3x768 .f32) (x3 x4 x5 x6 x7 x8 x9 x10 x11 : Vec Ideal S1x768 .f32) (x12 : Vec Ideal S4x768 .f32)

theorem allRows_bias (q : Fin 768) : Conv.allRows x x3 x4 x5 x6 x7 x8 x9 x10 x11 x12 (ix2 6 q) = x6 (ix2 0 q) := by
  pointwise [Conv.allRows]

theorem allRows_last (r : Fin 4) (q : Fin 768) : Conv.allRows x x3 x4 x5 x6 x7 x8 x9 x10 x11 x12 (ix2 ⟨12 + r.val, by omega⟩ q) = x12 (ix2 r q) := by
  pointwise [Conv.allRows]
  repeat rw [dif_neg (by omega)]
  exact congrArg x12 (congrArg (ix2 · q) (Fin.ext (by show 12 + r.val - 3 - 1 - 1 - 1 - 1 - 1 - 1 - 1 - 1 - 1 = r.val; omega)))

end

theorem idx : ∀ t : Fin cfg0.N, win0_0.index t = ![t.val, 0] ∧ win0_4.index t = ![0, 0] ∧ win0_9.index t = ![t.val, 0] ∧
    win0_13.index t = ![t.val, 0] ∧ win0_15.index t = ![t.val, 0] := (by decide +kernel :
  ∀ t : Fin grid0.N, win0_0.index t = ![t.val, 0] ∧ win0_4.index t = ![0, 0] ∧ win0_9.index t = ![t.val, 0] ∧
    win0_13.index t = ![t.val, 0] ∧ win0_15.index t = ![t.val, 0])

theorem tok_lt (t : Fin cfg0.N) (r : Fin 512) : t.val * 512 + r.val < 8192 := by
  have : t.val < 16 := t.isLt
  omega

theorem blk0 (c : Dev nD) (t : Fin cfg0.N) (r : Fin 512) (q : Fin 3328) :
    iblk m c 0 t (ix2 r q) = Cols.moved (fun k => at2 (args m c).x (t.val * 512 + r.val) k) q.val := by
  have e := Conv.mainX_at (Conv.movedX (m ((c : Thread nD τ).loc main_arg0))) ⟨t.val * 512 + r.val, tok_lt _ _⟩ q
  rw [Conv.movedX_at, ← V106 m c] at e
  refine Eq.trans ?_ e
  blk_simp [iblk]
  blk_ext [idx t]

theorem blk4 (c : Dev nD) (t : Fin cfg0.N) (r : Fin 16) (q : Fin 768) : iblk m c 4 t (ix2 r q) = V m c main_v44 (ix2 r q) := by
  blk_simp [iblk]
  blk_ext [idx t]

theorem row_a (c : Dev nD) (t : Fin cfg0.N) (r : Fin 3) (q : Fin 256) :
    iblk m c 4 t (ix2 (⟨r.val, by omega⟩ : Fin 16) (⟨q.val, by omega⟩ : Fin 768)) = at2 (args m c).a r.val q.val := by
  rw [blk4, V44, Conv.allRows_at, V11, Conv.firstRows_at]
  exact at2_ix _ _ _

theorem row_w (c : Dev nD) (t : Fin cfg0.N) (r : Fin 4) (q : Fin 768) :
    iblk m c 4 t (ix2 (⟨12 + r.val, by omega⟩ : Fin 16) q) = at2 (args m c).w r.val q.val := by
  rw [blk4, V44, allRows_last]
  exact at2_ix _ _ _

theorem row_b (c : Dev nD) (t : Fin cfg0.N) (q : Fin 768) : iblk m c 4 t (ix2 6 q) = (args m c).b (ix1 q) := by
  rw [blk4, V44, allRows_bias, V24, biasRow_at]

end Cert.Fwd

end
-- ==== Proof.FwdPay.lean ====
/-
  The values the forward kernel's body stores for the two convolutions, entry by entry.
-/
module

public import proofs.«01_k».proof.Proof.Gen.MixerKernelIdeal.Skeleton
public import proofs.«01_k».proof.Proof.FwdSpec

@[expose] public section

set_option maxRecDepth 16384

noncomputable section

namespace Cert.Fwd

open Idealize.ShloMosaic Idealize.ShloMosaic.TcCoe Idealize.SL.Sem
open Cert.MixerKernelIdeal Cert.MixerKernelIdeal.Gen
open Cert.Conv (at2 at2_ix at2_of_lt)

theorem pay6_at (v w : FVec Ideal S512x256 .bf16) (r : Fin 512) (c : Fin 256) :
    k0_pay6 (F := Ideal) v w (ix2 r c) = v (ix2 r c) * w (ix2 r c) := by
  pointwise [k0_pay6]

/-- The short convolution of a tile. -/
theorem pay7_at (v w : FVec Ideal S512x256 .bf16) (h : FVec Ideal S8x256 .f32) (w2 w1 w0 : FVec Ideal S1x256 .f32) (r : Fin 512) (c : Fin 256) :
    k0_pay7 (F := Ideal) v w h w2 w1 w0 (ix2 r c) = w2 (ix2 0 c) * k0_pay6 (F := Ideal) v w (ix2 r c) +
      w1 (ix2 0 c) * dn h (k0_pay6 (F := Ideal) v w) 1 r.val c.val + w0 (ix2 0 c) * dn h (k0_pay6 (F := Ideal) v w) 2 r.val c.val := by
  pointwise [k0_pay7]
  rw [dn_of h (k0_pay6 (F := Ideal) v w) 1 r c ((8 + r.val + 520 - 1) % 520) (by omega) (by omega),
    dn_of h (k0_pay6 (F := Ideal) v w) 2 r c ((8 + r.val + 520 - 2) % 520) (by omega) (by omega)]

theorem pay8_at (v w : FVec Ideal S512x256 .bf16) (h : FVec Ideal S8x256 .f32) (w2 w1 w0 : FVec Ideal S1x256 .f32) (r : Fin 512) (c : Fin 256) :
    k0_pay8 (F := Ideal) v w h w2 w1 w0 (ix2 r c) = k0_pay7 (F := Ideal) v w h w2 w1 w0 (ix2 r c) := by
  pointwise [k0_pay8]

theorem pay9_at (v w : FVec Ideal S512x256 .bf16) (h : FVec Ideal S8x256 .f32) (w2 w1 w0 : FVec Ideal S1x256 .f32) (b : FVec Ideal S512x256 .bf16)
    (r : Fin 512) (c : Fin 256) :
    k0_pay9 (F := Ideal) v w h w2 w1 w0 b (ix2 r c) = b (ix2 r c) * k0_pay7 (F := Ideal) v w h w2 w1 w0 (ix2 r c) := by
  pointwise [k0_pay9]

theorem pay11_at (u : FVec Ideal S512x256 .f32) (r : Fin 8) (c : Fin 256) :
    k0_pay11 (F := Ideal) u (ix2 r c) = u (ix2 ⟨504 + r.val, by omega⟩ c) := by
  pointwise [k0_pay11]

theorem pay10_at (d : FVec Ideal S512x256 .f32) (z : FVec Ideal S512x256 .bf16) (r : Fin 512) (c : Fin 256) :
    k0_pay10 (F := Ideal) d z (ix2 r c) = d (ix2 r c) * silu (z (ix2 r c)) := by
  pointwise [k0_pay10, silu]

theorem pay24_at (x : FVec Ideal S512x768 .bf16) (r : Fin 512) (c : Fin 768) : k0_pay24 (F := Ideal) x (ix2 r c) = x (ix2 r c) := by
  pointwise [k0_pay24]

/-- The SSD mixer's convolution of a tile. -/
theorem pay25_at (x : FVec Ideal S512x768 .f32) (h : FVec Ideal S8x768 .f32) (w3 w2 w1 w0 b : FVec Ideal S1x768 .f32) (r : Fin 512) (c : Fin 768) :
    k0_pay25 (F := Ideal) x h w3 w2 w1 w0 b (ix2 r c) = w3 (ix2 0 c) * x (ix2 r c) + w2 (ix2 0 c) * dn h x 1 r.val c.val +
      w1 (ix2 0 c) * dn h x 2 r.val c.val + w0 (ix2 0 c) * dn h x 3 r.val c.val + b (ix2 0 c) := by
  pointwise [k0_pay25]
  rw [dn_of h x 1 r c ((8 + r.val + 520 - 1) % 520) (by omega) (by omega), dn_of h x 2 r c ((8 + r.val + 520 - 2) % 520) (by omega) (by omega),
    dn_of h x 3 r c ((8 + r.val + 520 - 3) % 520) (by omega) (by omega)]

theorem pay28_at (x : FVec Ideal S512x768 .f32) (h : FVec Ideal S8x768 .f32) (w3 w2 w1 w0 b : FVec Ideal S1x768 .f32) (r : Fin 512) (c : Fin 768) :
    k0_pay28 (F := Ideal) x h w3 w2 w1 w0 b (ix2 r c) = silu (k0_pay25 (F := Ideal) x h w3 w2 w1 w0 b (ix2 r c)) := by
  pointwise [k0_pay28, k0_pay27, k0_pay26, silu]

theorem pay30_at (x : FVec Ideal S512x768 .f32) (r : Fin 8) (c : Fin 768) :
    k0_pay30 (F := Ideal) x (ix2 r c) = x (ix2 ⟨504 + r.val, by omega⟩ c) := by
  pointwise [k0_pay30]

theorem pay3_at (r : Fin 8) (c : Fin 256) : k0_pay3 (F := Ideal) (ix2 r c) = 0 := by
  pointwise [k0_pay3]

theorem pay5_at (r : Fin 8) (c : Fin 768) : k0_pay5 (F := Ideal) (ix2 r c) = 0 := by
  pointwise [k0_pay5]

end Cert.Fwd

end
-- ==== Proof.FwdGrid.lean ====
/-
  What a grid point of the forward call leaves at the two convolutions, and the rows it carries to the next one.
-/
module

public import proofs.«01_k».proof.Proof.FwdHost
public import proofs.«01_k».proof.Proof.FwdPay
public import proofs.«01_k».proof.Proof.Stores

@[expose] public section

set_option maxRecDepth 16384

noncomputable section

namespace Cert.Fwd

open Idealize.ShloMosaic Idealize.ShloMosaic.TcCoe Idealize.SL.Sem
open Idealize.ShloMosaic.Pipeline (Dat)
open Cert.MixerKernelIdeal Cert.MixerKernelIdeal.Gen
open Cert.Conv (at2 at2_ix at2_of_lt)

variable (m : (ℓ : Loc nD τ sig) → Buf (Elt Ideal) ℓ)

/-- Columns of the projection loaded from the block. -/
theorem ld0 (c : Dev nD) (t : Fin cfg0.N) (off : ℕ) (inb : ∀ a, (![0, off] : Fin 2 → ℕ) a + S512x256.size a ≤ S512x3328.size a) (h : off + 256 ≤ 1536)
    (r : Fin 512) (q : Fin 256) :
    View.ld (iblk m c 0 t) (Rect.unit (s := S512x3328) ![0, off] S512x256.size inb) (ix2 r q) =
      at2 (args m c).x (t.val * 512 + r.val) (off + q.val) := by
  refine (View.ld_unit_apply_of _ _ _ _ _ (ix2 r (⟨off + q.val, by omega⟩ : Fin 3328)) (Stores.two (by simp) rfl)).trans ?_
  refine (blk0 m c t r ⟨off + q.val, by omega⟩).trans ?_
  unfold Cols.moved
  exact if_pos (by show off + q.val < 1536; omega)

theorem ldx (c : Dev nD) (t : Fin cfg0.N) (r : Fin 512) (q : Fin 768) :
    k0_pay24 (F := Ideal) (View.ld (iblk m c 0 t) (Rect.unit (s := S512x3328) ![0, 2560] S512x768.size inb_S512x3328_S512x768_0_2560)) (ix2 r q) =
      (args m c).sx (t.val * 512 + r.val) q.val := by
  refine (pay24_at _ r q).trans ?_
  refine (View.ld_unit_apply_of _ _ _ _ _ (ix2 r (⟨2560 + q.val, by omega⟩ : Fin 3328)) (Stores.two (by simp) rfl)).trans ?_
  refine (blk0 m c t r ⟨2560 + q.val, by omega⟩).trans ?_
  unfold Cols.moved
  rw [if_neg (show ¬2560 + q.val < 1536 by omega), if_pos (show 2560 + q.val < 3328 by omega)]
  exact congrArg (at2 (args m c).x (t.val * 512 + r.val)) (show 2560 + q.val + 16 = 2576 + q.val by omega)

/-- Rows of the parameters loaded from the block. -/
theorem lda (c : Dev nD) (t : Fin cfg0.N) (k : Fin 3) (inb : ∀ a, (![k.val, 0] : Fin 2 → ℕ) a + S1x256.size a ≤ S16x768.size a) (q : Fin 256) :
    View.ld (iblk m c 4 t) (Rect.unit (s := S16x768) ![k.val, 0] S1x256.size inb) (ix2 0 q) = at2 (args m c).a k.val q.val := by
  refine (View.ld_unit_apply_of _ _ _ _ _ (ix2 (⟨k.val, by omega⟩ : Fin 16) (⟨q.val, by omega⟩ : Fin 768)) (Stores.two (by simp) (by simp))).trans ?_
  exact row_a m c t k q

theorem ldw (c : Dev nD) (t : Fin cfg0.N) (k : Fin 4) (inb : ∀ a, (![12 + k.val, 0] : Fin 2 → ℕ) a + S1x768.size a ≤ S16x768.size a) (q : Fin 768) :
    View.ld (iblk m c 4 t) (Rect.unit (s := S16x768) ![12 + k.val, 0] S1x768.size inb) (ix2 0 q) = at2 (args m c).w k.val q.val := by
  refine (View.ld_unit_apply_of _ _ _ _ _ (ix2 (⟨12 + k.val, by omega⟩ : Fin 16) q) (Stores.two (by simp) (by simp))).trans ?_
  exact row_w m c t k q

theorem ldb (c : Dev nD) (t : Fin cfg0.N) (q : Fin 768) :
    View.ld (iblk m c 4 t) (Rect.unit (s := S16x768) ![6, 0] S1x768.size inb_S16x768_S1x768_6_0) (ix2 0 q) = (args m c).b (ix1 q) := by
  refine (View.ld_unit_apply_of _ _ _ _ _ (ix2 6 q) (Stores.two (by simp) (by simp))).trans ?_
  exact row_b m c t q

/-- The short convolution's input, as a point computes it. -/
abbrev uTile (c : Dev nD) (t : Fin cfg0.N) : FVec Ideal S512x256 .f32 :=
  k0_pay6 (F := Ideal) (View.ld (iblk m c 0 t) (Rect.unit (s := S512x3328) ![0, 512] S512x256.size inb_S512x3328_S512x256_0_512))
    (View.ld (iblk m c 0 t) (Rect.unit (s := S512x3328) ![0, 0] S512x256.size inb_S512x3328_S512x256_0_0))

theorem uTile_at (c : Dev nD) (t : Fin cfg0.N) (r : Fin 512) (q : Fin 256) : uTile m c t (ix2 r q) = (args m c).u (t.val * 512 + r.val) q.val := by
  refine (pay6_at _ _ r q).trans ?_
  rw [ld0 m c t 512 _ (by omega), ld0 m c t 0 _ (by omega), Nat.zero_add]
  rfl

/-- The carried rows are the last ones before the tile. -/
def Before {n : ℕ} (f : ℕ → ℕ → EReal) (t : ℕ) (h : (⟨2, ![8, n]⟩ : Shape).Idx → EReal) : Prop :=
  ∀ (r : Fin 8) (q : Fin n), h (ix2 r q) = back f 8 (t * 512 + r.val) q.val

/-- The last rows of the tile before are carried rows. -/
theorem back_last (f : ℕ → ℕ → EReal) (t : ℕ) (h0 : ¬t % 16 = 0) (r : Fin 8) (q : ℕ) :
    f ((t - 1) * 512 + (504 + r.val)) q = back f 8 (t * 512 + r.val) q := by
  unfold back
  rw [if_neg (by omega)]
  exact congrArg (f · q) (by omega)

theorem before_zero {n : ℕ} (f : ℕ → ℕ → EReal) (t : Fin cfg0.N) (h0 : t.val % 16 = 0) (h : (⟨2, ![8, n]⟩ : Shape).Idx → EReal)
    (e : ∀ (r : Fin 8) (q : Fin n), h (ix2 r q) = 0) : Before f t.val h := fun r q => by
  have : t.val < 16 := t.isLt
  rw [e]
  exact (if_pos (by omega)).symm

/-- After every point the two carried rows are the last ones of its tile. -/
theorem carried_u (c : Dev nD) (t : Fin cfg0.N) (r : Fin 8) (q : Fin 256) :
    (outsAt0 m c t.val t.isLt).2.2.2.2.2.2.2.2.2.2.1 (ix2 r q) = (args m c).u (t.val * 512 + (504 + r.val)) q.val := by
  have e := (pay11_at (uTile m c t) r q).trans (uTile_at m c t ⟨504 + r.val, by omega⟩ q)
  by_cases h0 : t.val % 16 = 0
  · rw [outsAt0_A m c t h0]
    frame_out
    exact e
  · rw [outsAt0_B m c t h0]
    frame_out
    exact e

theorem carried_x (c : Dev nD) (t : Fin cfg0.N) (r : Fin 8) (q : Fin 768) :
    (outsAt0 m c t.val t.isLt).2.2.2.2.2.2.2.2.2.2.2.2 (ix2 r q) = (args m c).sx (t.val * 512 + (504 + r.val)) q.val := by
  have e := (pay30_at _ r q).trans (ldx m c t ⟨504 + r.val, by omega⟩ q)
  by_cases h0 : t.val % 16 = 0
  · rw [outsAt0_A m c t h0]
    frame_out
    exact e
  · rw [outsAt0_B m c t h0]
    frame_out
    exact e

theorem before_u (c : Dev nD) (t : Fin cfg0.N) (h0 : ¬t.val % 16 = 0) (h : FVec Ideal S8x256 .f32)
    (e : h = (outsAt0 m c (t.val - 1) (Nat.lt_of_le_of_lt (Nat.sub_le _ _) t.isLt)).2.2.2.2.2.2.2.2.2.2.1) : Before (args m c).u t.val h := fun r q => by
  rw [e]
  exact (carried_u m c ⟨t.val - 1, Nat.lt_of_le_of_lt (Nat.sub_le _ _) t.isLt⟩ r q).trans (back_last _ _ h0 r q.val)

theorem before_x (c : Dev nD) (t : Fin cfg0.N) (h0 : ¬t.val % 16 = 0) (h : FVec Ideal S8x768 .f32)
    (e : h = (outsAt0 m c (t.val - 1) (Nat.lt_of_le_of_lt (Nat.sub_le _ _) t.isLt)).2.2.2.2.2.2.2.2.2.2.2.2) : Before (args m c).sx t.val h := fun r q => by
  rw [e]
  exact (carried_x m c ⟨t.val - 1, Nat.lt_of_le_of_lt (Nat.sub_le _ _) t.isLt⟩ r q).trans (back_last _ _ h0 r q.val)

/-- The short convolution of a tile. -/
theorem cv_tile (c : Dev nD) (t : Fin cfg0.N) (h : FVec Ideal S8x256 .f32) (hh : Before (args m c).u t.val h) (r : Fin 512) (q : Fin 256) :
    k0_pay7 (F := Ideal) (View.ld (iblk m c 0 t) (Rect.unit (s := S512x3328) ![0, 512] S512x256.size inb_S512x3328_S512x256_0_512))
      (View.ld (iblk m c 0 t) (Rect.unit (s := S512x3328) ![0, 0] S512x256.size inb_S512x3328_S512x256_0_0)) h
      (View.ld (iblk m c 4 t) (Rect.unit (s := S16x768) ![2, 0] S1x256.size inb_S16x768_S1x256_2_0))
      (View.ld (iblk m c 4 t) (Rect.unit (s := S16x768) ![1, 0] S1x256.size inb_S16x768_S1x256_1_0))
      (View.ld (iblk m c 4 t) (Rect.unit (s := S16x768) ![0, 0] S1x256.size inb_S16x768_S1x256_0_0)) (ix2 r q) =
      (args m c).cv (t.val * 512 + r.val) q.val := by
  have e (k : ℕ) (hk : k ≤ 8) := dn_back (args m c).u t.val h (uTile m c t) hh (uTile_at m c t) k hk r q
  refine (pay7_at _ _ h _ _ _ r q).trans ?_
  refine congrArg₂ (· + ·) (congrArg₂ (· + ·) (congrArg₂ (· * ·) (lda m c t 2 _ q) (uTile_at m c t r q))
    (congrArg₂ (· * ·) (lda m c t 1 _ q) (e 1 (by omega)))) (congrArg₂ (· * ·) (lda m c t 0 _ q) (e 2 (by omega)))

/-- The SSD mixer's convolution of a tile, through the factor. -/
theorem xc_tile (c : Dev nD) (t : Fin cfg0.N) (h : FVec Ideal S8x768 .f32) (hh : Before (args m c).sx t.val h) (r : Fin 512) (q : Fin 768) :
    k0_pay28 (F := Ideal) (k0_pay24 (F := Ideal) (View.ld (iblk m c 0 t) (Rect.unit (s := S512x3328) ![0, 2560] S512x768.size inb_S512x3328_S512x768_0_2560))) h
      (View.ld (iblk m c 4 t) (Rect.unit (s := S16x768) ![15, 0] S1x768.size inb_S16x768_S1x768_15_0))
      (View.ld (iblk m c 4 t) (Rect.unit (s := S16x768) ![14, 0] S1x768.size inb_S16x768_S1x768_14_0))
      (View.ld (iblk m c 4 t) (Rect.unit (s := S16x768) ![13, 0] S1x768.size inb_S16x768_S1x768_13_0))
      (View.ld (iblk m c 4 t) (Rect.unit (s := S16x768) ![12, 0] S1x768.size inb_S16x768_S1x768_12_0))
      (View.ld (iblk m c 4 t) (Rect.unit (s := S16x768) ![6, 0] S1x768.size inb_S16x768_S1x768_6_0)) (ix2 r q) =
      silu ((args m c).pre (t.val * 512 + r.val) q) := by
  have e (k : ℕ) (hk : k ≤ 8) := dn_back (args m c).sx t.val h _ hh (ldx m c t) k hk r q
  refine (pay28_at _ h _ _ _ _ _ r q).trans (congrArg silu ((pay25_at _ h _ _ _ _ _ r q).trans ?_))
  exact congrArg₂ (· + ·) (congrArg₂ (· + ·) (congrArg₂ (· + ·) (congrArg₂ (· + ·) (congrArg₂ (· * ·) (ldw m c t 3 _ q) (ldx m c t r q))
    (congrArg₂ (· * ·) (ldw m c t 2 _ q) (e 1 (by omega)))) (congrArg₂ (· * ·) (ldw m c t 1 _ q) (e 2 (by omega))))
    (congrArg₂ (· * ·) (ldw m c t 0 _ q) (e 3 (by omega)))) (ldb m c t q)

theorem cv_point (c : Dev nD) (t : Fin cfg0.N) (r : Fin 512) (q : Fin 256) :
    (outsAt0 m c t.val t.isLt).2.2.2.2.2.2.1 (ix2 r q) = (args m c).cv (t.val * 512 + r.val) q.val := by
  by_cases h0 : t.val % 16 = 0
  · rw [outsAt0_A m c t h0]
    frame_out
    exact (pay8_at _ _ _ _ _ _ r q).trans (cv_tile m c t _ (before_zero _ t h0 _ pay3_at) r q)
  · rw [outsAt0_B m c t h0]
    frame_out
    exact (pay8_at _ _ _ _ _ _ r q).trans (cv_tile m c t _ (before_u m c t h0 _ (Memref.IsWhole.read_unread _ _)) r q)

theorem xc_point (c : Dev nD) (t : Fin cfg0.N) (r : Fin 512) (q : Fin 768) :
    (outsAt0 m c t.val t.isLt).2.2.2.2.1 (ix2 r q) = silu ((args m c).pre (t.val * 512 + r.val) q) := by
  by_cases h0 : t.val % 16 = 0
  · rw [outsAt0_A m c t h0]
    frame_out
    exact xc_tile m c t _ (before_zero _ t h0 _ pay5_at) r q
  · rw [outsAt0_B m c t h0]
    frame_out
    exact xc_tile m c t _ (before_x m c t h0 _ (Memref.IsWhole.read_unread _ _)) r q

/-- The columns of the short convolution mixer of a tile. -/
theorem mix_tile (c : Dev nD) (t : Fin cfg0.N) (h : FVec Ideal S8x256 .f32) (hh : Before (args m c).u t.val h) (r : Fin 512) (q : Fin 256) :
    k0_pay10 (F := Ideal) (k0_pay9 (F := Ideal) (View.ld (iblk m c 0 t) (Rect.unit (s := S512x3328) ![0, 512] S512x256.size inb_S512x3328_S512x256_0_512))
      (View.ld (iblk m c 0 t) (Rect.unit (s := S512x3328) ![0, 0] S512x256.size inb_S512x3328_S512x256_0_0)) h
      (View.ld (iblk m c 4 t) (Rect.unit (s := S16x768) ![2, 0] S1x256.size inb_S16x768_S1x256_2_0))
      (View.ld (iblk m c 4 t) (Rect.unit (s := S16x768) ![1, 0] S1x256.size inb_S16x768_S1x256_1_0))
      (View.ld (iblk m c 4 t) (Rect.unit (s := S16x768) ![0, 0] S1x256.size inb_S16x768_S1x256_0_0))
      (View.ld (iblk m c 0 t) (Rect.unit (s := S512x3328) ![0, 256] S512x256.size inb_S512x3328_S512x256_0_256)))
      (View.ld (iblk m c 0 t) (Rect.unit (s := S512x3328) ![0, 768] S512x256.size inb_S512x3328_S512x256_0_768)) (ix2 r q) =
      (args m c).mix (t.val * 512 + r.val) q.val := by
  refine (pay10_at _ _ r q).trans (congrArg₂ (· * ·) ((pay9_at _ _ _ _ _ _ _ r q).trans ?_) (congrArg silu (ld0 m c t 768 _ (by omega) r q)))
  exact congrArg₂ (· * ·) (ld0 m c t 256 _ (by omega) r q) (cv_tile m c t h hh r q)

theorem mix_point (c : Dev nD) (t : Fin cfg0.N) (r : Fin 512) (q : Fin 256) :
    (outsAt0 m c t.val t.isLt).1 (ix2 r (⟨q.val, by omega⟩ : Fin 1024)) = (args m c).mix (t.val * 512 + r.val) q.val := by
  by_cases h0 : t.val % 16 = 0
  · rw [outsAt0_A m c t h0]
    frame_out
    refine (Stores.canon_out (s := S512x1024) _ _ _ _ 1 (Or.inl (show q.val < 768 by omega))).trans ?_
    refine (Stores.canon_out (s := S512x1024) _ _ _ _ 1 (Or.inl (show q.val < 256 by omega))).trans ?_
    refine (Stores.canon_out (s := S512x1024) _ _ _ _ 1 (Or.inl (show q.val < 512 by omega))).trans ?_
    refine (Stores.canon_in (s := S512x1024) _ _ _ _ (ix2 r q) (Stores.two (by simp) (by simp))).trans ?_
    exact mix_tile m c t _ (before_zero _ t h0 _ pay3_at) r q
  · rw [outsAt0_B m c t h0]
    frame_out
    refine (Stores.canon_out (s := S512x1024) _ _ _ _ 1 (Or.inl (show q.val < 768 by omega))).trans ?_
    refine (Stores.canon_out (s := S512x1024) _ _ _ _ 1 (Or.inl (show q.val < 256 by omega))).trans ?_
    refine (Stores.canon_out (s := S512x1024) _ _ _ _ 1 (Or.inl (show q.val < 512 by omega))).trans ?_
    refine (Stores.canon_in (s := S512x1024) _ _ _ _ (ix2 r q) (Stores.two (by simp) (by simp))).trans ?_
    exact mix_tile m c t _ (before_u m c t h0 _ (Memref.IsWhole.read_unread _ _)) r q

/-- The whole arrays the call leaves, entry by entry. -/
theorem cv_value (c : Dev nD) (t : Fin 8192) (q : Fin 256) : (dats m 0 c).arrAt 15 cfg0.N (ix2 t q) = (args m c).cv t.val q.val := by
  refine (dats m 0 c).arrAt_forall_of_covers 15 (fun i v => v = (args m c).cv (i 0).val (i 1).val) (by decide +kernel) (fun s hf y => ?_) (ix2 t q)
  blk_simp
  rw [after0_15]
  obtain ⟨r, q, rfl⟩ : ∃ (r : Fin 512) (q : Fin 256), y = ix2 r q := ⟨y 0, y 1, eq_ix2 y⟩
  rw [(idx s).2.2.2.2]
  show _ = (args m c).cv (s.val * 512 + r.val) (0 * 256 + q.val)
  rw [Nat.zero_mul, Nat.zero_add]
  exact cv_point m c s r q

theorem xc_value (c : Dev nD) (t : Fin 8192) (q : Fin 768) : (dats m 0 c).arrAt 13 cfg0.N (ix2 t q) = silu ((args m c).pre t.val q) := by
  refine ((dats m 0 c).arrAt_forall_of_covers 13 (fun i v => ∀ k : Fin 768, k.val = (i 1).val → v = silu ((args m c).pre (i 0).val k)) (by decide +kernel)
    (fun s hf y => ?_) (ix2 t q)) q rfl
  blk_simp
  rw [after0_13]
  obtain ⟨r, q, rfl⟩ : ∃ (r : Fin 512) (q : Fin 768), y = ix2 r q := ⟨y 0, y 1, eq_ix2 y⟩
  rw [(idx s).2.2.2.1]
  show ∀ k : Fin 768, k.val = 0 * 768 + q.val → _ = silu ((args m c).pre (s.val * 512 + r.val) k)
  intro k hk
  rw [show k = q from Fin.ext (by omega)]
  exact xc_point m c s r q

theorem mix_value (c : Dev nD) (t : Fin 8192) (C : Fin 1024) (hC : C.val < 256) :
    (dats m 0 c).arrAt 9 cfg0.N (ix2 t C) = (args m c).mix t.val C.val := by
  refine ((dats m 0 c).arrAt_forall_of_covers 9 (fun i v => (i 1).val < 256 → v = (args m c).mix (i 0).val (i 1).val) (by decide +kernel)
    (fun s hf y => ?_) (ix2 t C)) hC
  blk_simp
  rw [after0_9]
  obtain ⟨r, q, rfl⟩ : ∃ (r : Fin 512) (q : Fin 1024), y = ix2 r q := ⟨y 0, y 1, eq_ix2 y⟩
  rw [(idx s).2.2.1]
  show 0 * 1024 + q.val < 256 → _ = (args m c).mix (s.val * 512 + r.val) (0 * 1024 + q.val)
  rw [Nat.zero_mul, Nat.zero_add]
  exact fun h => mix_point m c s r ⟨q.val, h⟩

end Cert.Fwd

end
-- ==== Proof.FwdClaim.lean ====
/-
  The claim about the forward mixer call: the short convolution mixer's columns and the two saved convolutions.
-/
module

public import proofs.«01_k».proof.Defs
public import proofs.«01_k».proof.Proof.Gen.MixerPartIdeal.Run
public import proofs.«01_k».proof.Proof.Gen.On_mixer_results
public import Idealize.ShloMosaic.Lib.Quiescent
public import proofs.«01_k».proof.Proof.ConvPre
public import proofs.«01_k».proof.Proof.FwdRef
public import proofs.«01_k».proof.Proof.FwdGrid

@[expose] public section

set_option maxRecDepth 16384

noncomputable section

namespace Cert.Proof.FwdClaim

open Idealize.ShloMosaic Idealize.ShloMosaic.TcCoe Idealize.SL.Sem

section
open Cert.On_mixer_results Cert.On_mixer_results.Gen

variable (x0 x1 x2 x3 x4 x5 x6 x7 x8 x9 x10 x11 x12 x13 x14)

/-- The columns the claim holds the mixers to. -/
theorem on_mix (t : Fin 8192) (C : Fin 1024)
    (h : (Cert.On_mixer_results.fn (F := Ideal) x0 x1 x2 x3 x4 x5 x6 x7 x8 x9 x10 x11 x12 x13 x14).1 (ix2 t C) = 1#1) : C.val < 256 := by
  unfold Cert.On_mixer_results.fn at h
  pointwise at h
  exact Conv.lt_of_slt (by omega) (by omega) h

theorem not_slt {n : ℕ} (hn : n < 2 ^ 31) : ¬IntOp.cmpi .slt (BitVec.ofNat 32 n) (0#32) = 1#1 := fun h =>
  Nat.not_lt_zero _ (Conv.lt_of_slt (k := 0) hn (by omega) h)

theorem off_sg (i : Fin 128) (j : Fin 256) (k : Fin 128) :
    ¬(Cert.On_mixer_results.fn (F := Ideal) x0 x1 x2 x3 x4 x5 x6 x7 x8 x9 x10 x11 x12 x13 x14).2.1 (ix3 i j k) = 1#1 := fun h => by
  unfold Cert.On_mixer_results.fn at h
  pointwise at h
  exact not_slt (n := i.val) (by omega) h

theorem off_ss (i : Fin 128) (j : Fin 128) (k : Fin 256) :
    ¬(Cert.On_mixer_results.fn (F := Ideal) x0 x1 x2 x3 x4 x5 x6 x7 x8 x9 x10 x11 x12 x13 x14).2.2.1 (ix3 i j k) = 1#1 := fun h => by
  unfold Cert.On_mixer_results.fn at h
  pointwise at h
  exact not_slt (n := i.val) (by omega) h

theorem off_xn (t : Fin 8192) (C : Fin 1024) :
    ¬(Cert.On_mixer_results.fn (F := Ideal) x0 x1 x2 x3 x4 x5 x6 x7 x8 x9 x10 x11 x12 x13 x14).2.2.2.1 (ix2 t C) = 1#1 := fun h => by
  unfold Cert.On_mixer_results.fn at h
  pointwise at h
  exact not_slt (n := C.val) (by omega) h

theorem off_dxc (t : Fin 8192) (C : Fin 768) :
    ¬(Cert.On_mixer_results.fn (F := Ideal) x0 x1 x2 x3 x4 x5 x6 x7 x8 x9 x10 x11 x12 x13 x14).2.2.2.2.2.1 (ix2 t C) = 1#1 := fun h => by
  unfold Cert.On_mixer_results.fn at h
  pointwise at h
  exact not_slt (n := C.val) (by omega) h

theorem off_pool (t : Fin 8192) (C : Fin 256) :
    ¬(Cert.On_mixer_results.fn (F := Ideal) x0 x1 x2 x3 x4 x5 x6 x7 x8 x9 x10 x11 x12 x13 x14).2.2.2.2.2.2.2 (ix2 t C) = 1#1 := fun h => by
  unfold Cert.On_mixer_results.fn at h
  pointwise at h
  exact not_slt (n := C.val) (by omega) h

end

/-- The reference's own run leaves its arguments alone; it has no semaphore. -/
theorem frame : Cert.quiescent_MixerPartIdeal := fun m g _ =>
  (θ_run Cert.MixerPartIdeal.defs _ _).mono (fun r h => ⟨fun c => (h c).2.2.2.2.2.2.2.2, sem_eq_zero_of_no_sems (by decide) r.2⟩)
    (Cert.MixerPartIdeal.Value.run (F := Ideal) m g)

theorem claim : Cert.algebraic_MixerKernelIdeal_MixerPartIdeal_on_mixer_results := by
  intro m g m' g' hpre hagree
  refine ⟨fun c => (Cert.MixerKernelIdeal.Gen.dats m 0 c).arrAt 9 Cert.MixerKernelIdeal.cfg0.N,
    fun c => (Cert.MixerKernelIdeal.Gen.dats m 0 c).arrAt 10 Cert.MixerKernelIdeal.cfg0.N,
    fun c => (Cert.MixerKernelIdeal.Gen.dats m 0 c).arrAt 11 Cert.MixerKernelIdeal.cfg0.N,
    fun c => (Cert.MixerKernelIdeal.Gen.dats m 0 c).arrAt 12 Cert.MixerKernelIdeal.cfg0.N,
    fun c => (Cert.MixerKernelIdeal.Gen.dats m 0 c).arrAt 13 Cert.MixerKernelIdeal.cfg0.N,
    fun c => (Cert.MixerKernelIdeal.Gen.dats m 0 c).arrAt 14 Cert.MixerKernelIdeal.cfg0.N,
    fun c => (Cert.MixerKernelIdeal.Gen.dats m 0 c).arrAt 15 Cert.MixerKernelIdeal.cfg0.N,
    fun c => (Cert.MixerKernelIdeal.Gen.dats m 0 c).arrAt 16 Cert.MixerKernelIdeal.cfg0.N, ?_, ?_⟩
  · exact (θ_run Cert.MixerKernelIdeal.defs _ _).mono
      (fun _ h c => ⟨fun i _ => congrFun (h c).1 i, fun i _ => congrFun (h c).2.1 i, fun i _ => congrFun (h c).2.2.1 i,
        fun i _ => congrFun (h c).2.2.2.1 i, fun i _ => congrFun (h c).2.2.2.2.1 i, fun i _ => congrFun (h c).2.2.2.2.2.1 i,
        fun i _ => congrFun (h c).2.2.2.2.2.2.1 i, fun i _ => congrFun (h c).2.2.2.2.2.2.2.1 i, (h c).2.2.2.2.2.2.2.2⟩)
      (Cert.MixerKernelIdeal.Value.run_blocks (F := Ideal) m g)
  · refine (θ_run Cert.MixerPartIdeal.defs _ _).mono
      (fun _ h c => ⟨fun i hi => (congrFun (h c).1 i).trans ?_, fun i hi => ?_, fun i hi => ?_, fun i hi => ?_, fun i hi => (congrFun (h c).2.2.2.2.1 i).trans ?_,
        fun i hi => ?_, fun i hi => (congrFun (h c).2.2.2.2.2.2.1 i).trans ?_, fun i hi => ?_, (h c).2.2.2.2.2.2.2.2⟩)
      (Cert.MixerPartIdeal.Value.run (F := Ideal) m' g')
    · obtain ⟨t, C, rfl⟩ : ∃ (t : Fin 8192) (C : Fin 1024), i = ix2 t C := ⟨i 0, i 1, eq_ix2 i⟩
      have hC := on_mix _ _ _ _ _ _ _ _ _ _ _ _ _ _ _ t C hi
      refine Eq.trans ?_ (Fwd.mix_value m c t C hC).symm
      rw [Cert.MixerPartIdeal.Read.val_main_v55_eq, (hagree c).1, (hagree c).2.2.2.1]
      exact Fwd.ref_columns (Fwd.args m c) t ⟨C.val, hC⟩
    · obtain ⟨a, b, d, rfl⟩ : ∃ (a : Fin 128) (b : Fin 256) (d : Fin 128), i = ix3 a b d := ⟨i 0, i 1, i 2, eq_ix3 i⟩
      exact absurd hi (off_sg _ _ _ _ _ _ _ _ _ _ _ _ _ _ _ a b d)
    · obtain ⟨a, b, d, rfl⟩ : ∃ (a : Fin 128) (b : Fin 128) (d : Fin 256), i = ix3 a b d := ⟨i 0, i 1, i 2, eq_ix3 i⟩
      exact absurd hi (off_ss _ _ _ _ _ _ _ _ _ _ _ _ _ _ _ a b d)
    · obtain ⟨t, C, rfl⟩ : ∃ (t : Fin 8192) (C : Fin 1024), i = ix2 t C := ⟨i 0, i 1, eq_ix2 i⟩
      exact absurd hi (off_xn _ _ _ _ _ _ _ _ _ _ _ _ _ _ _ t C)
    · obtain ⟨t, C, rfl⟩ : ∃ (t : Fin 8192) (C : Fin 768), i = ix2 t C := ⟨i 0, i 1, eq_ix2 i⟩
      refine Eq.trans ?_ (Fwd.xc_value m c t C).symm
      rw [Cert.MixerPartIdeal.Read.val_main_v59_eq m' c, (hagree c).1, (hagree c).2.2.2.2.2.2.2.2.2.1, (hagree c).2.2.2.2.2.2.2.2.2.2.1]
      exact Fwd.ref_xc (Fwd.args m c) t C
    · obtain ⟨t, C, rfl⟩ : ∃ (t : Fin 8192) (C : Fin 768), i = ix2 t C := ⟨i 0, i 1, eq_ix2 i⟩
      exact absurd hi (off_dxc _ _ _ _ _ _ _ _ _ _ _ _ _ _ _ t C)
    · obtain ⟨t, C, rfl⟩ : ∃ (t : Fin 8192) (C : Fin 256), i = ix2 t C := ⟨i 0, i 1, eq_ix2 i⟩
      refine Eq.trans ?_ (Fwd.cv_value m c t C).symm
      rw [Cert.MixerPartIdeal.Read.val_main_v61_eq, (hagree c).1, (hagree c).2.2.2.1]
      exact Fwd.ref_saved (Fwd.args m c) t C
    · obtain ⟨t, C, rfl⟩ : ∃ (t : Fin 8192) (C : Fin 256), i = ix2 t C := ⟨i 0, i 1, eq_ix2 i⟩
      exact absurd hi (off_pool _ _ _ _ _ _ _ _ _ _ _ _ _ _ _ t C)

end Cert.Proof.FwdClaim

end
-- ==== Proof.lean ====
/-
  The claims, each from the module that proves it: the frames of the calls, their references' frames, and what they
  compute.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Products
public import proofs.«01_k».proof.Proof.Gen.AdamwOutKernel.Frame
public import proofs.«01_k».proof.Proof.Gen.AdamwInKernel.Frame
public import proofs.«01_k».proof.Proof.Gen.MixerKernel.Frame
public import proofs.«01_k».proof.Proof.ConvClaim
public import proofs.«01_k».proof.Proof.PoolClaim
public import proofs.«01_k».proof.Proof.AdamwClaim
public import proofs.«01_k».proof.Proof.FwdClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ConvPartIdeal.Gen.facts, Cert.PoolPartIdeal.Gen.facts,
    Cert.DwinKernel.Gen.facts, Cert.DwinKernelIdeal.Gen.facts,
    Cert.DwinPartIdeal.Gen.facts, Cert.RmsprojKernel.Gen.facts, Cert.RmsprojKernelIdeal.Gen.facts, Cert.RmsprojPartIdeal.Gen.facts,
    Cert.DxinKernel.Gen.facts, Cert.DxinKernelIdeal.Gen.facts, Cert.DxinPartIdeal.Gen.facts,
    Cert.AdamwOutKernel.Gen.facts, Cert.AdamwOutKernelIdeal.Gen.facts, Cert.AdamwOutPartIdeal.Gen.facts,
    Cert.AdamwInKernel.Gen.facts, Cert.AdamwInKernelIdeal.Gen.facts, Cert.AdamwInPartIdeal.Gen.facts,
    Cert.MixerKernel.Gen.facts, Cert.MixerKernelIdeal.Gen.facts, Cert.MixerPartIdeal.Gen.facts,
    Cert.Pre_finite.Gen.facts, Cert.Pre_pool_finite.Gen.facts, Cert.Pre_dxin_finite.Gen.facts, Cert.On_conv_results.Gen.facts,
    Cert.On_pool_results.Gen.facts, Cert.On_mixer_results.Gen.facts,
    fun m g _ => Cert.Kernel.Gen.frame m g, fun m g _ => Cert.KernelIdeal.Gen.frame m g,
    fun m g _ => Cert.KernelIdeal.Gen.frame m g, fun m g _ => Cert.KernelIdeal.Gen.frame m g,
    ConvClaim.frame, fun m g _ => ConvClaim.frame m g trivial, PoolClaim.frame, fun m g _ => PoolClaim.frame m g trivial,
    fun m g _ => Cert.DwinKernel.Gen.frame m g, fun m g _ => Cert.DwinKernelIdeal.Gen.frame m g, Products.frame_dwin,
    fun m g _ => Cert.RmsprojKernel.Gen.frame m g, fun m g _ => Cert.RmsprojKernelIdeal.Gen.frame m g, Products.frame_rmsproj,
    fun m g _ => Cert.DxinKernel.Gen.frame m g, fun m g _ => Cert.DxinKernelIdeal.Gen.frame m g,
    fun m g _ => Cert.DxinKernelIdeal.Gen.frame m g, Products.frame_dxin, fun m g _ => Products.frame_dxin m g trivial,
    fun m g _ => Cert.AdamwOutKernel.Gen.frame m g, fun m g _ => Cert.AdamwOutKernelIdeal.Gen.frame m g, AdamwClaim.frame_out,
    fun m g _ => Cert.AdamwInKernel.Gen.frame m g, fun m g _ => Cert.AdamwInKernelIdeal.Gen.frame m g, AdamwClaim.frame_in,
    fun m g _ => Cert.MixerKernel.Gen.frame m g, fun m g _ => Cert.MixerKernelIdeal.Gen.frame m g, FwdClaim.frame,
    trivial, ConvClaim.claim, PoolClaim.claim, trivial, Products.dwin, trivial, Products.rmsproj, trivial, Products.dxin,
    trivial, AdamwClaim.out, trivial, AdamwClaim.into, trivial, FwdClaim.claim⟩

end Cert.Proof

end
